-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_post [hPre_finite_post : Cert.Pre_finite_post.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_post.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).1 = (fun _ => 1#1)
    ∧ (Cert.Pre_finite_post.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.1 = (fun _ => 1#1)
    ∧ (Cert.Pre_finite_post.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.1 = (fun _ => 1#1)
    ∧ (Cert.Pre_finite_post.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.1 = (fun _ => 1#1)
    ∧ (Cert.Pre_finite_post.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.1 = (fun _ => 1#1)
    ∧ (Cert.Pre_finite_post.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.2.1 = (fun _ => 1#1)
    ∧ (Cert.Pre_finite_post.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.2.2.1 = (fun _ => 1#1)
    ∧ (Cert.Pre_finite_post.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.2.2.2.1 = (fun _ => 1#1)
    ∧ (Cert.Pre_finite_post.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.2.2.2.2.1 = (fun _ => 1#1)
    ∧ (Cert.Pre_finite_post.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.2.2.2.2.2.1 = (fun _ => 1#1)
    ∧ (Cert.Pre_finite_post.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_post [hPre_finite_post : Cert.Pre_finite_post.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_post.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).1 = (fun _ => 1#1)
    ∧ (Cert.Pre_finite_post.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.1 = (fun _ => 1#1)
    ∧ (Cert.Pre_finite_post.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.1 = (fun _ => 1#1)
    ∧ (Cert.Pre_finite_post.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.1 = (fun _ => 1#1)
    ∧ (Cert.Pre_finite_post.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.1 = (fun _ => 1#1)
    ∧ (Cert.Pre_finite_post.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.2.1 = (fun _ => 1#1)
    ∧ (Cert.Pre_finite_post.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.2.2.1 = (fun _ => 1#1)
    ∧ (Cert.Pre_finite_post.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.2.2.2.1 = (fun _ => 1#1)
    ∧ (Cert.Pre_finite_post.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.2.2.2.2.1 = (fun _ => 1#1)
    ∧ (Cert.Pre_finite_post.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.2.2.2.2.2.1 = (fun _ => 1#1)
    ∧ (Cert.Pre_finite_post.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Kernel2Ideal_pre_finite_post [hKernel2Ideal : Cert.Kernel2Ideal.Facts] [hPre_finite_post : Cert.Pre_finite_post.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_post m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Reference2Ideal_pre_finite_post [hReference2Ideal : Cert.Reference2Ideal.Facts] [hPre_finite_post : Cert.Pre_finite_post.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_post m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v37_0)) (v1 : (c : Dev Cert.KernelIdeal.nD) → Buf (Elt Ideal) ((c.tc : Thread Cert.KernelIdeal.nD Cert.KernelIdeal.τ).loc Cert.KernelIdeal.main_v37_1)) (v2 : (c : Dev Cert.KernelIdeal.nD) → Buf (Elt Ideal) ((c.tc : Thread Cert.KernelIdeal.nD Cert.KernelIdeal.τ).loc Cert.KernelIdeal.main_v37_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37_0) = v0 c
          ∧ r.2.mem ((c.tc : Thread Cert.KernelIdeal.nD Cert.KernelIdeal.τ).loc Cert.KernelIdeal.main_v37_1) = v1 c
          ∧ r.2.mem ((c.tc : Thread Cert.KernelIdeal.nD Cert.KernelIdeal.τ).loc Cert.KernelIdeal.main_v37_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite_post [hKernel2Ideal : Cert.Kernel2Ideal.Facts] [hReference2Ideal : Cert.Reference2Ideal.Facts] [hPre_finite_post : Cert.Pre_finite_post.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_post m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v15_0)) (v1 : (c : Dev Cert.Kernel2Ideal.nD) → Buf (Elt Ideal) ((c.tc : Thread Cert.Kernel2Ideal.nD Cert.Kernel2Ideal.τ).loc Cert.Kernel2Ideal.main_v15_1)) (v2 : (c : Dev Cert.Kernel2Ideal.nD) → Buf (Elt Ideal) ((c.tc : Thread Cert.Kernel2Ideal.nD Cert.Kernel2Ideal.τ).loc Cert.Kernel2Ideal.main_v15_2)) (v3 : (c : Dev Cert.Kernel2Ideal.nD) → Buf (Elt Ideal) ((c.tc : Thread Cert.Kernel2Ideal.nD Cert.Kernel2Ideal.τ).loc Cert.Kernel2Ideal.main_v15_3)) (v4 : (c : Dev Cert.Kernel2Ideal.nD) → Buf (Elt Ideal) ((c.tc : Thread Cert.Kernel2Ideal.nD Cert.Kernel2Ideal.τ).loc Cert.Kernel2Ideal.main_v15_4)) (v5 : (c : Dev Cert.Kernel2Ideal.nD) → Buf (Elt Ideal) ((c.tc : Thread Cert.Kernel2Ideal.nD Cert.Kernel2Ideal.τ).loc Cert.Kernel2Ideal.main_v15_5)) (v6 : (c : Dev Cert.Kernel2Ideal.nD) → Buf (Elt Ideal) ((c.tc : Thread Cert.Kernel2Ideal.nD Cert.Kernel2Ideal.τ).loc Cert.Kernel2Ideal.main_v15_6)) (v7 : (c : Dev Cert.Kernel2Ideal.nD) → Buf (Elt Ideal) ((c.tc : Thread Cert.Kernel2Ideal.nD Cert.Kernel2Ideal.τ).loc Cert.Kernel2Ideal.main_v15_7)) (v8 : (c : Dev Cert.Kernel2Ideal.nD) → Buf (Elt Ideal) ((c.tc : Thread Cert.Kernel2Ideal.nD Cert.Kernel2Ideal.τ).loc Cert.Kernel2Ideal.main_v15_8)) (v9 : (c : Dev Cert.Kernel2Ideal.nD) → Buf (Elt Ideal) ((c.tc : Thread Cert.Kernel2Ideal.nD Cert.Kernel2Ideal.τ).loc Cert.Kernel2Ideal.main_v15_9)) (v10 : (c : Dev Cert.Kernel2Ideal.nD) → Buf (Elt Ideal) ((c.tc : Thread Cert.Kernel2Ideal.nD Cert.Kernel2Ideal.τ).loc Cert.Kernel2Ideal.main_v15_10)) (v11 : (c : Dev Cert.Kernel2Ideal.nD) → Buf (Elt Ideal) ((c.tc : Thread Cert.Kernel2Ideal.nD Cert.Kernel2Ideal.τ).loc Cert.Kernel2Ideal.main_v15_11)) (v12 : (c : Dev Cert.Kernel2Ideal.nD) → Buf (Elt Ideal) ((c.tc : Thread Cert.Kernel2Ideal.nD Cert.Kernel2Ideal.τ).loc Cert.Kernel2Ideal.main_v15_12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15_0) = v0 c
          ∧ r.2.mem ((c.tc : Thread Cert.Kernel2Ideal.nD Cert.Kernel2Ideal.τ).loc Cert.Kernel2Ideal.main_v15_1) = v1 c
          ∧ r.2.mem ((c.tc : Thread Cert.Kernel2Ideal.nD Cert.Kernel2Ideal.τ).loc Cert.Kernel2Ideal.main_v15_2) = v2 c
          ∧ r.2.mem ((c.tc : Thread Cert.Kernel2Ideal.nD Cert.Kernel2Ideal.τ).loc Cert.Kernel2Ideal.main_v15_3) = v3 c
          ∧ r.2.mem ((c.tc : Thread Cert.Kernel2Ideal.nD Cert.Kernel2Ideal.τ).loc Cert.Kernel2Ideal.main_v15_4) = v4 c
          ∧ r.2.mem ((c.tc : Thread Cert.Kernel2Ideal.nD Cert.Kernel2Ideal.τ).loc Cert.Kernel2Ideal.main_v15_5) = v5 c
          ∧ r.2.mem ((c.tc : Thread Cert.Kernel2Ideal.nD Cert.Kernel2Ideal.τ).loc Cert.Kernel2Ideal.main_v15_6) = v6 c
          ∧ r.2.mem ((c.tc : Thread Cert.Kernel2Ideal.nD Cert.Kernel2Ideal.τ).loc Cert.Kernel2Ideal.main_v15_7) = v7 c
          ∧ r.2.mem ((c.tc : Thread Cert.Kernel2Ideal.nD Cert.Kernel2Ideal.τ).loc Cert.Kernel2Ideal.main_v15_8) = v8 c
          ∧ r.2.mem ((c.tc : Thread Cert.Kernel2Ideal.nD Cert.Kernel2Ideal.τ).loc Cert.Kernel2Ideal.main_v15_9) = v9 c
          ∧ r.2.mem ((c.tc : Thread Cert.Kernel2Ideal.nD Cert.Kernel2Ideal.τ).loc Cert.Kernel2Ideal.main_v15_10) = v10 c
          ∧ r.2.mem ((c.tc : Thread Cert.Kernel2Ideal.nD Cert.Kernel2Ideal.τ).loc Cert.Kernel2Ideal.main_v15_11) = v11 c
          ∧ r.2.mem ((c.tc : Thread Cert.Kernel2Ideal.nD Cert.Kernel2Ideal.τ).loc Cert.Kernel2Ideal.main_v15_12) = v12 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v146) = v0 c
          ∧ r.2.mem ((c.tc : Thread Cert.Reference2Ideal.nD Cert.Reference2Ideal.τ).loc Cert.Reference2Ideal.main_v148) = v1 c
          ∧ r.2.mem ((c.tc : Thread Cert.Reference2Ideal.nD Cert.Reference2Ideal.τ).loc Cert.Reference2Ideal.main_v150) = v2 c
          ∧ r.2.mem ((c.tc : Thread Cert.Reference2Ideal.nD Cert.Reference2Ideal.τ).loc Cert.Reference2Ideal.main_v154) = v3 c
          ∧ r.2.mem ((c.tc : Thread Cert.Reference2Ideal.nD Cert.Reference2Ideal.τ).loc Cert.Reference2Ideal.main_v157) = v4 c
          ∧ r.2.mem ((c.tc : Thread Cert.Reference2Ideal.nD Cert.Reference2Ideal.τ).loc Cert.Reference2Ideal.main_v161) = v5 c
          ∧ r.2.mem ((c.tc : Thread Cert.Reference2Ideal.nD Cert.Reference2Ideal.τ).loc Cert.Reference2Ideal.main_v165) = v6 c
          ∧ r.2.mem ((c.tc : Thread Cert.Reference2Ideal.nD Cert.Reference2Ideal.τ).loc Cert.Reference2Ideal.main_v169) = v7 c
          ∧ r.2.mem ((c.tc : Thread Cert.Reference2Ideal.nD Cert.Reference2Ideal.τ).loc Cert.Reference2Ideal.main_v172) = v8 c
          ∧ r.2.mem ((c.tc : Thread Cert.Reference2Ideal.nD Cert.Reference2Ideal.τ).loc Cert.Reference2Ideal.main_v173) = v9 c
          ∧ r.2.mem ((c.tc : Thread Cert.Reference2Ideal.nD Cert.Reference2Ideal.τ).loc Cert.Reference2Ideal.main_v174) = v10 c
          ∧ r.2.mem ((c.tc : Thread Cert.Reference2Ideal.nD Cert.Reference2Ideal.τ).loc Cert.Reference2Ideal.main_v175) = v11 c
          ∧ r.2.mem ((c.tc : Thread Cert.Reference2Ideal.nD Cert.Reference2Ideal.τ).loc Cert.Reference2Ideal.main_v176) = v12 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts) (hPre_finite_post : Cert.Pre_finite_post.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_post (hKernel2Ideal := hKernel2Ideal) (hPre_finite_post := hPre_finite_post)
    ∧ quiescent_Reference2Ideal (hReference2Ideal := hReference2Ideal)
    ∧ quiescent_Reference2Ideal_pre_finite_post (hReference2Ideal := hReference2Ideal) (hPre_finite_post := hPre_finite_post)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite_post (hKernel2Ideal := hKernel2Ideal) (hReference2Ideal := hReference2Ideal) (hPre_finite_post := hPre_finite_post)
-- ==== Pre_finite.lean ====
abbrev S2x8x2064x96 : Shape := ⟨4, ![2, 8, 2064, 96]⟩
abbrev S2x8x2064x64 : Shape := ⟨4, ![2, 8, 2064, 64]⟩
abbrev S_ : Shape := ⟨0, ![]⟩

class Facts : Prop where
  bcast_S_S2x8x2064x96 : S_.BroadcastsInDim S2x8x2064x96 (![] : Fin 0 → Fin S2x8x2064x96.rank)
  bcast_S_S2x8x2064x64 : S_.BroadcastsInDim S2x8x2064x64 (![] : Fin 0 → Fin S2x8x2064x64.rank)

variable [Facts]

def fn {F : FTy → Type} [FloatOps F] (main_arg0 : FVec F S2x8x2064x96 .f32) (main_arg1 : FVec F S2x8x2064x96 .f32) (main_arg2 : FVec F S2x8x2064x64 .f32) (main_arg3 : FVec F S2x8x2064x64 .f32) : IVec S2x8x2064x96 1 × IVec S2x8x2064x96 1 × IVec S2x8x2064x64 1 × IVec S2x8x2064x64 1 :=
  let main_v0 : FVec F S2x8x2064x96 .f32 := Host.absf main_arg0
  let main_cst : FVec F S_ .f32 := constant S_ .f32 0x7F800000#32
  let main_v1 : FVec F S2x8x2064x96 .f32 := broadcastInDim S2x8x2064x96 ![] bcast_S_S2x8x2064x96 main_cst
  let main_v2 : IVec S2x8x2064x96 1 := cmpf .olt main_v0 main_v1
  let main_v3 : FVec F S2x8x2064x96 .f32 := Host.absf main_arg1
  let main_cst_0 : FVec F S_ .f32 := constant S_ .f32 0x7F800000#32
  let main_v4 : FVec F S2x8x2064x96 .f32 := broadcastInDim S2x8x2064x96 ![] bcast_S_S2x8x2064x96 main_cst_0
  let main_v5 : IVec S2x8x2064x96 1 := cmpf .olt main_v3 main_v4
  let main_v6 : FVec F S2x8x2064x64 .f32 := Host.absf main_arg2
  let main_cst_1 : FVec F S_ .f32 := constant S_ .f32 0x7F800000#32
  let main_v7 : FVec F S2x8x2064x64 .f32 := broadcastInDim S2x8x2064x64 ![] bcast_S_S2x8x2064x64 main_cst_1
  let main_v8 : IVec S2x8x2064x64 1 := cmpf .olt main_v6 main_v7
  let main_v9 : FVec F S2x8x2064x64 .f32 := Host.absf main_arg3
  let main_cst_2 : FVec F S_ .f32 := constant S_ .f32 0x7F800000#32
  let main_v10 : FVec F S2x8x2064x64 .f32 := broadcastInDim S2x8x2064x64 ![] bcast_S_S2x8x2064x64 main_cst_2
  let main_v11 : IVec S2x8x2064x64 1 := cmpf .olt main_v9 main_v10
  (main_v2, main_v5, main_v8, main_v11)
-- ==== Pre_finite_post.lean ====
abbrev S2x2064x512 : Shape := ⟨3, ![2, 2064, 512]⟩
abbrev S2x2064x1024 : Shape := ⟨3, ![2, 2064, 1024]⟩
abbrev S2x2048x1024 : Shape := ⟨3, ![2, 2048, 1024]⟩
abbrev S512 : Shape := ⟨1, ![512]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S_ : Shape := ⟨0, ![]⟩

class Facts : Prop where
  bcast_S_S2x2064x512 : S_.BroadcastsInDim S2x2064x512 (![] : Fin 0 → Fin S2x2064x512.rank)
  bcast_S_S2x2064x1024 : S_.BroadcastsInDim S2x2064x1024 (![] : Fin 0 → Fin S2x2064x1024.rank)
  bcast_S_S2x2048x1024 : S_.BroadcastsInDim S2x2048x1024 (![] : Fin 0 → Fin S2x2048x1024.rank)
  bcast_S_S512 : S_.BroadcastsInDim S512 (![] : Fin 0 → Fin S512.rank)
  bcast_S_S1024 : S_.BroadcastsInDim S1024 (![] : Fin 0 → Fin S1024.rank)
  bcast_S_S1024x1024 : S_.BroadcastsInDim S1024x1024 (![] : Fin 0 → Fin S1024x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn_part1 {F : FTy → Type} [FloatOps F] (main_arg6 : FVec F S1024 .f32) (main_arg7 : FVec F S1024x1024 .f32) (main_arg8 : FVec F S1024x2816 .f32) (main_arg9 : FVec F S1024x2816 .f32) (main_arg10 : FVec F S2816x1024 .f32) (main_v2 : IVec S2x2064x512 1) (main_v5 : IVec S2x2064x512 1) (main_v8 : IVec S2x2064x1024 1) (main_v11 : IVec S2x2048x1024 1) (main_v14 : IVec S512 1) (main_v17 : IVec S512 1) : IVec S2x2064x512 1 × IVec S2x2064x512 1 × IVec S2x2064x1024 1 × IVec S2x2048x1024 1 × IVec S512 1 × IVec S512 1 × IVec S1024 1 × IVec S1024x1024 1 × IVec S1024x2816 1 × IVec S1024x2816 1 × IVec S2816x1024 1 :=
  let main_v18 : FVec F S1024 .f32 := Host.absf main_arg6
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  let main_v21 : FVec F S1024x1024 .f32 := Host.absf main_arg7
  let main_cst_6 : FVec F S_ .f32 := constant S_ .f32 0x7F800000#32
  let main_v22 : FVec F S1024x1024 .f32 := broadcastInDim S1024x1024 ![] bcast_S_S1024x1024 main_cst_6
  let main_v23 : IVec S1024x1024 1 := cmpf .olt main_v21 main_v22
  let main_v24 : FVec F S1024x2816 .f32 := Host.absf main_arg8
  let main_cst_7 : FVec F S_ .f32 := constant S_ .f32 0x7F800000#32
  let main_v25 : FVec F S1024x2816 .f32 := broadcastInDim S1024x2816 ![] bcast_S_S1024x2816 main_cst_7
  let main_v26 : IVec S1024x2816 1 := cmpf .olt main_v24 main_v25
  let main_v27 : FVec F S1024x2816 .f32 := Host.absf main_arg9
  let main_cst_8 : FVec F S_ .f32 := constant S_ .f32 0x7F800000#32
  let main_v28 : FVec F S1024x2816 .f32 := broadcastInDim S1024x2816 ![] bcast_S_S1024x2816 main_cst_8
  let main_v29 : IVec S1024x2816 1 := cmpf .olt main_v27 main_v28
  let main_v30 : FVec F S2816x1024 .f32 := Host.absf main_arg10
  let main_cst_9 : FVec F S_ .f32 := constant S_ .f32 0x7F800000#32
  let main_v31 : FVec F S2816x1024 .f32 := broadcastInDim S2816x1024 ![] bcast_S_S2816x1024 main_cst_9
  let main_v32 : IVec S2816x1024 1 := cmpf .olt main_v30 main_v31
  (main_v2, main_v5, main_v8, main_v11, main_v14, main_v17, main_v20, main_v23, main_v26, main_v29, main_v32)

def fn {F : FTy → Type} [FloatOps F] (main_arg0 : FVec F S2x2064x512 .f32) (main_arg1 : FVec F S2x2064x512 .f32) (main_arg2 : FVec F S2x2064x1024 .f32) (main_arg3 : FVec F S2x2048x1024 .f32) (main_arg4 : FVec F S512 .f32) (main_arg5 : FVec F S512 .f32) (main_arg6 : FVec F S1024 .f32) (main_arg7 : FVec F S1024x1024 .f32) (main_arg8 : FVec F S1024x2816 .f32) (main_arg9 : FVec F S1024x2816 .f32) (main_arg10 : FVec F S2816x1024 .f32) : IVec S2x2064x512 1 × IVec S2x2064x512 1 × IVec S2x2064x1024 1 × IVec S2x2048x1024 1 × IVec S512 1 × IVec S512 1 × IVec S1024 1 × IVec S1024x1024 1 × IVec S1024x2816 1 × IVec S1024x2816 1 × IVec S2816x1024 1 :=
  let main_v0 : FVec F S2x2064x512 .f32 := Host.absf main_arg0
  let main_cst : FVec F S_ .f32 := constant S_ .f32 0x7F800000#32
  let main_v1 : FVec F S2x2064x512 .f32 := broadcastInDim S2x2064x512 ![] bcast_S_S2x2064x512 main_cst
  let main_v2 : IVec S2x2064x512 1 := cmpf .olt main_v0 main_v1
  let main_v3 : FVec F S2x2064x512 .f32 := Host.absf main_arg1
  let main_cst_0 : FVec F S_ .f32 := constant S_ .f32 0x7F800000#32
  let main_v4 : FVec F S2x2064x512 .f32 := broadcastInDim S2x2064x512 ![] bcast_S_S2x2064x512 main_cst_0
  let main_v5 : IVec S2x2064x512 1 := cmpf .olt main_v3 main_v4
  let main_v6 : FVec F S2x2064x1024 .f32 := Host.absf main_arg2
  let main_cst_1 : FVec F S_ .f32 := constant S_ .f32 0x7F800000#32
  let main_v7 : FVec F S2x2064x1024 .f32 := broadcastInDim S2x2064x1024 ![] bcast_S_S2x2064x1024 main_cst_1
  let main_v8 : IVec S2x2064x1024 1 := cmpf .olt main_v6 main_v7
  let main_v9 : FVec F S2x2048x1024 .f32 := Host.absf main_arg3
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_v12 : FVec F S512 .f32 := Host.absf main_arg4
  let main_cst_3 : FVec F S_ .f32 := constant S_ .f32 0x7F800000#32
  let main_v13 : FVec F S512 .f32 := broadcastInDim S512 ![] bcast_S_S512 main_cst_3
  let main_v14 : IVec S512 1 := cmpf .olt main_v12 main_v13
  let main_v15 : FVec F S512 .f32 := Host.absf main_arg5
  let main_cst_4 : FVec F S_ .f32 := constant S_ .f32 0x7F800000#32
  let main_v16 : FVec F S512 .f32 := broadcastInDim S512 ![] bcast_S_S512 main_cst_4
  let main_v17 : IVec S512 1 := cmpf .olt main_v15 main_v16
  fn_part1 (F := F) main_arg6 main_arg7 main_arg8 main_arg9 main_arg10 main_v2 main_v5 main_v8 main_v11 main_v14 main_v17
-- ==== Kernel.lean ====
abbrev S2x8x2064x96 : Shape := ⟨4, ![2, 8, 2064, 96]⟩
abbrev S2x8x2064x64 : Shape := ⟨4, ![2, 8, 2064, 64]⟩
abbrev S2x8x2064x2064 : Shape := ⟨4, ![2, 8, 2064, 2064]⟩
abbrev S_ : Shape := ⟨0, ![]⟩
abbrev S2x8x2064 : Shape := ⟨3, ![2, 8, 2064]⟩
abbrev S2x8x2064x1 : Shape := ⟨4, ![2, 8, 2064, 1]⟩
abbrev S2x8x2176x2176 : Shape := ⟨4, ![2, 8, 2176, 2176]⟩
abbrev S2x8x2176x64 : Shape := ⟨4, ![2, 8, 2176, 64]⟩
abbrev S2x2176x8x64 : Shape := ⟨4, ![2, 2176, 8, 64]⟩
abbrev S4352x512 : Shape := ⟨2, ![4352, 512]⟩
abbrev S2x8x2176x128 : Shape := ⟨4, ![2, 8, 2176, 128]⟩
abbrev S2x2176x8x128 : Shape := ⟨4, ![2, 2176, 8, 128]⟩
abbrev S4352x1024 : Shape := ⟨2, ![4352, 1024]⟩
abbrev S1088x256 : Shape := ⟨2, ![1088, 256]⟩
abbrev S2176x256 : Shape := ⟨2, ![2176, 256]⟩
abbrev S2176x128 : Shape := ⟨2, ![2176, 128]⟩
abbrev S1088x128 : Shape := ⟨2, ![1088, 128]⟩
abbrev S1x2x1088x2176 : Shape := ⟨4, ![1, 2, 1088, 2176]⟩
abbrev S1088x1 : Shape := ⟨2, ![1088, 1]⟩
abbrev S1088 : Shape := ⟨1, ![1088]⟩
abbrev S1x1x1088x640 : Shape := ⟨4, ![1, 1, 1088, 640]⟩
abbrev S1088x640 : Shape := ⟨2, ![1088, 640]⟩
abbrev S640x128 : Shape := ⟨2, ![640, 128]⟩
abbrev S1x1x1088x512 : Shape := ⟨4, ![1, 1, 1088, 512]⟩
abbrev S1088x512 : Shape := ⟨2, ![1088, 512]⟩
abbrev S512x128 : Shape := ⟨2, ![512, 128]⟩

abbrev nBuf : Space → Nat
  | .hbm => 61
  | .vmem => 20
  | .smem => 0
  | _ => 0

abbrev bufTy : (tb : Table) → Fin (tcTables nBuf tb) → BufTy
  | .hbm, ⟨0, _⟩ => ⟨S2x8x2064x96, .f32⟩
  | .hbm, ⟨1, _⟩ => ⟨S2x8x2064x96, .f32⟩
  | .hbm, ⟨2, _⟩ => ⟨S2x8x2064x64, .f32⟩
  | .hbm, ⟨3, _⟩ => ⟨S2x8x2064x64, .f32⟩
  | .hbm, ⟨4, _⟩ => ⟨S2x8x2064x2064, .f32⟩
  | .hbm, ⟨5, _⟩ => ⟨S_, .f32⟩
  | .hbm, ⟨6, _⟩ => ⟨S2x8x2064x2064, .f32⟩
  | .hbm, ⟨7, _⟩ => ⟨S2x8x2064x2064, .f32⟩
  | .hbm, ⟨8, _⟩ => ⟨S_, .f32⟩
  | .hbm, ⟨9, _⟩ => ⟨S2x8x2064, .f32⟩
  | .hbm, ⟨10, _⟩ => ⟨S2x8x2064x1, .f32⟩
  | .hbm, ⟨11, _⟩ => ⟨S2x8x2064x2064, .f32⟩
  | .hbm, ⟨12, _⟩ => ⟨S2x8x2064x2064, .f32⟩
  | .hbm, ⟨13, _⟩ => ⟨S2x8x2064x2064, .f32⟩
  | .hbm, ⟨14, _⟩ => ⟨S_, .f32⟩
  | .hbm, ⟨15, _⟩ => ⟨S2x8x2064, .f32⟩
  | .hbm, ⟨16, _⟩ => ⟨S2x8x2064x1, .f32⟩
  | .hbm, ⟨17, _⟩ => ⟨S2x8x2064x2064, .f32⟩
  | .hbm, ⟨18, _⟩ => ⟨S2x8x2064x2064, .f32⟩
  | .hbm, ⟨19, _⟩ => ⟨S2x8x2064x64, .f32⟩
  | .hbm, ⟨20, _⟩ => ⟨S_, .i32⟩
  | .hbm, ⟨21, _⟩ => ⟨S_, .f32⟩
  | .hbm, ⟨22, _⟩ => ⟨S2x8x2176x2176, .f32⟩
  | .hbm, ⟨23, _⟩ => ⟨S2x8x2176x2176, .bf16⟩
  | .hbm, ⟨24, _⟩ => ⟨S2x8x2064x64, .f32⟩
  | .hbm, ⟨25, _⟩ => ⟨S_, .f32⟩
  | .hbm, ⟨26, _⟩ => ⟨S_, .f32⟩
  | .hbm, ⟨27, _⟩ => ⟨S2x8x2176x64, .f32⟩
  | .hbm, ⟨28, _⟩ => ⟨S2x2176x8x64, .f32⟩
  | .hbm, ⟨29, _⟩ => ⟨S4352x512, .f32⟩
  | .hbm, ⟨30, _⟩ => ⟨S_, .f32⟩
  | .hbm, ⟨31, _⟩ => ⟨S_, .f32⟩
  | .hbm, ⟨32, _⟩ => ⟨S2x8x2176x128, .f32⟩
  | .hbm, ⟨33, _⟩ => ⟨S2x2176x8x128, .f32⟩
  | .hbm, ⟨34, _⟩ => ⟨S4352x1024, .f32⟩
  | .hbm, ⟨35, _⟩ => ⟨S4352x1024, .bf16⟩
  | .hbm, ⟨36, _⟩ => ⟨S_, .f32⟩
  | .hbm, ⟨37, _⟩ => ⟨S_, .f32⟩
  | .hbm, ⟨38, _⟩ => ⟨S2x8x2176x128, .f32⟩
  | .hbm, ⟨39, _⟩ => ⟨S2x2176x8x128, .f32⟩
  | .hbm, ⟨40, _⟩ => ⟨S4352x1024, .f32⟩
  | .hbm, ⟨41, _⟩ => ⟨S4352x1024, .bf16⟩
  | .hbm, ⟨42, _⟩ => ⟨S_, .f32⟩
  | .hbm, ⟨43, _⟩ => ⟨S_, .f32⟩
  | .hbm, ⟨44, _⟩ => ⟨S2x8x2176x64, .f32⟩
  | .hbm, ⟨45, _⟩ => ⟨S2x2176x8x64, .f32⟩
  | .hbm, ⟨46, _⟩ => ⟨S4352x512, .f32⟩
  | .hbm, ⟨47, _⟩ => ⟨S4352x512, .bf16⟩
  | .hbm, ⟨48, _⟩ => ⟨S_, .f32⟩
  | .hbm, ⟨49, _⟩ => ⟨S_, .f32⟩
  | .hbm, ⟨50, _⟩ => ⟨S2x8x2176x64, .f32⟩
  | .hbm, ⟨51, _⟩ => ⟨S2x2176x8x64, .f32⟩
  | .hbm, ⟨52, _⟩ => ⟨S4352x512, .f32⟩
  | .hbm, ⟨53, _⟩ => ⟨S_, .f32⟩
  | .hbm, ⟨54, _⟩ => ⟨S_, .f32⟩
  | .hbm, ⟨55, _⟩ => ⟨S2x8x2176x64, .f32⟩
  | .hbm, ⟨56, _⟩ => ⟨S2x2176x8x64, .f32⟩
  | .hbm, ⟨57, _⟩ => ⟨S4352x512, .f32⟩
  | .hbm, ⟨58, _⟩ => ⟨S4352x1024, .f32⟩
  | .hbm, ⟨59, _⟩ => ⟨S4352x1024, .f32⟩
  | .hbm, ⟨60, _⟩ => ⟨S4352x512, .f32⟩
  | .local _ .vmem, ⟨0, _⟩ => ⟨S1088x256, .bf16⟩
  | .local _ .vmem, ⟨1, _⟩ => ⟨S1088x256, .bf16⟩
  | .local _ .vmem, ⟨2, _⟩ => ⟨S2176x256, .bf16⟩
  | .local _ .vmem, ⟨3, _⟩ => ⟨S2176x256, .bf16⟩
  | .local _ .vmem, ⟨4, _⟩ => ⟨S2176x128, .bf16⟩
  | .local _ .vmem, ⟨5, _⟩ => ⟨S2176x128, .bf16⟩
  | .local _ .vmem, ⟨6, _⟩ => ⟨S1088x128, .f32⟩
  | .local _ .vmem, ⟨7, _⟩ => ⟨S1088x128, .f32⟩
  | .local _ .vmem, ⟨8, _⟩ => ⟨S1088x128, .f32⟩
  | .local _ .vmem, ⟨9, _⟩ => ⟨S1088x128, .f32⟩
  | .local _ .vmem, ⟨10, _⟩ => ⟨S1088x128, .f32⟩
  | .local _ .vmem, ⟨11, _⟩ => ⟨S1088x128, .f32⟩
  | .local _ .vmem, ⟨12, _⟩ => ⟨S1x2x1088x2176, .bf16⟩
  | .local _ .vmem, ⟨13, _⟩ => ⟨S1x2x1088x2176, .bf16⟩
  | .local _ .vmem, ⟨14, _⟩ => ⟨S1088x256, .f32⟩
  | .local _ .vmem, ⟨15, _⟩ => ⟨S1088x256, .f32⟩
  | .local _ .vmem, ⟨16, _⟩ => ⟨S2176x256, .f32⟩
  | .local _ .vmem, ⟨17, _⟩ => ⟨S2176x256, .f32⟩
  | .local _ .vmem, ⟨18, _⟩ => ⟨S2176x128, .f32⟩
  | .local _ .vmem, ⟨19, _⟩ => ⟨S2176x128, .f32⟩
  | _, _ => ⟨S2x8x2064x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_call0_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_call1_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_call2_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_call3_v0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_call4_v0 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_call5_v0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_call6_v0 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37_0 : Ref sig .tc := ⟨.hbm, 58, rfl⟩
abbrev main_v37_1 : Ref sig .tc := ⟨.hbm, 59, rfl⟩
abbrev main_v37_2 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![2, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2176x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2176x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1088x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1088x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x2x1088x2176 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1088x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S2176x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S2176x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== ReferenceIdeal.lean ====
abbrev S2x8x2064x96 : Shape := ⟨4, ![2, 8, 2064, 96]⟩
abbrev S2x8x2064x64 : Shape := ⟨4, ![2, 8, 2064, 64]⟩
abbrev S2x8x2064x2064 : Shape := ⟨4, ![2, 8, 2064, 2064]⟩
abbrev S_ : Shape := ⟨0, ![]⟩
abbrev S2x8x2064 : Shape := ⟨3, ![2, 8, 2064]⟩
abbrev S2x8x2064x1 : Shape := ⟨4, ![2, 8, 2064, 1]⟩
abbrev S2x8x64x2064 : Shape := ⟨4, ![2, 8, 64, 2064]⟩
abbrev S2x2064x8x96 : Shape := ⟨4, ![2, 2064, 8, 96]⟩
abbrev S2x2176x8x128 : Shape := ⟨4, ![2, 2176, 8, 128]⟩
abbrev S4352x1024 : Shape := ⟨2, ![4352, 1024]⟩
abbrev S2x2064x8x64 : Shape := ⟨4, ![2, 2064, 8, 64]⟩
abbrev S2x2176x8x64 : Shape := ⟨4, ![2, 2176, 8, 64]⟩
abbrev S4352x512 : Shape := ⟨2, ![4352, 512]⟩

abbrev nBuf : Space → Nat
  | .hbm => 84
  | .vmem => 0
  | .smem => 0
  | _ => 0

abbrev bufTy : (tb : Table) → Fin (tcTables nBuf tb) → BufTy
  | .hbm, ⟨0, _⟩ => ⟨S2x8x2064x96, .f32⟩
  | .hbm, ⟨1, _⟩ => ⟨S2x8x2064x96, .f32⟩
  | .hbm, ⟨2, _⟩ => ⟨S2x8x2064x64, .f32⟩
  | .hbm, ⟨3, _⟩ => ⟨S2x8x2064x64, .f32⟩
  | .hbm, ⟨4, _⟩ => ⟨S2x8x2064x2064, .f32⟩
  | .hbm, ⟨5, _⟩ => ⟨S_, .f32⟩
  | .hbm, ⟨6, _⟩ => ⟨S2x8x2064x2064, .f32⟩
  | .hbm, ⟨7, _⟩ => ⟨S2x8x2064x2064, .f32⟩
  | .hbm, ⟨8, _⟩ => ⟨S_, .f32⟩
  | .hbm, ⟨9, _⟩ => ⟨S2x8x2064, .f32⟩
  | .hbm, ⟨10, _⟩ => ⟨S2x8x2064x1, .f32⟩
  | .hbm, ⟨11, _⟩ => ⟨S2x8x2064x2064, .f32⟩
  | .hbm, ⟨12, _⟩ => ⟨S2x8x2064x2064, .i1⟩
  | .hbm, ⟨13, _⟩ => ⟨S2x8x2064x2064, .f32⟩
  | .hbm, ⟨14, _⟩ => ⟨S_, .f32⟩
  | .hbm, ⟨15, _⟩ => ⟨S2x8x2064, .f32⟩
  | .hbm, ⟨16, _⟩ => ⟨S_, .f32⟩
  | .hbm, ⟨17, _⟩ => ⟨S2x8x2064, .f32⟩
  | .hbm, ⟨18, _⟩ => ⟨S2x8x2064, .f32⟩
  | .hbm, ⟨19, _⟩ => ⟨S_, .f32⟩
  | .hbm, ⟨20, _⟩ => ⟨S2x8x2064, .f32⟩
  | .hbm, ⟨21, _⟩ => ⟨S2x8x2064, .i1⟩
  | .hbm, ⟨22, _⟩ => ⟨S_, .f32⟩
  | .hbm, ⟨23, _⟩ => ⟨S2x8x2064, .f32⟩
  | .hbm, ⟨24, _⟩ => ⟨S2x8x2064, .i1⟩
  | .hbm, ⟨25, _⟩ => ⟨S_, .f32⟩
  | .hbm, ⟨26, _⟩ => ⟨S2x8x2064, .f32⟩
  | .hbm, ⟨27, _⟩ => ⟨S_, .f32⟩
  | .hbm, ⟨28, _⟩ => ⟨S2x8x2064, .f32⟩
  | .hbm, ⟨29, _⟩ => ⟨S_, .f32⟩
  | .hbm, ⟨30, _⟩ => ⟨S2x8x2064, .f32⟩
  | .hbm, ⟨31, _⟩ => ⟨S2x8x2064, .f32⟩
  | .hbm, ⟨32, _⟩ => ⟨S2x8x2064, .f32⟩
  | .hbm, ⟨33, _⟩ => ⟨S2x8x2064x1, .f32⟩
  | .hbm, ⟨34, _⟩ => ⟨S2x8x2064x2064, .f32⟩
  | .hbm, ⟨35, _⟩ => ⟨S2x8x2064x2064, .f32⟩
  | .hbm, ⟨36, _⟩ => ⟨S2x8x2064x2064, .f32⟩
  | .hbm, ⟨37, _⟩ => ⟨S_, .f32⟩
  | .hbm, ⟨38, _⟩ => ⟨S2x8x2064, .f32⟩
  | .hbm, ⟨39, _⟩ => ⟨S2x8x2064x1, .f32⟩
  | .hbm, ⟨40, _⟩ => ⟨S2x8x2064x2064, .f32⟩
  | .hbm, ⟨41, _⟩ => ⟨S2x8x2064x2064, .f32⟩
  | .hbm, ⟨42, _⟩ => ⟨S2x8x2064x1, .f32⟩
  | .hbm, ⟨43, _⟩ => ⟨S_, .f32⟩
  | .hbm, ⟨44, _⟩ => ⟨S2x8x2064x1, .f32⟩
  | .hbm, ⟨45, _⟩ => ⟨S2x8x2064x1, .f32⟩
  | .hbm, ⟨46, _⟩ => ⟨S2x8x2064x64, .f32⟩
  | .hbm, ⟨47, _⟩ => ⟨S2x8x64x2064, .f32⟩
  | .hbm, ⟨48, _⟩ => ⟨S2x8x2064x64, .f32⟩
  | .hbm, ⟨49, _⟩ => ⟨S2x8x2064x2064, .f32⟩
  | .hbm, ⟨50, _⟩ => ⟨S2x8x2064x2064, .f32⟩
  | .hbm, ⟨51, _⟩ => ⟨S2x8x2064x2064, .f32⟩
  | .hbm, ⟨52, _⟩ => ⟨S2x8x2064x2064, .f32⟩
  | .hbm, ⟨53, _⟩ => ⟨S_, .f32⟩
  | .hbm, ⟨54, _⟩ => ⟨S2x8x2064, .f32⟩
  | .hbm, ⟨55, _⟩ => ⟨S2x8x2064x1, .f32⟩
  | .hbm, ⟨56, _⟩ => ⟨S2x8x2064x1, .f32⟩
  | .hbm, ⟨57, _⟩ => ⟨S2x8x2064x2064, .f32⟩
  | .hbm, ⟨58, _⟩ => ⟨S2x8x2064x2064, .f32⟩
  | .hbm, ⟨59, _⟩ => ⟨S_, .f32⟩
  | .hbm, ⟨60, _⟩ => ⟨S2x8x2064, .f32⟩
  | .hbm, ⟨61, _⟩ => ⟨S2x8x2064x2064, .f32⟩
  | .hbm, ⟨62, _⟩ => ⟨S2x8x2064x2064, .f32⟩
  | .hbm, ⟨63, _⟩ => ⟨S2x8x2064x2064, .f32⟩
  | .hbm, ⟨64, _⟩ => ⟨S_, .f32⟩
  | .hbm, ⟨65, _⟩ => ⟨S2x8x2064x2064, .f32⟩
  | .hbm, ⟨66, _⟩ => ⟨S2x8x2064x2064, .f32⟩
  | .hbm, ⟨67, _⟩ => ⟨S2x8x2064x96, .f32⟩
  | .hbm, ⟨68, _⟩ => ⟨S2x8x2064x96, .f32⟩
  | .hbm, ⟨69, _⟩ => ⟨S2x2064x8x96, .f32⟩
  | .hbm, ⟨70, _⟩ => ⟨S_, .i32⟩
  | .hbm, ⟨71, _⟩ => ⟨S_, .f32⟩
  | .hbm, ⟨72, _⟩ => ⟨S2x2176x8x128, .f32⟩
  | .hbm, ⟨73, _⟩ => ⟨S4352x1024, .f32⟩
  | .hbm, ⟨74, _⟩ => ⟨S2x2064x8x96, .f32⟩
  | .hbm, ⟨75, _⟩ => ⟨S_, .i32⟩
  | .hbm, ⟨76, _⟩ => ⟨S_, .f32⟩
  | .hbm, ⟨77, _⟩ => ⟨S2x2176x8x128, .f32⟩
  | .hbm, ⟨78, _⟩ => ⟨S4352x1024, .f32⟩
  | .hbm, ⟨79, _⟩ => ⟨S2x2064x8x64, .f32⟩
  | .hbm, ⟨80, _⟩ => ⟨S_, .i32⟩
  | .hbm, ⟨81, _⟩ => ⟨S_, .f32⟩
  | .hbm, ⟨82, _⟩ => ⟨S2x2176x8x64, .f32⟩
  | .hbm, ⟨83, _⟩ => ⟨S4352x512, .f32⟩
  | _, _ => ⟨S2x8x2064x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_10 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_11 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_12 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c : Ref sig .tc := ⟨.hbm, 70, rfl⟩
abbrev main_call0_v0 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c_13 : Ref sig .tc := ⟨.hbm, 75, rfl⟩
abbrev main_call1_v0 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_14 : Ref sig .tc := ⟨.hbm, 80, rfl⟩
abbrev main_call2_v0 : Ref sig .tc := ⟨.hbm, 81, rfl⟩
abbrev main_v58 : Ref sig .tc := ⟨.hbm, 82, rfl⟩
abbrev main_v59 : Ref sig .tc := ⟨.hbm, 83, rfl⟩

abbrev nD : Nat := 1
abbrev τ : Topo := Topo.v7x

variable {F : FTy → Type} [FloatOps F]
-- ==== Kernel2.lean ====
abbrev S2x2064x512 : Shape := ⟨3, ![2, 2064, 512]⟩
abbrev S2x2064x1024 : Shape := ⟨3, ![2, 2064, 1024]⟩
abbrev S2x2048x1024 : Shape := ⟨3, ![2, 2048, 1024]⟩
abbrev S512 : Shape := ⟨1, ![512]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S_ : Shape := ⟨0, ![]⟩
abbrev S2x2176x512 : Shape := ⟨3, ![2, 2176, 512]⟩
abbrev S4352x512 : Shape := ⟨2, ![4352, 512]⟩
abbrev S2x2176x1024 : Shape := ⟨3, ![2, 2176, 1024]⟩
abbrev S4352x1024 : Shape := ⟨2, ![4352, 1024]⟩
abbrev S1x512 : Shape := ⟨2, ![1, 512]⟩
abbrev S1x1024 : Shape := ⟨2, ![1, 1024]⟩
abbrev S1024x4352 : Shape := ⟨2, ![1024, 4352]⟩
abbrev S2816x4352 : Shape := ⟨2, ![2816, 4352]⟩
abbrev S1x128 : Shape := ⟨2, ![1, 128]⟩
abbrev S256x512 : Shape := ⟨2, ![256, 512]⟩
abbrev S256x1024 : Shape := ⟨2, ![256, 1024]⟩
abbrev S1x128x1024 : Shape := ⟨3, ![1, 128, 1024]⟩
abbrev S1024x256 : Shape := ⟨2, ![1024, 256]⟩
abbrev S2816x256 : Shape := ⟨2, ![2816, 256]⟩
abbrev S256x2816 : Shape := ⟨2, ![256, 2816]⟩
abbrev S256 : Shape := ⟨1, ![256]⟩
abbrev S256x1 : Shape := ⟨2, ![256, 1]⟩
abbrev S128x1024 : Shape := ⟨2, ![128, 1024]⟩
abbrev S1x256x1024 : Shape := ⟨3, ![1, 256, 1024]⟩
abbrev S1 : Shape := ⟨1, ![1]⟩
abbrev S1x1x1 : Shape := ⟨3, ![1, 1, 1]⟩

abbrev nBuf : Space → Nat
  | .hbm => 45
  | .vmem => 41
  | .smem => 0
  | _ => 0

abbrev bufTy : (tb : Table) → Fin (tcTables nBuf tb) → BufTy
  | .hbm, ⟨0, _⟩ => ⟨S2x2064x512, .f32⟩
  | .hbm, ⟨1, _⟩ => ⟨S2x2064x512, .f32⟩
  | .hbm, ⟨2, _⟩ => ⟨S2x2064x1024, .f32⟩
  | .hbm, ⟨3, _⟩ => ⟨S2x2048x1024, .f32⟩
  | .hbm, ⟨4, _⟩ => ⟨S512, .f32⟩
  | .hbm, ⟨5, _⟩ => ⟨S512, .f32⟩
  | .hbm, ⟨6, _⟩ => ⟨S1024, .f32⟩
  | .hbm, ⟨7, _⟩ => ⟨S1024x1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S_, .i32⟩
  | .hbm, ⟨12, _⟩ => ⟨S_, .f32⟩
  | .hbm, ⟨13, _⟩ => ⟨S2x2176x512, .f32⟩
  | .hbm, ⟨14, _⟩ => ⟨S4352x512, .f32⟩
  | .hbm, ⟨15, _⟩ => ⟨S_, .i32⟩
  | .hbm, ⟨16, _⟩ => ⟨S_, .f32⟩
  | .hbm, ⟨17, _⟩ => ⟨S2x2176x512, .f32⟩
  | .hbm, ⟨18, _⟩ => ⟨S4352x512, .f32⟩
  | .hbm, ⟨19, _⟩ => ⟨S_, .i32⟩
  | .hbm, ⟨20, _⟩ => ⟨S_, .f32⟩
  | .hbm, ⟨21, _⟩ => ⟨S2x2176x1024, .f32⟩
  | .hbm, ⟨22, _⟩ => ⟨S4352x1024, .f32⟩
  | .hbm, ⟨23, _⟩ => ⟨S1x512, .f32⟩
  | .hbm, ⟨24, _⟩ => ⟨S1x512, .f32⟩
  | .hbm, ⟨25, _⟩ => ⟨S1x1024, .f32⟩
  | .hbm, ⟨26, _⟩ => ⟨S1024x1024, .bf16⟩
  | .hbm, ⟨27, _⟩ => ⟨S2816x1024, .f32⟩
  | .hbm, ⟨28, _⟩ => ⟨S2816x1024, .bf16⟩
  | .hbm, ⟨29, _⟩ => ⟨S2816x1024, .f32⟩
  | .hbm, ⟨30, _⟩ => ⟨S2816x1024, .bf16⟩
  | .hbm, ⟨31, _⟩ => ⟨S2816x1024, .bf16⟩
  | .hbm, ⟨32, _⟩ => ⟨S4352x512, .f32⟩
  | .hbm, ⟨33, _⟩ => ⟨S4352x512, .f32⟩
  | .hbm, ⟨34, _⟩ => ⟨S4352x1024, .f32⟩
  | .hbm, ⟨35, _⟩ => ⟨S1024x4352, .bf16⟩
  | .hbm, ⟨36, _⟩ => ⟨S4352x1024, .bf16⟩
  | .hbm, ⟨37, _⟩ => ⟨S2816x4352, .bf16⟩
  | .hbm, ⟨38, _⟩ => ⟨S2816x4352, .bf16⟩
  | .hbm, ⟨39, _⟩ => ⟨S2816x4352, .bf16⟩
  | .hbm, ⟨40, _⟩ => ⟨S4352x1024, .bf16⟩
  | .hbm, ⟨41, _⟩ => ⟨S1x128, .f32⟩
  | .hbm, ⟨42, _⟩ => ⟨S1x512, .f32⟩
  | .hbm, ⟨43, _⟩ => ⟨S1x512, .f32⟩
  | .hbm, ⟨44, _⟩ => ⟨S1x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S256x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x512, .f32⟩
  | .local _ .vmem, ⟨11, _⟩ => ⟨S1x512, .f32⟩
  | .local _ .vmem, ⟨12, _⟩ => ⟨S1x1024, .f32⟩
  | .local _ .vmem, ⟨13, _⟩ => ⟨S1024x1024, .bf16⟩
  | .local _ .vmem, ⟨14, _⟩ => ⟨S2816x1024, .bf16⟩
  | .local _ .vmem, ⟨15, _⟩ => ⟨S2816x1024, .bf16⟩
  | .local _ .vmem, ⟨16, _⟩ => ⟨S2816x1024, .bf16⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x1024, .f32⟩
  | .local _ .vmem, ⟨22, _⟩ => ⟨S256x1024, .f32⟩
  | .local _ .vmem, ⟨23, _⟩ => ⟨S1024x256, .bf16⟩
  | .local _ .vmem, ⟨24, _⟩ => ⟨S1024x256, .bf16⟩
  | .local _ .vmem, ⟨25, _⟩ => ⟨S256x1024, .bf16⟩
  | .local _ .vmem, ⟨26, _⟩ => ⟨S256x1024, .bf16⟩
  | .local _ .vmem, ⟨27, _⟩ => ⟨S2816x256, .bf16⟩
  | .local _ .vmem, ⟨28, _⟩ => ⟨S2816x256, .bf16⟩
  | .local _ .vmem, ⟨29, _⟩ => ⟨S2816x256, .bf16⟩
  | .local _ .vmem, ⟨30, _⟩ => ⟨S2816x256, .bf16⟩
  | .local _ .vmem, ⟨31, _⟩ => ⟨S2816x256, .bf16⟩
  | .local _ .vmem, ⟨32, _⟩ => ⟨S2816x256, .bf16⟩
  | .local _ .vmem, ⟨33, _⟩ => ⟨S256x1024, .bf16⟩
  | .local _ .vmem, ⟨34, _⟩ => ⟨S256x1024, .bf16⟩
  | .local _ .vmem, ⟨35, _⟩ => ⟨S1x128, .f32⟩
  | .local _ .vmem, ⟨36, _⟩ => ⟨S1x512, .f32⟩
  | .local _ .vmem, ⟨37, _⟩ => ⟨S1x512, .f32⟩
  | .local _ .vmem, ⟨38, _⟩ => ⟨S1x1024, .f32⟩
  | .local _ .vmem, ⟨39, _⟩ => ⟨S256x2816, .f32⟩
  | .local _ .vmem, ⟨40, _⟩ => ⟨S256x2816, .f32⟩
  | _, _ => ⟨S2x2064x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_call1_v0 : Ref sig .tc := ⟨.hbm, 16, rfl⟩
abbrev main_v2 : Ref sig .tc := ⟨.hbm, 17, rfl⟩
abbrev main_v3 : Ref sig .tc := ⟨.hbm, 18, rfl⟩
abbrev main_c_1 : Ref sig .tc := ⟨.hbm, 19, rfl⟩
abbrev main_call2_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15_0 : Ref sig .tc := ⟨.hbm, 32, rfl⟩
abbrev main_v15_1 : Ref sig .tc := ⟨.hbm, 33, rfl⟩
abbrev main_v15_2 : Ref sig .tc := ⟨.hbm, 34, rfl⟩
abbrev main_v15_3 : Ref sig .tc := ⟨.hbm, 35, rfl⟩
abbrev main_v15_4 : Ref sig .tc := ⟨.hbm, 36, rfl⟩
abbrev main_v15_5 : Ref sig .tc := ⟨.hbm, 37, rfl⟩
abbrev main_v15_6 : Ref sig .tc := ⟨.hbm, 38, rfl⟩
abbrev main_v15_7 : Ref sig .tc := ⟨.hbm, 39, rfl⟩
abbrev main_v15_8 : Ref sig .tc := ⟨.hbm, 40, rfl⟩
abbrev main_v15_9 : Ref sig .tc := ⟨.hbm, 41, rfl⟩
abbrev main_v15_10 : Ref sig .tc := ⟨.hbm, 42, rfl⟩
abbrev main_v15_11 : Ref sig .tc := ⟨.hbm, 43, rfl⟩
abbrev main_v15_12 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg22_0 : Ref sig .tc := ⟨.vmem, 36, rfl⟩
abbrev cc0_stg23_0 : Ref sig .tc := ⟨.vmem, 37, rfl⟩
abbrev cc0_stg24_0 : Ref sig .tc := ⟨.vmem, 38, rfl⟩
abbrev cc0_scratch0 : Ref sig .tc := ⟨.vmem, 39, rfl⟩
abbrev cc0_scratch1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem22_0 : DmaSem sig := 36
abbrev cc0_sem23_0 : DmaSem sig := 37
abbrev cc0_sem24_0 : DmaSem sig := 38

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v117 : BitVec 32 := Scalar.extui v0
  let c0_i32_54 : BitVec 32 := 0#32
  let v118 : BitVec 1 := Scalar.cmpi .ne v117 c0_i32_54
  v118

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v119 : BitVec 1 := Scalar.xori v0 v_true
  let v120 : BitVec 32 := Scalar.extui v119
  let c0_i32_55 : BitVec 32 := 0#32
  let v121 : BitVec 1 := Scalar.cmpi .ne v120 c0_i32_55
  v121

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v196 : BitVec 32 := Scalar.extui v0
  let c0_i32_96 : BitVec 32 := 0#32
  let v197 : BitVec 1 := Scalar.cmpi .ne v196 c0_i32_96
  v197

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_97 : BitVec 1 := 1#1
  let v198 : BitVec 1 := Scalar.xori v0 true_97
  let v199 : BitVec 32 := Scalar.extui v198
  let c0_i32_98 : BitVec 32 := 0#32
  let v200 : BitVec 1 := Scalar.cmpi .ne v199 c0_i32_98
  v200

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v204 : BitVec 32 := Scalar.extui v0
  let c0_i32_100 : BitVec 32 := 0#32
  let v205 : BitVec 1 := Scalar.cmpi .ne v204 c0_i32_100
  v205

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_101 : BitVec 1 := 1#1
  let v206 : BitVec 1 := Scalar.xori v0 true_101
  let v207 : BitVec 32 := Scalar.extui v206
  let c0_i32_102 : BitVec 32 := 0#32
  let v208 : BitVec 1 := Scalar.cmpi .ne v207 c0_i32_102
  v208

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v166 : BitVec 32 := Scalar.extui v0
  let c0_i32_83 : BitVec 32 := 0#32
  let v167 : BitVec 1 := Scalar.cmpi .ne v166 c0_i32_83
  v167

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_84 : BitVec 1 := 1#1
  let v168 : BitVec 1 := Scalar.xori v0 true_84
  let v169 : BitVec 32 := Scalar.extui v168
  let c0_i32_85 : BitVec 32 := 0#32
  let v170 : BitVec 1 := Scalar.cmpi .ne v169 c0_i32_85
  v170

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c17_i32 : BitVec 32 := 17#32
  let v2 : BitVec 32 := Scalar.divsi v1 c17_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c17_i32 c0_i32_2
  let v9 : BitVec 32 := Scalar.extui v8
  let c0_i32_3 : BitVec 32 := 0#32
  let v10 : BitVec 1 := Scalar.cmpi .slt c17_i32 c0_i32_3
  let v11 : BitVec 32 := Scalar.extui v10
  let v12 : BitVec 32 := Scalar.subi v9 v11
  let v13 : BitVec 1 := Scalar.cmpi .ne v7 v12
  let v14 : BitVec 32 := Scalar.remsi v1 c17_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1_i32_11 : BitVec 32 := 1#32
  let v29 : BitVec 32 := Scalar.subi v28 c1_i32_11
  let c0_i32_12 : BitVec 32 := 0#32
  let v30 : BitVec 32 := Scalar.maxsi v29 c0_i32_12
  let c0_i32_13 : BitVec 32 := 0#32
  let c0_i32_14 : BitVec 32 := 0#32
  ![v18.toNat, v30.toNat, c0_i32_13.toNat]

def cc0_transform_4 (i : grid0.Coords) : Fin 3 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1_i32_11 : BitVec 32 := 1#32
  let v29 : BitVec 32 := Scalar.subi v28 c1_i32_11
  let c0_i32_12 : BitVec 32 := 0#32
  let v30 : BitVec 32 := Scalar.maxsi v29 c0_i32_12
  let c0_i32_13 : BitVec 32 := 0#32
  let c0_i32_14 : BitVec 32 := 0#32
  ![v18.toNat, v30.toNat, c0_i32_13.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2816x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2816x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2816x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]
-- ==== Reference2Ideal.lean ====
abbrev S2x2064x512 : Shape := ⟨3, ![2, 2064, 512]⟩
abbrev S2x2064x1024 : Shape := ⟨3, ![2, 2064, 1024]⟩
abbrev S2x2048x1024 : Shape := ⟨3, ![2, 2048, 1024]⟩
abbrev S512 : Shape := ⟨1, ![512]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S_ : Shape := ⟨0, ![]⟩
abbrev S2x2064 : Shape := ⟨2, ![2, 2064]⟩
abbrev S2x2064x1 : Shape := ⟨3, ![2, 2064, 1]⟩
abbrev S1x1x512 : Shape := ⟨3, ![1, 1, 512]⟩
abbrev S1x1x1024 : Shape := ⟨3, ![1, 1, 1024]⟩
abbrev S2x2064x2816 : Shape := ⟨3, ![2, 2064, 2816]⟩
abbrev S2x2048 : Shape := ⟨2, ![2, 2048]⟩
abbrev S2x2176x512 : Shape := ⟨3, ![2, 2176, 512]⟩
abbrev S4352x512 : Shape := ⟨2, ![4352, 512]⟩
abbrev S2x2176x1024 : Shape := ⟨3, ![2, 2176, 1024]⟩
abbrev S4352x1024 : Shape := ⟨2, ![4352, 1024]⟩
abbrev S1024x4352 : Shape := ⟨2, ![1024, 4352]⟩
abbrev S2x2176x2816 : Shape := ⟨3, ![2, 2176, 2816]⟩
abbrev S4352x2816 : Shape := ⟨2, ![4352, 2816]⟩
abbrev S2816x4352 : Shape := ⟨2, ![2816, 4352]⟩
abbrev S1x128 : Shape := ⟨2, ![1, 128]⟩
abbrev S1x512 : Shape := ⟨2, ![1, 512]⟩
abbrev S1x1024 : Shape := ⟨2, ![1, 1024]⟩

abbrev nBuf : Space → Nat
  | .hbm => 257
  | .vmem => 0
  | .smem => 0
  | _ => 0

abbrev hbmTy0_0 (i : Nat) : BufTy := match i % 128 with
  | 0 => ⟨S2x2064x512, .f32⟩
  | 1 => ⟨S2x2064x512, .f32⟩
  | 2 => ⟨S2x2064x1024, .f32⟩
  | 3 => ⟨S2x2048x1024, .f32⟩
  | 4 => ⟨S512, .f32⟩
  | 5 => ⟨S512, .f32⟩
  | 6 => ⟨S1024, .f32⟩
  | 7 => ⟨S1024x1024, .f32⟩
  | 8 => ⟨S1024x2816, .f32⟩
  | 9 => ⟨S1024x2816, .f32⟩
  | 10 => ⟨S2816x1024, .f32⟩
  | 11 => ⟨S2x2064x512, .f32⟩
  | 12 => ⟨S_, .f32⟩
  | 13 => ⟨S2x2064, .f32⟩
  | 14 => ⟨S2x2064x1, .f32⟩
  | 15 => ⟨S_, .f32⟩
  | 16 => ⟨S2x2064x1, .f32⟩
  | 17 => ⟨S2x2064x1, .f32⟩
  | 18 => ⟨S_, .f32⟩
  | 19 => ⟨S2x2064x1, .f32⟩
  | 20 => ⟨S2x2064x1, .f32⟩
  | 21 => ⟨S2x2064x1, .f32⟩
  | 22 => ⟨S2x2064x1, .f32⟩
  | 23 => ⟨S_, .f32⟩
  | 24 => ⟨S2x2064x1, .f32⟩
  | 25 => ⟨S2x2064x1, .f32⟩
  | 26 => ⟨S2x2064x512, .f32⟩
  | 27 => ⟨S2x2064x512, .f32⟩
  | 28 => ⟨S1x1x512, .f32⟩
  | 29 => ⟨S2x2064x512, .f32⟩
  | 30 => ⟨S2x2064x512, .f32⟩
  | 31 => ⟨S2x2064x512, .f32⟩
  | 32 => ⟨S_, .f32⟩
  | 33 => ⟨S2x2064, .f32⟩
  | 34 => ⟨S2x2064x1, .f32⟩
  | 35 => ⟨S_, .f32⟩
  | 36 => ⟨S2x2064x1, .f32⟩
  | 37 => ⟨S2x2064x1, .f32⟩
  | 38 => ⟨S_, .f32⟩
  | 39 => ⟨S2x2064x1, .f32⟩
  | 40 => ⟨S2x2064x1, .f32⟩
  | 41 => ⟨S2x2064x1, .f32⟩
  | 42 => ⟨S2x2064x1, .f32⟩
  | 43 => ⟨S_, .f32⟩
  | 44 => ⟨S2x2064x1, .f32⟩
  | 45 => ⟨S2x2064x1, .f32⟩
  | 46 => ⟨S2x2064x512, .f32⟩
  | 47 => ⟨S2x2064x512, .f32⟩
  | 48 => ⟨S1x1x512, .f32⟩
  | 49 => ⟨S2x2064x512, .f32⟩
  | 50 => ⟨S2x2064x512, .f32⟩
  | 51 => ⟨S2x2064x1024, .f32⟩
  | 52 => ⟨S2x2064x1024, .f32⟩
  | 53 => ⟨S2x2064x1024, .f32⟩
  | 54 => ⟨S2x2064x1024, .f32⟩
  | 55 => ⟨S_, .f32⟩
  | 56 => ⟨S2x2064, .f32⟩
  | 57 => ⟨S2x2064x1, .f32⟩
  | 58 => ⟨S_, .f32⟩
  | 59 => ⟨S2x2064x1, .f32⟩
  | 60 => ⟨S2x2064x1, .f32⟩
  | 61 => ⟨S_, .f32⟩
  | 62 => ⟨S2x2064x1, .f32⟩
  | 63 => ⟨S2x2064x1, .f32⟩
  | 64 => ⟨S2x2064x1, .f32⟩
  | 65 => ⟨S2x2064x1, .f32⟩
  | 66 => ⟨S_, .f32⟩
  | 67 => ⟨S2x2064x1, .f32⟩
  | 68 => ⟨S2x2064x1, .f32⟩
  | 69 => ⟨S2x2064x1024, .f32⟩
  | 70 => ⟨S2x2064x1024, .f32⟩
  | 71 => ⟨S1x1x1024, .f32⟩
  | 72 => ⟨S2x2064x1024, .f32⟩
  | 73 => ⟨S2x2064x1024, .f32⟩
  | 74 => ⟨S2x2064x2816, .f32⟩
  | 75 => ⟨S2x2064x2816, .f32⟩
  | 76 => ⟨S2x2064x2816, .f32⟩
  | 77 => ⟨S2x2064x2816, .f32⟩
  | 78 => ⟨S_, .f32⟩
  | 79 => ⟨S2x2064x2816, .f32⟩
  | 80 => ⟨S2x2064x2816, .f32⟩
  | 81 => ⟨S_, .f32⟩
  | 82 => ⟨S2x2064x2816, .f32⟩
  | 83 => ⟨S2x2064x2816, .f32⟩
  | 84 => ⟨S_, .f32⟩
  | 85 => ⟨S2x2064x2816, .f32⟩
  | 86 => ⟨S2x2064x2816, .f32⟩
  | 87 => ⟨S2x2064x2816, .f32⟩
  | 88 => ⟨S2x2064x2816, .f32⟩
  | 89 => ⟨S2x2064x2816, .f32⟩
  | 90 => ⟨S2x2064x1024, .f32⟩
  | 91 => ⟨S2x2064x1024, .f32⟩
  | 92 => ⟨S2x2048x1024, .f32⟩
  | 93 => ⟨S2x2048x1024, .f32⟩
  | 94 => ⟨S2x2048x1024, .f32⟩
  | 95 => ⟨S_, .f32⟩
  | 96 => ⟨S2x2048x1024, .f32⟩
  | 97 => ⟨S2x2048x1024, .f32⟩
  | 98 => ⟨S_, .f32⟩
  | 99 => ⟨S2x2048, .f32⟩
  | 100 => ⟨S_, .f32⟩
  | 101 => ⟨S2x2048, .f32⟩
  | 102 => ⟨S2x2048, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S2x2048, .f32⟩
  | 111 => ⟨S_, .f32⟩
  | 112 => ⟨S2x2048, .f32⟩
  | 113 => ⟨S2x2048, .f32⟩
  | 114 => ⟨S2x2048x1024, .f32⟩
  | 115 => ⟨S2x2048x1024, .f32⟩
  | 116 => ⟨S_, .f32⟩
  | 117 => ⟨S2x2064x1024, .f32⟩
  | 118 => ⟨S2x2064x2816, .f32⟩
  | 119 => ⟨S2x2064x2816, .f32⟩
  | 120 => ⟨S2x2064x2816, .f32⟩
  | 121 => ⟨S2x2064x2816, .f32⟩
  | 122 => ⟨S2x2064x2816, .f32⟩
  | 123 => ⟨S2x2064x2816, .f32⟩
  | 124 => ⟨S2x2064x2816, .f32⟩
  | 125 => ⟨S2x2064x1024, .f32⟩
  | 126 => ⟨S2x2064x1024, .f32⟩
  | 127 => ⟨S2x2064x1024, .f32⟩
  | _ => ⟨S2x2064x512, .f32⟩

abbrev hbmTy0_1 (i : Nat) : BufTy := match i % 128 with
  | 0 => ⟨S2x2064x1024, .f32⟩
  | 1 => ⟨S_, .f32⟩
  | 2 => ⟨S1024, .f32⟩
  | 3 => ⟨S1x1x1024, .f32⟩
  | 4 => ⟨S2x2064x1024, .f32⟩
  | 5 => ⟨S2x2064x1024, .f32⟩
  | 6 => ⟨S_, .f32⟩
  | 7 => ⟨S1024, .f32⟩
  | 8 => ⟨S2x2064x1024, .f32⟩
  | 9 => ⟨S_, .f32⟩
  | 10 => ⟨S2x2064, .f32⟩
  | 11 => ⟨S2x2064x1, .f32⟩
  | 12 => ⟨S2x2064x1024, .f32⟩
  | 13 => ⟨S2x2064x1024, .f32⟩
  | 14 => ⟨S2x2064x1, .f32⟩
  | 15 => ⟨S_, .f32⟩
  | 16 => ⟨S2x2064x1, .f32⟩
  | 17 => ⟨S2x2064x1, .f32⟩
  | 18 => ⟨S_, .f32⟩
  | 19 => ⟨S2x2064, .f32⟩
  | 20 => ⟨S2x2064x1024, .f32⟩
  | 21 => ⟨S2x2064x1024, .f32⟩
  | 22 => ⟨S2x2064x1024, .f32⟩
  | 23 => ⟨S2x2064x1024, .f32⟩
  | 24 => ⟨S2x2064x1024, .f32⟩
  | 25 => ⟨S2x2064x1024, .f32⟩
  | 26 => ⟨S2x2064x1024, .f32⟩
  | 27 => ⟨S2x2064x512, .f32⟩
  | 28 => ⟨S2x2064x512, .f32⟩
  | 29 => ⟨S2x2064x512, .f32⟩
  | 30 => ⟨S_, .f32⟩
  | 31 => ⟨S512, .f32⟩
  | 32 => ⟨S1x1x512, .f32⟩
  | 33 => ⟨S2x2064x512, .f32⟩
  | 34 => ⟨S2x2064x512, .f32⟩
  | 35 => ⟨S_, .f32⟩
  | 36 => ⟨S512, .f32⟩
  | 37 => ⟨S2x2064x512, .f32⟩
  | 38 => ⟨S_, .f32⟩
  | 39 => ⟨S2x2064, .f32⟩
  | 40 => ⟨S2x2064x1, .f32⟩
  | 41 => ⟨S2x2064x512, .f32⟩
  | 42 => ⟨S2x2064x512, .f32⟩
  | 43 => ⟨S2x2064x1, .f32⟩
  | 44 => ⟨S_, .f32⟩
  | 45 => ⟨S2x2064x1, .f32⟩
  | 46 => ⟨S2x2064x1, .f32⟩
  | 47 => ⟨S_, .f32⟩
  | 48 => ⟨S2x2064, .f32⟩
  | 49 => ⟨S2x2064x512, .f32⟩
  | 50 => ⟨S2x2064x512, .f32⟩
  | 51 => ⟨S2x2064x512, .f32⟩
  | 52 => ⟨S2x2064x512, .f32⟩
  | 53 => ⟨S2x2064x512, .f32⟩
  | 54 => ⟨S2x2064x512, .f32⟩
  | 55 => ⟨S_, .f32⟩
  | 56 => ⟨S512, .f32⟩
  | 57 => ⟨S1x1x512, .f32⟩
  | 58 => ⟨S2x2064x512, .f32⟩
  | 59 => ⟨S2x2064x512, .f32⟩
  | 60 => ⟨S_, .f32⟩
  | 61 => ⟨S512, .f32⟩
  | 62 => ⟨S2x2064x512, .f32⟩
  | 63 => ⟨S_, .f32⟩
  | 64 => ⟨S2x2064, .f32⟩
  | 65 => ⟨S2x2064x1, .f32⟩
  | 66 => ⟨S2x2064x512, .f32⟩
  | 67 => ⟨S2x2064x512, .f32⟩
  | 68 => ⟨S2x2064x1, .f32⟩
  | 69 => ⟨S_, .f32⟩
  | 70 => ⟨S2x2064x1, .f32⟩
  | 71 => ⟨S2x2064x1, .f32⟩
  | 72 => ⟨S_, .f32⟩
  | 73 => ⟨S2x2064, .f32⟩
  | 74 => ⟨S2x2064x512, .f32⟩
  | 75 => ⟨S2x2064x512, .f32⟩
  | 76 => ⟨S2x2064x512, .f32⟩
  | 77 => ⟨S2x2064x512, .f32⟩
  | 78 => ⟨S2x2064x512, .f32⟩
  | 79 => ⟨S_, .i32⟩
  | 80 => ⟨S_, .f32⟩
  | 81 => ⟨S2x2176x512, .f32⟩
  | 82 => ⟨S4352x512, .f32⟩
  | 83 => ⟨S_, .i32⟩
  | 84 => ⟨S_, .f32⟩
  | 85 => ⟨S2x2176x512, .f32⟩
  | 86 => ⟨S4352x512, .f32⟩
  | 87 => ⟨S_, .i32⟩
  | 88 => ⟨S_, .f32⟩
  | 89 => ⟨S2x2176x1024, .f32⟩
  | 90 => ⟨S4352x1024, .f32⟩
  | 91 => ⟨S_, .i32⟩
  | 92 => ⟨S_, .f32⟩
  | 93 => ⟨S2x2176x1024, .f32⟩
  | 94 => ⟨S4352x1024, .f32⟩
  | 95 => ⟨S1024x4352, .f32⟩
  | 96 => ⟨S1024x4352, .bf16⟩
  | 97 => ⟨S_, .i32⟩
  | 98 => ⟨S_, .f32⟩
  | 99 => ⟨S2x2176x1024, .f32⟩
  | 100 => ⟨S4352x1024, .f32⟩
  | 101 => ⟨S4352x1024, .bf16⟩
  | 102 => ⟨S_, .i32⟩
  | 103 => ⟨S_, .f32⟩
  | 104 => ⟨S2x2176x2816, .f32⟩
  | 105 => ⟨S4352x2816, .f32⟩
  | 106 => ⟨S2816x4352, .f32⟩
  | 107 => ⟨S2816x4352, .bf16⟩
  | 108 => ⟨S_, .i32⟩
  | 109 => ⟨S_, .f32⟩
  | 110 => ⟨S2x2176x2816, .f32⟩
  | 111 => ⟨S4352x2816, .f32⟩
  | 112 => ⟨S2816x4352, .f32⟩
  | 113 => ⟨S2816x4352, .bf16⟩
  | 114 => ⟨S_, .i32⟩
  | 115 => ⟨S_, .f32⟩
  | 116 => ⟨S2x2176x2816, .f32⟩
  | 117 => ⟨S4352x2816, .f32⟩
  | 118 => ⟨S2816x4352, .f32⟩
  | 119 => ⟨S2816x4352, .bf16⟩
  | 120 => ⟨S_, .i32⟩
  | 121 => ⟨S_, .f32⟩
  | 122 => ⟨S2x2176x1024, .f32⟩
  | 123 => ⟨S4352x1024, .f32⟩
  | 124 => ⟨S4352x1024, .bf16⟩
  | 125 => ⟨S1x128, .f32⟩
  | 126 => ⟨S1x512, .f32⟩
  | 127 => ⟨S1x512, .f32⟩
  | _ => ⟨S2x2064x512, .f32⟩

abbrev hbmTy0_2 (i : Nat) : BufTy := match i % 128 with
  | 0 => ⟨S1x1024, .f32⟩
  | _ => ⟨S2x2064x512, .f32⟩

abbrev hbmTy (i : Nat) : BufTy := match i / 128 with
  | 0 => hbmTy0_0 i
  | 1 => hbmTy0_1 i
  | 2 => hbmTy0_2 i
  | _ => ⟨S2x2064x512, .f32⟩

abbrev bufTy : (tb : Table) → Fin (tcTables nBuf tb) → BufTy
  | .hbm, ⟨i, _⟩ => hbmTy i
  | _, _ => ⟨S2x2064x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_cst_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_call0_v0 : Ref sig .tc := ⟨.hbm, 76, rfl⟩
abbrev main_call0_v1 : Ref sig .tc := ⟨.hbm, 77, rfl⟩
abbrev main_call0_cst : Ref sig .tc := ⟨.hbm, 78, rfl⟩
abbrev main_call0_v2 : Ref sig .tc := ⟨.hbm, 79, rfl⟩
abbrev main_call0_v3 : Ref sig .tc := ⟨.hbm, 80, rfl⟩
abbrev main_call0_cst_0 : Ref sig .tc := ⟨.hbm, 81, rfl⟩
abbrev main_call0_v4 : Ref sig .tc := ⟨.hbm, 82, rfl⟩
abbrev main_v53_2 : Ref sig .tc := ⟨.hbm, 83, rfl⟩
abbrev main_call0_cst_1 : Ref sig .tc := ⟨.hbm, 84, rfl⟩
abbrev main_call0_v6 : Ref sig .tc := ⟨.hbm, 85, rfl⟩
abbrev main_call0_v7 : Ref sig .tc := ⟨.hbm, 86, rfl⟩
abbrev main_v53_1 : Ref sig .tc := ⟨.hbm, 87, rfl⟩
abbrev main_v53_0 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_11 : Ref sig .tc := ⟨.hbm, 95, rfl⟩
abbrev main_v60 : Ref sig .tc := ⟨.hbm, 96, rfl⟩
abbrev main_v61 : Ref sig .tc := ⟨.hbm, 97, rfl⟩
abbrev main_cst_12 : Ref sig .tc := ⟨.hbm, 98, rfl⟩
abbrev main_v62 : Ref sig .tc := ⟨.hbm, 99, rfl⟩
abbrev main_cst_13 : Ref sig .tc := ⟨.hbm, 100, rfl⟩
abbrev main_v63 : Ref sig .tc := ⟨.hbm, 101, rfl⟩
abbrev main_v64 : Ref sig .tc := ⟨.hbm, 102, rfl⟩
abbrev main_cst_14 : Ref sig .tc := ⟨.hbm, 103, rfl⟩
abbrev main_v65 : Ref sig .tc := ⟨.hbm, 104, rfl⟩
abbrev main_cst_15 : Ref sig .tc := ⟨.hbm, 105, rfl⟩
abbrev main_v66 : Ref sig .tc := ⟨.hbm, 106, rfl⟩
abbrev main_cst_16 : Ref sig .tc := ⟨.hbm, 107, rfl⟩
abbrev main_cst_17 : Ref sig .tc := ⟨.hbm, 108, rfl⟩
abbrev main_v67 : Ref sig .tc := ⟨.hbm, 109, rfl⟩
abbrev main_v68 : Ref sig .tc := ⟨.hbm, 110, rfl⟩
abbrev main_cst_18 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_cst_19 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_call1_v0 : Ref sig .tc := ⟨.hbm, 121, rfl⟩
abbrev main_call1_v1 : Ref sig .tc := ⟨.hbm, 122, rfl⟩
abbrev main_call1_v2 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_cst_20 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_cst_21 : Ref sig .tc := ⟨.hbm, 134, rfl⟩
abbrev main_v86 : Ref sig .tc := ⟨.hbm, 135, rfl⟩
abbrev main_v87 : Ref sig .tc := ⟨.hbm, 136, rfl⟩
abbrev main_cst_22 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_cst_23 : Ref sig .tc := ⟨.hbm, 143, rfl⟩
abbrev main_v93 : Ref sig .tc := ⟨.hbm, 144, rfl⟩
abbrev main_v94 : Ref sig .tc := ⟨.hbm, 145, rfl⟩
abbrev main_cst_24 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_cst_25 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_cst_26 : Ref sig .tc := ⟨.hbm, 163, rfl⟩
abbrev main_v110 : Ref sig .tc := ⟨.hbm, 164, rfl⟩
abbrev main_v111 : Ref sig .tc := ⟨.hbm, 165, rfl⟩
abbrev main_cst_27 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_cst_28 : Ref sig .tc := ⟨.hbm, 172, rfl⟩
abbrev main_v117 : Ref sig .tc := ⟨.hbm, 173, rfl⟩
abbrev main_v118 : Ref sig .tc := ⟨.hbm, 174, rfl⟩
abbrev main_cst_29 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_cst_30 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_cst_31 : Ref sig .tc := ⟨.hbm, 188, rfl⟩
abbrev main_v130 : Ref sig .tc := ⟨.hbm, 189, rfl⟩
abbrev main_v131 : Ref sig .tc := ⟨.hbm, 190, rfl⟩
abbrev main_cst_32 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_cst_33 : Ref sig .tc := ⟨.hbm, 197, rfl⟩
abbrev main_v137 : Ref sig .tc := ⟨.hbm, 198, rfl⟩
abbrev main_v138 : Ref sig .tc := ⟨.hbm, 199, rfl⟩
abbrev main_cst_34 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_c : Ref sig .tc := ⟨.hbm, 207, rfl⟩
abbrev main_call2_v0 : Ref sig .tc := ⟨.hbm, 208, rfl⟩
abbrev main_v145 : Ref sig .tc := ⟨.hbm, 209, rfl⟩
abbrev main_v146 : Ref sig .tc := ⟨.hbm, 210, rfl⟩
abbrev main_c_35 : Ref sig .tc := ⟨.hbm, 211, rfl⟩
abbrev main_call3_v0 : Ref sig .tc := ⟨.hbm, 212, rfl⟩
abbrev main_v147 : Ref sig .tc := ⟨.hbm, 213, rfl⟩
abbrev main_v148 : Ref sig .tc := ⟨.hbm, 214, rfl⟩
abbrev main_c_36 : Ref sig .tc := ⟨.hbm, 215, rfl⟩
abbrev main_call4_v0 : Ref sig .tc := ⟨.hbm, 216, rfl⟩
abbrev main_v149 : Ref sig .tc := ⟨.hbm, 217, rfl⟩
abbrev main_v150 : Ref sig .tc := ⟨.hbm, 218, rfl⟩
abbrev main_c_37 : Ref sig .tc := ⟨.hbm, 219, rfl⟩
abbrev main_call5_v0 : Ref sig .tc := ⟨.hbm, 220, rfl⟩
abbrev main_v151 : Ref sig .tc := ⟨.hbm, 221, rfl⟩
abbrev main_v152 : Ref sig .tc := ⟨.hbm, 222, rfl⟩
abbrev main_v153 : Ref sig .tc := ⟨.hbm, 223, rfl⟩
abbrev main_v154 : Ref sig .tc := ⟨.hbm, 224, rfl⟩
abbrev main_c_38 : Ref sig .tc := ⟨.hbm, 225, rfl⟩
abbrev main_call6_v0 : Ref sig .tc := ⟨.hbm, 226, rfl⟩
abbrev main_v155 : Ref sig .tc := ⟨.hbm, 227, rfl⟩
abbrev main_v156 : Ref sig .tc := ⟨.hbm, 228, rfl⟩
abbrev main_v157 : Ref sig .tc := ⟨.hbm, 229, rfl⟩
abbrev main_c_39 : Ref sig .tc := ⟨.hbm, 230, rfl⟩
abbrev main_call7_v0 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_v161 : Ref sig .tc := ⟨.hbm, 235, rfl⟩
abbrev main_c_40 : Ref sig .tc := ⟨.hbm, 236, rfl⟩
abbrev main_call8_v0 : Ref sig .tc := ⟨.hbm, 237, rfl⟩
abbrev main_v162 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_c_41 : Ref sig .tc := ⟨.hbm, 242, rfl⟩
abbrev main_call9_v0 : Ref sig .tc := ⟨.hbm, 243, rfl⟩
abbrev main_v166 : Ref sig .tc := ⟨.hbm, 244, rfl⟩
abbrev main_v167 : Ref sig .tc := ⟨.hbm, 245, rfl⟩
abbrev main_v168 : Ref sig .tc := ⟨.hbm, 246, rfl⟩
abbrev main_v169 : Ref sig .tc := ⟨.hbm, 247, rfl⟩
abbrev main_c_42 : Ref sig .tc := ⟨.hbm, 248, rfl⟩
abbrev main_call10_v0 : Ref sig .tc := ⟨.hbm, 249, rfl⟩
abbrev main_v170 : Ref sig .tc := ⟨.hbm, 250, rfl⟩
abbrev main_v171 : Ref sig .tc := ⟨.hbm, 251, rfl⟩
abbrev main_v172 : Ref sig .tc := ⟨.hbm, 252, rfl⟩
abbrev main_v173 : Ref sig .tc := ⟨.hbm, 253, rfl⟩
abbrev main_v174 : Ref sig .tc := ⟨.hbm, 254, rfl⟩
abbrev main_v175 : Ref sig .tc := ⟨.hbm, 255, rfl⟩
abbrev main_v176 : Ref sig .tc := ⟨.hbm, 256, rfl⟩

abbrev nD : Nat := 1
abbrev τ : Topo := Topo.v7x

variable {F : FTy → Type} [FloatOps F]
-- ==== Proof.PostRunA.lean ====
/- The run of the layer's body at the first tile, where the four sums are set: what each output block ends with. -/
module

public import proofs.«01_k».proof.Proof.Gen.Kernel2Ideal.Frame.Runs

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces that the body's stores leave in each output block at the first tile, where the four sums are set, with the proof that the body, on whole blocks
    that hold what the arguments `x` say, runs to its continuation with the inputs as they were and each output block with its
    pieces written. -/
noncomputable def kernelRun0_A (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x1024 .f32) (harg3 : arg3.IsWhole) (arg4 : Memref sig .tc .vmem S1x128x1024 .f32) (harg4 : arg4.IsWhole) (arg5 : Memref sig .tc .vmem S1x128x1024 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S2816x1024 .bf16) (harg10 : arg10.IsWhole) (arg11 : Memref sig .tc .vmem S2816x1024 .bf16) (harg11 : arg11.IsWhole) (arg12 : Memref sig .tc .vmem S2816x1024 .bf16) (harg12 : arg12.IsWhole) (arg13 : Memref sig .tc .vmem S256x512 .f32) (harg13 : arg13.IsWhole) (arg14 : Memref sig .tc .vmem S256x512 .f32) (harg14 : arg14.IsWhole) (arg15 : Memref sig .tc .vmem S256x1024 .f32) (harg15 : arg15.IsWhole) (arg16 : Memref sig .tc .vmem S1024x256 .bf16) (harg16 : arg16.IsWhole) (arg17 : Memref sig .tc .vmem S256x1024 .bf16) (harg17 : arg17.IsWhole) (arg18 : Memref sig .tc .vmem S2816x256 .bf16) (harg18 : arg18.IsWhole) (arg19 : Memref sig .tc .vmem S2816x256 .bf16) (harg19 : arg19.IsWhole) (arg20 : Memref sig .tc .vmem S2816x256 .bf16) (harg20 : arg20.IsWhole) (arg21 : Memref sig .tc .vmem S256x1024 .bf16) (harg21 : arg21.IsWhole) (arg22 : Memref sig .tc .vmem S1x128 .f32) (harg22 : arg22.IsWhole) (arg23 : Memref sig .tc .vmem S1x512 .f32) (harg23 : arg23.IsWhole) (arg24 : Memref sig .tc .vmem S1x512 .f32) (harg24 : arg24.IsWhole) (arg25 : Memref sig .tc .vmem S1x1024 .f32) (harg25 : arg25.IsWhole) (arg26 : Memref sig .tc .vmem S256x2816 .f32) (harg26 : arg26.IsWhole) (arg27 : Memref sig .tc .vmem S256x2816 .f32) (harg27 : arg27.IsWhole) (hc0 : cond0_0 i) (hc1 : ¬cond0_1 i) (hc2 : cond0_2 i) (hc3 : ¬cond0_3 i) (hc4 : cond0_4 i) (hc5 : ¬cond0_5 i) (hc6 : cond0_6 i) (hc7 : ¬cond0_7 i)
    (x0 : Vec F S256x512 .f32) (x1 : Vec F S256x512 .f32) (x2 : Vec F S256x1024 .f32) (x3 : Vec F S1x128x1024 .f32) (x4 : Vec F S1x128x1024 .f32) (x5 : Vec F S1x512 .f32) (x6 : Vec F S1x512 .f32) (x7 : Vec F S1x1024 .f32) (x8 : Vec F S1024x1024 .bf16) (x9 : Vec F S2816x1024 .bf16) (x10 : Vec F S2816x1024 .bf16) (x11 : Vec F S2816x1024 .bf16) :
    Σ' (L12 : List (View.Piece (Elt F) S256x512 .f32)), Σ' (L13 : List (View.Piece (Elt F) S256x512 .f32)), Σ' (L14 : List (View.Piece (Elt F) S256x1024 .f32)), Σ' (L15 : List (View.Piece (Elt F) S1024x256 .bf16)), Σ' (L16 : List (View.Piece (Elt F) S256x1024 .bf16)), Σ' (L17 : List (View.Piece (Elt F) S2816x256 .bf16)), Σ' (L18 : List (View.Piece (Elt F) S2816x256 .bf16)), Σ' (L19 : List (View.Piece (Elt F) S2816x256 .bf16)), Σ' (L20 : List (View.Piece (Elt F) S256x1024 .bf16)), Σ' (L21 : List (View.Piece (Elt F) S1x128 .f32)), Σ' (L22 : List (View.Piece (Elt F) S1x512 .f32)), Σ' (L23 : List (View.Piece (Elt F) S1x512 .f32)), Σ' (L24 : List (View.Piece (Elt F) S1x1024 .f32)), Σ' (LT0 : List (View.Piece (Elt F) S256x2816 .f32)), { LT1 : List (View.Piece (Elt F) S256x2816 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f LT0) ∗ (∃ f, arg27.view.loc (c : Thread nD τ) ↦[arg27.view.set]{fullShare} arg27.view.writes (Elt F) f LT1)) -∗ K ⟨⟩))
          ⊢ wp frame (wpE (defs₀ (F := F)) Variants.none c none) E (cc0_post i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, ?_, ?_, ?_, ?_, ?_, ?_, ?_, ?_, fun E K => ?run⟩
  case run =>
    simp only [cc0_post_eq_skeleton]; unfold cc0_post_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    sl_exec (disch := first | sl_exact hc0 | sl_exact hc1 | sl_exact hc2 | sl_exact hc3 | sl_exact hc4 | sl_exact hc5 | sl_exact hc6 | sl_exact hc7)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [HS0]; · iexists _; iexact HS0
    iexists _; iexact HS1

end Cert.Kernel2Ideal.Gen

end
-- ==== Proof.PostFrame.lean ====
/- The layer's call as a whole: what its outputs' blocks hold after each of the seventeen points, that the body keeps this at
   every point, and with it the run of the program from any launch to its end, the arguments unchanged. -/
module

public import proofs.«01_k».proof.Proof.PostRunB
public import Idealize.ShloMosaic.Lib.Claim

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x1024 .f32) (harg3 : arg3.IsWhole) (arg4 : Memref sig .tc .vmem S1x128x1024 .f32) (harg4 : arg4.IsWhole) (arg5 : Memref sig .tc .vmem S1x128x1024 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S2816x1024 .bf16) (harg10 : arg10.IsWhole) (arg11 : Memref sig .tc .vmem S2816x1024 .bf16) (harg11 : arg11.IsWhole) (arg12 : Memref sig .tc .vmem S2816x1024 .bf16) (harg12 : arg12.IsWhole) (arg13 : Memref sig .tc .vmem S256x512 .f32) (harg13 : arg13.IsWhole) (arg14 : Memref sig .tc .vmem S256x512 .f32) (harg14 : arg14.IsWhole) (arg15 : Memref sig .tc .vmem S256x1024 .f32) (harg15 : arg15.IsWhole) (arg16 : Memref sig .tc .vmem S1024x256 .bf16) (harg16 : arg16.IsWhole) (arg17 : Memref sig .tc .vmem S256x1024 .bf16) (harg17 : arg17.IsWhole) (arg18 : Memref sig .tc .vmem S2816x256 .bf16) (harg18 : arg18.IsWhole) (arg19 : Memref sig .tc .vmem S2816x256 .bf16) (harg19 : arg19.IsWhole) (arg20 : Memref sig .tc .vmem S2816x256 .bf16) (harg20 : arg20.IsWhole) (arg21 : Memref sig .tc .vmem S256x1024 .bf16) (harg21 : arg21.IsWhole) (arg22 : Memref sig .tc .vmem S1x128 .f32) (harg22 : arg22.IsWhole) (arg23 : Memref sig .tc .vmem S1x512 .f32) (harg23 : arg23.IsWhole) (arg24 : Memref sig .tc .vmem S1x512 .f32) (harg24 : arg24.IsWhole) (arg25 : Memref sig .tc .vmem S1x1024 .f32) (harg25 : arg25.IsWhole) (arg26 : Memref sig .tc .vmem S256x2816 .f32) (harg26 : arg26.IsWhole) (arg27 : Memref sig .tc .vmem S256x2816 .f32) (harg27 : arg27.IsWhole) (hc0 : cond0_0 i) (hc1 : ¬cond0_1 i) (hc2 : cond0_2 i) (hc3 : ¬cond0_3 i) (hc4 : cond0_4 i) (hc5 : ¬cond0_5 i) (hc6 : cond0_6 i) (hc7 : ¬cond0_7 i)
    (x0 : Vec F S256x512 .f32) (x1 : Vec F S256x512 .f32) (x2 : Vec F S256x1024 .f32) (x3 : Vec F S1x128x1024 .f32) (x4 : Vec F S1x128x1024 .f32) (x5 : Vec F S1x512 .f32) (x6 : Vec F S1x512 .f32) (x7 : Vec F S1x1024 .f32) (x8 : Vec F S1024x1024 .bf16) (x9 : Vec F S2816x1024 .bf16) (x10 : Vec F S2816x1024 .bf16) (x11 : Vec F S2816x1024 .bf16)

/-- The stores of output 12 cover its block. -/
theorem cover0_A_12 (y : S256x512.Idx) : ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11).1 S256x512.size (by sl_kernel_rfl) y
/-- What the body leaves in output 12's block. -/
def out0_A_12 : Vec F S256x512 .f32 := VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11).1)

/-- The stores of output 13 cover its block. -/
theorem cover0_A_13 (y : S256x512.Idx) : ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11).2.1 S256x512.size (by sl_kernel_rfl) y
/-- What the body leaves in output 13's block. -/
def out0_A_13 : Vec F S256x512 .f32 := VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11).2.1)

/-- The stores of output 14 cover its block. -/
theorem cover0_A_14 (y : S256x1024.Idx) : ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11).2.2.1 S256x1024.size (by sl_kernel_rfl) y
/-- What the body leaves in output 14's block. -/
def out0_A_14 : Vec F S256x1024 .f32 := VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11).2.2.1)

/-- The stores of output 15 cover its block. -/
theorem cover0_A_15 (y : S1024x256.Idx) : ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11).2.2.2.1 S1024x256.size (by sl_kernel_rfl) y
/-- What the body leaves in output 15's block. -/
def out0_A_15 : Vec F S1024x256 .bf16 := VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11).2.2.2.1)

/-- The stores of output 16 cover its block. -/
theorem cover0_A_16 (y : S256x1024.Idx) : ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11).2.2.2.2.1 S256x1024.size (by sl_kernel_rfl) y
/-- What the body leaves in output 16's block. -/
def out0_A_16 : Vec F S256x1024 .bf16 := VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11).2.2.2.2.1)

/-- The stores of output 17 cover its block. -/
theorem cover0_A_17 (y : S2816x256.Idx) : ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11).2.2.2.2.2.1 S2816x256.size (by sl_kernel_rfl) y
/-- What the body leaves in output 17's block. -/
def out0_A_17 : Vec F S2816x256 .bf16 := VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11).2.2.2.2.2.1)

/-- The stores of output 18 cover its block. -/
theorem cover0_A_18 (y : S2816x256.Idx) : ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11).2.2.2.2.2.2.1 S2816x256.size (by sl_kernel_rfl) y
/-- What the body leaves in output 18's block. -/
def out0_A_18 : Vec F S2816x256 .bf16 := VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11).2.2.2.2.2.2.1)

/-- The stores of output 19 cover its block. -/
theorem cover0_A_19 (y : S2816x256.Idx) : ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11).2.2.2.2.2.2.2.1 S2816x256.size (by sl_kernel_rfl) y
/-- What the body leaves in output 19's block. -/
def out0_A_19 : Vec F S2816x256 .bf16 := VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11).2.2.2.2.2.2.2.1)

/-- The stores of output 20 cover its block. -/
theorem cover0_A_20 (y : S256x1024.Idx) : ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11).2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11).2.2.2.2.2.2.2.2.1 S256x1024.size (by sl_kernel_rfl) y
/-- What the body leaves in output 20's block. -/
def out0_A_20 : Vec F S256x1024 .bf16 := VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11).2.2.2.2.2.2.2.2.1)

/-- The stores of output 21 cover its block. -/
theorem cover0_A_21 (y : S1x128.Idx) : ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11).2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11).2.2.2.2.2.2.2.2.2.1 S1x128.size (by sl_kernel_rfl) y
/-- What the body leaves in output 21's block. -/
def out0_A_21 : Vec F S1x128 .f32 := VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11).2.2.2.2.2.2.2.2.2.1)

/-- The stores of output 22 cover its block. -/
theorem cover0_A_22 (y : S1x512.Idx) : ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11).2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11).2.2.2.2.2.2.2.2.2.2.1 S1x512.size (by sl_kernel_rfl) y
/-- What the body leaves in output 22's block. -/
def out0_A_22 : Vec F S1x512 .f32 := VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11).2.2.2.2.2.2.2.2.2.2.1)

/-- The stores of output 23 cover its block. -/
theorem cover0_A_23 (y : S1x512.Idx) : ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11).2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11).2.2.2.2.2.2.2.2.2.2.2.1 S1x512.size (by sl_kernel_rfl) y
/-- What the body leaves in output 23's block. -/
def out0_A_23 : Vec F S1x512 .f32 := VO0_23.read (Elt F) (VO0_23.writes (Elt F) VO0_23.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11).2.2.2.2.2.2.2.2.2.2.2.1)

/-- The stores of output 24 cover its block. -/
theorem cover0_A_24 (y : S1x1024.Idx) : ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11).2.2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11).2.2.2.2.2.2.2.2.2.2.2.2.1 S1x1024.size (by sl_kernel_rfl) y
/-- What the body leaves in output 24's block. -/
def out0_A_24 : Vec F S1x1024 .f32 := VO0_24.read (Elt F) (VO0_24.writes (Elt F) VO0_24.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11).2.2.2.2.2.2.2.2.2.2.2.2.1)

/-- What the body leaves in the thirteen blocks. -/
def outsA : Vec F S256x512 .f32 × Vec F S256x512 .f32 × Vec F S256x1024 .f32 × Vec F S1024x256 .bf16 × Vec F S256x1024 .bf16 × Vec F S2816x256 .bf16 × Vec F S2816x256 .bf16 × Vec F S2816x256 .bf16 × Vec F S256x1024 .bf16 × Vec F S1x128 .f32 × Vec F S1x512 .f32 × Vec F S1x512 .f32 × Vec F S1x1024 .f32 :=
  (out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11, out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11, out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11, out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11, out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11, out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11, out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11, out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11, out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11, out0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11, out0_A_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11, out0_A_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11, out0_A_24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11)
end

section
variable (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x1024 .f32) (harg3 : arg3.IsWhole) (arg4 : Memref sig .tc .vmem S1x128x1024 .f32) (harg4 : arg4.IsWhole) (arg5 : Memref sig .tc .vmem S1x128x1024 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S2816x1024 .bf16) (harg10 : arg10.IsWhole) (arg11 : Memref sig .tc .vmem S2816x1024 .bf16) (harg11 : arg11.IsWhole) (arg12 : Memref sig .tc .vmem S2816x1024 .bf16) (harg12 : arg12.IsWhole) (arg13 : Memref sig .tc .vmem S256x512 .f32) (harg13 : arg13.IsWhole) (arg14 : Memref sig .tc .vmem S256x512 .f32) (harg14 : arg14.IsWhole) (arg15 : Memref sig .tc .vmem S256x1024 .f32) (harg15 : arg15.IsWhole) (arg16 : Memref sig .tc .vmem S1024x256 .bf16) (harg16 : arg16.IsWhole) (arg17 : Memref sig .tc .vmem S256x1024 .bf16) (harg17 : arg17.IsWhole) (arg18 : Memref sig .tc .vmem S2816x256 .bf16) (harg18 : arg18.IsWhole) (arg19 : Memref sig .tc .vmem S2816x256 .bf16) (harg19 : arg19.IsWhole) (arg20 : Memref sig .tc .vmem S2816x256 .bf16) (harg20 : arg20.IsWhole) (arg21 : Memref sig .tc .vmem S256x1024 .bf16) (harg21 : arg21.IsWhole) (arg22 : Memref sig .tc .vmem S1x128 .f32) (harg22 : arg22.IsWhole) (arg23 : Memref sig .tc .vmem S1x512 .f32) (harg23 : arg23.IsWhole) (arg24 : Memref sig .tc .vmem S1x512 .f32) (harg24 : arg24.IsWhole) (arg25 : Memref sig .tc .vmem S1x1024 .f32) (harg25 : arg25.IsWhole) (arg26 : Memref sig .tc .vmem S256x2816 .f32) (harg26 : arg26.IsWhole) (arg27 : Memref sig .tc .vmem S256x2816 .f32) (harg27 : arg27.IsWhole) (hc0 : ¬cond0_0 i) (hc1 : cond0_1 i) (hc2 : ¬cond0_2 i) (hc3 : cond0_3 i) (hc4 : ¬cond0_4 i) (hc5 : cond0_5 i) (hc6 : ¬cond0_6 i) (hc7 : cond0_7 i)
    (x0 : Vec F S256x512 .f32) (x1 : Vec F S256x512 .f32) (x2 : Vec F S256x1024 .f32) (x3 : Vec F S1x128x1024 .f32) (x4 : Vec F S1x128x1024 .f32) (x5 : Vec F S1x512 .f32) (x6 : Vec F S1x512 .f32) (x7 : Vec F S1x1024 .f32) (x8 : Vec F S1024x1024 .bf16) (x9 : Vec F S2816x1024 .bf16) (x10 : Vec F S2816x1024 .bf16) (x11 : Vec F S2816x1024 .bf16) (xo21 : Vec F S1x128 .f32) (xo22 : Vec F S1x512 .f32) (xo23 : Vec F S1x512 .f32) (xo24 : Vec F S1x1024 .f32)

/-- The stores of output 12 cover its block. -/
theorem cover0_B_12 (y : S256x512.Idx) : ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24).1 S256x512.size (by sl_kernel_rfl) y
/-- What the body leaves in output 12's block. -/
def out0_B_12 : Vec F S256x512 .f32 := VO0_12.read (Elt F) (VO0_12.writes (Elt F) VO0_12.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24).1)

/-- The stores of output 13 cover its block. -/
theorem cover0_B_13 (y : S256x512.Idx) : ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24).2.1 S256x512.size (by sl_kernel_rfl) y
/-- What the body leaves in output 13's block. -/
def out0_B_13 : Vec F S256x512 .f32 := VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24).2.1)

/-- The stores of output 14 cover its block. -/
theorem cover0_B_14 (y : S256x1024.Idx) : ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24).2.2.1 S256x1024.size (by sl_kernel_rfl) y
/-- What the body leaves in output 14's block. -/
def out0_B_14 : Vec F S256x1024 .f32 := VO0_14.read (Elt F) (VO0_14.writes (Elt F) VO0_14.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24).2.2.1)

/-- The stores of output 15 cover its block. -/
theorem cover0_B_15 (y : S1024x256.Idx) : ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24).2.2.2.1 S1024x256.size (by sl_kernel_rfl) y
/-- What the body leaves in output 15's block. -/
def out0_B_15 : Vec F S1024x256 .bf16 := VO0_15.read (Elt F) (VO0_15.writes (Elt F) VO0_15.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24).2.2.2.1)

/-- The stores of output 16 cover its block. -/
theorem cover0_B_16 (y : S256x1024.Idx) : ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24).2.2.2.2.1 S256x1024.size (by sl_kernel_rfl) y
/-- What the body leaves in output 16's block. -/
def out0_B_16 : Vec F S256x1024 .bf16 := VO0_16.read (Elt F) (VO0_16.writes (Elt F) VO0_16.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24).2.2.2.2.1)

/-- The stores of output 17 cover its block. -/
theorem cover0_B_17 (y : S2816x256.Idx) : ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24).2.2.2.2.2.1 S2816x256.size (by sl_kernel_rfl) y
/-- What the body leaves in output 17's block. -/
def out0_B_17 : Vec F S2816x256 .bf16 := VO0_17.read (Elt F) (VO0_17.writes (Elt F) VO0_17.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24).2.2.2.2.2.1)

/-- The stores of output 18 cover its block. -/
theorem cover0_B_18 (y : S2816x256.Idx) : ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24).2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24).2.2.2.2.2.2.1 S2816x256.size (by sl_kernel_rfl) y
/-- What the body leaves in output 18's block. -/
def out0_B_18 : Vec F S2816x256 .bf16 := VO0_18.read (Elt F) (VO0_18.writes (Elt F) VO0_18.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24).2.2.2.2.2.2.1)

/-- The stores of output 19 cover its block. -/
theorem cover0_B_19 (y : S2816x256.Idx) : ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24).2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24).2.2.2.2.2.2.2.1 S2816x256.size (by sl_kernel_rfl) y
/-- What the body leaves in output 19's block. -/
def out0_B_19 : Vec F S2816x256 .bf16 := VO0_19.read (Elt F) (VO0_19.writes (Elt F) VO0_19.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24).2.2.2.2.2.2.2.1)

/-- The stores of output 20 cover its block. -/
theorem cover0_B_20 (y : S256x1024.Idx) : ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24).2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24).2.2.2.2.2.2.2.2.1 S256x1024.size (by sl_kernel_rfl) y
/-- What the body leaves in output 20's block. -/
def out0_B_20 : Vec F S256x1024 .bf16 := VO0_20.read (Elt F) (VO0_20.writes (Elt F) VO0_20.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24).2.2.2.2.2.2.2.2.1)

/-- The stores of output 21 cover its block. -/
theorem cover0_B_21 (y : S1x128.Idx) : ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24).2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24).2.2.2.2.2.2.2.2.2.1 S1x128.size (by sl_kernel_rfl) y
/-- What the body leaves in output 21's block. -/
def out0_B_21 : Vec F S1x128 .f32 := VO0_21.read (Elt F) (VO0_21.writes (Elt F) VO0_21.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24).2.2.2.2.2.2.2.2.2.1)

/-- The stores of output 22 cover its block. -/
theorem cover0_B_22 (y : S1x512.Idx) : ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24).2.2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24).2.2.2.2.2.2.2.2.2.2.1 S1x512.size (by sl_kernel_rfl) y
/-- What the body leaves in output 22's block. -/
def out0_B_22 : Vec F S1x512 .f32 := VO0_22.read (Elt F) (VO0_22.writes (Elt F) VO0_22.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24).2.2.2.2.2.2.2.2.2.2.1)

/-- The stores of output 23 cover its block. -/
theorem cover0_B_23 (y : S1x512.Idx) : ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24).2.2.2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24).2.2.2.2.2.2.2.2.2.2.2.1 S1x512.size (by sl_kernel_rfl) y
/-- What the body leaves in output 23's block. -/
def out0_B_23 : Vec F S1x512 .f32 := VO0_23.read (Elt F) (VO0_23.writes (Elt F) VO0_23.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24).2.2.2.2.2.2.2.2.2.2.2.1)

/-- The stores of output 24 cover its block. -/
theorem cover0_B_24 (y : S1x1024.Idx) : ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24).2.2.2.2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24).2.2.2.2.2.2.2.2.2.2.2.2.1 S1x1024.size (by sl_kernel_rfl) y
/-- What the body leaves in output 24's block. -/
def out0_B_24 : Vec F S1x1024 .f32 := VO0_24.read (Elt F) (VO0_24.writes (Elt F) VO0_24.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24).2.2.2.2.2.2.2.2.2.2.2.2.1)

/-- What the body leaves in the thirteen blocks. -/
def outsB : Vec F S256x512 .f32 × Vec F S256x512 .f32 × Vec F S256x1024 .f32 × Vec F S1024x256 .bf16 × Vec F S256x1024 .bf16 × Vec F S2816x256 .bf16 × Vec F S2816x256 .bf16 × Vec F S2816x256 .bf16 × Vec F S256x1024 .bf16 × Vec F S1x128 .f32 × Vec F S1x512 .f32 × Vec F S1x512 .f32 × Vec F S1x1024 .f32 :=
  (out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24, out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24, out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24, out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24, out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24, out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24, out0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24, out0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24, out0_B_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24, out0_B_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24, out0_B_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24, out0_B_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24, out0_B_24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24)
end

variable (m : (ℓ : Loc nD τ sig) → Buf (Elt F) ℓ) (ρ : Dev nD → PrngReg)

/-- The first point is not a later one. -/
theorem later_ne (t : Fin cfg0.N) (h : t.val % 17 = 0) : ¬1 ≤ t.val := by
  have hN : t.val < 17 := lt_of_lt_of_eq t.isLt (show cfg0.N = 17 from N_0)
  omega
/-- Every other point is. -/
theorem later (t : Fin cfg0.N) (h : ¬t.val % 17 = 0) : 1 ≤ t.val := by omega

/-- What the first point leaves. -/
def tupA (c : Dev nD) (t : Fin cfg0.N) (h : t.val % 17 = 0) : Vec F S256x512 .f32 × Vec F S256x512 .f32 × Vec F S256x1024 .f32 × Vec F S1024x256 .bf16 × Vec F S256x1024 .bf16 × Vec F S2816x256 .bf16 × Vec F S2816x256 .bf16 × Vec F S2816x256 .bf16 × Vec F S256x1024 .bf16 × Vec F S1x128 .f32 × Vec F S1x512 .f32 × Vec F S1x512 .f32 × Vec F S1x1024 .f32 :=
  outsA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) ((hcond0_0 t).mpr h) (fun k => later_ne t h ((hcond0_1 t).mp k)) ((hcond0_2 t).mpr h) (fun k => later_ne t h ((hcond0_3 t).mp k)) ((hcond0_4 t).mpr h) (fun k => later_ne t h ((hcond0_5 t).mp k)) ((hcond0_6 t).mpr h) (fun k => later_ne t h ((hcond0_7 t).mp k)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- What a later point leaves, from what the point before left. -/
def tupB (c : Dev nD) (t : Fin cfg0.N) (h : ¬t.val % 17 = 0) (p : Vec F S256x512 .f32 × Vec F S256x512 .f32 × Vec F S256x1024 .f32 × Vec F S1024x256 .bf16 × Vec F S256x1024 .bf16 × Vec F S2816x256 .bf16 × Vec F S2816x256 .bf16 × Vec F S2816x256 .bf16 × Vec F S256x1024 .bf16 × Vec F S1x128 .f32 × Vec F S1x512 .f32 × Vec F S1x512 .f32 × Vec F S1x1024 .f32) : Vec F S256x512 .f32 × Vec F S256x512 .f32 × Vec F S256x1024 .f32 × Vec F S1024x256 .bf16 × Vec F S256x1024 .bf16 × Vec F S2816x256 .bf16 × Vec F S2816x256 .bf16 × Vec F S2816x256 .bf16 × Vec F S256x1024 .bf16 × Vec F S1x128 .f32 × Vec F S1x512 .f32 × Vec F S1x512 .f32 × Vec F S1x1024 .f32 :=
  outsB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) (fun k => h ((hcond0_0 t).mp k)) ((hcond0_1 t).mpr (later t h)) (fun k => h ((hcond0_2 t).mp k)) ((hcond0_3 t).mpr (later t h)) (fun k => h ((hcond0_4 t).mp k)) ((hcond0_5 t).mpr (later t h)) (fun k => h ((hcond0_6 t).mp k)) ((hcond0_7 t).mpr (later t h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.2.2.2.2.2.2.1 p.2.2.2.2.2.2.2.2.2.2.1 p.2.2.2.2.2.2.2.2.2.2.2.1 p.2.2.2.2.2.2.2.2.2.2.2.2

/-- What the outputs' blocks hold after each point. -/
def outsAt0 (c : Dev nD) : (n : ℕ) → n < cfg0.N → Vec F S256x512 .f32 × Vec F S256x512 .f32 × Vec F S256x1024 .f32 × Vec F S1024x256 .bf16 × Vec F S256x1024 .bf16 × Vec F S2816x256 .bf16 × Vec F S2816x256 .bf16 × Vec F S2816x256 .bf16 × Vec F S256x1024 .bf16 × Vec F S1x128 .f32 × Vec F S1x512 .f32 × Vec F S1x512 .f32 × Vec F S1x1024 .f32
  | 0, hn => tupA m c ⟨0, hn⟩ (Nat.zero_mod _)
  | n + 1, hn => if h : (n + 1) % 17 = 0 then tupA m c ⟨n + 1, hn⟩ h else tupB m c ⟨n + 1, hn⟩ h (outsAt0 c n (Nat.lt_of_succ_lt hn))

/-- At the first point. -/
theorem outsAt0_A (c : Dev nD) (t : Fin cfg0.N) (h : t.val % 17 = 0) : outsAt0 m c t.val t.isLt = tupA m c t h := by
  obtain ⟨n, hn⟩ := t
  cases n with
  | zero => exact rfl
  | succ n => exact dif_pos h

/-- At a later point. -/
theorem outsAt0_B (c : Dev nD) (t : Fin cfg0.N) (h : ¬t.val % 17 = 0) :
    outsAt0 m c t.val t.isLt = tupB m c t h (outsAt0 m c (t.val - 1) (Nat.lt_of_le_of_lt (Nat.sub_le _ _) t.isLt)) := by
  obtain ⟨n, hn⟩ := t
  cases n with
  | zero => exact absurd (Nat.zero_mod _) h
  | succ n => exact dif_neg h

/-- What the pipeline holds: the arrays as the call finds them; after each point each input's block, and the outputs' at `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t.val t.isLt).1
    | ⟨13, _⟩ => (outsAt0 m c t.val t.isLt).2.1
    | ⟨14, _⟩ => (outsAt0 m c t.val t.isLt).2.2.1
    | ⟨15, _⟩ => (outsAt0 m c t.val t.isLt).2.2.2.1
    | ⟨16, _⟩ => (outsAt0 m c t.val t.isLt).2.2.2.2.1
    | ⟨17, _⟩ => (outsAt0 m c t.val t.isLt).2.2.2.2.2.1
    | ⟨18, _⟩ => (outsAt0 m c t.val t.isLt).2.2.2.2.2.2.1
    | ⟨19, _⟩ => (outsAt0 m c t.val t.isLt).2.2.2.2.2.2.2.1
    | ⟨20, _⟩ => (outsAt0 m c t.val t.isLt).2.2.2.2.2.2.2.2.1
    | ⟨21, _⟩ => (outsAt0 m c t.val t.isLt).2.2.2.2.2.2.2.2.2.1
    | ⟨22, _⟩ => (outsAt0 m c t.val t.isLt).2.2.2.2.2.2.2.2.2.2.1
    | ⟨23, _⟩ => (outsAt0 m c t.val t.isLt).2.2.2.2.2.2.2.2.2.2.2.1
    | ⟨24, _⟩ => (outsAt0 m c t.val t.isLt).2.2.2.2.2.2.2.2.2.2.2.2
    | ⟨_ + 25, h⟩ => absurd h (Nat.not_lt.2 (Nat.le_add_left _ _))
  Φ _ := Pipeline.ΦA spec0 c
  q w := Pipeline.shareOf spec0 w
  owed _ := 0

/-- The arrays are as the call finds them. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t.val t.isLt).1 := by dsimp only [dats]
theorem after0_13 (c : Dev nD) (t : Fin cfg0.N) : (dats m 0 c).after 13 t = (outsAt0 m c t.val t.isLt).2.1 := by dsimp only [dats]
theorem after0_14 (c : Dev nD) (t : Fin cfg0.N) : (dats m 0 c).after 14 t = (outsAt0 m c t.val t.isLt).2.2.1 := by dsimp only [dats]
theorem after0_15 (c : Dev nD) (t : Fin cfg0.N) : (dats m 0 c).after 15 t = (outsAt0 m c t.val t.isLt).2.2.2.1 := by dsimp only [dats]
theorem after0_16 (c : Dev nD) (t : Fin cfg0.N) : (dats m 0 c).after 16 t = (outsAt0 m c t.val t.isLt).2.2.2.2.1 := by dsimp only [dats]
theorem after0_17 (c : Dev nD) (t : Fin cfg0.N) : (dats m 0 c).after 17 t = (outsAt0 m c t.val t.isLt).2.2.2.2.2.1 := by dsimp only [dats]
theorem after0_18 (c : Dev nD) (t : Fin cfg0.N) : (dats m 0 c).after 18 t = (outsAt0 m c t.val t.isLt).2.2.2.2.2.2.1 := by dsimp only [dats]
theorem after0_19 (c : Dev nD) (t : Fin cfg0.N) : (dats m 0 c).after 19 t = (outsAt0 m c t.val t.isLt).2.2.2.2.2.2.2.1 := by dsimp only [dats]
theorem after0_20 (c : Dev nD) (t : Fin cfg0.N) : (dats m 0 c).after 20 t = (outsAt0 m c t.val t.isLt).2.2.2.2.2.2.2.2.1 := by dsimp only [dats]
theorem after0_21 (c : Dev nD) (t : Fin cfg0.N) : (dats m 0 c).after 21 t = (outsAt0 m c t.val t.isLt).2.2.2.2.2.2.2.2.2.1 := by dsimp only [dats]
theorem after0_22 (c : Dev nD) (t : Fin cfg0.N) : (dats m 0 c).after 22 t = (outsAt0 m c t.val t.isLt).2.2.2.2.2.2.2.2.2.2.1 := by dsimp only [dats]
theorem after0_23 (c : Dev nD) (t : Fin cfg0.N) : (dats m 0 c).after 23 t = (outsAt0 m c t.val t.isLt).2.2.2.2.2.2.2.2.2.2.2.1 := by dsimp only [dats]
theorem after0_24 (c : Dev nD) (t : Fin cfg0.N) : (dats m 0 c).after 24 t = (outsAt0 m c t.val t.isLt).2.2.2.2.2.2.2.2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- No point leaves output 21's block idle. -/
theorem hcarry0_21 (c : Dev nD) : ∀ (t : Fin cfg0.N) (_ : t.val ≠ 0), cfg0.idle 21 (grid0.coords t) = true → cfg0.fresh 21 t.val = false →
    (dats m 0 c).after 21 t = (dats m 0 c).after 21 ⟨t.val - 1, by omega⟩ := by
  intro t _ hi _
  by_cases h : t.val % 17 = 0
  · rw [liveAt0_21_A t ((hcond0_0 t).mpr h) (fun k => later_ne t h ((hcond0_1 t).mp k)) ((hcond0_2 t).mpr h) (fun k => later_ne t h ((hcond0_3 t).mp k)) ((hcond0_4 t).mpr h) (fun k => later_ne t h ((hcond0_5 t).mp k)) ((hcond0_6 t).mpr h) (fun k => later_ne t h ((hcond0_7 t).mp k))] at hi
    exact absurd hi Bool.false_ne_true
  · rw [liveAt0_21_B t (fun k => h ((hcond0_0 t).mp k)) ((hcond0_1 t).mpr (later t h)) (fun k => h ((hcond0_2 t).mp k)) ((hcond0_3 t).mpr (later t h)) (fun k => h ((hcond0_4 t).mp k)) ((hcond0_5 t).mpr (later t h)) (fun k => h ((hcond0_6 t).mp k)) ((hcond0_7 t).mpr (later t h))] at hi
    exact absurd hi Bool.false_ne_true

/-- A later point finds in output 21's block what the point before left. -/
theorem before0_21_B (c : Dev nD) (t : Fin cfg0.N) (h : ¬t.val % 17 = 0) (d) : (dats m 0 c).before 21 t d = (outsAt0 m c (t.val - 1) (Nat.lt_of_le_of_lt (Nat.sub_le _ _) t.isLt)).2.2.2.2.2.2.2.2.2.1 := by
  rw [Dat.before_out_traj _ 21 rfl (fun _ _ => rfl) (hcarry0_21 m c) t.val t rfl d,
    if_neg (by rw [notFresh0_21_B t (fun k => h ((hcond0_0 t).mp k)) ((hcond0_1 t).mpr (later t h)) (fun k => h ((hcond0_2 t).mp k)) ((hcond0_3 t).mpr (later t h)) (fun k => h ((hcond0_4 t).mp k)) ((hcond0_5 t).mpr (later t h)) (fun k => h ((hcond0_6 t).mp k)) ((hcond0_7 t).mpr (later t h))]; exact Bool.false_ne_true)]
  dsimp only [dats]

/-- What output 21's block holds when its point ends. -/
theorem leaves0_21_A (c : Dev nD) (t : Fin cfg0.N) (h : t.val % 17 = 0) :
    (dats m 0 c).leavesExact 21 t = owns (c : Thread nD τ) (ms0_21 t) fullShare (outsAt0 m c t.val t.isLt).2.2.2.2.2.2.2.2.2.1 := by
  unfold Dat.leavesExact; rw [liveAt0_21_A t ((hcond0_0 t).mpr h) (fun k => later_ne t h ((hcond0_1 t).mp k)) ((hcond0_2 t).mpr h) (fun k => later_ne t h ((hcond0_3 t).mp k)) ((hcond0_4 t).mpr h) (fun k => later_ne t h ((hcond0_5 t).mp k)) ((hcond0_6 t).mpr h) (fun k => later_ne t h ((hcond0_7 t).mp k)), after0_21]

/-- What output 21's block holds when its point ends. -/
theorem leaves0_21_B (c : Dev nD) (t : Fin cfg0.N) (h : ¬t.val % 17 = 0) :
    (dats m 0 c).leavesExact 21 t = owns (c : Thread nD τ) (ms0_21 t) fullShare (outsAt0 m c t.val t.isLt).2.2.2.2.2.2.2.2.2.1 := by
  unfold Dat.leavesExact; rw [liveAt0_21_B t (fun k => h ((hcond0_0 t).mp k)) ((hcond0_1 t).mpr (later t h)) (fun k => h ((hcond0_2 t).mp k)) ((hcond0_3 t).mpr (later t h)) (fun k => h ((hcond0_4 t).mp k)) ((hcond0_5 t).mpr (later t h)) (fun k => h ((hcond0_6 t).mp k)) ((hcond0_7 t).mpr (later t h)), after0_21]

/-- No point leaves output 22's block idle. -/
theorem hcarry0_22 (c : Dev nD) : ∀ (t : Fin cfg0.N) (_ : t.val ≠ 0), cfg0.idle 22 (grid0.coords t) = true → cfg0.fresh 22 t.val = false →
    (dats m 0 c).after 22 t = (dats m 0 c).after 22 ⟨t.val - 1, by omega⟩ := by
  intro t _ hi _
  by_cases h : t.val % 17 = 0
  · rw [liveAt0_22_A t ((hcond0_0 t).mpr h) (fun k => later_ne t h ((hcond0_1 t).mp k)) ((hcond0_2 t).mpr h) (fun k => later_ne t h ((hcond0_3 t).mp k)) ((hcond0_4 t).mpr h) (fun k => later_ne t h ((hcond0_5 t).mp k)) ((hcond0_6 t).mpr h) (fun k => later_ne t h ((hcond0_7 t).mp k))] at hi
    exact absurd hi Bool.false_ne_true
  · rw [liveAt0_22_B t (fun k => h ((hcond0_0 t).mp k)) ((hcond0_1 t).mpr (later t h)) (fun k => h ((hcond0_2 t).mp k)) ((hcond0_3 t).mpr (later t h)) (fun k => h ((hcond0_4 t).mp k)) ((hcond0_5 t).mpr (later t h)) (fun k => h ((hcond0_6 t).mp k)) ((hcond0_7 t).mpr (later t h))] at hi
    exact absurd hi Bool.false_ne_true

/-- A later point finds in output 22's block what the point before left. -/
theorem before0_22_B (c : Dev nD) (t : Fin cfg0.N) (h : ¬t.val % 17 = 0) (d) : (dats m 0 c).before 22 t d = (outsAt0 m c (t.val - 1) (Nat.lt_of_le_of_lt (Nat.sub_le _ _) t.isLt)).2.2.2.2.2.2.2.2.2.2.1 := by
  rw [Dat.before_out_traj _ 22 rfl (fun _ _ => rfl) (hcarry0_22 m c) t.val t rfl d,
    if_neg (by rw [notFresh0_22_B t (fun k => h ((hcond0_0 t).mp k)) ((hcond0_1 t).mpr (later t h)) (fun k => h ((hcond0_2 t).mp k)) ((hcond0_3 t).mpr (later t h)) (fun k => h ((hcond0_4 t).mp k)) ((hcond0_5 t).mpr (later t h)) (fun k => h ((hcond0_6 t).mp k)) ((hcond0_7 t).mpr (later t h))]; exact Bool.false_ne_true)]
  dsimp only [dats]

/-- What output 22's block holds when its point ends. -/
theorem leaves0_22_A (c : Dev nD) (t : Fin cfg0.N) (h : t.val % 17 = 0) :
    (dats m 0 c).leavesExact 22 t = owns (c : Thread nD τ) (ms0_22 t) fullShare (outsAt0 m c t.val t.isLt).2.2.2.2.2.2.2.2.2.2.1 := by
  unfold Dat.leavesExact; rw [liveAt0_22_A t ((hcond0_0 t).mpr h) (fun k => later_ne t h ((hcond0_1 t).mp k)) ((hcond0_2 t).mpr h) (fun k => later_ne t h ((hcond0_3 t).mp k)) ((hcond0_4 t).mpr h) (fun k => later_ne t h ((hcond0_5 t).mp k)) ((hcond0_6 t).mpr h) (fun k => later_ne t h ((hcond0_7 t).mp k)), after0_22]

/-- What output 22's block holds when its point ends. -/
theorem leaves0_22_B (c : Dev nD) (t : Fin cfg0.N) (h : ¬t.val % 17 = 0) :
    (dats m 0 c).leavesExact 22 t = owns (c : Thread nD τ) (ms0_22 t) fullShare (outsAt0 m c t.val t.isLt).2.2.2.2.2.2.2.2.2.2.1 := by
  unfold Dat.leavesExact; rw [liveAt0_22_B t (fun k => h ((hcond0_0 t).mp k)) ((hcond0_1 t).mpr (later t h)) (fun k => h ((hcond0_2 t).mp k)) ((hcond0_3 t).mpr (later t h)) (fun k => h ((hcond0_4 t).mp k)) ((hcond0_5 t).mpr (later t h)) (fun k => h ((hcond0_6 t).mp k)) ((hcond0_7 t).mpr (later t h)), after0_22]

/-- No point leaves output 23's block idle. -/
theorem hcarry0_23 (c : Dev nD) : ∀ (t : Fin cfg0.N) (_ : t.val ≠ 0), cfg0.idle 23 (grid0.coords t) = true → cfg0.fresh 23 t.val = false →
    (dats m 0 c).after 23 t = (dats m 0 c).after 23 ⟨t.val - 1, by omega⟩ := by
  intro t _ hi _
  by_cases h : t.val % 17 = 0
  · rw [liveAt0_23_A t ((hcond0_0 t).mpr h) (fun k => later_ne t h ((hcond0_1 t).mp k)) ((hcond0_2 t).mpr h) (fun k => later_ne t h ((hcond0_3 t).mp k)) ((hcond0_4 t).mpr h) (fun k => later_ne t h ((hcond0_5 t).mp k)) ((hcond0_6 t).mpr h) (fun k => later_ne t h ((hcond0_7 t).mp k))] at hi
    exact absurd hi Bool.false_ne_true
  · rw [liveAt0_23_B t (fun k => h ((hcond0_0 t).mp k)) ((hcond0_1 t).mpr (later t h)) (fun k => h ((hcond0_2 t).mp k)) ((hcond0_3 t).mpr (later t h)) (fun k => h ((hcond0_4 t).mp k)) ((hcond0_5 t).mpr (later t h)) (fun k => h ((hcond0_6 t).mp k)) ((hcond0_7 t).mpr (later t h))] at hi
    exact absurd hi Bool.false_ne_true

/-- A later point finds in output 23's block what the point before left. -/
theorem before0_23_B (c : Dev nD) (t : Fin cfg0.N) (h : ¬t.val % 17 = 0) (d) : (dats m 0 c).before 23 t d = (outsAt0 m c (t.val - 1) (Nat.lt_of_le_of_lt (Nat.sub_le _ _) t.isLt)).2.2.2.2.2.2.2.2.2.2.2.1 := by
  rw [Dat.before_out_traj _ 23 rfl (fun _ _ => rfl) (hcarry0_23 m c) t.val t rfl d,
    if_neg (by rw [notFresh0_23_B t (fun k => h ((hcond0_0 t).mp k)) ((hcond0_1 t).mpr (later t h)) (fun k => h ((hcond0_2 t).mp k)) ((hcond0_3 t).mpr (later t h)) (fun k => h ((hcond0_4 t).mp k)) ((hcond0_5 t).mpr (later t h)) (fun k => h ((hcond0_6 t).mp k)) ((hcond0_7 t).mpr (later t h))]; exact Bool.false_ne_true)]
  dsimp only [dats]

/-- What output 23's block holds when its point ends. -/
theorem leaves0_23_A (c : Dev nD) (t : Fin cfg0.N) (h : t.val % 17 = 0) :
    (dats m 0 c).leavesExact 23 t = owns (c : Thread nD τ) (ms0_23 t) fullShare (outsAt0 m c t.val t.isLt).2.2.2.2.2.2.2.2.2.2.2.1 := by
  unfold Dat.leavesExact; rw [liveAt0_23_A t ((hcond0_0 t).mpr h) (fun k => later_ne t h ((hcond0_1 t).mp k)) ((hcond0_2 t).mpr h) (fun k => later_ne t h ((hcond0_3 t).mp k)) ((hcond0_4 t).mpr h) (fun k => later_ne t h ((hcond0_5 t).mp k)) ((hcond0_6 t).mpr h) (fun k => later_ne t h ((hcond0_7 t).mp k)), after0_23]

/-- What output 23's block holds when its point ends. -/
theorem leaves0_23_B (c : Dev nD) (t : Fin cfg0.N) (h : ¬t.val % 17 = 0) :
    (dats m 0 c).leavesExact 23 t = owns (c : Thread nD τ) (ms0_23 t) fullShare (outsAt0 m c t.val t.isLt).2.2.2.2.2.2.2.2.2.2.2.1 := by
  unfold Dat.leavesExact; rw [liveAt0_23_B t (fun k => h ((hcond0_0 t).mp k)) ((hcond0_1 t).mpr (later t h)) (fun k => h ((hcond0_2 t).mp k)) ((hcond0_3 t).mpr (later t h)) (fun k => h ((hcond0_4 t).mp k)) ((hcond0_5 t).mpr (later t h)) (fun k => h ((hcond0_6 t).mp k)) ((hcond0_7 t).mpr (later t h)), after0_23]

/-- No point leaves output 24's block idle. -/
theorem hcarry0_24 (c : Dev nD) : ∀ (t : Fin cfg0.N) (_ : t.val ≠ 0), cfg0.idle 24 (grid0.coords t) = true → cfg0.fresh 24 t.val = false →
    (dats m 0 c).after 24 t = (dats m 0 c).after 24 ⟨t.val - 1, by omega⟩ := by
  intro t _ hi _
  by_cases h : t.val % 17 = 0
  · rw [liveAt0_24_A t ((hcond0_0 t).mpr h) (fun k => later_ne t h ((hcond0_1 t).mp k)) ((hcond0_2 t).mpr h) (fun k => later_ne t h ((hcond0_3 t).mp k)) ((hcond0_4 t).mpr h) (fun k => later_ne t h ((hcond0_5 t).mp k)) ((hcond0_6 t).mpr h) (fun k => later_ne t h ((hcond0_7 t).mp k))] at hi
    exact absurd hi Bool.false_ne_true
  · rw [liveAt0_24_B t (fun k => h ((hcond0_0 t).mp k)) ((hcond0_1 t).mpr (later t h)) (fun k => h ((hcond0_2 t).mp k)) ((hcond0_3 t).mpr (later t h)) (fun k => h ((hcond0_4 t).mp k)) ((hcond0_5 t).mpr (later t h)) (fun k => h ((hcond0_6 t).mp k)) ((hcond0_7 t).mpr (later t h))] at hi
    exact absurd hi Bool.false_ne_true

/-- A later point finds in output 24's block what the point before left. -/
theorem before0_24_B (c : Dev nD) (t : Fin cfg0.N) (h : ¬t.val % 17 = 0) (d) : (dats m 0 c).before 24 t d = (outsAt0 m c (t.val - 1) (Nat.lt_of_le_of_lt (Nat.sub_le _ _) t.isLt)).2.2.2.2.2.2.2.2.2.2.2.2 := by
  rw [Dat.before_out_traj _ 24 rfl (fun _ _ => rfl) (hcarry0_24 m c) t.val t rfl d,
    if_neg (by rw [notFresh0_24_B t (fun k => h ((hcond0_0 t).mp k)) ((hcond0_1 t).mpr (later t h)) (fun k => h ((hcond0_2 t).mp k)) ((hcond0_3 t).mpr (later t h)) (fun k => h ((hcond0_4 t).mp k)) ((hcond0_5 t).mpr (later t h)) (fun k => h ((hcond0_6 t).mp k)) ((hcond0_7 t).mpr (later t h))]; exact Bool.false_ne_true)]
  dsimp only [dats]

/-- What output 24's block holds when its point ends. -/
theorem leaves0_24_A (c : Dev nD) (t : Fin cfg0.N) (h : t.val % 17 = 0) :
    (dats m 0 c).leavesExact 24 t = owns (c : Thread nD τ) (ms0_24 t) fullShare (outsAt0 m c t.val t.isLt).2.2.2.2.2.2.2.2.2.2.2.2 := by
  unfold Dat.leavesExact; rw [liveAt0_24_A t ((hcond0_0 t).mpr h) (fun k => later_ne t h ((hcond0_1 t).mp k)) ((hcond0_2 t).mpr h) (fun k => later_ne t h ((hcond0_3 t).mp k)) ((hcond0_4 t).mpr h) (fun k => later_ne t h ((hcond0_5 t).mp k)) ((hcond0_6 t).mpr h) (fun k => later_ne t h ((hcond0_7 t).mp k)), after0_24]

/-- What output 24's block holds when its point ends. -/
theorem leaves0_24_B (c : Dev nD) (t : Fin cfg0.N) (h : ¬t.val % 17 = 0) :
    (dats m 0 c).leavesExact 24 t = owns (c : Thread nD τ) (ms0_24 t) fullShare (outsAt0 m c t.val t.isLt).2.2.2.2.2.2.2.2.2.2.2.2 := by
  unfold Dat.leavesExact; rw [liveAt0_24_B t (fun k => h ((hcond0_0 t).mp k)) ((hcond0_1 t).mpr (later t h)) (fun k => h ((hcond0_2 t).mp k)) ((hcond0_3 t).mpr (later t h)) (fun k => h ((hcond0_4 t).mp k)) ((hcond0_5 t).mpr (later t h)) (fun k => h ((hcond0_6 t).mp k)) ((hcond0_7 t).mpr (later t h)), after0_24]

/-- What window 0's block holds when its point ends. -/
theorem leaves0_0 (c : Dev nD) (t : Fin cfg0.N) :
    (dats m 0 c).leavesExact 0 t = owns (c : Thread nD τ) (ms0_0 t) fullShare (iblk m c 0 t) := by
  unfold Dat.leavesExact; rw [liveAt0_0 t, after0_0]

/-- What window 1's block holds when its point ends. -/
theorem leaves0_1 (c : Dev nD) (t : Fin cfg0.N) :
    (dats m 0 c).leavesExact 1 t = owns (c : Thread nD τ) (ms0_1 t) fullShare (iblk m c 1 t) := by
  unfold Dat.leavesExact; rw [liveAt0_1 t, after0_1]

/-- What window 2's block holds when its point ends. -/
theorem leaves0_2 (c : Dev nD) (t : Fin cfg0.N) :
    (dats m 0 c).leavesExact 2 t = owns (c : Thread nD τ) (ms0_2 t) fullShare (iblk m c 2 t) := by
  unfold Dat.leavesExact; rw [liveAt0_2 t, after0_2]

/-- What window 3's block holds when its point ends. -/
theorem leaves0_3 (c : Dev nD) (t : Fin cfg0.N) :
    (dats m 0 c).leavesExact 3 t = owns (c : Thread nD τ) (ms0_3 t) fullShare (iblk m c 3 t) := by
  unfold Dat.leavesExact; rw [liveAt0_3 t, after0_3]

/-- What window 4's block holds when its point ends. -/
theorem leaves0_4 (c : Dev nD) (t : Fin cfg0.N) :
    (dats m 0 c).leavesExact 4 t = owns (c : Thread nD τ) (ms0_4 t) fullShare (iblk m c 4 t) := by
  unfold Dat.leavesExact; rw [liveAt0_4 t, after0_4]

/-- What window 5's block holds when its point ends. -/
theorem leaves0_5 (c : Dev nD) (t : Fin cfg0.N) :
    (dats m 0 c).leavesExact 5 t = owns (c : Thread nD τ) (ms0_5 t) fullShare (iblk m c 5 t) := by
  unfold Dat.leavesExact; rw [liveAt0_5 t, after0_5]

/-- What window 6's block holds when its point ends. -/
theorem leaves0_6 (c : Dev nD) (t : Fin cfg0.N) :
    (dats m 0 c).leavesExact 6 t = owns (c : Thread nD τ) (ms0_6 t) fullShare (iblk m c 6 t) := by
  unfold Dat.leavesExact; rw [liveAt0_6 t, after0_6]

/-- What window 7's block holds when its point ends. -/
theorem leaves0_7 (c : Dev nD) (t : Fin cfg0.N) :
    (dats m 0 c).leavesExact 7 t = owns (c : Thread nD τ) (ms0_7 t) fullShare (iblk m c 7 t) := by
  unfold Dat.leavesExact; rw [liveAt0_7 t, after0_7]

/-- What window 8's block holds when its point ends. -/
theorem leaves0_8 (c : Dev nD) (t : Fin cfg0.N) :
    (dats m 0 c).leavesExact 8 t = owns (c : Thread nD τ) (ms0_8 t) fullShare (iblk m c 8 t) := by
  unfold Dat.leavesExact; rw [liveAt0_8 t, after0_8]

/-- What window 9's block holds when its point ends. -/
theorem leaves0_9 (c : Dev nD) (t : Fin cfg0.N) :
    (dats m 0 c).leavesExact 9 t = owns (c : Thread nD τ) (ms0_9 t) fullShare (iblk m c 9 t) := by
  unfold Dat.leavesExact; rw [liveAt0_9 t, after0_9]

/-- What window 10's block holds when its point ends. -/
theorem leaves0_10 (c : Dev nD) (t : Fin cfg0.N) :
    (dats m 0 c).leavesExact 10 t = owns (c : Thread nD τ) (ms0_10 t) fullShare (iblk m c 10 t) := by
  unfold Dat.leavesExact; rw [liveAt0_10 t, after0_10]

/-- What window 11's block holds when its point ends. -/
theorem leaves0_11 (c : Dev nD) (t : Fin cfg0.N) :
    (dats m 0 c).leavesExact 11 t = owns (c : Thread nD τ) (ms0_11 t) fullShare (iblk m c 11 t) := by
  unfold Dat.leavesExact; rw [liveAt0_11 t, after0_11]

/-- What window 12's block holds when its point ends. -/
theorem leaves0_12 (c : Dev nD) (t : Fin cfg0.N) :
    (dats m 0 c).leavesExact 12 t = owns (c : Thread nD τ) (ms0_12 t) fullShare (outsAt0 m c t.val t.isLt).1 := by
  unfold Dat.leavesExact; rw [liveAt0_12 t, after0_12]

/-- What window 13's block holds when its point ends. -/
theorem leaves0_13 (c : Dev nD) (t : Fin cfg0.N) :
    (dats m 0 c).leavesExact 13 t = owns (c : Thread nD τ) (ms0_13 t) fullShare (outsAt0 m c t.val t.isLt).2.1 := by
  unfold Dat.leavesExact; rw [liveAt0_13 t, after0_13]

/-- What window 14's block holds when its point ends. -/
theorem leaves0_14 (c : Dev nD) (t : Fin cfg0.N) :
    (dats m 0 c).leavesExact 14 t = owns (c : Thread nD τ) (ms0_14 t) fullShare (outsAt0 m c t.val t.isLt).2.2.1 := by
  unfold Dat.leavesExact; rw [liveAt0_14 t, after0_14]

/-- What window 15's block holds when its point ends. -/
theorem leaves0_15 (c : Dev nD) (t : Fin cfg0.N) :
    (dats m 0 c).leavesExact 15 t = owns (c : Thread nD τ) (ms0_15 t) fullShare (outsAt0 m c t.val t.isLt).2.2.2.1 := by
  unfold Dat.leavesExact; rw [liveAt0_15 t, after0_15]

/-- What window 16's block holds when its point ends. -/
theorem leaves0_16 (c : Dev nD) (t : Fin cfg0.N) :
    (dats m 0 c).leavesExact 16 t = owns (c : Thread nD τ) (ms0_16 t) fullShare (outsAt0 m c t.val t.isLt).2.2.2.2.1 := by
  unfold Dat.leavesExact; rw [liveAt0_16 t, after0_16]

/-- What window 17's block holds when its point ends. -/
theorem leaves0_17 (c : Dev nD) (t : Fin cfg0.N) :
    (dats m 0 c).leavesExact 17 t = owns (c : Thread nD τ) (ms0_17 t) fullShare (outsAt0 m c t.val t.isLt).2.2.2.2.2.1 := by
  unfold Dat.leavesExact; rw [liveAt0_17 t, after0_17]

/-- What window 18's block holds when its point ends. -/
theorem leaves0_18 (c : Dev nD) (t : Fin cfg0.N) :
    (dats m 0 c).leavesExact 18 t = owns (c : Thread nD τ) (ms0_18 t) fullShare (outsAt0 m c t.val t.isLt).2.2.2.2.2.2.1 := by
  unfold Dat.leavesExact; rw [liveAt0_18 t, after0_18]

/-- What window 19's block holds when its point ends. -/
theorem leaves0_19 (c : Dev nD) (t : Fin cfg0.N) :
    (dats m 0 c).leavesExact 19 t = owns (c : Thread nD τ) (ms0_19 t) fullShare (outsAt0 m c t.val t.isLt).2.2.2.2.2.2.2.1 := by
  unfold Dat.leavesExact; rw [liveAt0_19 t, after0_19]

/-- What window 20's block holds when its point ends. -/
theorem leaves0_20 (c : Dev nD) (t : Fin cfg0.N) :
    (dats m 0 c).leavesExact 20 t = owns (c : Thread nD τ) (ms0_20 t) fullShare (outsAt0 m c t.val t.isLt).2.2.2.2.2.2.2.2.1 := by
  unfold Dat.leavesExact; rw [liveAt0_20 t, after0_20]

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d)))

/-- What the body gives back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t)

set_option maxHeartbeats 8000000 in
/-- The body at the first point. -/
theorem sound_A (c : Dev nD) (t : Fin cfg0.N) (h : t.val % 17 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [leaves0_0 m c t, leaves0_1 m c t, leaves0_2 m c t, leaves0_3 m c t, leaves0_4 m c t, leaves0_5 m c t, leaves0_6 m c t, leaves0_7 m c t, leaves0_8 m c t, leaves0_9 m c t, leaves0_10 m c t, leaves0_11 m c t, leaves0_12 m c t, leaves0_13 m c t, leaves0_14 m c t, leaves0_15 m c t, leaves0_16 m c t, leaves0_17 m c t, leaves0_18 m c t, leaves0_19 m c t, leaves0_20 m c t, leaves0_21_A m c t h, leaves0_22_A m c t h, leaves0_23_A m c t h, leaves0_24_A m c t h]
  rw [outsAt0_A m c t h]
  unfold tupA outsA out0_A_12 out0_A_13 out0_A_14 out0_A_15 out0_A_16 out0_A_17 out0_A_18 out0_A_19 out0_A_20 out0_A_21 out0_A_22 out0_A_23 out0_A_24; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ ((hcond0_0 t).mpr h) (fun k => later_ne t h ((hcond0_1 t).mp k)) ((hcond0_2 t).mpr h) (fun k => later_ne t h ((hcond0_3 t).mp k)) ((hcond0_4 t).mpr h) (fun k => later_ne t h ((hcond0_5 t).mp k)) ((hcond0_6 t).mpr h) (fun k => later_ne t h ((hcond0_7 t).mp k)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [HS0]; · iexact HS0
  isplitl [HS1]; · iexact HS1
  iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%fT0, HS0⟩, ⟨%fT1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H13]
  · unfold owns; iexists _; isplitr
    swap; · iexact H13
    ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H14]
  · unfold owns; iexists _; isplitr
    swap; · iexact H14
    ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H16]
  · unfold owns; iexists _; isplitr
    swap; · iexact H16
    ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H17]
  · unfold owns; iexists _; isplitr
    swap; · iexact H17
    ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H22]
  · unfold owns; iexists _; isplitr
    swap; · iexact H22
    ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H23]
  · unfold owns; iexists _; isplitr
    swap; · iexact H23
    ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H24
  ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

set_option maxHeartbeats 8000000 in
/-- The body at a later point. -/
theorem sound_B (c : Dev nD) (t : Fin cfg0.N) (h : ¬t.val % 17 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [leaves0_0 m c t, leaves0_1 m c t, leaves0_2 m c t, leaves0_3 m c t, leaves0_4 m c t, leaves0_5 m c t, leaves0_6 m c t, leaves0_7 m c t, leaves0_8 m c t, leaves0_9 m c t, leaves0_10 m c t, leaves0_11 m c t, leaves0_12 m c t, leaves0_13 m c t, leaves0_14 m c t, leaves0_15 m c t, leaves0_16 m c t, leaves0_17 m c t, leaves0_18 m c t, leaves0_19 m c t, leaves0_20 m c t, leaves0_21_B m c t h, leaves0_22_B m c t h, leaves0_23_B m c t h, leaves0_24_B m c t h]
  rw [outsAt0_B m c t h]
  simp only [before0_21_B m c t h, before0_22_B m c t h, before0_23_B m c t h, before0_24_B m c t h]
  unfold tupB outsB out0_B_12 out0_B_13 out0_B_14 out0_B_15 out0_B_16 out0_B_17 out0_B_18 out0_B_19 out0_B_20 out0_B_21 out0_B_22 out0_B_23 out0_B_24; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ (fun k => h ((hcond0_0 t).mp k)) ((hcond0_1 t).mpr (later t h)) (fun k => h ((hcond0_2 t).mp k)) ((hcond0_3 t).mpr (later t h)) (fun k => h ((hcond0_4 t).mp k)) ((hcond0_5 t).mpr (later t h)) (fun k => h ((hcond0_6 t).mp k)) ((hcond0_7 t).mpr (later t h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _ _).2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexact H21
  isplitl [H22]; · iexact H22
  isplitl [H23]; · iexact H23
  isplitl [H24]; · iexact H24
  isplitl [HS0]; · iexact HS0
  isplitl [HS1]; · iexact HS1
  iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%fT0, HS0⟩, ⟨%fT1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H13]
  · unfold owns; iexists _; isplitr
    swap; · iexact H13
    ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H14]
  · unfold owns; iexists _; isplitr
    swap; · iexact H14
    ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H16]
  · unfold owns; iexists _; isplitr
    swap; · iexact H16
    ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H17]
  · unfold owns; iexists _; isplitr
    swap; · iexact H17
    ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_B_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_B_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_B_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H22]
  · unfold owns; iexists _; isplitr
    swap; · iexact H22
    ipureintro; exact View.read_writes_of_cover _ _ _ _ _ (cover0_B_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H23]
  · unfold owns; iexists _; isplitr
    swap; · iexact H23
    ipureintro; exact View.read_writes_of_cover _ _ _ _ _ (cover0_B_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H24
  ipureintro; exact View.read_writes_of_cover _ _ _ _ _ (cover0_B_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h : t.val % 17 = 0
  · exact sound_A m c t h
  · exact sound_B m c t h

/-- The body that a point runs. -/
theorem defs₀_row (t : Fin cfg0.N) :
    defs₀ (F := F) .tc cfg0.body (cfg0.bodyArgs t (cfg0.slots t)) = bodyAt0 t := by
  unfold defs₀; rw [Defs.onTc_tc]

/-- The body keeps what the pipeline asks of it at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- From any launch every run ends, with each array as the pipeline leaves it and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The same, without the counters. -/
theorem run_main : θ_run defs (onTc (τ := τ) (main (F := F))) (s₀ m ρ) (Pipeline.FramePost cfgs (dats m) 0 (V m)) :=
  (θ_run defs _ _).mono (fun _ h => h.1) (run_main_quiescent m ρ)

/-- Every run leaves the arguments as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- Every run ends, the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.Kernel2Ideal.Gen

namespace Cert.Kernel2Ideal.Value

open Cert.Kernel2Ideal Cert.Kernel2Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- What point `t` writes back to output 12's array. -/
theorem flushed12 (c : Dev nD) (t : Fin cfg0.N) : (dats m 0 c).flushed 12 t = (cfg0.win 12).cut (grid0.coords t) (outsAt0 m c t.val t.isLt).1 := by
  show (cfg0.win 12).cut (grid0.coords t) ((dats m 0 c).after 12 t) = _
  rw [after0_12]

/-- What point `t` writes back to output 13's array. -/
theorem flushed13 (c : Dev nD) (t : Fin cfg0.N) : (dats m 0 c).flushed 13 t = (cfg0.win 13).cut (grid0.coords t) (outsAt0 m c t.val t.isLt).2.1 := by
  show (cfg0.win 13).cut (grid0.coords t) ((dats m 0 c).after 13 t) = _
  rw [after0_13]

/-- What point `t` writes back to output 14's array. -/
theorem flushed14 (c : Dev nD) (t : Fin cfg0.N) : (dats m 0 c).flushed 14 t = (cfg0.win 14).cut (grid0.coords t) (outsAt0 m c t.val t.isLt).2.2.1 := by
  show (cfg0.win 14).cut (grid0.coords t) ((dats m 0 c).after 14 t) = _
  rw [after0_14]

/-- What point `t` writes back to output 15's array. -/
theorem flushed15 (c : Dev nD) (t : Fin cfg0.N) : (dats m 0 c).flushed 15 t = (cfg0.win 15).cut (grid0.coords t) (outsAt0 m c t.val t.isLt).2.2.2.1 := by
  show (cfg0.win 15).cut (grid0.coords t) ((dats m 0 c).after 15 t) = _
  rw [after0_15]

/-- What point `t` writes back to output 16's array. -/
theorem flushed16 (c : Dev nD) (t : Fin cfg0.N) : (dats m 0 c).flushed 16 t = (cfg0.win 16).cut (grid0.coords t) (outsAt0 m c t.val t.isLt).2.2.2.2.1 := by
  show (cfg0.win 16).cut (grid0.coords t) ((dats m 0 c).after 16 t) = _
  rw [after0_16]

/-- What point `t` writes back to output 17's array. -/
theorem flushed17 (c : Dev nD) (t : Fin cfg0.N) : (dats m 0 c).flushed 17 t = (cfg0.win 17).cut (grid0.coords t) (outsAt0 m c t.val t.isLt).2.2.2.2.2.1 := by
  show (cfg0.win 17).cut (grid0.coords t) ((dats m 0 c).after 17 t) = _
  rw [after0_17]

/-- What point `t` writes back to output 18's array. -/
theorem flushed18 (c : Dev nD) (t : Fin cfg0.N) : (dats m 0 c).flushed 18 t = (cfg0.win 18).cut (grid0.coords t) (outsAt0 m c t.val t.isLt).2.2.2.2.2.2.1 := by
  show (cfg0.win 18).cut (grid0.coords t) ((dats m 0 c).after 18 t) = _
  rw [after0_18]

/-- What point `t` writes back to output 19's array. -/
theorem flushed19 (c : Dev nD) (t : Fin cfg0.N) : (dats m 0 c).flushed 19 t = (cfg0.win 19).cut (grid0.coords t) (outsAt0 m c t.val t.isLt).2.2.2.2.2.2.2.1 := by
  show (cfg0.win 19).cut (grid0.coords t) ((dats m 0 c).after 19 t) = _
  rw [after0_19]

/-- What point `t` writes back to output 20's array. -/
theorem flushed20 (c : Dev nD) (t : Fin cfg0.N) : (dats m 0 c).flushed 20 t = (cfg0.win 20).cut (grid0.coords t) (outsAt0 m c t.val t.isLt).2.2.2.2.2.2.2.2.1 := by
  show (cfg0.win 20).cut (grid0.coords t) ((dats m 0 c).after 20 t) = _
  rw [after0_20]

/-- What point `t` writes back to output 21's array. -/
theorem flushed21 (c : Dev nD) (t : Fin cfg0.N) : (dats m 0 c).flushed 21 t = (cfg0.win 21).cut (grid0.coords t) (outsAt0 m c t.val t.isLt).2.2.2.2.2.2.2.2.2.1 := by
  show (cfg0.win 21).cut (grid0.coords t) ((dats m 0 c).after 21 t) = _
  rw [after0_21]

/-- What point `t` writes back to output 22's array. -/
theorem flushed22 (c : Dev nD) (t : Fin cfg0.N) : (dats m 0 c).flushed 22 t = (cfg0.win 22).cut (grid0.coords t) (outsAt0 m c t.val t.isLt).2.2.2.2.2.2.2.2.2.2.1 := by
  show (cfg0.win 22).cut (grid0.coords t) ((dats m 0 c).after 22 t) = _
  rw [after0_22]

/-- What point `t` writes back to output 23's array. -/
theorem flushed23 (c : Dev nD) (t : Fin cfg0.N) : (dats m 0 c).flushed 23 t = (cfg0.win 23).cut (grid0.coords t) (outsAt0 m c t.val t.isLt).2.2.2.2.2.2.2.2.2.2.2.1 := by
  show (cfg0.win 23).cut (grid0.coords t) ((dats m 0 c).after 23 t) = _
  rw [after0_23]

/-- What point `t` writes back to output 24's array. -/
theorem flushed24 (c : Dev nD) (t : Fin cfg0.N) : (dats m 0 c).flushed 24 t = (cfg0.win 24).cut (grid0.coords t) (outsAt0 m c t.val t.isLt).2.2.2.2.2.2.2.2.2.2.2.2 := by
  show (cfg0.win 24).cut (grid0.coords t) ((dats m 0 c).after 24 t) = _
  rw [after0_24]

/-- Output 12's array after the run. -/
theorem post12 (r : PUnit × MemSt nD τ sig (Elt F)) (h : Pipeline.FramePost cfgs (dats m) 0 (V m) r) (c : Dev nD) :
    r.2.mem ((c : Thread nD τ).loc main_v15_0) = (dats m 0 c).arrAt 12 cfg0.N :=
  (h c).1 12

/-- Output 13's array after the run. -/
theorem post13 (r : PUnit × MemSt nD τ sig (Elt F)) (h : Pipeline.FramePost cfgs (dats m) 0 (V m) r) (c : Dev nD) :
    r.2.mem ((c : Thread nD τ).loc main_v15_1) = (dats m 0 c).arrAt 13 cfg0.N :=
  (h c).1 13

/-- Output 14's array after the run. -/
theorem post14 (r : PUnit × MemSt nD τ sig (Elt F)) (h : Pipeline.FramePost cfgs (dats m) 0 (V m) r) (c : Dev nD) :
    r.2.mem ((c : Thread nD τ).loc main_v15_2) = (dats m 0 c).arrAt 14 cfg0.N :=
  (h c).1 14

/-- Output 15's array after the run. -/
theorem post15 (r : PUnit × MemSt nD τ sig (Elt F)) (h : Pipeline.FramePost cfgs (dats m) 0 (V m) r) (c : Dev nD) :
    r.2.mem ((c : Thread nD τ).loc main_v15_3) = (dats m 0 c).arrAt 15 cfg0.N :=
  (h c).1 15

/-- Output 16's array after the run. -/
theorem post16 (r : PUnit × MemSt nD τ sig (Elt F)) (h : Pipeline.FramePost cfgs (dats m) 0 (V m) r) (c : Dev nD) :
    r.2.mem ((c : Thread nD τ).loc main_v15_4) = (dats m 0 c).arrAt 16 cfg0.N :=
  (h c).1 16

/-- Output 17's array after the run. -/
theorem post17 (r : PUnit × MemSt nD τ sig (Elt F)) (h : Pipeline.FramePost cfgs (dats m) 0 (V m) r) (c : Dev nD) :
    r.2.mem ((c : Thread nD τ).loc main_v15_5) = (dats m 0 c).arrAt 17 cfg0.N :=
  (h c).1 17

/-- Output 18's array after the run. -/
theorem post18 (r : PUnit × MemSt nD τ sig (Elt F)) (h : Pipeline.FramePost cfgs (dats m) 0 (V m) r) (c : Dev nD) :
    r.2.mem ((c : Thread nD τ).loc main_v15_6) = (dats m 0 c).arrAt 18 cfg0.N :=
  (h c).1 18

/-- Output 19's array after the run. -/
theorem post19 (r : PUnit × MemSt nD τ sig (Elt F)) (h : Pipeline.FramePost cfgs (dats m) 0 (V m) r) (c : Dev nD) :
    r.2.mem ((c : Thread nD τ).loc main_v15_7) = (dats m 0 c).arrAt 19 cfg0.N :=
  (h c).1 19

/-- Output 20's array after the run. -/
theorem post20 (r : PUnit × MemSt nD τ sig (Elt F)) (h : Pipeline.FramePost cfgs (dats m) 0 (V m) r) (c : Dev nD) :
    r.2.mem ((c : Thread nD τ).loc main_v15_8) = (dats m 0 c).arrAt 20 cfg0.N :=
  (h c).1 20

/-- Output 21's array after the run. -/
theorem post21 (r : PUnit × MemSt nD τ sig (Elt F)) (h : Pipeline.FramePost cfgs (dats m) 0 (V m) r) (c : Dev nD) :
    r.2.mem ((c : Thread nD τ).loc main_v15_9) = (dats m 0 c).arrAt 21 cfg0.N :=
  (h c).1 21

/-- Output 22's array after the run. -/
theorem post22 (r : PUnit × MemSt nD τ sig (Elt F)) (h : Pipeline.FramePost cfgs (dats m) 0 (V m) r) (c : Dev nD) :
    r.2.mem ((c : Thread nD τ).loc main_v15_10) = (dats m 0 c).arrAt 22 cfg0.N :=
  (h c).1 22

/-- Output 23's array after the run. -/
theorem post23 (r : PUnit × MemSt nD τ sig (Elt F)) (h : Pipeline.FramePost cfgs (dats m) 0 (V m) r) (c : Dev nD) :
    r.2.mem ((c : Thread nD τ).loc main_v15_11) = (dats m 0 c).arrAt 23 cfg0.N :=
  (h c).1 23

/-- Output 24's array after the run. -/
theorem post24 (r : PUnit × MemSt nD τ sig (Elt F)) (h : Pipeline.FramePost cfgs (dats m) 0 (V m) r) (c : Dev nD) :
    r.2.mem ((c : Thread nD τ).loc main_v15_12) = (dats m 0 c).arrAt 24 cfg0.N :=
  (h c).1 24

/-- Argument 0 is as launched. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- Argument 1 is as launched. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- Argument 2 is as launched. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- Argument 3 is as launched. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 4).trans (((dats m 0 c).arrAt_in 4 rfl _).trans ((A_eq m c 4).trans (V_main_arg3 m c)))

/-- Argument 4 is as launched. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- Argument 5 is as launched. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- Argument 6 is as launched. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- Argument 7 is as launched. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- Argument 8 is as launched. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- Argument 9 is as launched. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- Argument 10 is as launched. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

set_option maxHeartbeats 800000 in
/-- After any run each output array is what the pipeline leaves, and the arguments are as launched. -/
theorem run_blocks : θ_run defs (onTc (τ := τ) (main (F := F))) ⟨m, fun _ => 0, ρ⟩ fun r => ∀ c : Dev nD,
      r.2.mem ((c : Thread nD τ).loc main_v15_0) = (dats m 0 c).arrAt 12 cfg0.N
      ∧ r.2.mem ((c : Thread nD τ).loc main_v15_1) = (dats m 0 c).arrAt 13 cfg0.N
      ∧ r.2.mem ((c : Thread nD τ).loc main_v15_2) = (dats m 0 c).arrAt 14 cfg0.N
      ∧ r.2.mem ((c : Thread nD τ).loc main_v15_3) = (dats m 0 c).arrAt 15 cfg0.N
      ∧ r.2.mem ((c : Thread nD τ).loc main_v15_4) = (dats m 0 c).arrAt 16 cfg0.N
      ∧ r.2.mem ((c : Thread nD τ).loc main_v15_5) = (dats m 0 c).arrAt 17 cfg0.N
      ∧ r.2.mem ((c : Thread nD τ).loc main_v15_6) = (dats m 0 c).arrAt 18 cfg0.N
      ∧ r.2.mem ((c : Thread nD τ).loc main_v15_7) = (dats m 0 c).arrAt 19 cfg0.N
      ∧ r.2.mem ((c : Thread nD τ).loc main_v15_8) = (dats m 0 c).arrAt 20 cfg0.N
      ∧ r.2.mem ((c : Thread nD τ).loc main_v15_9) = (dats m 0 c).arrAt 21 cfg0.N
      ∧ r.2.mem ((c : Thread nD τ).loc main_v15_10) = (dats m 0 c).arrAt 22 cfg0.N
      ∧ r.2.mem ((c : Thread nD τ).loc main_v15_11) = (dats m 0 c).arrAt 23 cfg0.N
      ∧ r.2.mem ((c : Thread nD τ).loc main_v15_12) = (dats m 0 c).arrAt 24 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨post12 m r h c,
      post13 m r h c,
      post14 m r h c,
      post15 m r h c,
      post16 m r h c,
      post17 m r h c,
      post18 m r h c,
      post19 m r h c,
      post20 m r h c,
      post21 m r h c,
      post22 m r h c,
      post23 m r h c,
      post24 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c⟩)
    (run_main m ρ)

end Cert.Kernel2Ideal.Value

end
-- ==== Proof.PostRow.lean ====
/- One token's row of the layer after the attention: the forward pass from the mixed heads to the loss and the gradients back to
   the heads, as functions of the row and the weights. They are stated over the extended reals and over the reals, and on
   real arguments the two agree. -/
module

public import Idealize.ShloMosaic.Lib.Pointwise
public import Idealize.ShloMosaic.Lib.IdealHost
public import Idealize.ShloMosaic.PureOps.Ideal.Laws

@[expose] public section

set_option maxRecDepth 16384

noncomputable section

namespace Cert.Post

open Idealize.ShloMosaic

/-- The weights that a row meets. -/
structure Wts (α : Type) where
  /-- the first heads' scale -/
  ga : Fin 512 → α
  /-- the second heads' scale -/
  gr : Fin 512 → α
  /-- the second norm's scale -/
  g2 : Fin 1024 → α
  /-- the output projection -/
  wo : Fin 1024 → Fin 1024 → α
  /-- the gate's projection, transposed -/
  wg : Fin 2816 → Fin 1024 → α
  /-- the other projection, transposed -/
  wu : Fin 2816 → Fin 1024 → α
  /-- the projection down -/
  wd : Fin 2816 → Fin 1024 → α

/-- A token's row: the two groups of heads, the residual stream, the target, and whether the token has a loss. -/
structure Row (α : Type) where
  /-- the first heads -/
  oa : Fin 512 → α
  /-- the second heads -/
  orn : Fin 512 → α
  /-- the residual stream -/
  h : Fin 1024 → α
  /-- the target -/
  t : Fin 1024 → α
  /-- whether the token has a loss -/
  on : Bool

/-- Real weights among the extended reals. -/
def Wts.coe (W : Wts ℝ) : Wts EReal where
  ga k := (W.ga k : EReal)
  gr k := (W.gr k : EReal)
  g2 k := (W.g2 k : EReal)
  wo k c := (W.wo k c : EReal)
  wg k c := (W.wg k c : EReal)
  wu k c := (W.wu k c : EReal)
  wd k c := (W.wd k c : EReal)

/-- A real row among the extended reals. -/
def Row.coe (X : Row ℝ) : Row EReal where
  oa k := (X.oa k : EReal)
  orn k := (X.orn k : EReal)
  h k := (X.h k : EReal)
  t k := (X.t k : EReal)
  on := X.on

/-- The small number under the root. -/
def eps : ℝ := 8796093 / 8796093022208

/-- Its pattern. -/
theorem eps_bits : Ideal.ofBits .f32 0x358637BD#32 = (eps : EReal) := by
  simp [Ideal.ofBits, Ideal.ieee, eps, -EReal.coe_mul]
  norm_num
/-- The pattern of a 512th. -/
theorem c512_bits : Ideal.ofBits .f32 0x3B000000#32 = ((1 / 512 : ℝ) : EReal) := by
  simp [Ideal.ofBits, Ideal.ieee, -EReal.coe_mul]
  norm_num
/-- The pattern of a 1024th. -/
theorem c1024_bits : Ideal.ofBits .f32 0x3A800000#32 = ((1 / 1024 : ℝ) : EReal) := by
  simp [Ideal.ofBits, Ideal.ieee, -EReal.coe_mul]
  norm_num
/-- The pattern of a 2048th. -/
theorem c2048_bits : Ideal.ofBits .f32 0x3A000000#32 = ((1 / 2048 : ℝ) : EReal) := by
  simp [Ideal.ofBits, Ideal.ieee, -EReal.coe_mul]
  norm_num
/-- The pattern of a half. -/
theorem half_bits : Ideal.ofBits .f32 0x3F000000#32 = ((1 / 2 : ℝ) : EReal) := by
  simp [Ideal.ofBits, Ideal.ieee, -EReal.coe_mul]
  norm_num
/-- The pattern of one. -/
theorem one_bits : Ideal.ofBits .f32 0x3F800000#32 = ((1 : ℝ) : EReal) := by
  simp [Ideal.ofBits, Ideal.ieee, -EReal.coe_mul]
  norm_num
/-- The pattern of zero. -/
theorem zero_bits : Ideal.ofBits .f32 0x00000000#32 = 0 := by
  simp [Ideal.ofBits, Ideal.ieee]

namespace E

/-- The reciprocal root of a row's mean square. -/
def inv {n : ℕ} (c : EReal) (x : Fin n → EReal) : EReal := Ideal.rsqrt ((∑ k, x k * x k) * c + Ideal.ofBits .f32 0x358637BD#32)
/-- A row divided by its root mean square. -/
def hat {n : ℕ} (c : EReal) (x : Fin n → EReal) (k : Fin n) : EReal := x k * inv c x
/-- The gradient of a norm, before it is scaled by the reciprocal root. -/
def back {n : ℕ} (c : EReal) (x : Fin n → EReal) (d g : Fin n → EReal) (k : Fin n) : EReal := inv c x * (d k * g k - hat c x k * ((∑ j, d j * g j * hat c x j) * c))
/-- The logistic function, by a hyperbolic tangent. -/
def sig (g : EReal) : EReal := Ideal.ofBits .f32 0x3F000000#32 * Ideal.tanh (Ideal.ofBits .f32 0x3F000000#32 * g) + Ideal.ofBits .f32 0x3F000000#32

section
variable (W : Wts EReal) (X : Row EReal)
/-- The two groups of heads, normed and scaled, side by side. -/
def mix (c : Fin 1024) : EReal := if h : c.val < 512 then hat (Ideal.ofBits .f32 0x3B000000#32) X.oa ⟨c.val, h⟩ * W.ga ⟨c.val, h⟩ else hat (Ideal.ofBits .f32 0x3B000000#32) X.orn ⟨c.val - 512, by omega⟩ * W.gr ⟨c.val - 512, by omega⟩
/-- The residual stream after the attention. -/
def h1 (c : Fin 1024) : EReal := X.h c + ∑ k, mix W X k * W.wo k c
/-- Its normed and scaled row. -/
def hn (c : Fin 1024) : EReal := hat (Ideal.ofBits .f32 0x3A800000#32) (h1 W X) c * W.g2 c
/-- The gate. -/
def gate (j : Fin 2816) : EReal := ∑ k, hn W X k * W.wg j k
/-- The other projection. -/
def up (j : Fin 2816) : EReal := ∑ k, hn W X k * W.wu j k
/-- The gated row. -/
def act (j : Fin 2816) : EReal := gate W X j * sig (gate W X j) * up W X j
/-- The layer's output. -/
def y (c : Fin 1024) : EReal := h1 W X c + ∑ j, act W X j * W.wd j c
/-- The error where the token has a loss, else nothing. -/
def err (c : Fin 1024) : EReal := if X.on then y W X c - X.t c else 0
/-- The sum of the squared errors. -/
def sq : EReal := ∑ c, err W X c * err W X c
/-- The output's gradient. -/
def dy (c : Fin 1024) : EReal := err W X c * (Ideal.ofBits .f32 0x3A800000#32)
/-- The gated row's gradient. -/
def dact (j : Fin 2816) : EReal := ∑ c, dy W X c * W.wd j c
/-- The gate's gradient. -/
def dgate (j : Fin 2816) : EReal := dact W X j * up W X j * sig (gate W X j) * (Ideal.ofBits .f32 0x3F800000#32 + gate W X j * (Ideal.ofBits .f32 0x3F800000#32 - sig (gate W X j)))
/-- The other projection's gradient. -/
def dup (j : Fin 2816) : EReal := dact W X j * gate W X j * sig (gate W X j)
/-- The normed row's gradient. -/
def dhn (c : Fin 1024) : EReal := (∑ j, dgate W X j * W.wg j c) + ∑ j, dup W X j * W.wu j c
/-- The row's part of the second scale's gradient. -/
def dg2 (c : Fin 1024) : EReal := dhn W X c * hat (Ideal.ofBits .f32 0x3A800000#32) (h1 W X) c
/-- The residual stream's gradient. -/
def dh1 (c : Fin 1024) : EReal := dy W X c + back (Ideal.ofBits .f32 0x3A800000#32) (h1 W X) (dhn W X) W.g2 c
/-- The normed heads' gradient. -/
def dmix (k : Fin 1024) : EReal := ∑ c, dh1 W X c * W.wo k c
/-- The first group's part of it. -/
def dma (k : Fin 512) : EReal := dmix W X ⟨k.val, by omega⟩
/-- The second group's part of it. -/
def dmr (k : Fin 512) : EReal := dmix W X ⟨512 + k.val, by omega⟩
/-- The row's part of the first heads' scale's gradient. -/
def dga (k : Fin 512) : EReal := dma W X k * hat (Ideal.ofBits .f32 0x3B000000#32) X.oa k
/-- The row's part of the second heads' scale's gradient. -/
def dgr (k : Fin 512) : EReal := dmr W X k * hat (Ideal.ofBits .f32 0x3B000000#32) X.orn k
/-- The first heads' gradient. -/
def doa (k : Fin 512) : EReal := back (Ideal.ofBits .f32 0x3B000000#32) X.oa (dma W X) W.ga k
/-- The second heads' gradient. -/
def dorn (k : Fin 512) : EReal := back (Ideal.ofBits .f32 0x3B000000#32) X.orn (dmr W X) W.gr k
end
end E

namespace R

/-- The reciprocal root of a row's mean square. -/
def inv {n : ℕ} (c : ℝ) (x : Fin n → ℝ) : ℝ := (fun v => (√v)⁻¹) ((∑ k, x k * x k) * c + eps)
/-- A row divided by its root mean square. -/
def hat {n : ℕ} (c : ℝ) (x : Fin n → ℝ) (k : Fin n) : ℝ := x k * inv c x
/-- The gradient of a norm, before it is scaled by the reciprocal root. -/
def back {n : ℕ} (c : ℝ) (x : Fin n → ℝ) (d g : Fin n → ℝ) (k : Fin n) : ℝ := inv c x * (d k * g k - hat c x k * ((∑ j, d j * g j * hat c x j) * c))
/-- The logistic function, by a hyperbolic tangent. -/
def sig (g : ℝ) : ℝ := (1 / 2) * Real.tanh ((1 / 2) * g) + (1 / 2)

section
variable (W : Wts ℝ) (X : Row ℝ)
/-- The two groups of heads, normed and scaled, side by side. -/
def mix (c : Fin 1024) : ℝ := if h : c.val < 512 then hat (1 / 512) X.oa ⟨c.val, h⟩ * W.ga ⟨c.val, h⟩ else hat (1 / 512) X.orn ⟨c.val - 512, by omega⟩ * W.gr ⟨c.val - 512, by omega⟩
/-- The residual stream after the attention. -/
def h1 (c : Fin 1024) : ℝ := X.h c + ∑ k, mix W X k * W.wo k c
/-- Its normed and scaled row. -/
def hn (c : Fin 1024) : ℝ := hat (1 / 1024) (h1 W X) c * W.g2 c
/-- The gate. -/
def gate (j : Fin 2816) : ℝ := ∑ k, hn W X k * W.wg j k
/-- The other projection. -/
def up (j : Fin 2816) : ℝ := ∑ k, hn W X k * W.wu j k
/-- The gated row. -/
def act (j : Fin 2816) : ℝ := gate W X j * sig (gate W X j) * up W X j
/-- The layer's output. -/
def y (c : Fin 1024) : ℝ := h1 W X c + ∑ j, act W X j * W.wd j c
/-- The error where the token has a loss, else nothing. -/
def err (c : Fin 1024) : ℝ := if X.on then y W X c - X.t c else 0
/-- The sum of the squared errors. -/
def sq : ℝ := ∑ c, err W X c * err W X c
/-- The output's gradient. -/
def dy (c : Fin 1024) : ℝ := err W X c * (1 / 1024)
/-- The gated row's gradient. -/
def dact (j : Fin 2816) : ℝ := ∑ c, dy W X c * W.wd j c
/-- The gate's gradient. -/
def dgate (j : Fin 2816) : ℝ := dact W X j * up W X j * sig (gate W X j) * (1 + gate W X j * (1 - sig (gate W X j)))
/-- The other projection's gradient. -/
def dup (j : Fin 2816) : ℝ := dact W X j * gate W X j * sig (gate W X j)
/-- The normed row's gradient. -/
def dhn (c : Fin 1024) : ℝ := (∑ j, dgate W X j * W.wg j c) + ∑ j, dup W X j * W.wu j c
/-- The row's part of the second scale's gradient. -/
def dg2 (c : Fin 1024) : ℝ := dhn W X c * hat (1 / 1024) (h1 W X) c
/-- The residual stream's gradient. -/
def dh1 (c : Fin 1024) : ℝ := dy W X c + back (1 / 1024) (h1 W X) (dhn W X) W.g2 c
/-- The normed heads' gradient. -/
def dmix (k : Fin 1024) : ℝ := ∑ c, dh1 W X c * W.wo k c
/-- The first group's part of it. -/
def dma (k : Fin 512) : ℝ := dmix W X ⟨k.val, by omega⟩
/-- The second group's part of it. -/
def dmr (k : Fin 512) : ℝ := dmix W X ⟨512 + k.val, by omega⟩
/-- The row's part of the first heads' scale's gradient. -/
def dga (k : Fin 512) : ℝ := dma W X k * hat (1 / 512) X.oa k
/-- The row's part of the second heads' scale's gradient. -/
def dgr (k : Fin 512) : ℝ := dmr W X k * hat (1 / 512) X.orn k
/-- The first heads' gradient. -/
def doa (k : Fin 512) : ℝ := back (1 / 512) X.oa (dma W X) W.ga k
/-- The second heads' gradient. -/
def dorn (k : Fin 512) : ℝ := back (1 / 512) X.orn (dmr W X) W.gr k
end
end R

/-! ## Real rows -/

/-- A finite sum of real numbers, taken among the extended reals, is the real sum. -/
theorem coe_sum {ι : Type} (s : Finset ι) (f : ι → ℝ) : (∑ x ∈ s, (f x : EReal)) = ((∑ x ∈ s, f x : ℝ) : EReal) := by
  classical
  induction s using Finset.induction_on with
  | empty => simp
  | insert a s h ih => rw [Finset.sum_insert h, Finset.sum_insert h, ih, EReal.coe_add]

/-- The small number is positive. -/
theorem eps_pos : 0 < eps := by unfold eps; norm_num

/-- The root's argument is positive. -/
theorem arg_pos {n : ℕ} (c : ℝ) (hc : 0 ≤ c) (x : Fin n → ℝ) : 0 < (∑ k, x k * x k) * c + eps :=
  add_pos_of_nonneg_of_pos (mul_nonneg (Finset.sum_nonneg fun k _ => mul_self_nonneg (x k)) hc) eps_pos

/-- The reciprocal root of a positive real number. -/
theorem rsqrt_pos {v : ℝ} (h : 0 < v) : Ideal.rsqrt (v : EReal) = (((√v)⁻¹ : ℝ) : EReal) := by
  rw [Ideal.rsqrt_coe, if_neg h.not_gt, if_neg h.ne']

/-- The reciprocal root of a real row's mean square. -/
theorem inv_coe {n : ℕ} (c : ℝ) (hc : 0 ≤ c) (x : Fin n → ℝ) : E.inv (c : EReal) (fun k => (x k : EReal)) = (R.inv c x : EReal) := by
  unfold E.inv R.inv
  simp only [eps_bits, ← EReal.coe_mul, coe_sum, ← EReal.coe_add]
  exact rsqrt_pos (arg_pos c hc x)
/-- A real row divided by its root mean square. -/
theorem hat_coe {n : ℕ} (c : ℝ) (hc : 0 ≤ c) (x : Fin n → ℝ) (k : Fin n) : E.hat (c : EReal) (fun k => (x k : EReal)) k = (R.hat c x k : EReal) := by
  unfold E.hat R.hat
  rw [inv_coe c hc, ← EReal.coe_mul]
/-- The gradient of a norm of a real row. -/
theorem back_coe {n : ℕ} (c : ℝ) (hc : 0 ≤ c) (x d g : Fin n → ℝ) (k : Fin n) :
    E.back (c : EReal) (fun k => (x k : EReal)) (fun k => (d k : EReal)) (fun k => (g k : EReal)) k = (R.back c x d g k : EReal) := by
  unfold E.back R.back
  simp only [inv_coe c hc, hat_coe c hc, ← EReal.coe_mul, coe_sum, ← EReal.coe_sub]
/-- The logistic function of a real number. -/
theorem sig_coe (g : ℝ) : E.sig (g : EReal) = (R.sig g : EReal) := by
  unfold E.sig R.sig
  simp only [half_bits, ← EReal.coe_mul, Ideal.tanh_coe, ← EReal.coe_add]
/-- A 512th is not negative. -/
theorem c512_nonneg : (0 : ℝ) ≤ 1 / 512 := by norm_num
/-- A 1024th is not negative. -/
theorem c1024_nonneg : (0 : ℝ) ≤ 1 / 1024 := by norm_num

section
variable (W : Wts ℝ) (X : Row ℝ)
/-- On a real row `mix` is real. -/
theorem mix_coe (c : Fin 1024) : E.mix W.coe X.coe c = (R.mix W X c : EReal) := by
  unfold E.mix R.mix
  split
  · simp only [Wts.coe, Row.coe, c512_bits, hat_coe _ c512_nonneg, ← EReal.coe_mul]
  · simp only [Wts.coe, Row.coe, c512_bits, hat_coe _ c512_nonneg, ← EReal.coe_mul]

/-- On a real row `h1` is real. -/
theorem h1_coe (c : Fin 1024) : E.h1 W.coe X.coe c = (R.h1 W X c : EReal) := by
  unfold E.h1 R.h1
  simp only [mix_coe, show ∀ k c, W.coe.wo k c = (W.wo k c : EReal) from fun _ _ => rfl, show ∀ c, X.coe.h c = (X.h c : EReal) from fun _ => rfl, ← EReal.coe_mul, coe_sum, ← EReal.coe_add, ← EReal.coe_sub]

/-- So is its row as a function. -/
theorem h1_fun : E.h1 W.coe X.coe = fun c => (R.h1 W X c : EReal) := funext (h1_coe W X)

/-- On a real row `hn` is real. -/
theorem hn_coe (c : Fin 1024) : E.hn W.coe X.coe c = (R.hn W X c : EReal) := by
  unfold E.hn R.hn
  simp only [h1_fun, c1024_bits, hat_coe _ c1024_nonneg, show ∀ c, W.coe.g2 c = (W.g2 c : EReal) from fun _ => rfl, ← EReal.coe_mul, coe_sum, ← EReal.coe_add, ← EReal.coe_sub]

/-- On a real row `gate` is real. -/
theorem gate_coe (j : Fin 2816) : E.gate W.coe X.coe j = (R.gate W X j : EReal) := by
  unfold E.gate R.gate
  simp only [hn_coe, show ∀ k c, W.coe.wg k c = (W.wg k c : EReal) from fun _ _ => rfl, ← EReal.coe_mul, coe_sum, ← EReal.coe_add, ← EReal.coe_sub]

/-- On a real row `up` is real. -/
theorem up_coe (j : Fin 2816) : E.up W.coe X.coe j = (R.up W X j : EReal) := by
  unfold E.up R.up
  simp only [hn_coe, show ∀ k c, W.coe.wu k c = (W.wu k c : EReal) from fun _ _ => rfl, ← EReal.coe_mul, coe_sum, ← EReal.coe_add, ← EReal.coe_sub]

/-- On a real row `act` is real. -/
theorem act_coe (j : Fin 2816) : E.act W.coe X.coe j = (R.act W X j : EReal) := by
  unfold E.act R.act
  simp only [gate_coe, up_coe, sig_coe, ← EReal.coe_mul, coe_sum, ← EReal.coe_add, ← EReal.coe_sub]

/-- On a real row `y` is real. -/
theorem y_coe (c : Fin 1024) : E.y W.coe X.coe c = (R.y W X c : EReal) := by
  unfold E.y R.y
  simp only [h1_coe, act_coe, show ∀ k c, W.coe.wd k c = (W.wd k c : EReal) from fun _ _ => rfl, ← EReal.coe_mul, coe_sum, ← EReal.coe_add, ← EReal.coe_sub]

/-- On a real row `err` is real. -/
theorem err_coe (c : Fin 1024) : E.err W.coe X.coe c = (R.err W X c : EReal) := by
  unfold E.err R.err
  show (if X.on then E.y W.coe X.coe c - (X.t c : EReal) else 0) = _
  split
  · rw [y_coe, EReal.coe_sub]
  · rw [EReal.coe_zero]

/-- On a real row `sq` is real. -/
theorem sq_coe : E.sq W.coe X.coe = (R.sq W X : EReal) := by
  unfold E.sq R.sq
  simp only [err_coe, ← EReal.coe_mul, coe_sum]

/-- On a real row `dy` is real. -/
theorem dy_coe (c : Fin 1024) : E.dy W.coe X.coe c = (R.dy W X c : EReal) := by
  unfold E.dy R.dy
  simp only [err_coe, c1024_bits, ← EReal.coe_mul, coe_sum, ← EReal.coe_add, ← EReal.coe_sub]

/-- On a real row `dact` is real. -/
theorem dact_coe (j : Fin 2816) : E.dact W.coe X.coe j = (R.dact W X j : EReal) := by
  unfold E.dact R.dact
  simp only [dy_coe, show ∀ k c, W.coe.wd k c = (W.wd k c : EReal) from fun _ _ => rfl, ← EReal.coe_mul, coe_sum, ← EReal.coe_add, ← EReal.coe_sub]

/-- On a real row `dgate` is real. -/
theorem dgate_coe (j : Fin 2816) : E.dgate W.coe X.coe j = (R.dgate W X j : EReal) := by
  unfold E.dgate R.dgate
  simp only [dact_coe, gate_coe, up_coe, sig_coe, one_bits, ← EReal.coe_mul, coe_sum, ← EReal.coe_add, ← EReal.coe_sub]

/-- On a real row `dup` is real. -/
theorem dup_coe (j : Fin 2816) : E.dup W.coe X.coe j = (R.dup W X j : EReal) := by
  unfold E.dup R.dup
  simp only [dact_coe, gate_coe, sig_coe, ← EReal.coe_mul, coe_sum, ← EReal.coe_add, ← EReal.coe_sub]

/-- On a real row `dhn` is real. -/
theorem dhn_coe (c : Fin 1024) : E.dhn W.coe X.coe c = (R.dhn W X c : EReal) := by
  unfold E.dhn R.dhn
  simp only [dgate_coe, dup_coe, show ∀ k c, W.coe.wg k c = (W.wg k c : EReal) from fun _ _ => rfl, show ∀ k c, W.coe.wu k c = (W.wu k c : EReal) from fun _ _ => rfl, ← EReal.coe_mul, coe_sum, ← EReal.coe_add, ← EReal.coe_sub]

/-- So is its row as a function. -/
theorem dhn_fun : E.dhn W.coe X.coe = fun c => (R.dhn W X c : EReal) := funext (dhn_coe W X)

/-- On a real row `dg2` is real. -/
theorem dg2_coe (c : Fin 1024) : E.dg2 W.coe X.coe c = (R.dg2 W X c : EReal) := by
  unfold E.dg2 R.dg2
  simp only [dhn_coe, h1_fun, c1024_bits, hat_coe _ c1024_nonneg, ← EReal.coe_mul, coe_sum, ← EReal.coe_add, ← EReal.coe_sub]

/-- On a real row `dh1` is real. -/
theorem dh1_coe (c : Fin 1024) : E.dh1 W.coe X.coe c = (R.dh1 W X c : EReal) := by
  unfold E.dh1 R.dh1
  simp only [dy_coe, dhn_fun, h1_fun, c1024_bits, back_coe _ c1024_nonneg, show W.coe.g2 = fun c => (W.g2 c : EReal) from rfl, ← EReal.coe_mul, coe_sum, ← EReal.coe_add, ← EReal.coe_sub]

/-- On a real row `dmix` is real. -/
theorem dmix_coe (k : Fin 1024) : E.dmix W.coe X.coe k = (R.dmix W X k : EReal) := by
  unfold E.dmix R.dmix
  simp only [dh1_coe, show ∀ k c, W.coe.wo k c = (W.wo k c : EReal) from fun _ _ => rfl, ← EReal.coe_mul, coe_sum, ← EReal.coe_add, ← EReal.coe_sub]

/-- On a real row `dma` is real. -/
theorem dma_coe (k : Fin 512) : E.dma W.coe X.coe k = (R.dma W X k : EReal) := dmix_coe W X _
/-- So is its row as a function. -/
theorem dma_fun : E.dma W.coe X.coe = fun c => (R.dma W X c : EReal) := funext (dma_coe W X)

/-- On a real row `dmr` is real. -/
theorem dmr_coe (k : Fin 512) : E.dmr W.coe X.coe k = (R.dmr W X k : EReal) := dmix_coe W X _
/-- So is its row as a function. -/
theorem dmr_fun : E.dmr W.coe X.coe = fun c => (R.dmr W X c : EReal) := funext (dmr_coe W X)

/-- On a real row `dga` is real. -/
theorem dga_coe (k : Fin 512) : E.dga W.coe X.coe k = (R.dga W X k : EReal) := by
  unfold E.dga R.dga
  simp only [dma_coe, c512_bits, hat_coe _ c512_nonneg, show X.coe.oa = fun c => (X.oa c : EReal) from rfl, ← EReal.coe_mul, coe_sum, ← EReal.coe_add, ← EReal.coe_sub]

/-- On a real row `dgr` is real. -/
theorem dgr_coe (k : Fin 512) : E.dgr W.coe X.coe k = (R.dgr W X k : EReal) := by
  unfold E.dgr R.dgr
  simp only [dmr_coe, c512_bits, hat_coe _ c512_nonneg, show X.coe.orn = fun c => (X.orn c : EReal) from rfl, ← EReal.coe_mul, coe_sum, ← EReal.coe_add, ← EReal.coe_sub]

/-- On a real row `doa` is real. -/
theorem doa_coe (k : Fin 512) : E.doa W.coe X.coe k = (R.doa W X k : EReal) := by
  unfold E.doa R.doa
  simp only [dma_fun, c512_bits, back_coe _ c512_nonneg, show X.coe.oa = fun c => (X.oa c : EReal) from rfl, show W.coe.ga = fun c => (W.ga c : EReal) from rfl, ← EReal.coe_mul, coe_sum, ← EReal.coe_add, ← EReal.coe_sub]

/-- On a real row `dorn` is real. -/
theorem dorn_coe (k : Fin 512) : E.dorn W.coe X.coe k = (R.dorn W X k : EReal) := by
  unfold E.dorn R.dorn
  simp only [dmr_fun, c512_bits, back_coe _ c512_nonneg, show X.coe.orn = fun c => (X.orn c : EReal) from rfl, show W.coe.gr = fun c => (W.gr c : EReal) from rfl, ← EReal.coe_mul, coe_sum, ← EReal.coe_add, ← EReal.coe_sub]

/-! ## A row of padding -/

section
variable (p0 : ∀ k, X.oa k = 0) (p1 : ∀ k, X.orn k = 0) (p2 : ∀ k, X.h k = 0) (p3 : X.on = false)
include p0 p1
/-- A row of padding has no mixed heads. -/
theorem mix_pad (c : Fin 1024) : R.mix W X c = 0 := by
  unfold R.mix R.hat
  split <;> simp only [p0, p1, zero_mul]
include p2
/-- A row of padding leaves the residual stream at zero. -/
theorem h1_pad (c : Fin 1024) : R.h1 W X c = 0 := by
  unfold R.h1
  simp only [mix_pad W X p0 p1, p2, zero_mul, Finset.sum_const_zero, add_zero]
/-- So is its normed row. -/
theorem hn_pad (c : Fin 1024) : R.hn W X c = 0 := by
  unfold R.hn R.hat
  simp only [h1_pad W X p0 p1 p2, zero_mul]
/-- So is the gated row. -/
theorem act_pad (j : Fin 2816) : R.act W X j = 0 := by
  unfold R.act R.up
  simp only [hn_pad W X p0 p1 p2, zero_mul, Finset.sum_const_zero, mul_zero]
omit p0 p1 p2
include p3
/-- A token without a loss has no error. -/
theorem err_off (c : Fin 1024) : R.err W X c = 0 := by
  unfold R.err
  rw [p3]; rfl
/-- Nor a gradient of its output. -/
theorem dy_off (c : Fin 1024) : R.dy W X c = 0 := by
  unfold R.dy
  rw [err_off W X p3, zero_mul]
/-- Nor of its gated row. -/
theorem dact_off (j : Fin 2816) : R.dact W X j = 0 := by
  unfold R.dact
  simp only [dy_off W X p3, zero_mul, Finset.sum_const_zero]
/-- Nor of its gate. -/
theorem dgate_off (j : Fin 2816) : R.dgate W X j = 0 := by
  unfold R.dgate
  simp only [dact_off W X p3, zero_mul]
/-- Nor of the other projection. -/
theorem dup_off (j : Fin 2816) : R.dup W X j = 0 := by
  unfold R.dup
  simp only [dact_off W X p3, zero_mul]
/-- Nor of its normed row. -/
theorem dhn_off (c : Fin 1024) : R.dhn W X c = 0 := by
  unfold R.dhn
  simp only [dgate_off W X p3, dup_off W X p3, zero_mul, Finset.sum_const_zero, add_zero]
/-- Nor a part of the second scale's gradient. -/
theorem dg2_off (c : Fin 1024) : R.dg2 W X c = 0 := by
  unfold R.dg2
  simp only [dhn_off W X p3, zero_mul]
/-- Nor of the residual stream. -/
theorem dh1_off (c : Fin 1024) : R.dh1 W X c = 0 := by
  unfold R.dh1 R.back
  simp only [dy_off W X p3, dhn_off W X p3, zero_mul, Finset.sum_const_zero, mul_zero, sub_zero, add_zero]
/-- Nor of its mixed heads. -/
theorem dmix_off (c : Fin 1024) : R.dmix W X c = 0 := by
  unfold R.dmix
  simp only [dh1_off W X p3, zero_mul, Finset.sum_const_zero]
/-- Nor of its first heads. -/
theorem doa_off (k : Fin 512) : R.doa W X k = 0 := by
  unfold R.doa R.back R.dma
  simp only [dmix_off W X p3, zero_mul, Finset.sum_const_zero, mul_zero, sub_zero]
/-- Nor of its second heads. -/
theorem dorn_off (k : Fin 512) : R.dorn W X k = 0 := by
  unfold R.dorn R.back R.dmr
  simp only [dmix_off W X p3, zero_mul, Finset.sum_const_zero, mul_zero, sub_zero]
/-- Nor a part of the first heads' scale's gradient. -/
theorem dga_off (k : Fin 512) : R.dga W X k = 0 := by
  unfold R.dga R.dma
  simp only [dmix_off W X p3, zero_mul]
/-- Nor a part of the second heads' scale's gradient. -/
theorem dgr_off (k : Fin 512) : R.dgr W X k = 0 := by
  unfold R.dgr R.dmr
  simp only [dmix_off W X p3, zero_mul]
/-- Nor a loss. -/
theorem sq_off : R.sq W X = 0 := by
  unfold R.sq
  simp only [err_off W X p3, zero_mul, Finset.sum_const_zero]
end
end

/-! ## The reference's forms of the norm's gradient and of the logistic function -/

/-- The gradient of the norm as the chain rule through the reciprocal root has it. -/
theorem back_chain {n : ℕ} (c : ℝ) (hc : 0 ≤ c) (x d g : Fin n → ℝ) (k : Fin n) :
    d k * g k * R.inv c x + x k * ((∑ j, x j * (d j * g j)) * (-(1 / 2) * (R.inv c x * (1 / ((∑ k, x k * x k) * c + eps)))) * c)
        + (∑ j, x j * (d j * g j)) * (-(1 / 2) * (R.inv c x * (1 / ((∑ k, x k * x k) * c + eps)))) * c * x k
      = R.back c x d g k := by
  unfold R.back R.hat R.inv
  have hp := arg_pos c hc x
  have hs : (∑ j, d j * g j * (x j * (√((∑ k, x k * x k) * c + eps))⁻¹)) = (∑ j, x j * (d j * g j)) * (√((∑ k, x k * x k) * c + eps))⁻¹ := by
    rw [Finset.sum_mul Finset.univ (fun j => x j * (d j * g j))]
    exact Finset.sum_congr rfl fun j _ => by ring
  rw [hs]
  generalize (∑ j, x j * (d j * g j)) = s
  generalize (∑ k, x k * x k) * c + eps = m at hp
  have hq : 1 / m = (√m)⁻¹ * (√m)⁻¹ := by
    rw [← mul_inv, Real.mul_self_sqrt hp.le, one_div]
  rw [hq]
  ring

/-- The logistic function by the exponential. -/
theorem sig_exp (g : ℝ) : 1 * (1 / (1 + Real.exp (-g))) = R.sig g := by
  unfold R.sig
  have e : Real.exp (-(1 / 2 * g)) = (Real.exp (1 / 2 * g))⁻¹ := Real.exp_neg _
  have e2 : Real.exp (-g) = (Real.exp (1 / 2 * g))⁻¹ * (Real.exp (1 / 2 * g))⁻¹ := by
    rw [← e, ← Real.exp_add]; congr 1; ring
  rw [Real.tanh_eq_sinh_div_cosh, Real.sinh_eq, Real.cosh_eq, e, e2]
  have hp := Real.exp_pos (1 / 2 * g)
  generalize Real.exp (1 / 2 * g) = v at hp
  have h1 : v ≠ 0 := hp.ne'
  have h2 : v * v + 1 ≠ 0 := by positivity
  field_simp
  ring

end Cert.Post

end
-- ==== Proof.PostPay.lean ====
/- What the stored values of one point of the layer's call are at an index: each is the row's function of `PostRow`, at the row of the
   block and the blocks of the weights. -/
module

public import proofs.«01_k».proof.Proof.Gen.Kernel2Ideal.Skeleton
public import proofs.«01_k».proof.Proof.PostRow
public import Idealize.ShloMosaic.Lib.Pointwise
public import Idealize.ShloMosaic.Lib.IdealHost

@[expose] public section

set_option maxRecDepth 16384

noncomputable section

namespace Cert.Kernel2Ideal.Gen

open Cert.Post Idealize.ShloMosaic Idealize.ShloMosaic.TcCoe Idealize.ShloMosaic.Tactic

/-- The weights of a point, from its blocks. -/
def wtsOf (x5 x6 : FVec Ideal S1x512 .f32) (x7 : FVec Ideal S1x1024 .f32) (x8 : FVec Ideal S1024x1024 .bf16) (x9 x10 x11 : FVec Ideal S2816x1024 .bf16) : Wts EReal where
  ga k := x5 (ix2 0 k)
  gr k := x6 (ix2 0 k)
  g2 c := x7 (ix2 0 c)
  wo k c := x8 (ix2 k c)
  wg j c := x9 (ix2 j c)
  wu j c := x10 (ix2 j c)
  wd j c := x11 (ix2 j c)

/-- Whether row `r` of the tile `i` holds a token with a loss. -/
def onAt (i : Fin 17) (r : Fin 256) : Bool := decide (128 ≤ (i.val * 256 + r.val) % 2176)

/-- A row of a point, from its blocks. -/
def rowOf (i : Fin 17) (x0 x1 : FVec Ideal S256x512 .f32) (x2 : FVec Ideal S256x1024 .f32) (x3 x4 : FVec Ideal S1x128x1024 .f32) (r : Fin 256) : Row EReal where
  oa k := x0 (ix2 r k)
  orn k := x1 (ix2 r k)
  h c := x2 (ix2 r c)
  t c := if onAt i r then (if h : r.val < 128 then x3 (ix3 0 ⟨r.val, h⟩ c) else x4 (ix3 0 ⟨r.val - 128, by omega⟩ c)) else 0
  on := onAt i r

section
variable (x0 x1 : FVec Ideal S256x512 .f32) (x2 : FVec Ideal S256x1024 .f32) (x3 x4 : FVec Ideal S1x128x1024 .f32)
  (x5 x6 : FVec Ideal S1x512 .f32) (x7 : FVec Ideal S1x1024 .f32) (x8 : FVec Ideal S1024x1024 .bf16) (x9 x10 x11 : FVec Ideal S2816x1024 .bf16)
  (i : Fin 17) (r : Fin 256)

/-- A row's first heads. -/
theorem rowOf_oa : (rowOf i x0 x1 x2 x3 x4 r).oa = fun k => x0 (ix2 r k) := rfl
/-- A row's second heads. -/
theorem rowOf_orn : (rowOf i x0 x1 x2 x3 x4 r).orn = fun k => x1 (ix2 r k) := rfl

/-- The first heads' reciprocal root. -/
theorem pay3_at : k0_pay3 (F := Ideal) x0 (ix2 r 0) = E.inv (Ideal.ofBits .f32 0x3B000000#32) (fun k => x0 (ix2 r k)) := by
  unfold E.inv
  pointwise [k0_pay3, k0_pay2]

/-- The first heads, normed. -/
theorem pay4_at (k : Fin 512) : k0_pay4 (F := Ideal) x0 (ix2 r k) = E.hat (Ideal.ofBits .f32 0x3B000000#32) (fun k => x0 (ix2 r k)) k := by
  unfold E.hat
  pointwise [k0_pay4, k0_pay2, pay3_at]

/-- The second heads' reciprocal root. -/
theorem pay6_at : k0_pay6 (F := Ideal) x1 (ix2 r 0) = E.inv (Ideal.ofBits .f32 0x3B000000#32) (fun k => x1 (ix2 r k)) := by
  unfold E.inv
  pointwise [k0_pay6, k0_pay5]

/-- The second heads, normed. -/
theorem pay7_at (k : Fin 512) : k0_pay7 (F := Ideal) x1 (ix2 r k) = E.hat (Ideal.ofBits .f32 0x3B000000#32) (fun k => x1 (ix2 r k)) k := by
  unfold E.hat
  pointwise [k0_pay7, k0_pay5, pay6_at]

/-- The mixed heads. -/
theorem pay8_at (c : Fin 1024) : k0_pay8 (F := Ideal) x0 x1 x5 x6 (ix2 r c) = E.mix (wtsOf x5 x6 x7 x8 x9 x10 x11) (rowOf i x0 x1 x2 x3 x4 r) c := by
  unfold E.mix wtsOf rowOf
  pointwise [k0_pay8, pay4_at, pay7_at]

/-- The mixed heads, transposed. -/
theorem pay9_at (c : Fin 1024) : k0_pay9 (F := Ideal) x0 x1 x5 x6 (ix2 c r) = E.mix (wtsOf x5 x6 x7 x8 x9 x10 x11) (rowOf i x0 x1 x2 x3 x4 r) c := by
  rw [← pay8_at]
  pointwise [k0_pay9]

/-- The residual stream. -/
theorem pay10_at (c : Fin 1024) : k0_pay10 (k0_pay8 (F := Ideal) x0 x1 x5 x6) x2 x8 (ix2 r c) = E.h1 (wtsOf x5 x6 x7 x8 x9 x10 x11) (rowOf i x0 x1 x2 x3 x4 r) c := by
  unfold E.h1
  simp only [← pay8_at]
  pointwise [k0_pay10, wtsOf, rowOf]

/-- Its reciprocal root. -/
theorem pay11_at : k0_pay11 (k0_pay8 (F := Ideal) x0 x1 x5 x6) x2 x8 (ix2 r 0) = E.inv (Ideal.ofBits .f32 0x3A800000#32) (E.h1 (wtsOf x5 x6 x7 x8 x9 x10 x11) (rowOf i x0 x1 x2 x3 x4 r)) := by
  unfold E.inv
  simp only [← pay10_at]
  pointwise [k0_pay11]

/-- Its normed row. -/
theorem pay12_at (c : Fin 1024) : k0_pay12 (k0_pay8 (F := Ideal) x0 x1 x5 x6) x2 x8 (ix2 r c) = E.hat (Ideal.ofBits .f32 0x3A800000#32) (E.h1 (wtsOf x5 x6 x7 x8 x9 x10 x11) (rowOf i x0 x1 x2 x3 x4 r)) c := by
  unfold E.hat
  rw [← pay10_at, ← pay11_at]
  pointwise [k0_pay12]

/-- Its normed and scaled row. -/
theorem pay13_at (c : Fin 1024) : k0_pay13 (k0_pay8 (F := Ideal) x0 x1 x5 x6) x2 x8 x7 (ix2 r c) = E.hn (wtsOf x5 x6 x7 x8 x9 x10 x11) (rowOf i x0 x1 x2 x3 x4 r) c := by
  unfold E.hn
  rw [← pay12_at]
  pointwise [k0_pay13, wtsOf]

/-- The gate. -/
theorem pay14_at (j : Fin 2816) : k0_pay14 (k0_pay8 (F := Ideal) x0 x1 x5 x6) x2 x8 x7 x9 (ix2 r j) = E.gate (wtsOf x5 x6 x7 x8 x9 x10 x11) (rowOf i x0 x1 x2 x3 x4 r) j := by
  unfold E.gate
  simp only [← pay13_at]
  pointwise [k0_pay14, wtsOf]

/-- The other projection. -/
theorem pay15_at (j : Fin 2816) : k0_pay15 (k0_pay8 (F := Ideal) x0 x1 x5 x6) x2 x8 x7 x10 (ix2 r j) = E.up (wtsOf x5 x6 x7 x8 x9 x10 x11) (rowOf i x0 x1 x2 x3 x4 r) j := by
  unfold E.up
  simp only [← pay13_at]
  pointwise [k0_pay15, wtsOf]

/-- The gate, as it is kept. -/
theorem pay16_at (j : Fin 2816) : k0_pay16 (k0_pay8 (F := Ideal) x0 x1 x5 x6) x2 x8 x7 x9 (ix2 r j) = E.gate (wtsOf x5 x6 x7 x8 x9 x10 x11) (rowOf i x0 x1 x2 x3 x4 r) j := by
  rw [← pay14_at]
  pointwise [k0_pay16]

/-- The other projection, as it is kept. -/
theorem pay17_at (j : Fin 2816) : k0_pay17 (k0_pay8 (F := Ideal) x0 x1 x5 x6) x2 x8 x7 x10 (ix2 r j) = E.up (wtsOf x5 x6 x7 x8 x9 x10 x11) (rowOf i x0 x1 x2 x3 x4 r) j := by
  rw [← pay15_at]
  pointwise [k0_pay17]

/-- The gated row. -/
theorem pay19_at (j : Fin 2816) : k0_pay19 (k0_pay14 (k0_pay8 (F := Ideal) x0 x1 x5 x6) x2 x8 x7 x9) (k0_pay15 (k0_pay8 (F := Ideal) x0 x1 x5 x6) x2 x8 x7 x10) (k0_pay18 (k0_pay8 (F := Ideal) x0 x1 x5 x6) x2 x8 x7 x9) (ix2 r j) = E.act (wtsOf x5 x6 x7 x8 x9 x10 x11) (rowOf i x0 x1 x2 x3 x4 r) j := by
  unfold E.act E.sig
  rw [← pay14_at, ← pay15_at]
  pointwise [k0_pay19, k0_pay18]

/-- The gated row, transposed. -/
theorem pay20_at (j : Fin 2816) : k0_pay20 (k0_pay14 (k0_pay8 (F := Ideal) x0 x1 x5 x6) x2 x8 x7 x9) (k0_pay15 (k0_pay8 (F := Ideal) x0 x1 x5 x6) x2 x8 x7 x10) (k0_pay18 (k0_pay8 (F := Ideal) x0 x1 x5 x6) x2 x8 x7 x9) (ix2 j r) = E.act (wtsOf x5 x6 x7 x8 x9 x10 x11) (rowOf i x0 x1 x2 x3 x4 r) j := by
  rw [← pay19_at]
  pointwise [k0_pay20]

/-- The test of a row's place against the first token with a loss. -/
theorem on_bits (a b : EReal) : Scalar.select (IntOp.cmpi .sge
    (Scalar.select (IntOp.cmpi .sge (IntOp.addi (Scalar.muli (BitVec.ofNat 32 i.val) 256#32) (BitVec.ofNat 32 r.val)) 2176#32)
      (IntOp.subi (IntOp.addi (Scalar.muli (BitVec.ofNat 32 i.val) 256#32) (BitVec.ofNat 32 r.val)) 2176#32)
      (IntOp.addi (Scalar.muli (BitVec.ofNat 32 i.val) 256#32) (BitVec.ofNat 32 r.val))) 128#32) a b = if onAt i r then a else b := by
  have h : ∀ (i : Fin 17) (r : Fin 256), IntOp.cmpi .sge
    (Scalar.select (IntOp.cmpi .sge (IntOp.addi (Scalar.muli (BitVec.ofNat 32 i.val) 256#32) (BitVec.ofNat 32 r.val)) 2176#32)
      (IntOp.subi (IntOp.addi (Scalar.muli (BitVec.ofNat 32 i.val) 256#32) (BitVec.ofNat 32 r.val)) 2176#32)
      (IntOp.addi (Scalar.muli (BitVec.ofNat 32 i.val) 256#32) (BitVec.ofNat 32 r.val))) 128#32 = if onAt i r then 1#1 else 0#1 := by decide +kernel
  rw [h]; by_cases g : onAt i r <;> simp [g, Scalar.select]

/-- The error. -/
theorem pay21_at (c : Fin 1024) : k0_pay21 (BitVec.ofNat 32 i.val) (k0_pay10 (k0_pay8 (F := Ideal) x0 x1 x5 x6) x2 x8) (k0_pay14 (k0_pay8 (F := Ideal) x0 x1 x5 x6) x2 x8 x7 x9) (k0_pay15 (k0_pay8 (F := Ideal) x0 x1 x5 x6) x2 x8 x7 x10) (k0_pay18 (k0_pay8 (F := Ideal) x0 x1 x5 x6) x2 x8 x7 x9) x11 x3 x4 (ix2 r c) = E.err (wtsOf x5 x6 x7 x8 x9 x10 x11) (rowOf i x0 x1 x2 x3 x4 r) c := by
  unfold E.err E.y
  rw [← pay10_at]
  simp only [← pay19_at]
  pointwise [k0_pay21, wtsOf, rowOf]
  rw [on_bits]
  by_cases g : onAt i r <;> simp [g]

/-- The loss of a point. -/
theorem pay24_at (l : Fin 128) : k0_pay24 (k0_pay22 (F := Ideal)) (k0_pay23 (BitVec.ofNat 32 i.val) (k0_pay10 (k0_pay8 (F := Ideal) x0 x1 x5 x6) x2 x8) (k0_pay14 (k0_pay8 (F := Ideal) x0 x1 x5 x6) x2 x8 x7 x9) (k0_pay15 (k0_pay8 (F := Ideal) x0 x1 x5 x6) x2 x8 x7 x10) (k0_pay18 (k0_pay8 (F := Ideal) x0 x1 x5 x6) x2 x8 x7 x9) x11 x3 x4) (ix2 0 l) = Ideal.ofBits .f32 0x3A000000#32 * ∑ r, E.sq (wtsOf x5 x6 x7 x8 x9 x10 x11) (rowOf i x0 x1 x2 x3 x4 r) := by
  unfold E.sq
  simp only [← pay21_at]
  pointwise [k0_pay24, k0_pay23, k0_pay22]

/-- The loss after a point. -/
theorem pay25_at (xo : FVec Ideal S1x128 .f32) (l : Fin 128) : k0_pay25 (k0_pay22 (F := Ideal)) (k0_pay23 (BitVec.ofNat 32 i.val) (k0_pay10 (k0_pay8 (F := Ideal) x0 x1 x5 x6) x2 x8) (k0_pay14 (k0_pay8 (F := Ideal) x0 x1 x5 x6) x2 x8 x7 x9) (k0_pay15 (k0_pay8 (F := Ideal) x0 x1 x5 x6) x2 x8 x7 x10) (k0_pay18 (k0_pay8 (F := Ideal) x0 x1 x5 x6) x2 x8 x7 x9) x11 x3 x4) xo (ix2 0 l) = xo (ix2 0 l) + Ideal.ofBits .f32 0x3A000000#32 * ∑ r, E.sq (wtsOf x5 x6 x7 x8 x9 x10 x11) (rowOf i x0 x1 x2 x3 x4 r) := by
  unfold E.sq
  simp only [← pay21_at]
  pointwise [k0_pay25, k0_pay24, k0_pay23, k0_pay22]

/-- The output's gradient. -/
theorem pay26_at (c : Fin 1024) : k0_pay26 (k0_pay21 (BitVec.ofNat 32 i.val) (k0_pay10 (k0_pay8 (F := Ideal) x0 x1 x5 x6) x2 x8) (k0_pay14 (k0_pay8 (F := Ideal) x0 x1 x5 x6) x2 x8 x7 x9) (k0_pay15 (k0_pay8 (F := Ideal) x0 x1 x5 x6) x2 x8 x7 x10) (k0_pay18 (k0_pay8 (F := Ideal) x0 x1 x5 x6) x2 x8 x7 x9) x11 x3 x4) (ix2 r c) = E.dy (wtsOf x5 x6 x7 x8 x9 x10 x11) (rowOf i x0 x1 x2 x3 x4 r) c := by
  unfold E.dy
  rw [← pay21_at]
  pointwise [k0_pay26]

/-- The output's gradient, as it is kept. -/
theorem pay27_at (c : Fin 1024) : k0_pay27 (k0_pay21 (BitVec.ofNat 32 i.val) (k0_pay10 (k0_pay8 (F := Ideal) x0 x1 x5 x6) x2 x8) (k0_pay14 (k0_pay8 (F := Ideal) x0 x1 x5 x6) x2 x8 x7 x9) (k0_pay15 (k0_pay8 (F := Ideal) x0 x1 x5 x6) x2 x8 x7 x10) (k0_pay18 (k0_pay8 (F := Ideal) x0 x1 x5 x6) x2 x8 x7 x9) x11 x3 x4) (ix2 r c) = E.dy (wtsOf x5 x6 x7 x8 x9 x10 x11) (rowOf i x0 x1 x2 x3 x4 r) c := by
  rw [← pay26_at]
  pointwise [k0_pay27]

/-- The gated row's gradient. -/
theorem pay29_at (j : Fin 2816) : k0_pay29 (k0_pay21 (BitVec.ofNat 32 i.val) (k0_pay10 (k0_pay8 (F := Ideal) x0 x1 x5 x6) x2 x8) (k0_pay14 (k0_pay8 (F := Ideal) x0 x1 x5 x6) x2 x8 x7 x9) (k0_pay15 (k0_pay8 (F := Ideal) x0 x1 x5 x6) x2 x8 x7 x10) (k0_pay18 (k0_pay8 (F := Ideal) x0 x1 x5 x6) x2 x8 x7 x9) x11 x3 x4) x11 (ix2 r j) = E.dact (wtsOf x5 x6 x7 x8 x9 x10 x11) (rowOf i x0 x1 x2 x3 x4 r) j := by
  unfold E.dact
  simp only [← pay27_at]
  pointwise [k0_pay29, wtsOf]

/-- The logistic function of the gate. -/
theorem pay30_at (j : Fin 2816) : k0_pay30 (k0_pay16 (k0_pay8 (F := Ideal) x0 x1 x5 x6) x2 x8 x7 x9) (ix2 r j) = E.sig (E.gate (wtsOf x5 x6 x7 x8 x9 x10 x11) (rowOf i x0 x1 x2 x3 x4 r) j) := by
  unfold E.sig
  rw [← pay16_at]
  pointwise [k0_pay30]

/-- The gate's gradient. -/
theorem pay31_at (j : Fin 2816) : k0_pay31 (k0_pay21 (BitVec.ofNat 32 i.val) (k0_pay10 (k0_pay8 (F := Ideal) x0 x1 x5 x6) x2 x8) (k0_pay14 (k0_pay8 (F := Ideal) x0 x1 x5 x6) x2 x8 x7 x9) (k0_pay15 (k0_pay8 (F := Ideal) x0 x1 x5 x6) x2 x8 x7 x10) (k0_pay18 (k0_pay8 (F := Ideal) x0 x1 x5 x6) x2 x8 x7 x9) x11 x3 x4) x11 (k0_pay16 (k0_pay8 (F := Ideal) x0 x1 x5 x6) x2 x8 x7 x9) (k0_pay17 (k0_pay8 (F := Ideal) x0 x1 x5 x6) x2 x8 x7 x10) (ix2 r j) = E.dgate (wtsOf x5 x6 x7 x8 x9 x10 x11) (rowOf i x0 x1 x2 x3 x4 r) j := by
  unfold E.dgate
  rw [← pay29_at, ← pay30_at, ← pay16_at, ← pay17_at]
  pointwise [k0_pay31]

/-- The other projection's gradient. -/
theorem pay32_at (j : Fin 2816) : k0_pay32 (k0_pay21 (BitVec.ofNat 32 i.val) (k0_pay10 (k0_pay8 (F := Ideal) x0 x1 x5 x6) x2 x8) (k0_pay14 (k0_pay8 (F := Ideal) x0 x1 x5 x6) x2 x8 x7 x9) (k0_pay15 (k0_pay8 (F := Ideal) x0 x1 x5 x6) x2 x8 x7 x10) (k0_pay18 (k0_pay8 (F := Ideal) x0 x1 x5 x6) x2 x8 x7 x9) x11 x3 x4) x11 (k0_pay16 (k0_pay8 (F := Ideal) x0 x1 x5 x6) x2 x8 x7 x9) (ix2 r j) = E.dup (wtsOf x5 x6 x7 x8 x9 x10 x11) (rowOf i x0 x1 x2 x3 x4 r) j := by
  unfold E.dup
  rw [← pay29_at, ← pay30_at, ← pay16_at]
  pointwise [k0_pay32]

/-- The gate's gradient, transposed. -/
theorem pay33_at (j : Fin 2816) : k0_pay33 (k0_pay21 (BitVec.ofNat 32 i.val) (k0_pay10 (k0_pay8 (F := Ideal) x0 x1 x5 x6) x2 x8) (k0_pay14 (k0_pay8 (F := Ideal) x0 x1 x5 x6) x2 x8 x7 x9) (k0_pay15 (k0_pay8 (F := Ideal) x0 x1 x5 x6) x2 x8 x7 x10) (k0_pay18 (k0_pay8 (F := Ideal) x0 x1 x5 x6) x2 x8 x7 x9) x11 x3 x4) x11 (k0_pay16 (k0_pay8 (F := Ideal) x0 x1 x5 x6) x2 x8 x7 x9) (k0_pay17 (k0_pay8 (F := Ideal) x0 x1 x5 x6) x2 x8 x7 x10) (ix2 j r) = E.dgate (wtsOf x5 x6 x7 x8 x9 x10 x11) (rowOf i x0 x1 x2 x3 x4 r) j := by
  rw [← pay31_at]
  pointwise [k0_pay33]

/-- The other projection's gradient, transposed. -/
theorem pay34_at (j : Fin 2816) : k0_pay34 (k0_pay32 (k0_pay21 (BitVec.ofNat 32 i.val) (k0_pay10 (k0_pay8 (F := Ideal) x0 x1 x5 x6) x2 x8) (k0_pay14 (k0_pay8 (F := Ideal) x0 x1 x5 x6) x2 x8 x7 x9) (k0_pay15 (k0_pay8 (F := Ideal) x0 x1 x5 x6) x2 x8 x7 x10) (k0_pay18 (k0_pay8 (F := Ideal) x0 x1 x5 x6) x2 x8 x7 x9) x11 x3 x4) x11 (k0_pay16 (k0_pay8 (F := Ideal) x0 x1 x5 x6) x2 x8 x7 x9)) (ix2 j r) = E.dup (wtsOf x5 x6 x7 x8 x9 x10 x11) (rowOf i x0 x1 x2 x3 x4 r) j := by
  rw [← pay32_at]
  pointwise [k0_pay34]

/-- The normed row's gradient. -/
theorem pay35_at (c : Fin 1024) : k0_pay35 (k0_pay28 (F := Ideal)) (k0_pay31 (k0_pay21 (BitVec.ofNat 32 i.val) (k0_pay10 (k0_pay8 (F := Ideal) x0 x1 x5 x6) x2 x8) (k0_pay14 (k0_pay8 (F := Ideal) x0 x1 x5 x6) x2 x8 x7 x9) (k0_pay15 (k0_pay8 (F := Ideal) x0 x1 x5 x6) x2 x8 x7 x10) (k0_pay18 (k0_pay8 (F := Ideal) x0 x1 x5 x6) x2 x8 x7 x9) x11 x3 x4) x11 (k0_pay16 (k0_pay8 (F := Ideal) x0 x1 x5 x6) x2 x8 x7 x9) (k0_pay17 (k0_pay8 (F := Ideal) x0 x1 x5 x6) x2 x8 x7 x10)) (k0_pay32 (k0_pay21 (BitVec.ofNat 32 i.val) (k0_pay10 (k0_pay8 (F := Ideal) x0 x1 x5 x6) x2 x8) (k0_pay14 (k0_pay8 (F := Ideal) x0 x1 x5 x6) x2 x8 x7 x9) (k0_pay15 (k0_pay8 (F := Ideal) x0 x1 x5 x6) x2 x8 x7 x10) (k0_pay18 (k0_pay8 (F := Ideal) x0 x1 x5 x6) x2 x8 x7 x9) x11 x3 x4) x11 (k0_pay16 (k0_pay8 (F := Ideal) x0 x1 x5 x6) x2 x8 x7 x9)) x9 x10 (ix2 r c) = E.dhn (wtsOf x5 x6 x7 x8 x9 x10 x11) (rowOf i x0 x1 x2 x3 x4 r) c := by
  unfold E.dhn
  simp only [← pay31_at, ← pay32_at]
  pointwise [k0_pay35, k0_pay28, wtsOf]

/-- The norm's scale's gradient of a point. -/
theorem pay36_at (c : Fin 1024) : k0_pay36 (k0_pay12 (k0_pay8 (F := Ideal) x0 x1 x5 x6) x2 x8) (k0_pay28 (F := Ideal)) (k0_pay31 (k0_pay21 (BitVec.ofNat 32 i.val) (k0_pay10 (k0_pay8 (F := Ideal) x0 x1 x5 x6) x2 x8) (k0_pay14 (k0_pay8 (F := Ideal) x0 x1 x5 x6) x2 x8 x7 x9) (k0_pay15 (k0_pay8 (F := Ideal) x0 x1 x5 x6) x2 x8 x7 x10) (k0_pay18 (k0_pay8 (F := Ideal) x0 x1 x5 x6) x2 x8 x7 x9) x11 x3 x4) x11 (k0_pay16 (k0_pay8 (F := Ideal) x0 x1 x5 x6) x2 x8 x7 x9) (k0_pay17 (k0_pay8 (F := Ideal) x0 x1 x5 x6) x2 x8 x7 x10)) (k0_pay32 (k0_pay21 (BitVec.ofNat 32 i.val) (k0_pay10 (k0_pay8 (F := Ideal) x0 x1 x5 x6) x2 x8) (k0_pay14 (k0_pay8 (F := Ideal) x0 x1 x5 x6) x2 x8 x7 x9) (k0_pay15 (k0_pay8 (F := Ideal) x0 x1 x5 x6) x2 x8 x7 x10) (k0_pay18 (k0_pay8 (F := Ideal) x0 x1 x5 x6) x2 x8 x7 x9) x11 x3 x4) x11 (k0_pay16 (k0_pay8 (F := Ideal) x0 x1 x5 x6) x2 x8 x7 x9)) x9 x10 (ix2 0 c) = ∑ r, E.dg2 (wtsOf x5 x6 x7 x8 x9 x10 x11) (rowOf i x0 x1 x2 x3 x4 r) c := by
  unfold E.dg2
  simp only [← pay35_at, ← pay12_at]
  pointwise [k0_pay36]

/-- The norm's scale's gradient after a point. -/
theorem pay37_at (xo : FVec Ideal S1x1024 .f32) (c : Fin 1024) : k0_pay37 (k0_pay12 (k0_pay8 (F := Ideal) x0 x1 x5 x6) x2 x8) (k0_pay28 (F := Ideal)) (k0_pay31 (k0_pay21 (BitVec.ofNat 32 i.val) (k0_pay10 (k0_pay8 (F := Ideal) x0 x1 x5 x6) x2 x8) (k0_pay14 (k0_pay8 (F := Ideal) x0 x1 x5 x6) x2 x8 x7 x9) (k0_pay15 (k0_pay8 (F := Ideal) x0 x1 x5 x6) x2 x8 x7 x10) (k0_pay18 (k0_pay8 (F := Ideal) x0 x1 x5 x6) x2 x8 x7 x9) x11 x3 x4) x11 (k0_pay16 (k0_pay8 (F := Ideal) x0 x1 x5 x6) x2 x8 x7 x9) (k0_pay17 (k0_pay8 (F := Ideal) x0 x1 x5 x6) x2 x8 x7 x10)) (k0_pay32 (k0_pay21 (BitVec.ofNat 32 i.val) (k0_pay10 (k0_pay8 (F := Ideal) x0 x1 x5 x6) x2 x8) (k0_pay14 (k0_pay8 (F := Ideal) x0 x1 x5 x6) x2 x8 x7 x9) (k0_pay15 (k0_pay8 (F := Ideal) x0 x1 x5 x6) x2 x8 x7 x10) (k0_pay18 (k0_pay8 (F := Ideal) x0 x1 x5 x6) x2 x8 x7 x9) x11 x3 x4) x11 (k0_pay16 (k0_pay8 (F := Ideal) x0 x1 x5 x6) x2 x8 x7 x9)) x9 x10 xo (ix2 0 c) = xo (ix2 0 c) + ∑ r, E.dg2 (wtsOf x5 x6 x7 x8 x9 x10 x11) (rowOf i x0 x1 x2 x3 x4 r) c := by
  unfold E.dg2
  simp only [← pay35_at, ← pay12_at]
  pointwise [k0_pay37, k0_pay36]

/-- The residual stream's gradient. -/
theorem pay38_at (c : Fin 1024) : k0_pay38 (k0_pay11 (k0_pay8 (F := Ideal) x0 x1 x5 x6) x2 x8) (k0_pay12 (k0_pay8 (F := Ideal) x0 x1 x5 x6) x2 x8) (k0_pay26 (k0_pay21 (BitVec.ofNat 32 i.val) (k0_pay10 (k0_pay8 (F := Ideal) x0 x1 x5 x6) x2 x8) (k0_pay14 (k0_pay8 (F := Ideal) x0 x1 x5 x6) x2 x8 x7 x9) (k0_pay15 (k0_pay8 (F := Ideal) x0 x1 x5 x6) x2 x8 x7 x10) (k0_pay18 (k0_pay8 (F := Ideal) x0 x1 x5 x6) x2 x8 x7 x9) x11 x3 x4)) (k0_pay28 (F := Ideal)) (k0_pay31 (k0_pay21 (BitVec.ofNat 32 i.val) (k0_pay10 (k0_pay8 (F := Ideal) x0 x1 x5 x6) x2 x8) (k0_pay14 (k0_pay8 (F := Ideal) x0 x1 x5 x6) x2 x8 x7 x9) (k0_pay15 (k0_pay8 (F := Ideal) x0 x1 x5 x6) x2 x8 x7 x10) (k0_pay18 (k0_pay8 (F := Ideal) x0 x1 x5 x6) x2 x8 x7 x9) x11 x3 x4) x11 (k0_pay16 (k0_pay8 (F := Ideal) x0 x1 x5 x6) x2 x8 x7 x9) (k0_pay17 (k0_pay8 (F := Ideal) x0 x1 x5 x6) x2 x8 x7 x10)) (k0_pay32 (k0_pay21 (BitVec.ofNat 32 i.val) (k0_pay10 (k0_pay8 (F := Ideal) x0 x1 x5 x6) x2 x8) (k0_pay14 (k0_pay8 (F := Ideal) x0 x1 x5 x6) x2 x8 x7 x9) (k0_pay15 (k0_pay8 (F := Ideal) x0 x1 x5 x6) x2 x8 x7 x10) (k0_pay18 (k0_pay8 (F := Ideal) x0 x1 x5 x6) x2 x8 x7 x9) x11 x3 x4) x11 (k0_pay16 (k0_pay8 (F := Ideal) x0 x1 x5 x6) x2 x8 x7 x9)) x9 x10 x7 (ix2 r c) = E.dh1 (wtsOf x5 x6 x7 x8 x9 x10 x11) (rowOf i x0 x1 x2 x3 x4 r) c := by
  unfold E.dh1 E.back
  simp only [← pay26_at, ← pay35_at, ← pay11_at, ← pay12_at]
  pointwise [k0_pay38, wtsOf]

/-- The mixed heads' gradient. -/
theorem pay39_at (k : Fin 1024) : k0_pay39 (k0_pay38 (k0_pay11 (k0_pay8 (F := Ideal) x0 x1 x5 x6) x2 x8) (k0_pay12 (k0_pay8 (F := Ideal) x0 x1 x5 x6) x2 x8) (k0_pay26 (k0_pay21 (BitVec.ofNat 32 i.val) (k0_pay10 (k0_pay8 (F := Ideal) x0 x1 x5 x6) x2 x8) (k0_pay14 (k0_pay8 (F := Ideal) x0 x1 x5 x6) x2 x8 x7 x9) (k0_pay15 (k0_pay8 (F := Ideal) x0 x1 x5 x6) x2 x8 x7 x10) (k0_pay18 (k0_pay8 (F := Ideal) x0 x1 x5 x6) x2 x8 x7 x9) x11 x3 x4)) (k0_pay28 (F := Ideal)) (k0_pay31 (k0_pay21 (BitVec.ofNat 32 i.val) (k0_pay10 (k0_pay8 (F := Ideal) x0 x1 x5 x6) x2 x8) (k0_pay14 (k0_pay8 (F := Ideal) x0 x1 x5 x6) x2 x8 x7 x9) (k0_pay15 (k0_pay8 (F := Ideal) x0 x1 x5 x6) x2 x8 x7 x10) (k0_pay18 (k0_pay8 (F := Ideal) x0 x1 x5 x6) x2 x8 x7 x9) x11 x3 x4) x11 (k0_pay16 (k0_pay8 (F := Ideal) x0 x1 x5 x6) x2 x8 x7 x9) (k0_pay17 (k0_pay8 (F := Ideal) x0 x1 x5 x6) x2 x8 x7 x10)) (k0_pay32 (k0_pay21 (BitVec.ofNat 32 i.val) (k0_pay10 (k0_pay8 (F := Ideal) x0 x1 x5 x6) x2 x8) (k0_pay14 (k0_pay8 (F := Ideal) x0 x1 x5 x6) x2 x8 x7 x9) (k0_pay15 (k0_pay8 (F := Ideal) x0 x1 x5 x6) x2 x8 x7 x10) (k0_pay18 (k0_pay8 (F := Ideal) x0 x1 x5 x6) x2 x8 x7 x9) x11 x3 x4) x11 (k0_pay16 (k0_pay8 (F := Ideal) x0 x1 x5 x6) x2 x8 x7 x9)) x9 x10 x7) x8 (ix2 r k) = E.dmix (wtsOf x5 x6 x7 x8 x9 x10 x11) (rowOf i x0 x1 x2 x3 x4 r) k := by
  unfold E.dmix
  simp only [← pay38_at]
  pointwise [k0_pay39, wtsOf]

/-- The first heads' part of it. -/
theorem pay40_at (k : Fin 512) : k0_pay40 (k0_pay38 (k0_pay11 (k0_pay8 (F := Ideal) x0 x1 x5 x6) x2 x8) (k0_pay12 (k0_pay8 (F := Ideal) x0 x1 x5 x6) x2 x8) (k0_pay26 (k0_pay21 (BitVec.ofNat 32 i.val) (k0_pay10 (k0_pay8 (F := Ideal) x0 x1 x5 x6) x2 x8) (k0_pay14 (k0_pay8 (F := Ideal) x0 x1 x5 x6) x2 x8 x7 x9) (k0_pay15 (k0_pay8 (F := Ideal) x0 x1 x5 x6) x2 x8 x7 x10) (k0_pay18 (k0_pay8 (F := Ideal) x0 x1 x5 x6) x2 x8 x7 x9) x11 x3 x4)) (k0_pay28 (F := Ideal)) (k0_pay31 (k0_pay21 (BitVec.ofNat 32 i.val) (k0_pay10 (k0_pay8 (F := Ideal) x0 x1 x5 x6) x2 x8) (k0_pay14 (k0_pay8 (F := Ideal) x0 x1 x5 x6) x2 x8 x7 x9) (k0_pay15 (k0_pay8 (F := Ideal) x0 x1 x5 x6) x2 x8 x7 x10) (k0_pay18 (k0_pay8 (F := Ideal) x0 x1 x5 x6) x2 x8 x7 x9) x11 x3 x4) x11 (k0_pay16 (k0_pay8 (F := Ideal) x0 x1 x5 x6) x2 x8 x7 x9) (k0_pay17 (k0_pay8 (F := Ideal) x0 x1 x5 x6) x2 x8 x7 x10)) (k0_pay32 (k0_pay21 (BitVec.ofNat 32 i.val) (k0_pay10 (k0_pay8 (F := Ideal) x0 x1 x5 x6) x2 x8) (k0_pay14 (k0_pay8 (F := Ideal) x0 x1 x5 x6) x2 x8 x7 x9) (k0_pay15 (k0_pay8 (F := Ideal) x0 x1 x5 x6) x2 x8 x7 x10) (k0_pay18 (k0_pay8 (F := Ideal) x0 x1 x5 x6) x2 x8 x7 x9) x11 x3 x4) x11 (k0_pay16 (k0_pay8 (F := Ideal) x0 x1 x5 x6) x2 x8 x7 x9)) x9 x10 x7) x8 (ix2 r k) = E.dma (wtsOf x5 x6 x7 x8 x9 x10 x11) (rowOf i x0 x1 x2 x3 x4 r) k := by
  unfold E.dma
  rw [← pay39_at]
  pointwise [k0_pay40]

/-- The second heads' part of it. -/
theorem pay41_at (k : Fin 512) : k0_pay41 (k0_pay38 (k0_pay11 (k0_pay8 (F := Ideal) x0 x1 x5 x6) x2 x8) (k0_pay12 (k0_pay8 (F := Ideal) x0 x1 x5 x6) x2 x8) (k0_pay26 (k0_pay21 (BitVec.ofNat 32 i.val) (k0_pay10 (k0_pay8 (F := Ideal) x0 x1 x5 x6) x2 x8) (k0_pay14 (k0_pay8 (F := Ideal) x0 x1 x5 x6) x2 x8 x7 x9) (k0_pay15 (k0_pay8 (F := Ideal) x0 x1 x5 x6) x2 x8 x7 x10) (k0_pay18 (k0_pay8 (F := Ideal) x0 x1 x5 x6) x2 x8 x7 x9) x11 x3 x4)) (k0_pay28 (F := Ideal)) (k0_pay31 (k0_pay21 (BitVec.ofNat 32 i.val) (k0_pay10 (k0_pay8 (F := Ideal) x0 x1 x5 x6) x2 x8) (k0_pay14 (k0_pay8 (F := Ideal) x0 x1 x5 x6) x2 x8 x7 x9) (k0_pay15 (k0_pay8 (F := Ideal) x0 x1 x5 x6) x2 x8 x7 x10) (k0_pay18 (k0_pay8 (F := Ideal) x0 x1 x5 x6) x2 x8 x7 x9) x11 x3 x4) x11 (k0_pay16 (k0_pay8 (F := Ideal) x0 x1 x5 x6) x2 x8 x7 x9) (k0_pay17 (k0_pay8 (F := Ideal) x0 x1 x5 x6) x2 x8 x7 x10)) (k0_pay32 (k0_pay21 (BitVec.ofNat 32 i.val) (k0_pay10 (k0_pay8 (F := Ideal) x0 x1 x5 x6) x2 x8) (k0_pay14 (k0_pay8 (F := Ideal) x0 x1 x5 x6) x2 x8 x7 x9) (k0_pay15 (k0_pay8 (F := Ideal) x0 x1 x5 x6) x2 x8 x7 x10) (k0_pay18 (k0_pay8 (F := Ideal) x0 x1 x5 x6) x2 x8 x7 x9) x11 x3 x4) x11 (k0_pay16 (k0_pay8 (F := Ideal) x0 x1 x5 x6) x2 x8 x7 x9)) x9 x10 x7) x8 (ix2 r k) = E.dmr (wtsOf x5 x6 x7 x8 x9 x10 x11) (rowOf i x0 x1 x2 x3 x4 r) k := by
  unfold E.dmr
  rw [← pay39_at]
  pointwise [k0_pay41]

/-- The first heads' scale's gradient of a point. -/
theorem pay42_at (k : Fin 512) : k0_pay42 (k0_pay4 (F := Ideal) x0) (k0_pay38 (k0_pay11 (k0_pay8 (F := Ideal) x0 x1 x5 x6) x2 x8) (k0_pay12 (k0_pay8 (F := Ideal) x0 x1 x5 x6) x2 x8) (k0_pay26 (k0_pay21 (BitVec.ofNat 32 i.val) (k0_pay10 (k0_pay8 (F := Ideal) x0 x1 x5 x6) x2 x8) (k0_pay14 (k0_pay8 (F := Ideal) x0 x1 x5 x6) x2 x8 x7 x9) (k0_pay15 (k0_pay8 (F := Ideal) x0 x1 x5 x6) x2 x8 x7 x10) (k0_pay18 (k0_pay8 (F := Ideal) x0 x1 x5 x6) x2 x8 x7 x9) x11 x3 x4)) (k0_pay28 (F := Ideal)) (k0_pay31 (k0_pay21 (BitVec.ofNat 32 i.val) (k0_pay10 (k0_pay8 (F := Ideal) x0 x1 x5 x6) x2 x8) (k0_pay14 (k0_pay8 (F := Ideal) x0 x1 x5 x6) x2 x8 x7 x9) (k0_pay15 (k0_pay8 (F := Ideal) x0 x1 x5 x6) x2 x8 x7 x10) (k0_pay18 (k0_pay8 (F := Ideal) x0 x1 x5 x6) x2 x8 x7 x9) x11 x3 x4) x11 (k0_pay16 (k0_pay8 (F := Ideal) x0 x1 x5 x6) x2 x8 x7 x9) (k0_pay17 (k0_pay8 (F := Ideal) x0 x1 x5 x6) x2 x8 x7 x10)) (k0_pay32 (k0_pay21 (BitVec.ofNat 32 i.val) (k0_pay10 (k0_pay8 (F := Ideal) x0 x1 x5 x6) x2 x8) (k0_pay14 (k0_pay8 (F := Ideal) x0 x1 x5 x6) x2 x8 x7 x9) (k0_pay15 (k0_pay8 (F := Ideal) x0 x1 x5 x6) x2 x8 x7 x10) (k0_pay18 (k0_pay8 (F := Ideal) x0 x1 x5 x6) x2 x8 x7 x9) x11 x3 x4) x11 (k0_pay16 (k0_pay8 (F := Ideal) x0 x1 x5 x6) x2 x8 x7 x9)) x9 x10 x7) x8 (ix2 0 k) = ∑ r, E.dga (wtsOf x5 x6 x7 x8 x9 x10 x11) (rowOf i x0 x1 x2 x3 x4 r) k := by
  unfold E.dga
  simp only [← pay40_at, ← pay4_at, rowOf_oa]
  pointwise [k0_pay42]

/-- The first heads' scale's gradient after a point. -/
theorem pay43_at (xo : FVec Ideal S1x512 .f32) (k : Fin 512) : k0_pay43 (k0_pay4 (F := Ideal) x0) (k0_pay38 (k0_pay11 (k0_pay8 (F := Ideal) x0 x1 x5 x6) x2 x8) (k0_pay12 (k0_pay8 (F := Ideal) x0 x1 x5 x6) x2 x8) (k0_pay26 (k0_pay21 (BitVec.ofNat 32 i.val) (k0_pay10 (k0_pay8 (F := Ideal) x0 x1 x5 x6) x2 x8) (k0_pay14 (k0_pay8 (F := Ideal) x0 x1 x5 x6) x2 x8 x7 x9) (k0_pay15 (k0_pay8 (F := Ideal) x0 x1 x5 x6) x2 x8 x7 x10) (k0_pay18 (k0_pay8 (F := Ideal) x0 x1 x5 x6) x2 x8 x7 x9) x11 x3 x4)) (k0_pay28 (F := Ideal)) (k0_pay31 (k0_pay21 (BitVec.ofNat 32 i.val) (k0_pay10 (k0_pay8 (F := Ideal) x0 x1 x5 x6) x2 x8) (k0_pay14 (k0_pay8 (F := Ideal) x0 x1 x5 x6) x2 x8 x7 x9) (k0_pay15 (k0_pay8 (F := Ideal) x0 x1 x5 x6) x2 x8 x7 x10) (k0_pay18 (k0_pay8 (F := Ideal) x0 x1 x5 x6) x2 x8 x7 x9) x11 x3 x4) x11 (k0_pay16 (k0_pay8 (F := Ideal) x0 x1 x5 x6) x2 x8 x7 x9) (k0_pay17 (k0_pay8 (F := Ideal) x0 x1 x5 x6) x2 x8 x7 x10)) (k0_pay32 (k0_pay21 (BitVec.ofNat 32 i.val) (k0_pay10 (k0_pay8 (F := Ideal) x0 x1 x5 x6) x2 x8) (k0_pay14 (k0_pay8 (F := Ideal) x0 x1 x5 x6) x2 x8 x7 x9) (k0_pay15 (k0_pay8 (F := Ideal) x0 x1 x5 x6) x2 x8 x7 x10) (k0_pay18 (k0_pay8 (F := Ideal) x0 x1 x5 x6) x2 x8 x7 x9) x11 x3 x4) x11 (k0_pay16 (k0_pay8 (F := Ideal) x0 x1 x5 x6) x2 x8 x7 x9)) x9 x10 x7) x8 xo (ix2 0 k) = xo (ix2 0 k) + ∑ r, E.dga (wtsOf x5 x6 x7 x8 x9 x10 x11) (rowOf i x0 x1 x2 x3 x4 r) k := by
  unfold E.dga
  simp only [← pay40_at, ← pay4_at, rowOf_oa]
  pointwise [k0_pay43, k0_pay42]

/-- The second heads' scale's gradient of a point. -/
theorem pay44_at (k : Fin 512) : k0_pay44 (k0_pay7 (F := Ideal) x1) (k0_pay38 (k0_pay11 (k0_pay8 (F := Ideal) x0 x1 x5 x6) x2 x8) (k0_pay12 (k0_pay8 (F := Ideal) x0 x1 x5 x6) x2 x8) (k0_pay26 (k0_pay21 (BitVec.ofNat 32 i.val) (k0_pay10 (k0_pay8 (F := Ideal) x0 x1 x5 x6) x2 x8) (k0_pay14 (k0_pay8 (F := Ideal) x0 x1 x5 x6) x2 x8 x7 x9) (k0_pay15 (k0_pay8 (F := Ideal) x0 x1 x5 x6) x2 x8 x7 x10) (k0_pay18 (k0_pay8 (F := Ideal) x0 x1 x5 x6) x2 x8 x7 x9) x11 x3 x4)) (k0_pay28 (F := Ideal)) (k0_pay31 (k0_pay21 (BitVec.ofNat 32 i.val) (k0_pay10 (k0_pay8 (F := Ideal) x0 x1 x5 x6) x2 x8) (k0_pay14 (k0_pay8 (F := Ideal) x0 x1 x5 x6) x2 x8 x7 x9) (k0_pay15 (k0_pay8 (F := Ideal) x0 x1 x5 x6) x2 x8 x7 x10) (k0_pay18 (k0_pay8 (F := Ideal) x0 x1 x5 x6) x2 x8 x7 x9) x11 x3 x4) x11 (k0_pay16 (k0_pay8 (F := Ideal) x0 x1 x5 x6) x2 x8 x7 x9) (k0_pay17 (k0_pay8 (F := Ideal) x0 x1 x5 x6) x2 x8 x7 x10)) (k0_pay32 (k0_pay21 (BitVec.ofNat 32 i.val) (k0_pay10 (k0_pay8 (F := Ideal) x0 x1 x5 x6) x2 x8) (k0_pay14 (k0_pay8 (F := Ideal) x0 x1 x5 x6) x2 x8 x7 x9) (k0_pay15 (k0_pay8 (F := Ideal) x0 x1 x5 x6) x2 x8 x7 x10) (k0_pay18 (k0_pay8 (F := Ideal) x0 x1 x5 x6) x2 x8 x7 x9) x11 x3 x4) x11 (k0_pay16 (k0_pay8 (F := Ideal) x0 x1 x5 x6) x2 x8 x7 x9)) x9 x10 x7) x8 (ix2 0 k) = ∑ r, E.dgr (wtsOf x5 x6 x7 x8 x9 x10 x11) (rowOf i x0 x1 x2 x3 x4 r) k := by
  unfold E.dgr
  simp only [← pay41_at, ← pay7_at, rowOf_orn]
  pointwise [k0_pay44]

/-- The second heads' scale's gradient after a point. -/
theorem pay45_at (xo : FVec Ideal S1x512 .f32) (k : Fin 512) : k0_pay45 (k0_pay7 (F := Ideal) x1) (k0_pay38 (k0_pay11 (k0_pay8 (F := Ideal) x0 x1 x5 x6) x2 x8) (k0_pay12 (k0_pay8 (F := Ideal) x0 x1 x5 x6) x2 x8) (k0_pay26 (k0_pay21 (BitVec.ofNat 32 i.val) (k0_pay10 (k0_pay8 (F := Ideal) x0 x1 x5 x6) x2 x8) (k0_pay14 (k0_pay8 (F := Ideal) x0 x1 x5 x6) x2 x8 x7 x9) (k0_pay15 (k0_pay8 (F := Ideal) x0 x1 x5 x6) x2 x8 x7 x10) (k0_pay18 (k0_pay8 (F := Ideal) x0 x1 x5 x6) x2 x8 x7 x9) x11 x3 x4)) (k0_pay28 (F := Ideal)) (k0_pay31 (k0_pay21 (BitVec.ofNat 32 i.val) (k0_pay10 (k0_pay8 (F := Ideal) x0 x1 x5 x6) x2 x8) (k0_pay14 (k0_pay8 (F := Ideal) x0 x1 x5 x6) x2 x8 x7 x9) (k0_pay15 (k0_pay8 (F := Ideal) x0 x1 x5 x6) x2 x8 x7 x10) (k0_pay18 (k0_pay8 (F := Ideal) x0 x1 x5 x6) x2 x8 x7 x9) x11 x3 x4) x11 (k0_pay16 (k0_pay8 (F := Ideal) x0 x1 x5 x6) x2 x8 x7 x9) (k0_pay17 (k0_pay8 (F := Ideal) x0 x1 x5 x6) x2 x8 x7 x10)) (k0_pay32 (k0_pay21 (BitVec.ofNat 32 i.val) (k0_pay10 (k0_pay8 (F := Ideal) x0 x1 x5 x6) x2 x8) (k0_pay14 (k0_pay8 (F := Ideal) x0 x1 x5 x6) x2 x8 x7 x9) (k0_pay15 (k0_pay8 (F := Ideal) x0 x1 x5 x6) x2 x8 x7 x10) (k0_pay18 (k0_pay8 (F := Ideal) x0 x1 x5 x6) x2 x8 x7 x9) x11 x3 x4) x11 (k0_pay16 (k0_pay8 (F := Ideal) x0 x1 x5 x6) x2 x8 x7 x9)) x9 x10 x7) x8 xo (ix2 0 k) = xo (ix2 0 k) + ∑ r, E.dgr (wtsOf x5 x6 x7 x8 x9 x10 x11) (rowOf i x0 x1 x2 x3 x4 r) k := by
  unfold E.dgr
  simp only [← pay41_at, ← pay7_at, rowOf_orn]
  pointwise [k0_pay45, k0_pay44]

/-- The first heads' gradient. -/
theorem pay46_at (k : Fin 512) : k0_pay46 (k0_pay3 (F := Ideal) x0) (k0_pay4 (F := Ideal) x0) (k0_pay38 (k0_pay11 (k0_pay8 (F := Ideal) x0 x1 x5 x6) x2 x8) (k0_pay12 (k0_pay8 (F := Ideal) x0 x1 x5 x6) x2 x8) (k0_pay26 (k0_pay21 (BitVec.ofNat 32 i.val) (k0_pay10 (k0_pay8 (F := Ideal) x0 x1 x5 x6) x2 x8) (k0_pay14 (k0_pay8 (F := Ideal) x0 x1 x5 x6) x2 x8 x7 x9) (k0_pay15 (k0_pay8 (F := Ideal) x0 x1 x5 x6) x2 x8 x7 x10) (k0_pay18 (k0_pay8 (F := Ideal) x0 x1 x5 x6) x2 x8 x7 x9) x11 x3 x4)) (k0_pay28 (F := Ideal)) (k0_pay31 (k0_pay21 (BitVec.ofNat 32 i.val) (k0_pay10 (k0_pay8 (F := Ideal) x0 x1 x5 x6) x2 x8) (k0_pay14 (k0_pay8 (F := Ideal) x0 x1 x5 x6) x2 x8 x7 x9) (k0_pay15 (k0_pay8 (F := Ideal) x0 x1 x5 x6) x2 x8 x7 x10) (k0_pay18 (k0_pay8 (F := Ideal) x0 x1 x5 x6) x2 x8 x7 x9) x11 x3 x4) x11 (k0_pay16 (k0_pay8 (F := Ideal) x0 x1 x5 x6) x2 x8 x7 x9) (k0_pay17 (k0_pay8 (F := Ideal) x0 x1 x5 x6) x2 x8 x7 x10)) (k0_pay32 (k0_pay21 (BitVec.ofNat 32 i.val) (k0_pay10 (k0_pay8 (F := Ideal) x0 x1 x5 x6) x2 x8) (k0_pay14 (k0_pay8 (F := Ideal) x0 x1 x5 x6) x2 x8 x7 x9) (k0_pay15 (k0_pay8 (F := Ideal) x0 x1 x5 x6) x2 x8 x7 x10) (k0_pay18 (k0_pay8 (F := Ideal) x0 x1 x5 x6) x2 x8 x7 x9) x11 x3 x4) x11 (k0_pay16 (k0_pay8 (F := Ideal) x0 x1 x5 x6) x2 x8 x7 x9)) x9 x10 x7) x8 x5 (ix2 r k) = E.doa (wtsOf x5 x6 x7 x8 x9 x10 x11) (rowOf i x0 x1 x2 x3 x4 r) k := by
  unfold E.doa E.back
  simp only [← pay40_at, rowOf_oa, ← pay3_at, ← pay4_at]
  pointwise [k0_pay46, wtsOf]

/-- The second heads' gradient. -/
theorem pay1_at (k : Fin 512) : k0_pay1 (k0_pay6 (F := Ideal) x1) (k0_pay7 (F := Ideal) x1) (k0_pay41 (k0_pay38 (k0_pay11 (k0_pay8 (F := Ideal) x0 x1 x5 x6) x2 x8) (k0_pay12 (k0_pay8 (F := Ideal) x0 x1 x5 x6) x2 x8) (k0_pay26 (k0_pay21 (BitVec.ofNat 32 i.val) (k0_pay10 (k0_pay8 (F := Ideal) x0 x1 x5 x6) x2 x8) (k0_pay14 (k0_pay8 (F := Ideal) x0 x1 x5 x6) x2 x8 x7 x9) (k0_pay15 (k0_pay8 (F := Ideal) x0 x1 x5 x6) x2 x8 x7 x10) (k0_pay18 (k0_pay8 (F := Ideal) x0 x1 x5 x6) x2 x8 x7 x9) x11 x3 x4)) (k0_pay28 (F := Ideal)) (k0_pay31 (k0_pay21 (BitVec.ofNat 32 i.val) (k0_pay10 (k0_pay8 (F := Ideal) x0 x1 x5 x6) x2 x8) (k0_pay14 (k0_pay8 (F := Ideal) x0 x1 x5 x6) x2 x8 x7 x9) (k0_pay15 (k0_pay8 (F := Ideal) x0 x1 x5 x6) x2 x8 x7 x10) (k0_pay18 (k0_pay8 (F := Ideal) x0 x1 x5 x6) x2 x8 x7 x9) x11 x3 x4) x11 (k0_pay16 (k0_pay8 (F := Ideal) x0 x1 x5 x6) x2 x8 x7 x9) (k0_pay17 (k0_pay8 (F := Ideal) x0 x1 x5 x6) x2 x8 x7 x10)) (k0_pay32 (k0_pay21 (BitVec.ofNat 32 i.val) (k0_pay10 (k0_pay8 (F := Ideal) x0 x1 x5 x6) x2 x8) (k0_pay14 (k0_pay8 (F := Ideal) x0 x1 x5 x6) x2 x8 x7 x9) (k0_pay15 (k0_pay8 (F := Ideal) x0 x1 x5 x6) x2 x8 x7 x10) (k0_pay18 (k0_pay8 (F := Ideal) x0 x1 x5 x6) x2 x8 x7 x9) x11 x3 x4) x11 (k0_pay16 (k0_pay8 (F := Ideal) x0 x1 x5 x6) x2 x8 x7 x9)) x9 x10 x7) x8) x6 (ix2 r k) = E.dorn (wtsOf x5 x6 x7 x8 x9 x10 x11) (rowOf i x0 x1 x2 x3 x4 r) k := by
  unfold E.dorn E.back
  simp only [← pay41_at, rowOf_orn, ← pay6_at, ← pay7_at]
  pointwise [k0_pay1, wtsOf]

end
end Cert.Kernel2Ideal.Gen
end
-- ==== Proof.PostBlocks.lean ====
/- What one point of the layer's call leaves in each of its thirteen output blocks: the row functions of `PostRow` at the rows of the
   point's blocks, for the four accumulators added to what the point before left. -/
module

public import proofs.«01_k».proof.Proof.PostFrame
public import proofs.«01_k».proof.Proof.PostPay
public import Idealize.ShloMosaic.Lib.Pipeline.ReadBack

@[expose] public section

set_option maxRecDepth 16384

noncomputable section

namespace Cert.Kernel2Ideal.Gen

open Cert.Post Idealize.ShloMosaic Idealize.ShloMosaic.TcCoe Idealize.ShloMosaic.Tactic

/-- The two spellings of two zeros. -/
theorem zeros2 : (![0, 0] : Fin 2 → Nat) = fun _ => 0 := by funext a; match a with | ⟨0, _⟩ => rfl | ⟨1, _⟩ => rfl
/-- The two spellings of three zeros. -/
theorem zeros3 : (![0, 0, 0] : Fin 3 → Nat) = fun _ => 0 := by funext a; match a with | ⟨0, _⟩ => rfl | ⟨1, _⟩ => rfl | ⟨2, _⟩ => rfl

section
variable (i : Fin 17) (x0 : Vec Ideal S256x512 .f32) (x1 : Vec Ideal S256x512 .f32) (x2 : Vec Ideal S256x1024 .f32) (x3 : Vec Ideal S1x128x1024 .f32) (x4 : Vec Ideal S1x128x1024 .f32) (x5 : Vec Ideal S1x512 .f32) (x6 : Vec Ideal S1x512 .f32) (x7 : Vec Ideal S1x1024 .f32) (x8 : Vec Ideal S1024x1024 .bf16) (x9 : Vec Ideal S2816x1024 .bf16) (x10 : Vec Ideal S2816x1024 .bf16) (x11 : Vec Ideal S2816x1024 .bf16)

/-- The block of the first heads' gradient. -/
def b12 : Vec Ideal S256x512 .f32 := fun y => E.doa (wtsOf x5 x6 x7 x8 x9 x10 x11) (rowOf i x0 x1 x2 x3 x4 (y 0)) (y 1)
/-- The block of the second heads' gradient. -/
def b13 : Vec Ideal S256x512 .f32 := fun y => E.dorn (wtsOf x5 x6 x7 x8 x9 x10 x11) (rowOf i x0 x1 x2 x3 x4 (y 0)) (y 1)
/-- The block of the residual stream's gradient. -/
def b14 : Vec Ideal S256x1024 .f32 := fun y => E.dh1 (wtsOf x5 x6 x7 x8 x9 x10 x11) (rowOf i x0 x1 x2 x3 x4 (y 0)) (y 1)
/-- The block of the mixed heads, transposed. -/
def b15 : Vec Ideal S1024x256 .bf16 := fun y => E.mix (wtsOf x5 x6 x7 x8 x9 x10 x11) (rowOf i x0 x1 x2 x3 x4 (y 1)) (y 0)
/-- The block of the normed rows. -/
def b16 : Vec Ideal S256x1024 .bf16 := fun y => E.hn (wtsOf x5 x6 x7 x8 x9 x10 x11) (rowOf i x0 x1 x2 x3 x4 (y 0)) (y 1)
/-- The block of the gated rows, transposed. -/
def b17 : Vec Ideal S2816x256 .bf16 := fun y => E.act (wtsOf x5 x6 x7 x8 x9 x10 x11) (rowOf i x0 x1 x2 x3 x4 (y 1)) (y 0)
/-- The block of the gate's gradient, transposed. -/
def b18 : Vec Ideal S2816x256 .bf16 := fun y => E.dgate (wtsOf x5 x6 x7 x8 x9 x10 x11) (rowOf i x0 x1 x2 x3 x4 (y 1)) (y 0)
/-- The block of the other projection's gradient, transposed. -/
def b19 : Vec Ideal S2816x256 .bf16 := fun y => E.dup (wtsOf x5 x6 x7 x8 x9 x10 x11) (rowOf i x0 x1 x2 x3 x4 (y 1)) (y 0)
/-- The block of the output's gradient. -/
def b20 : Vec Ideal S256x1024 .bf16 := fun y => E.dy (wtsOf x5 x6 x7 x8 x9 x10 x11) (rowOf i x0 x1 x2 x3 x4 (y 0)) (y 1)
/-- The block of the loss, from the block before. -/
def b21 (xo : Vec Ideal S1x128 .f32) : Vec Ideal S1x128 .f32 := fun y => xo y + Ideal.ofBits .f32 0x3A000000#32 * ∑ r, E.sq (wtsOf x5 x6 x7 x8 x9 x10 x11) (rowOf i x0 x1 x2 x3 x4 r)
/-- The block of the first scale's gradient, from the block before. -/
def b22 (xo : Vec Ideal S1x512 .f32) : Vec Ideal S1x512 .f32 := fun y => xo y + ∑ r, E.dga (wtsOf x5 x6 x7 x8 x9 x10 x11) (rowOf i x0 x1 x2 x3 x4 r) (y 1)
/-- The block of the second scale's gradient, from the block before. -/
def b23 (xo : Vec Ideal S1x512 .f32) : Vec Ideal S1x512 .f32 := fun y => xo y + ∑ r, E.dgr (wtsOf x5 x6 x7 x8 x9 x10 x11) (rowOf i x0 x1 x2 x3 x4 r) (y 1)
/-- The block of the norm's scale's gradient, from the block before. -/
def b24 (xo : Vec Ideal S1x1024 .f32) : Vec Ideal S1x1024 .f32 := fun y => xo y + ∑ r, E.dg2 (wtsOf x5 x6 x7 x8 x9 x10 x11) (rowOf i x0 x1 x2 x3 x4 r) (y 1)
end

section
variable (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x1024 .f32) (harg3 : arg3.IsWhole) (arg4 : Memref sig .tc .vmem S1x128x1024 .f32) (harg4 : arg4.IsWhole) (arg5 : Memref sig .tc .vmem S1x128x1024 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S2816x1024 .bf16) (harg10 : arg10.IsWhole) (arg11 : Memref sig .tc .vmem S2816x1024 .bf16) (harg11 : arg11.IsWhole) (arg12 : Memref sig .tc .vmem S2816x1024 .bf16) (harg12 : arg12.IsWhole) (arg13 : Memref sig .tc .vmem S256x512 .f32) (harg13 : arg13.IsWhole) (arg14 : Memref sig .tc .vmem S256x512 .f32) (harg14 : arg14.IsWhole) (arg15 : Memref sig .tc .vmem S256x1024 .f32) (harg15 : arg15.IsWhole) (arg16 : Memref sig .tc .vmem S1024x256 .bf16) (harg16 : arg16.IsWhole) (arg17 : Memref sig .tc .vmem S256x1024 .bf16) (harg17 : arg17.IsWhole) (arg18 : Memref sig .tc .vmem S2816x256 .bf16) (harg18 : arg18.IsWhole) (arg19 : Memref sig .tc .vmem S2816x256 .bf16) (harg19 : arg19.IsWhole) (arg20 : Memref sig .tc .vmem S2816x256 .bf16) (harg20 : arg20.IsWhole) (arg21 : Memref sig .tc .vmem S256x1024 .bf16) (harg21 : arg21.IsWhole) (arg22 : Memref sig .tc .vmem S1x128 .f32) (harg22 : arg22.IsWhole) (arg23 : Memref sig .tc .vmem S1x512 .f32) (harg23 : arg23.IsWhole) (arg24 : Memref sig .tc .vmem S1x512 .f32) (harg24 : arg24.IsWhole) (arg25 : Memref sig .tc .vmem S1x1024 .f32) (harg25 : arg25.IsWhole) (arg26 : Memref sig .tc .vmem S256x2816 .f32) (harg26 : arg26.IsWhole) (arg27 : Memref sig .tc .vmem S256x2816 .f32) (harg27 : arg27.IsWhole)
  (x0 : Vec Ideal S256x512 .f32) (x1 : Vec Ideal S256x512 .f32) (x2 : Vec Ideal S256x1024 .f32) (x3 : Vec Ideal S1x128x1024 .f32) (x4 : Vec Ideal S1x128x1024 .f32) (x5 : Vec Ideal S1x512 .f32) (x6 : Vec Ideal S1x512 .f32) (x7 : Vec Ideal S1x1024 .f32) (x8 : Vec Ideal S1024x1024 .bf16) (x9 : Vec Ideal S2816x1024 .bf16) (x10 : Vec Ideal S2816x1024 .bf16) (x11 : Vec Ideal S2816x1024 .bf16) (xo21 : Vec Ideal S1x128 .f32) (xo22 : Vec Ideal S1x512 .f32) (xo23 : Vec Ideal S1x512 .f32) (xo24 : Vec Ideal S1x1024 .f32)

set_option maxHeartbeats 4000000 in
/-- What a point with the first tile leaves in the block of the first heads' gradient. -/
theorem o12A (hc0 : cond0_0 i) (hc1 : ¬ cond0_1 i) (hc2 : cond0_2 i) (hc3 : ¬ cond0_3 i) (hc4 : cond0_4 i) (hc5 : ¬ cond0_5 i) (hc6 : cond0_6 i) (hc7 : ¬ cond0_7 i) : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 = b12 (i 0) x0 x1 x2 x3 x4 x5 x6 x7 x8 x9 x10 x11 := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S256x512) zeros2, View.ld_unit_zero (S := S256x1024) zeros2, View.ld_unit_zero (S := S1x128x1024) zeros3, View.ld_unit_zero (S := S1x512) zeros2, View.ld_unit_zero (S := S1x1024) zeros2, View.ld_unit_zero (S := S1x128) zeros2, View.ld_unit_zero (S := S1024x1024) zeros2, View.ld_unit_zero (S := S2816x1024) zeros2, View.readCov_unit_zero (S := S256x2816) _ zeros2]
  rw [View.canon_unit_zero zeros2]
  funext y
  idx_vars y
  exact pay46_at ..

set_option maxHeartbeats 4000000 in
/-- What a point with the first tile leaves in the block of the second heads' gradient. -/
theorem o13A (hc0 : cond0_0 i) (hc1 : ¬ cond0_1 i) (hc2 : cond0_2 i) (hc3 : ¬ cond0_3 i) (hc4 : cond0_4 i) (hc5 : ¬ cond0_5 i) (hc6 : cond0_6 i) (hc7 : ¬ cond0_7 i) : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 = b13 (i 0) x0 x1 x2 x3 x4 x5 x6 x7 x8 x9 x10 x11 := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S256x512) zeros2, View.ld_unit_zero (S := S256x1024) zeros2, View.ld_unit_zero (S := S1x128x1024) zeros3, View.ld_unit_zero (S := S1x512) zeros2, View.ld_unit_zero (S := S1x1024) zeros2, View.ld_unit_zero (S := S1x128) zeros2, View.ld_unit_zero (S := S1024x1024) zeros2, View.ld_unit_zero (S := S2816x1024) zeros2, View.readCov_unit_zero (S := S256x2816) _ zeros2]
  rw [View.canon_unit_zero zeros2]
  funext y
  idx_vars y
  exact pay1_at ..

set_option maxHeartbeats 4000000 in
/-- What a point with the first tile leaves in the block of the residual stream's gradient. -/
theorem o14A (hc0 : cond0_0 i) (hc1 : ¬ cond0_1 i) (hc2 : cond0_2 i) (hc3 : ¬ cond0_3 i) (hc4 : cond0_4 i) (hc5 : ¬ cond0_5 i) (hc6 : cond0_6 i) (hc7 : ¬ cond0_7 i) : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 = b14 (i 0) x0 x1 x2 x3 x4 x5 x6 x7 x8 x9 x10 x11 := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S256x512) zeros2, View.ld_unit_zero (S := S256x1024) zeros2, View.ld_unit_zero (S := S1x128x1024) zeros3, View.ld_unit_zero (S := S1x512) zeros2, View.ld_unit_zero (S := S1x1024) zeros2, View.ld_unit_zero (S := S1x128) zeros2, View.ld_unit_zero (S := S1024x1024) zeros2, View.ld_unit_zero (S := S2816x1024) zeros2, View.readCov_unit_zero (S := S256x2816) _ zeros2]
  rw [View.canon_unit_zero zeros2]
  funext y
  idx_vars y
  exact pay38_at ..

set_option maxHeartbeats 4000000 in
/-- What a point with the first tile leaves in the block of the mixed heads, transposed. -/
theorem o15A (hc0 : cond0_0 i) (hc1 : ¬ cond0_1 i) (hc2 : cond0_2 i) (hc3 : ¬ cond0_3 i) (hc4 : cond0_4 i) (hc5 : ¬ cond0_5 i) (hc6 : cond0_6 i) (hc7 : ¬ cond0_7 i) : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 = b15 (i 0) x0 x1 x2 x3 x4 x5 x6 x7 x8 x9 x10 x11 := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S256x512) zeros2, View.ld_unit_zero (S := S256x1024) zeros2, View.ld_unit_zero (S := S1x128x1024) zeros3, View.ld_unit_zero (S := S1x512) zeros2, View.ld_unit_zero (S := S1x1024) zeros2, View.ld_unit_zero (S := S1x128) zeros2, View.ld_unit_zero (S := S1024x1024) zeros2, View.ld_unit_zero (S := S2816x1024) zeros2, View.readCov_unit_zero (S := S256x2816) _ zeros2]
  rw [View.canon_unit_zero zeros2]
  funext y
  idx_vars y
  exact pay9_at ..

set_option maxHeartbeats 4000000 in
/-- What a point with the first tile leaves in the block of the normed rows. -/
theorem o16A (hc0 : cond0_0 i) (hc1 : ¬ cond0_1 i) (hc2 : cond0_2 i) (hc3 : ¬ cond0_3 i) (hc4 : cond0_4 i) (hc5 : ¬ cond0_5 i) (hc6 : cond0_6 i) (hc7 : ¬ cond0_7 i) : out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 = b16 (i 0) x0 x1 x2 x3 x4 x5 x6 x7 x8 x9 x10 x11 := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S256x512) zeros2, View.ld_unit_zero (S := S256x1024) zeros2, View.ld_unit_zero (S := S1x128x1024) zeros3, View.ld_unit_zero (S := S1x512) zeros2, View.ld_unit_zero (S := S1x1024) zeros2, View.ld_unit_zero (S := S1x128) zeros2, View.ld_unit_zero (S := S1024x1024) zeros2, View.ld_unit_zero (S := S2816x1024) zeros2, View.readCov_unit_zero (S := S256x2816) _ zeros2]
  rw [View.canon_unit_zero zeros2]
  funext y
  idx_vars y
  exact pay13_at ..

set_option maxHeartbeats 4000000 in
/-- What a point with the first tile leaves in the block of the gated rows, transposed. -/
theorem o17A (hc0 : cond0_0 i) (hc1 : ¬ cond0_1 i) (hc2 : cond0_2 i) (hc3 : ¬ cond0_3 i) (hc4 : cond0_4 i) (hc5 : ¬ cond0_5 i) (hc6 : cond0_6 i) (hc7 : ¬ cond0_7 i) : out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 = b17 (i 0) x0 x1 x2 x3 x4 x5 x6 x7 x8 x9 x10 x11 := by
  unfold out0_A_17
  rw [View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S256x512) zeros2, View.ld_unit_zero (S := S256x1024) zeros2, View.ld_unit_zero (S := S1x128x1024) zeros3, View.ld_unit_zero (S := S1x512) zeros2, View.ld_unit_zero (S := S1x1024) zeros2, View.ld_unit_zero (S := S1x128) zeros2, View.ld_unit_zero (S := S1024x1024) zeros2, View.ld_unit_zero (S := S2816x1024) zeros2, View.readCov_unit_zero (S := S256x2816) _ zeros2]
  rw [View.canon_unit_zero zeros2]
  funext y
  idx_vars y
  exact pay20_at ..

set_option maxHeartbeats 4000000 in
/-- What a point with the first tile leaves in the block of the gate's gradient, transposed. -/
theorem o18A (hc0 : cond0_0 i) (hc1 : ¬ cond0_1 i) (hc2 : cond0_2 i) (hc3 : ¬ cond0_3 i) (hc4 : cond0_4 i) (hc5 : ¬ cond0_5 i) (hc6 : cond0_6 i) (hc7 : ¬ cond0_7 i) : out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 = b18 (i 0) x0 x1 x2 x3 x4 x5 x6 x7 x8 x9 x10 x11 := by
  unfold out0_A_18
  rw [View.read_writes_eq_canon _ _ _ (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S256x512) zeros2, View.ld_unit_zero (S := S256x1024) zeros2, View.ld_unit_zero (S := S1x128x1024) zeros3, View.ld_unit_zero (S := S1x512) zeros2, View.ld_unit_zero (S := S1x1024) zeros2, View.ld_unit_zero (S := S1x128) zeros2, View.ld_unit_zero (S := S1024x1024) zeros2, View.ld_unit_zero (S := S2816x1024) zeros2, View.readCov_unit_zero (S := S256x2816) _ zeros2]
  rw [View.canon_unit_zero zeros2]
  funext y
  idx_vars y
  exact pay33_at ..

set_option maxHeartbeats 4000000 in
/-- What a point with the first tile leaves in the block of the other projection's gradient, transposed. -/
theorem o19A (hc0 : cond0_0 i) (hc1 : ¬ cond0_1 i) (hc2 : cond0_2 i) (hc3 : ¬ cond0_3 i) (hc4 : cond0_4 i) (hc5 : ¬ cond0_5 i) (hc6 : cond0_6 i) (hc7 : ¬ cond0_7 i) : out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 = b19 (i 0) x0 x1 x2 x3 x4 x5 x6 x7 x8 x9 x10 x11 := by
  unfold out0_A_19
  rw [View.read_writes_eq_canon _ _ _ (cover0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S256x512) zeros2, View.ld_unit_zero (S := S256x1024) zeros2, View.ld_unit_zero (S := S1x128x1024) zeros3, View.ld_unit_zero (S := S1x512) zeros2, View.ld_unit_zero (S := S1x1024) zeros2, View.ld_unit_zero (S := S1x128) zeros2, View.ld_unit_zero (S := S1024x1024) zeros2, View.ld_unit_zero (S := S2816x1024) zeros2, View.readCov_unit_zero (S := S256x2816) _ zeros2]
  rw [View.canon_unit_zero zeros2]
  funext y
  idx_vars y
  exact pay34_at ..

set_option maxHeartbeats 4000000 in
/-- What a point with the first tile leaves in the block of the output's gradient. -/
theorem o20A (hc0 : cond0_0 i) (hc1 : ¬ cond0_1 i) (hc2 : cond0_2 i) (hc3 : ¬ cond0_3 i) (hc4 : cond0_4 i) (hc5 : ¬ cond0_5 i) (hc6 : cond0_6 i) (hc7 : ¬ cond0_7 i) : out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 = b20 (i 0) x0 x1 x2 x3 x4 x5 x6 x7 x8 x9 x10 x11 := by
  unfold out0_A_20
  rw [View.read_writes_eq_canon _ _ _ (cover0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S256x512) zeros2, View.ld_unit_zero (S := S256x1024) zeros2, View.ld_unit_zero (S := S1x128x1024) zeros3, View.ld_unit_zero (S := S1x512) zeros2, View.ld_unit_zero (S := S1x1024) zeros2, View.ld_unit_zero (S := S1x128) zeros2, View.ld_unit_zero (S := S1024x1024) zeros2, View.ld_unit_zero (S := S2816x1024) zeros2, View.readCov_unit_zero (S := S256x2816) _ zeros2]
  rw [View.canon_unit_zero zeros2]
  funext y
  idx_vars y
  exact pay27_at ..

set_option maxHeartbeats 4000000 in
/-- What a point with the first tile leaves in the block of the loss. -/
theorem o21A (hc0 : cond0_0 i) (hc1 : ¬ cond0_1 i) (hc2 : cond0_2 i) (hc3 : ¬ cond0_3 i) (hc4 : cond0_4 i) (hc5 : ¬ cond0_5 i) (hc6 : cond0_6 i) (hc7 : ¬ cond0_7 i) : out0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 = b21 (i 0) x0 x1 x2 x3 x4 x5 x6 x7 x8 x9 x10 x11 (fun _ => 0) := by
  unfold out0_A_21
  rw [View.read_writes_eq_canon _ _ _ (cover0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S256x512) zeros2, View.ld_unit_zero (S := S256x1024) zeros2, View.ld_unit_zero (S := S1x128x1024) zeros3, View.ld_unit_zero (S := S1x512) zeros2, View.ld_unit_zero (S := S1x1024) zeros2, View.ld_unit_zero (S := S1x128) zeros2, View.ld_unit_zero (S := S1024x1024) zeros2, View.ld_unit_zero (S := S2816x1024) zeros2, View.readCov_unit_zero (S := S256x2816) _ zeros2]
  rw [View.canon_unit_zero zeros2]
  funext y
  idx_vars y
  have e : y0 = 0 := Subsingleton.elim _ _
  subst e
  exact (pay24_at ..).trans (zero_add _).symm

set_option maxHeartbeats 4000000 in
/-- What a point with the first tile leaves in the block of the first scale's gradient. -/
theorem o22A (hc0 : cond0_0 i) (hc1 : ¬ cond0_1 i) (hc2 : cond0_2 i) (hc3 : ¬ cond0_3 i) (hc4 : cond0_4 i) (hc5 : ¬ cond0_5 i) (hc6 : cond0_6 i) (hc7 : ¬ cond0_7 i) : out0_A_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 = b22 (i 0) x0 x1 x2 x3 x4 x5 x6 x7 x8 x9 x10 x11 (fun _ => 0) := by
  unfold out0_A_22
  rw [View.read_writes_eq_canon _ _ _ (cover0_A_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S256x512) zeros2, View.ld_unit_zero (S := S256x1024) zeros2, View.ld_unit_zero (S := S1x128x1024) zeros3, View.ld_unit_zero (S := S1x512) zeros2, View.ld_unit_zero (S := S1x1024) zeros2, View.ld_unit_zero (S := S1x128) zeros2, View.ld_unit_zero (S := S1024x1024) zeros2, View.ld_unit_zero (S := S2816x1024) zeros2, View.readCov_unit_zero (S := S256x2816) _ zeros2]
  rw [View.canon_unit_zero zeros2]
  funext y
  idx_vars y
  have e : y0 = 0 := Subsingleton.elim _ _
  subst e
  exact (pay42_at ..).trans (zero_add _).symm

set_option maxHeartbeats 4000000 in
/-- What a point with the first tile leaves in the block of the second scale's gradient. -/
theorem o23A (hc0 : cond0_0 i) (hc1 : ¬ cond0_1 i) (hc2 : cond0_2 i) (hc3 : ¬ cond0_3 i) (hc4 : cond0_4 i) (hc5 : ¬ cond0_5 i) (hc6 : cond0_6 i) (hc7 : ¬ cond0_7 i) : out0_A_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 = b23 (i 0) x0 x1 x2 x3 x4 x5 x6 x7 x8 x9 x10 x11 (fun _ => 0) := by
  unfold out0_A_23
  rw [View.read_writes_eq_canon _ _ _ (cover0_A_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S256x512) zeros2, View.ld_unit_zero (S := S256x1024) zeros2, View.ld_unit_zero (S := S1x128x1024) zeros3, View.ld_unit_zero (S := S1x512) zeros2, View.ld_unit_zero (S := S1x1024) zeros2, View.ld_unit_zero (S := S1x128) zeros2, View.ld_unit_zero (S := S1024x1024) zeros2, View.ld_unit_zero (S := S2816x1024) zeros2, View.readCov_unit_zero (S := S256x2816) _ zeros2]
  rw [View.canon_unit_zero zeros2]
  funext y
  idx_vars y
  have e : y0 = 0 := Subsingleton.elim _ _
  subst e
  exact (pay44_at ..).trans (zero_add _).symm

set_option maxHeartbeats 4000000 in
/-- What a point with the first tile leaves in the block of the norm's scale's gradient. -/
theorem o24A (hc0 : cond0_0 i) (hc1 : ¬ cond0_1 i) (hc2 : cond0_2 i) (hc3 : ¬ cond0_3 i) (hc4 : cond0_4 i) (hc5 : ¬ cond0_5 i) (hc6 : cond0_6 i) (hc7 : ¬ cond0_7 i) : out0_A_24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 = b24 (i 0) x0 x1 x2 x3 x4 x5 x6 x7 x8 x9 x10 x11 (fun _ => 0) := by
  unfold out0_A_24
  rw [View.read_writes_eq_canon _ _ _ (cover0_A_24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S256x512) zeros2, View.ld_unit_zero (S := S256x1024) zeros2, View.ld_unit_zero (S := S1x128x1024) zeros3, View.ld_unit_zero (S := S1x512) zeros2, View.ld_unit_zero (S := S1x1024) zeros2, View.ld_unit_zero (S := S1x128) zeros2, View.ld_unit_zero (S := S1024x1024) zeros2, View.ld_unit_zero (S := S2816x1024) zeros2, View.readCov_unit_zero (S := S256x2816) _ zeros2]
  rw [View.canon_unit_zero zeros2]
  funext y
  idx_vars y
  have e : y0 = 0 := Subsingleton.elim _ _
  subst e
  exact (pay36_at ..).trans (zero_add _).symm

set_option maxHeartbeats 4000000 in
/-- What a point with a later tile leaves in the block of the first heads' gradient. -/
theorem o12B (hc0 : ¬ cond0_0 i) (hc1 : cond0_1 i) (hc2 : ¬ cond0_2 i) (hc3 : cond0_3 i) (hc4 : ¬ cond0_4 i) (hc5 : cond0_5 i) (hc6 : ¬ cond0_6 i) (hc7 : cond0_7 i) : out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24 = b12 (i 0) x0 x1 x2 x3 x4 x5 x6 x7 x8 x9 x10 x11 := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S256x512) zeros2, View.ld_unit_zero (S := S256x1024) zeros2, View.ld_unit_zero (S := S1x128x1024) zeros3, View.ld_unit_zero (S := S1x512) zeros2, View.ld_unit_zero (S := S1x1024) zeros2, View.ld_unit_zero (S := S1x128) zeros2, View.ld_unit_zero (S := S1024x1024) zeros2, View.ld_unit_zero (S := S2816x1024) zeros2, harg22.read_unread, harg23.read_unread, harg24.read_unread, harg25.read_unread, View.readCov_unit_zero (S := S256x2816) _ zeros2]
  rw [View.canon_unit_zero zeros2]
  funext y
  idx_vars y
  exact pay46_at ..

set_option maxHeartbeats 4000000 in
/-- What a point with a later tile leaves in the block of the second heads' gradient. -/
theorem o13B (hc0 : ¬ cond0_0 i) (hc1 : cond0_1 i) (hc2 : ¬ cond0_2 i) (hc3 : cond0_3 i) (hc4 : ¬ cond0_4 i) (hc5 : cond0_5 i) (hc6 : ¬ cond0_6 i) (hc7 : cond0_7 i) : out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24 = b13 (i 0) x0 x1 x2 x3 x4 x5 x6 x7 x8 x9 x10 x11 := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S256x512) zeros2, View.ld_unit_zero (S := S256x1024) zeros2, View.ld_unit_zero (S := S1x128x1024) zeros3, View.ld_unit_zero (S := S1x512) zeros2, View.ld_unit_zero (S := S1x1024) zeros2, View.ld_unit_zero (S := S1x128) zeros2, View.ld_unit_zero (S := S1024x1024) zeros2, View.ld_unit_zero (S := S2816x1024) zeros2, harg22.read_unread, harg23.read_unread, harg24.read_unread, harg25.read_unread, View.readCov_unit_zero (S := S256x2816) _ zeros2]
  rw [View.canon_unit_zero zeros2]
  funext y
  idx_vars y
  exact pay1_at ..

set_option maxHeartbeats 4000000 in
/-- What a point with a later tile leaves in the block of the residual stream's gradient. -/
theorem o14B (hc0 : ¬ cond0_0 i) (hc1 : cond0_1 i) (hc2 : ¬ cond0_2 i) (hc3 : cond0_3 i) (hc4 : ¬ cond0_4 i) (hc5 : cond0_5 i) (hc6 : ¬ cond0_6 i) (hc7 : cond0_7 i) : out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24 = b14 (i 0) x0 x1 x2 x3 x4 x5 x6 x7 x8 x9 x10 x11 := by
  unfold out0_B_14
  rw [View.read_writes_eq_canon _ _ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S256x512) zeros2, View.ld_unit_zero (S := S256x1024) zeros2, View.ld_unit_zero (S := S1x128x1024) zeros3, View.ld_unit_zero (S := S1x512) zeros2, View.ld_unit_zero (S := S1x1024) zeros2, View.ld_unit_zero (S := S1x128) zeros2, View.ld_unit_zero (S := S1024x1024) zeros2, View.ld_unit_zero (S := S2816x1024) zeros2, harg22.read_unread, harg23.read_unread, harg24.read_unread, harg25.read_unread, View.readCov_unit_zero (S := S256x2816) _ zeros2]
  rw [View.canon_unit_zero zeros2]
  funext y
  idx_vars y
  exact pay38_at ..

set_option maxHeartbeats 4000000 in
/-- What a point with a later tile leaves in the block of the mixed heads, transposed. -/
theorem o15B (hc0 : ¬ cond0_0 i) (hc1 : cond0_1 i) (hc2 : ¬ cond0_2 i) (hc3 : cond0_3 i) (hc4 : ¬ cond0_4 i) (hc5 : cond0_5 i) (hc6 : ¬ cond0_6 i) (hc7 : cond0_7 i) : out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24 = b15 (i 0) x0 x1 x2 x3 x4 x5 x6 x7 x8 x9 x10 x11 := by
  unfold out0_B_15
  rw [View.read_writes_eq_canon _ _ _ (cover0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S256x512) zeros2, View.ld_unit_zero (S := S256x1024) zeros2, View.ld_unit_zero (S := S1x128x1024) zeros3, View.ld_unit_zero (S := S1x512) zeros2, View.ld_unit_zero (S := S1x1024) zeros2, View.ld_unit_zero (S := S1x128) zeros2, View.ld_unit_zero (S := S1024x1024) zeros2, View.ld_unit_zero (S := S2816x1024) zeros2, harg22.read_unread, harg23.read_unread, harg24.read_unread, harg25.read_unread, View.readCov_unit_zero (S := S256x2816) _ zeros2]
  rw [View.canon_unit_zero zeros2]
  funext y
  idx_vars y
  exact pay9_at ..

set_option maxHeartbeats 4000000 in
/-- What a point with a later tile leaves in the block of the normed rows. -/
theorem o16B (hc0 : ¬ cond0_0 i) (hc1 : cond0_1 i) (hc2 : ¬ cond0_2 i) (hc3 : cond0_3 i) (hc4 : ¬ cond0_4 i) (hc5 : cond0_5 i) (hc6 : ¬ cond0_6 i) (hc7 : cond0_7 i) : out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24 = b16 (i 0) x0 x1 x2 x3 x4 x5 x6 x7 x8 x9 x10 x11 := by
  unfold out0_B_16
  rw [View.read_writes_eq_canon _ _ _ (cover0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S256x512) zeros2, View.ld_unit_zero (S := S256x1024) zeros2, View.ld_unit_zero (S := S1x128x1024) zeros3, View.ld_unit_zero (S := S1x512) zeros2, View.ld_unit_zero (S := S1x1024) zeros2, View.ld_unit_zero (S := S1x128) zeros2, View.ld_unit_zero (S := S1024x1024) zeros2, View.ld_unit_zero (S := S2816x1024) zeros2, harg22.read_unread, harg23.read_unread, harg24.read_unread, harg25.read_unread, View.readCov_unit_zero (S := S256x2816) _ zeros2]
  rw [View.canon_unit_zero zeros2]
  funext y
  idx_vars y
  exact pay13_at ..

set_option maxHeartbeats 4000000 in
/-- What a point with a later tile leaves in the block of the gated rows, transposed. -/
theorem o17B (hc0 : ¬ cond0_0 i) (hc1 : cond0_1 i) (hc2 : ¬ cond0_2 i) (hc3 : cond0_3 i) (hc4 : ¬ cond0_4 i) (hc5 : cond0_5 i) (hc6 : ¬ cond0_6 i) (hc7 : cond0_7 i) : out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24 = b17 (i 0) x0 x1 x2 x3 x4 x5 x6 x7 x8 x9 x10 x11 := by
  unfold out0_B_17
  rw [View.read_writes_eq_canon _ _ _ (cover0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S256x512) zeros2, View.ld_unit_zero (S := S256x1024) zeros2, View.ld_unit_zero (S := S1x128x1024) zeros3, View.ld_unit_zero (S := S1x512) zeros2, View.ld_unit_zero (S := S1x1024) zeros2, View.ld_unit_zero (S := S1x128) zeros2, View.ld_unit_zero (S := S1024x1024) zeros2, View.ld_unit_zero (S := S2816x1024) zeros2, harg22.read_unread, harg23.read_unread, harg24.read_unread, harg25.read_unread, View.readCov_unit_zero (S := S256x2816) _ zeros2]
  rw [View.canon_unit_zero zeros2]
  funext y
  idx_vars y
  exact pay20_at ..

set_option maxHeartbeats 4000000 in
/-- What a point with a later tile leaves in the block of the gate's gradient, transposed. -/
theorem o18B (hc0 : ¬ cond0_0 i) (hc1 : cond0_1 i) (hc2 : ¬ cond0_2 i) (hc3 : cond0_3 i) (hc4 : ¬ cond0_4 i) (hc5 : cond0_5 i) (hc6 : ¬ cond0_6 i) (hc7 : cond0_7 i) : out0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24 = b18 (i 0) x0 x1 x2 x3 x4 x5 x6 x7 x8 x9 x10 x11 := by
  unfold out0_B_18
  rw [View.read_writes_eq_canon _ _ _ (cover0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S256x512) zeros2, View.ld_unit_zero (S := S256x1024) zeros2, View.ld_unit_zero (S := S1x128x1024) zeros3, View.ld_unit_zero (S := S1x512) zeros2, View.ld_unit_zero (S := S1x1024) zeros2, View.ld_unit_zero (S := S1x128) zeros2, View.ld_unit_zero (S := S1024x1024) zeros2, View.ld_unit_zero (S := S2816x1024) zeros2, harg22.read_unread, harg23.read_unread, harg24.read_unread, harg25.read_unread, View.readCov_unit_zero (S := S256x2816) _ zeros2]
  rw [View.canon_unit_zero zeros2]
  funext y
  idx_vars y
  exact pay33_at ..

set_option maxHeartbeats 4000000 in
/-- What a point with a later tile leaves in the block of the other projection's gradient, transposed. -/
theorem o19B (hc0 : ¬ cond0_0 i) (hc1 : cond0_1 i) (hc2 : ¬ cond0_2 i) (hc3 : cond0_3 i) (hc4 : ¬ cond0_4 i) (hc5 : cond0_5 i) (hc6 : ¬ cond0_6 i) (hc7 : cond0_7 i) : out0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24 = b19 (i 0) x0 x1 x2 x3 x4 x5 x6 x7 x8 x9 x10 x11 := by
  unfold out0_B_19
  rw [View.read_writes_eq_canon _ _ _ (cover0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S256x512) zeros2, View.ld_unit_zero (S := S256x1024) zeros2, View.ld_unit_zero (S := S1x128x1024) zeros3, View.ld_unit_zero (S := S1x512) zeros2, View.ld_unit_zero (S := S1x1024) zeros2, View.ld_unit_zero (S := S1x128) zeros2, View.ld_unit_zero (S := S1024x1024) zeros2, View.ld_unit_zero (S := S2816x1024) zeros2, harg22.read_unread, harg23.read_unread, harg24.read_unread, harg25.read_unread, View.readCov_unit_zero (S := S256x2816) _ zeros2]
  rw [View.canon_unit_zero zeros2]
  funext y
  idx_vars y
  exact pay34_at ..

set_option maxHeartbeats 4000000 in
/-- What a point with a later tile leaves in the block of the output's gradient. -/
theorem o20B (hc0 : ¬ cond0_0 i) (hc1 : cond0_1 i) (hc2 : ¬ cond0_2 i) (hc3 : cond0_3 i) (hc4 : ¬ cond0_4 i) (hc5 : cond0_5 i) (hc6 : ¬ cond0_6 i) (hc7 : cond0_7 i) : out0_B_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24 = b20 (i 0) x0 x1 x2 x3 x4 x5 x6 x7 x8 x9 x10 x11 := by
  unfold out0_B_20
  rw [View.read_writes_eq_canon _ _ _ (cover0_B_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S256x512) zeros2, View.ld_unit_zero (S := S256x1024) zeros2, View.ld_unit_zero (S := S1x128x1024) zeros3, View.ld_unit_zero (S := S1x512) zeros2, View.ld_unit_zero (S := S1x1024) zeros2, View.ld_unit_zero (S := S1x128) zeros2, View.ld_unit_zero (S := S1024x1024) zeros2, View.ld_unit_zero (S := S2816x1024) zeros2, harg22.read_unread, harg23.read_unread, harg24.read_unread, harg25.read_unread, View.readCov_unit_zero (S := S256x2816) _ zeros2]
  rw [View.canon_unit_zero zeros2]
  funext y
  idx_vars y
  exact pay27_at ..

set_option maxHeartbeats 4000000 in
/-- What a point with a later tile leaves in the block of the loss. -/
theorem o21B (hc0 : ¬ cond0_0 i) (hc1 : cond0_1 i) (hc2 : ¬ cond0_2 i) (hc3 : cond0_3 i) (hc4 : ¬ cond0_4 i) (hc5 : cond0_5 i) (hc6 : ¬ cond0_6 i) (hc7 : cond0_7 i) : out0_B_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24 = b21 (i 0) x0 x1 x2 x3 x4 x5 x6 x7 x8 x9 x10 x11 xo21 := by
  unfold out0_B_21
  rw [View.read_writes_eq_canon _ _ _ (cover0_B_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S256x512) zeros2, View.ld_unit_zero (S := S256x1024) zeros2, View.ld_unit_zero (S := S1x128x1024) zeros3, View.ld_unit_zero (S := S1x512) zeros2, View.ld_unit_zero (S := S1x1024) zeros2, View.ld_unit_zero (S := S1x128) zeros2, View.ld_unit_zero (S := S1024x1024) zeros2, View.ld_unit_zero (S := S2816x1024) zeros2, harg22.read_unread, harg23.read_unread, harg24.read_unread, harg25.read_unread, View.readCov_unit_zero (S := S256x2816) _ zeros2]
  rw [View.canon_unit_zero zeros2]
  funext y
  idx_vars y
  have e : y0 = 0 := Subsingleton.elim _ _
  subst e
  exact pay25_at ..

set_option maxHeartbeats 4000000 in
/-- What a point with a later tile leaves in the block of the first scale's gradient. -/
theorem o22B (hc0 : ¬ cond0_0 i) (hc1 : cond0_1 i) (hc2 : ¬ cond0_2 i) (hc3 : cond0_3 i) (hc4 : ¬ cond0_4 i) (hc5 : cond0_5 i) (hc6 : ¬ cond0_6 i) (hc7 : cond0_7 i) : out0_B_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24 = b22 (i 0) x0 x1 x2 x3 x4 x5 x6 x7 x8 x9 x10 x11 xo22 := by
  unfold out0_B_22
  rw [View.read_writes_eq_canon _ _ _ (cover0_B_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S256x512) zeros2, View.ld_unit_zero (S := S256x1024) zeros2, View.ld_unit_zero (S := S1x128x1024) zeros3, View.ld_unit_zero (S := S1x512) zeros2, View.ld_unit_zero (S := S1x1024) zeros2, View.ld_unit_zero (S := S1x128) zeros2, View.ld_unit_zero (S := S1024x1024) zeros2, View.ld_unit_zero (S := S2816x1024) zeros2, harg22.read_unread, harg23.read_unread, harg24.read_unread, harg25.read_unread, View.readCov_unit_zero (S := S256x2816) _ zeros2]
  rw [View.canon_unit_zero zeros2]
  funext y
  idx_vars y
  have e : y0 = 0 := Subsingleton.elim _ _
  subst e
  exact pay43_at ..

set_option maxHeartbeats 4000000 in
/-- What a point with a later tile leaves in the block of the second scale's gradient. -/
theorem o23B (hc0 : ¬ cond0_0 i) (hc1 : cond0_1 i) (hc2 : ¬ cond0_2 i) (hc3 : cond0_3 i) (hc4 : ¬ cond0_4 i) (hc5 : cond0_5 i) (hc6 : ¬ cond0_6 i) (hc7 : cond0_7 i) : out0_B_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24 = b23 (i 0) x0 x1 x2 x3 x4 x5 x6 x7 x8 x9 x10 x11 xo23 := by
  unfold out0_B_23
  rw [View.read_writes_eq_canon _ _ _ (cover0_B_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S256x512) zeros2, View.ld_unit_zero (S := S256x1024) zeros2, View.ld_unit_zero (S := S1x128x1024) zeros3, View.ld_unit_zero (S := S1x512) zeros2, View.ld_unit_zero (S := S1x1024) zeros2, View.ld_unit_zero (S := S1x128) zeros2, View.ld_unit_zero (S := S1024x1024) zeros2, View.ld_unit_zero (S := S2816x1024) zeros2, harg22.read_unread, harg23.read_unread, harg24.read_unread, harg25.read_unread, View.readCov_unit_zero (S := S256x2816) _ zeros2]
  rw [View.canon_unit_zero zeros2]
  funext y
  idx_vars y
  have e : y0 = 0 := Subsingleton.elim _ _
  subst e
  exact pay45_at ..

set_option maxHeartbeats 4000000 in
/-- What a point with a later tile leaves in the block of the norm's scale's gradient. -/
theorem o24B (hc0 : ¬ cond0_0 i) (hc1 : cond0_1 i) (hc2 : ¬ cond0_2 i) (hc3 : cond0_3 i) (hc4 : ¬ cond0_4 i) (hc5 : cond0_5 i) (hc6 : ¬ cond0_6 i) (hc7 : cond0_7 i) : out0_B_24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24 = b24 (i 0) x0 x1 x2 x3 x4 x5 x6 x7 x8 x9 x10 x11 xo24 := by
  unfold out0_B_24
  rw [View.read_writes_eq_canon _ _ _ (cover0_B_24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 hc4 hc5 hc6 hc7 x0 x1 x2 x3 x4 x5 x6 x7 x8 x9 x10 x11 xo21 xo22 xo23 xo24)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S256x512) zeros2, View.ld_unit_zero (S := S256x1024) zeros2, View.ld_unit_zero (S := S1x128x1024) zeros3, View.ld_unit_zero (S := S1x512) zeros2, View.ld_unit_zero (S := S1x1024) zeros2, View.ld_unit_zero (S := S1x128) zeros2, View.ld_unit_zero (S := S1024x1024) zeros2, View.ld_unit_zero (S := S2816x1024) zeros2, harg22.read_unread, harg23.read_unread, harg24.read_unread, harg25.read_unread, View.readCov_unit_zero (S := S256x2816) _ zeros2]
  rw [View.canon_unit_zero zeros2]
  funext y
  idx_vars y
  have e : y0 = 0 := Subsingleton.elim _ _
  subst e
  exact pay37_at ..

end
end Cert.Kernel2Ideal.Gen

end
-- ==== Proof.PostRef.lean ====
/- The reference's values at an index, on real arguments: each is the row's function of `PostRow` over the reals, at the token's row. -/
module

public import proofs.«01_k».proof.Proof.Gen.Reference2Ideal.Read
public import proofs.«01_k».proof.Proof.PostRow
public import Idealize.ShloMosaic.Lib.Pointwise
public import Idealize.ShloMosaic.Lib.IdealHost

@[expose] public section

set_option maxRecDepth 16384

noncomputable section

namespace Cert.Reference2Ideal.Read

open Cert.Post Cert.Reference2Ideal Cert.Reference2Ideal.Gen Idealize.ShloMosaic Idealize.ShloMosaic.TcCoe Idealize.ShloMosaic.Tactic Idealize.SL.Sem

/-- An array of real numbers among the extended reals. -/
def cz {S : Shape} (a : S.Idx → ℝ) : FVec Ideal S .f32 := fun i => (a i : EReal)
/-- Its element. -/
theorem cz_at {S : Shape} (a : S.Idx → ℝ) (i : S.Idx) : cz a i = (a i : EReal) := rfl

/-- The weights, from the arguments. -/
def tokW (a4 a5 : S512.Idx → ℝ) (a6 : S1024.Idx → ℝ) (a7 : S1024x1024.Idx → ℝ) (a8 a9 : S1024x2816.Idx → ℝ) (a10 : S2816x1024.Idx → ℝ) : Wts ℝ where
  ga k := a4 (ix1 k)
  gr k := a5 (ix1 k)
  g2 c := a6 (ix1 c)
  wo k c := a7 (ix2 k c)
  wg j c := a8 (ix2 c j)
  wu j c := a9 (ix2 c j)
  wd j c := a10 (ix2 j c)

/-- A token's row, from the arguments; the first sixteen tokens of a batch have no loss. -/
def tokX (a0 a1 : S2x2064x512.Idx → ℝ) (a2 : S2x2064x1024.Idx → ℝ) (a3 : S2x2048x1024.Idx → ℝ) (b : Fin 2) (s : Fin 2064) : Row ℝ where
  oa k := a0 (ix3 b s k)
  orn k := a1 (ix3 b s k)
  h c := a2 (ix3 b s c)
  t c := if h : 16 ≤ s.val then a3 (ix3 b ⟨s.val - 16, by omega⟩ c) else 0
  on := decide (16 ≤ s.val)

/-- The pattern of 512. -/
theorem b512 : Ideal.ofBits .f32 0x44000000#32 = ((512 : ℝ) : EReal) := by
  simp [Ideal.ofBits, Ideal.ieee, -EReal.coe_mul]
  norm_num
/-- The pattern of 1024. -/
theorem b1024 : Ideal.ofBits .f32 0x44800000#32 = ((1024 : ℝ) : EReal) := by
  simp [Ideal.ofBits, Ideal.ieee, -EReal.coe_mul]
  norm_num
/-- The pattern of two. -/
theorem b2 : Ideal.ofBits .f32 0x40000000#32 = ((2 : ℝ) : EReal) := by
  simp [Ideal.ofBits, Ideal.ieee, -EReal.coe_mul]
  norm_num
/-- The pattern of minus a half. -/
theorem bmhalf : Ideal.ofBits .f32 0xBF000000#32 = ((-(1 / 2) : ℝ) : EReal) := by
  simp [Ideal.ofBits, Ideal.ieee, -EReal.coe_mul]
  norm_num
/-- 512 is not zero. -/
theorem ne512 : (512 : ℝ) ≠ 0 := by norm_num
/-- 1024 is not zero. -/
theorem ne1024 : (1024 : ℝ) ≠ 0 := by norm_num

/-- A host reduction of the first two of three axes keeps one. -/
theorem red_rank {n0 n1 n2 : Nat} {t : Shape} (h : (⟨3, ![n0, n1, n2]⟩ : Shape).ReducesTo [0, 1] t) : t.rank = 1 := h.1
/-- The kept axis. -/
theorem red_lt {n0 n1 n2 : Nat} {t : Shape} (h : (⟨3, ![n0, n1, n2]⟩ : Shape).ReducesTo [0, 1] t) : 0 < t.rank := red_rank h ▸ (by decide)
/-- The kept axis' size. -/
theorem red_size {n0 n1 n2 : Nat} {t : Shape} (h : (⟨3, ![n0, n1, n2]⟩ : Shape).ReducesTo [0, 1] t) : t.size ⟨0, red_lt h⟩ = n2 := h.2 ⟨0, red_lt h⟩
/-- The elements summed into one of a host reduction of the first two of three axes. -/
theorem red_fiber {n0 n1 n2 : Nat} {t : Shape} (h : (⟨3, ![n0, n1, n2]⟩ : Shape).ReducesTo [0, 1] t) (j : t.Idx) (i : (⟨3, ![n0, n1, n2]⟩ : Shape).Idx) :
    h.drop i = j ↔ ∃ k : Fin n0 × Fin n1, ix3 k.1 k.2 ⟨(j ⟨0, red_lt h⟩).val, Shape.coordLt (j ⟨0, red_lt h⟩) (red_size h)⟩ = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e ⟨0, red_lt h⟩)).symm
  · rintro ⟨k, rfl⟩
    funext b
    apply Fin.ext
    match b with
    | ⟨0, _⟩ => rfl
    | ⟨_ + 1, hb⟩ => exact absurd hb (by have := red_rank h; omega)
/-- A host sum over the first two of three axes. -/
theorem red01 {n0 n1 n2 : Nat} {t : Shape} (h : (⟨3, ![n0, n1, n2]⟩ : Shape).ReducesTo [0, 1] t) (v : (⟨3, ![n0, n1, n2]⟩ : Shape).Idx → EReal) (init : EReal) (j : t.Idx) :
    Ideal.hostReduceAdd h v init j = init + ∑ k0 : Fin n0, ∑ k1 : Fin n1, v (ix3 k0 k1 ⟨(j ⟨0, red_lt h⟩).val, Shape.coordLt (j ⟨0, red_lt h⟩) (red_size h)⟩) := by
  refine congrArg (init + ·) ?_
  refine (Finset.sum_filter_eq_sum_of_fiber _ (fun k : Fin n0 × Fin n1 => ix3 k.1 k.2 ⟨(j ⟨0, red_lt h⟩).val, Shape.coordLt (j ⟨0, red_lt h⟩) (red_size h)⟩)
    (fun _ _ e => Prod.ext (congrFun e 0) (congrFun e 1)) (red_fiber h j) v).trans ?_
  simp only [Fintype.sum_prod_type]

section
variable (a0 a1 : S2x2064x512.Idx → ℝ) (a2 : S2x2064x1024.Idx → ℝ) (a3 : S2x2048x1024.Idx → ℝ) (a4 a5 : S512.Idx → ℝ) (a6 : S1024.Idx → ℝ)
  (a7 : S1024x1024.Idx → ℝ) (a8 a9 : S1024x2816.Idx → ℝ) (a10 : S2816x1024.Idx → ℝ) (b : Fin 2) (s : Fin 2064)

/-- The token's `oa`. -/
theorem tX_oa (k : Fin 512) : (tokX a0 a1 a2 a3 b s).oa k = a0 (ix3 b s k) := rfl
/-- The token's `orn`. -/
theorem tX_orn (k : Fin 512) : (tokX a0 a1 a2 a3 b s).orn k = a1 (ix3 b s k) := rfl
/-- The token's `h`. -/
theorem tX_h (k : Fin 1024) : (tokX a0 a1 a2 a3 b s).h k = a2 (ix3 b s k) := rfl
/-- The weights' `ga`. -/
theorem tW_ga (k : Fin 512) : (tokW a4 a5 a6 a7 a8 a9 a10).ga k = a4 (ix1 k) := rfl
/-- The weights' `gr`. -/
theorem tW_gr (k : Fin 512) : (tokW a4 a5 a6 a7 a8 a9 a10).gr k = a5 (ix1 k) := rfl
/-- The weights' `g2`. -/
theorem tW_g2 (k : Fin 1024) : (tokW a4 a5 a6 a7 a8 a9 a10).g2 k = a6 (ix1 k) := rfl
/-- The weights' `wo`. -/
theorem tW_wo (k c : Fin 1024) : (tokW a4 a5 a6 a7 a8 a9 a10).wo k c = a7 (ix2 k c) := rfl
/-- The weights' `wg`. -/
theorem tW_wg (j : Fin 2816) (c : Fin 1024) : (tokW a4 a5 a6 a7 a8 a9 a10).wg j c = a8 (ix2 c j) := rfl
/-- The weights' `wu`. -/
theorem tW_wu (j : Fin 2816) (c : Fin 1024) : (tokW a4 a5 a6 a7 a8 a9 a10).wu j c = a9 (ix2 c j) := rfl
/-- The weights' `wd`. -/
theorem tW_wd (j : Fin 2816) (c : Fin 1024) : (tokW a4 a5 a6 a7 a8 a9 a10).wd j c = a10 (ix2 j c) := rfl

/-- The root's argument of the first heads. -/
theorem r6 : val_main_v6 (F := Ideal) (cz a0) (ix3 b s 0) = (((∑ k, a0 (ix3 b s k) * a0 (ix3 b s k)) * (1 / 512) + eps : ℝ) : EReal) := by
  pointwise [val_main_v6, val_main_v5, val_main_cst_1, val_main_v4, val_main_v3, val_main_cst_0, val_main_v2, val_main_v1, val_main_cst, val_main_v0]
  simp only [zero_bits, zero_add, b512, eps_bits, Ideal.div_coe ne512, cz_at, ← EReal.coe_mul, coe_sum, ← EReal.coe_add, ← EReal.coe_sub, ← EReal.coe_neg]

/-- The reciprocal root of the first heads. -/
theorem r7 : val_main_v7 (F := Ideal) (cz a0) (ix3 b s 0) = ((R.inv (1 / 512) (fun k => a0 (ix3 b s k)) : ℝ) : EReal) := by
  rw [val_main_v7_apply, r6]
  exact rsqrt_pos (arg_pos _ c512_nonneg _)

/-- Minus half the reciprocal root's cube of the first heads. -/
theorem r10 : val_main_v10 (F := Ideal) (cz a0) (ix3 b s 0) = ((-(1 / 2) * (R.inv (1 / 512) (fun k => a0 (ix3 b s k)) * (1 / ((∑ k, a0 (ix3 b s k) * a0 (ix3 b s k)) * (1 / 512) + eps))) : ℝ) : EReal) := by
  pointwise [val_main_v10, val_main_v9, val_main_cst_2, val_main_v8]
  simp only [r6, r7, bmhalf, Ideal.div_coe (arg_pos (1 / 512) c512_nonneg (fun k => a0 (ix3 b s k))).ne', cz_at, ← EReal.coe_mul, coe_sum, ← EReal.coe_add, ← EReal.coe_sub, ← EReal.coe_neg]

/-- The first heads, normed. -/
theorem r12 (k : Fin 512) : val_main_v12 (F := Ideal) (cz a0) (ix3 b s k) = ((R.hat (1 / 512) (fun k => a0 (ix3 b s k)) k : ℝ) : EReal) := by
  unfold R.hat
  pointwise [val_main_v12, val_main_v11]
  simp only [r7, cz_at, ← EReal.coe_mul, coe_sum, ← EReal.coe_add, ← EReal.coe_sub, ← EReal.coe_neg]

/-- The root's argument of the second heads. -/
theorem r22 : val_main_v22 (F := Ideal) (cz a1) (ix3 b s 0) = (((∑ k, a1 (ix3 b s k) * a1 (ix3 b s k)) * (1 / 512) + eps : ℝ) : EReal) := by
  pointwise [val_main_v22, val_main_v21, val_main_cst_5, val_main_v20, val_main_v19, val_main_cst_4, val_main_v18, val_main_v17, val_main_cst_3, val_main_v16]
  simp only [zero_bits, zero_add, b512, eps_bits, Ideal.div_coe ne512, cz_at, ← EReal.coe_mul, coe_sum, ← EReal.coe_add, ← EReal.coe_sub, ← EReal.coe_neg]

/-- The reciprocal root of the second heads. -/
theorem r23 : val_main_v23 (F := Ideal) (cz a1) (ix3 b s 0) = ((R.inv (1 / 512) (fun k => a1 (ix3 b s k)) : ℝ) : EReal) := by
  rw [val_main_v23_apply, r22]
  exact rsqrt_pos (arg_pos _ c512_nonneg _)

/-- Minus half the reciprocal root's cube of the second heads. -/
theorem r26 : val_main_v26 (F := Ideal) (cz a1) (ix3 b s 0) = ((-(1 / 2) * (R.inv (1 / 512) (fun k => a1 (ix3 b s k)) * (1 / ((∑ k, a1 (ix3 b s k) * a1 (ix3 b s k)) * (1 / 512) + eps))) : ℝ) : EReal) := by
  pointwise [val_main_v26, val_main_v25, val_main_cst_6, val_main_v24]
  simp only [r22, r23, bmhalf, Ideal.div_coe (arg_pos (1 / 512) c512_nonneg (fun k => a1 (ix3 b s k))).ne', cz_at, ← EReal.coe_mul, coe_sum, ← EReal.coe_add, ← EReal.coe_sub, ← EReal.coe_neg]

/-- The second heads, normed. -/
theorem r28 (k : Fin 512) : val_main_v28 (F := Ideal) (cz a1) (ix3 b s k) = ((R.hat (1 / 512) (fun k => a1 (ix3 b s k)) k : ℝ) : EReal) := by
  unfold R.hat
  pointwise [val_main_v28, val_main_v27]
  simp only [r23, cz_at, ← EReal.coe_mul, coe_sum, ← EReal.coe_add, ← EReal.coe_sub, ← EReal.coe_neg]

/-- The first heads, normed and scaled. -/
theorem r15 (k : Fin 512) : val_main_v15 (F := Ideal) (cz a0) (cz a4) (ix3 b s k) = ((R.hat (1 / 512) (fun k => a0 (ix3 b s k)) k * a4 (ix1 k) : ℝ) : EReal) := by
  pointwise [val_main_v15, val_main_v14, val_main_v13]
  simp only [r12, cz_at, ← EReal.coe_mul, coe_sum, ← EReal.coe_add, ← EReal.coe_sub, ← EReal.coe_neg]

/-- The second heads, normed and scaled. -/
theorem r31 (k : Fin 512) : val_main_v31 (F := Ideal) (cz a1) (cz a5) (ix3 b s k) = ((R.hat (1 / 512) (fun k => a1 (ix3 b s k)) k * a5 (ix1 k) : ℝ) : EReal) := by
  pointwise [val_main_v31, val_main_v30, val_main_v29]
  simp only [r28, cz_at, ← EReal.coe_mul, coe_sum, ← EReal.coe_add, ← EReal.coe_sub, ← EReal.coe_neg]

/-- The mixed heads. -/
theorem r32 (c : Fin 1024) : val_main_v32 (F := Ideal) (cz a0) (cz a1) (cz a4) (cz a5) (ix3 b s c) = ((R.mix (tokW a4 a5 a6 a7 a8 a9 a10) (tokX a0 a1 a2 a3 b s) c : ℝ) : EReal) := by
  unfold R.mix
  pointwise [val_main_v32]
  simp only [r15, r31, cz_at, ← EReal.coe_mul, coe_sum, ← EReal.coe_add, ← EReal.coe_sub, ← EReal.coe_neg]
  split <;> rfl

/-- The residual stream. -/
theorem r34 (c : Fin 1024) : val_main_v34 (F := Ideal) (cz a0) (cz a1) (cz a2) (cz a4) (cz a5) (cz a7) (ix3 b s c) = ((R.h1 (tokW a4 a5 a6 a7 a8 a9 a10) (tokX a0 a1 a2 a3 b s) c : ℝ) : EReal) := by
  unfold R.h1
  pointwise [val_main_v34, val_main_v33]
  simp only [r32 a0 a1 a2 a3 a4 a5 a6 a7 a8 a9 a10, cz_at, ← EReal.coe_mul, coe_sum, ← EReal.coe_add, ← EReal.coe_sub, ← EReal.coe_neg]
  rfl

/-- The root's argument of the residual stream. -/
theorem r41 : val_main_v41 (F := Ideal) (cz a0) (cz a1) (cz a2) (cz a4) (cz a5) (cz a7) (ix3 b s 0) = (((∑ k, R.h1 (tokW a4 a5 a6 a7 a8 a9 a10) (tokX a0 a1 a2 a3 b s) k * R.h1 (tokW a4 a5 a6 a7 a8 a9 a10) (tokX a0 a1 a2 a3 b s) k) * (1 / 1024) + eps : ℝ) : EReal) := by
  pointwise [val_main_v41, val_main_v40, val_main_cst_9, val_main_v39, val_main_v38, val_main_cst_8, val_main_v37, val_main_v36, val_main_cst_7, val_main_v35]
  simp only [r34 a0 a1 a2 a3 a4 a5 a6 a7 a8 a9 a10, zero_bits, zero_add, b1024, eps_bits, Ideal.div_coe ne1024, cz_at, ← EReal.coe_mul, coe_sum, ← EReal.coe_add, ← EReal.coe_sub, ← EReal.coe_neg]

/-- The reciprocal root of the residual stream. -/
theorem r42 : val_main_v42 (F := Ideal) (cz a0) (cz a1) (cz a2) (cz a4) (cz a5) (cz a7) (ix3 b s 0) = ((R.inv (1 / 1024) (fun k => R.h1 (tokW a4 a5 a6 a7 a8 a9 a10) (tokX a0 a1 a2 a3 b s) k) : ℝ) : EReal) := by
  rw [val_main_v42_apply, r41]
  exact rsqrt_pos (arg_pos _ c1024_nonneg _)

/-- Minus half the reciprocal root's cube of the residual stream. -/
theorem r45 : val_main_v45 (F := Ideal) (cz a0) (cz a1) (cz a2) (cz a4) (cz a5) (cz a7) (ix3 b s 0) = ((-(1 / 2) * (R.inv (1 / 1024) (fun k => R.h1 (tokW a4 a5 a6 a7 a8 a9 a10) (tokX a0 a1 a2 a3 b s) k) * (1 / ((∑ k, R.h1 (tokW a4 a5 a6 a7 a8 a9 a10) (tokX a0 a1 a2 a3 b s) k * R.h1 (tokW a4 a5 a6 a7 a8 a9 a10) (tokX a0 a1 a2 a3 b s) k) * (1 / 1024) + eps))) : ℝ) : EReal) := by
  pointwise [val_main_v45, val_main_v44, val_main_cst_10, val_main_v43]
  simp only [r41 a0 a1 a2 a3 a4 a5 a6 a7 a8 a9 a10, r42 a0 a1 a2 a3 a4 a5 a6 a7 a8 a9 a10, bmhalf, Ideal.div_coe (arg_pos (1 / 1024) c1024_nonneg (fun k => R.h1 (tokW a4 a5 a6 a7 a8 a9 a10) (tokX a0 a1 a2 a3 b s) k)).ne', cz_at, ← EReal.coe_mul, coe_sum, ← EReal.coe_add, ← EReal.coe_sub, ← EReal.coe_neg]

/-- The residual stream, normed. -/
theorem r47 (k : Fin 1024) : val_main_v47 (F := Ideal) (cz a0) (cz a1) (cz a2) (cz a4) (cz a5) (cz a7) (ix3 b s k) = ((R.hat (1 / 1024) (fun k => R.h1 (tokW a4 a5 a6 a7 a8 a9 a10) (tokX a0 a1 a2 a3 b s) k) k : ℝ) : EReal) := by
  unfold R.hat
  pointwise [val_main_v47, val_main_v46]
  simp only [r34 a0 a1 a2 a3 a4 a5 a6 a7 a8 a9 a10, r42 a0 a1 a2 a3 a4 a5 a6 a7 a8 a9 a10, cz_at, ← EReal.coe_mul, coe_sum, ← EReal.coe_add, ← EReal.coe_sub, ← EReal.coe_neg]

/-- The normed and scaled row. -/
theorem r50 (c : Fin 1024) : val_main_v50 (F := Ideal) (cz a0) (cz a1) (cz a2) (cz a4) (cz a5) (cz a6) (cz a7) (ix3 b s c) = ((R.hn (tokW a4 a5 a6 a7 a8 a9 a10) (tokX a0 a1 a2 a3 b s) c : ℝ) : EReal) := by
  unfold R.hn
  pointwise [val_main_v50, val_main_v49, val_main_v48]
  simp only [r47 a0 a1 a2 a3 a4 a5 a6 a7 a8 a9 a10, cz_at, ← EReal.coe_mul, coe_sum, ← EReal.coe_add, ← EReal.coe_sub, ← EReal.coe_neg]
  rfl

/-- The gate. -/
theorem r51 (j : Fin 2816) : val_main_v51 (F := Ideal) (cz a0) (cz a1) (cz a2) (cz a4) (cz a5) (cz a6) (cz a7) (cz a8) (ix3 b s j) = ((R.gate (tokW a4 a5 a6 a7 a8 a9 a10) (tokX a0 a1 a2 a3 b s) j : ℝ) : EReal) := by
  unfold R.gate
  pointwise [val_main_v51]
  simp only [r50 a0 a1 a2 a3 a4 a5 a6 a7 a8 a9 a10, cz_at, ← EReal.coe_mul, coe_sum, ← EReal.coe_add, ← EReal.coe_sub, ← EReal.coe_neg]
  rfl

/-- The other projection. -/
theorem r52 (j : Fin 2816) : val_main_v52 (F := Ideal) (cz a0) (cz a1) (cz a2) (cz a4) (cz a5) (cz a6) (cz a7) (cz a9) (ix3 b s j) = ((R.up (tokW a4 a5 a6 a7 a8 a9 a10) (tokX a0 a1 a2 a3 b s) j : ℝ) : EReal) := by
  unfold R.up
  pointwise [val_main_v52]
  simp only [r50 a0 a1 a2 a3 a4 a5 a6 a7 a8 a9 a10, cz_at, ← EReal.coe_mul, coe_sum, ← EReal.coe_add, ← EReal.coe_sub, ← EReal.coe_neg]
  rfl

/-- The logistic function of the gate. -/
theorem r53_2 (j : Fin 2816) : val_main_v53_2 (F := Ideal) (cz a0) (cz a1) (cz a2) (cz a4) (cz a5) (cz a6) (cz a7) (cz a8) (ix3 b s j) = ((R.sig (R.gate (tokW a4 a5 a6 a7 a8 a9 a10) (tokX a0 a1 a2 a3 b s) j) : ℝ) : EReal) := by
  pointwise [val_main_v53_2, val_main_call0_v4, val_main_call0_cst_0, val_main_call0_v3, val_main_call0_v2, val_main_call0_cst, val_main_call0_v1, val_main_call0_v0]
  simp only [r51 a0 a1 a2 a3 a4 a5 a6 a7 a8 a9 a10, one_bits, ← EReal.coe_one, ← EReal.coe_neg, Ideal.exp_coe, ← EReal.coe_add]
  rw [Ideal.div_coe (add_pos one_pos (Real.exp_pos _)).ne', ← EReal.coe_mul, sig_exp]

/-- The logistic function times what it lacks to one. -/
theorem r53_1 (j : Fin 2816) : val_main_v53_1 (F := Ideal) (cz a0) (cz a1) (cz a2) (cz a4) (cz a5) (cz a6) (cz a7) (cz a8) (ix3 b s j) = ((R.sig (R.gate (tokW a4 a5 a6 a7 a8 a9 a10) (tokX a0 a1 a2 a3 b s) j) * (1 - R.sig (R.gate (tokW a4 a5 a6 a7 a8 a9 a10) (tokX a0 a1 a2 a3 b s) j)) : ℝ) : EReal) := by
  pointwise [val_main_v53_1, val_main_call0_v7, val_main_call0_v6, val_main_call0_cst_1]
  simp only [r53_2 a0 a1 a2 a3 a4 a5 a6 a7 a8 a9 a10, ← EReal.coe_one, cz_at, ← EReal.coe_mul, coe_sum, ← EReal.coe_add, ← EReal.coe_sub, ← EReal.coe_neg]

/-- The gated row. -/
theorem r54 (j : Fin 2816) : val_main_v54 (F := Ideal) (cz a0) (cz a1) (cz a2) (cz a4) (cz a5) (cz a6) (cz a7) (cz a8) (cz a9) (ix3 b s j) = ((R.act (tokW a4 a5 a6 a7 a8 a9 a10) (tokX a0 a1 a2 a3 b s) j : ℝ) : EReal) := by
  unfold R.act
  pointwise [val_main_v54, val_main_v53_0]
  simp only [r51 a0 a1 a2 a3 a4 a5 a6 a7 a8 a9 a10, r52 a0 a1 a2 a3 a4 a5 a6 a7 a8 a9 a10, r53_2 a0 a1 a2 a3 a4 a5 a6 a7 a8 a9 a10, cz_at, ← EReal.coe_mul, coe_sum, ← EReal.coe_add, ← EReal.coe_sub, ← EReal.coe_neg]

/-- The output. -/
theorem r56 (c : Fin 1024) : val_main_v56 (F := Ideal) (cz a0) (cz a1) (cz a2) (cz a4) (cz a5) (cz a6) (cz a7) (cz a8) (cz a9) (cz a10) (ix3 b s c) = ((R.y (tokW a4 a5 a6 a7 a8 a9 a10) (tokX a0 a1 a2 a3 b s) c : ℝ) : EReal) := by
  unfold R.y
  pointwise [val_main_v56, val_main_v55]
  simp only [r34 a0 a1 a2 a3 a4 a5 a6 a7 a8 a9 a10, r54 a0 a1 a2 a3 a4 a5 a6 a7 a8 a9 a10, cz_at, ← EReal.coe_mul, coe_sum, ← EReal.coe_add, ← EReal.coe_sub, ← EReal.coe_neg]
  rfl

/-- The error of a token with a loss. -/
theorem r58 (t : Fin 2048) (c : Fin 1024) : val_main_v58 (F := Ideal) (cz a0) (cz a1) (cz a2) (cz a3) (cz a4) (cz a5) (cz a6) (cz a7) (cz a8) (cz a9) (cz a10) (ix3 b t c) = ((R.err (tokW a4 a5 a6 a7 a8 a9 a10) (tokX a0 a1 a2 a3 b ⟨16 + t.val, by omega⟩) c : ℝ) : EReal) := by
  have e : R.err (tokW a4 a5 a6 a7 a8 a9 a10) (tokX a0 a1 a2 a3 b ⟨16 + t.val, by omega⟩) c = R.y (tokW a4 a5 a6 a7 a8 a9 a10) (tokX a0 a1 a2 a3 b ⟨16 + t.val, by omega⟩) c - a3 (ix3 b t c) := by
    unfold R.err
    simp [tokX]
  rw [e]
  pointwise [val_main_v58, val_main_v57]
  simp only [r56 a0 a1 a2 a3 a4 a5 a6 a7 a8 a9 a10, cz_at, ← EReal.coe_mul, coe_sum, ← EReal.coe_add, ← EReal.coe_sub, ← EReal.coe_neg]

/-- The loss. -/
theorem r66 : val_main_v66 (F := Ideal) (cz a0) (cz a1) (cz a2) (cz a3) (cz a4) (cz a5) (cz a6) (cz a7) (cz a8) (cz a9) (cz a10) ix0 = ((1 / 2 * ∑ b, ∑ t : Fin 2048, R.sq (tokW a4 a5 a6 a7 a8 a9 a10) (tokX a0 a1 a2 a3 b ⟨16 + t.val, by omega⟩) * (1 / 1024) : ℝ) : EReal) := by
  unfold R.sq
  pointwise [val_main_v66, val_main_cst_15, val_main_v65, val_main_cst_14, val_main_v64, val_main_v63, val_main_cst_13, val_main_v62, val_main_cst_12, val_main_v59]
  simp only [r58 a0 a1 a2 a3 a4 a5 a6 a7 a8 a9 a10, half_bits, zero_bits, zero_add, b1024, eps_bits, Ideal.div_coe ne1024, cz_at, ← EReal.coe_mul, coe_sum, ← EReal.coe_add, ← EReal.coe_sub, ← EReal.coe_neg]

/-- The gradient of the output at a token with a loss. -/
theorem r72 (t : Fin 2048) (c : Fin 1024) : val_main_v72 (F := Ideal) (cz a0) (cz a1) (cz a2) (cz a3) (cz a4) (cz a5) (cz a6) (cz a7) (cz a8) (cz a9) (cz a10) (ix3 b t c) = ((R.dy (tokW a4 a5 a6 a7 a8 a9 a10) (tokX a0 a1 a2 a3 b ⟨16 + t.val, by omega⟩) c : ℝ) : EReal) := by
  unfold R.dy
  pointwise [val_main_v72, val_main_v71, val_main_v70, val_main_v69, val_main_cst_18, val_main_v68, val_main_v67, val_main_cst_17, val_main_cst_16, val_main_v61, val_main_v60, val_main_cst_11]
  simp only [r58 a0 a1 a2 a3 a4 a5 a6 a7 a8 a9 a10, half_bits, one_bits, b2, zero_bits, zero_add, b1024, eps_bits, Ideal.div_coe ne1024, cz_at, ← EReal.coe_mul, coe_sum, ← EReal.coe_add, ← EReal.coe_sub, ← EReal.coe_neg]
  exact congrArg _ (by ring)

/-- The gradient of the output. -/
theorem r73 (c : Fin 1024) : val_main_v73 (F := Ideal) (cz a0) (cz a1) (cz a2) (cz a3) (cz a4) (cz a5) (cz a6) (cz a7) (cz a8) (cz a9) (cz a10) (ix3 b s c) = ((R.dy (tokW a4 a5 a6 a7 a8 a9 a10) (tokX a0 a1 a2 a3 b s) c : ℝ) : EReal) := by
  by_cases h : 16 ≤ s.val
  · have e : s = ⟨16 + (s.val - 16), by omega⟩ := Fin.ext (by show s.val = 16 + (s.val - 16); omega)
    have := r72 a0 a1 a2 a3 a4 a5 a6 a7 a8 a9 a10 b ⟨s.val - 16, by omega⟩ c
    rw [show (⟨16 + (⟨s.val - 16, by omega⟩ : Fin 2048).val, by omega⟩ : Fin 2064) = s from e.symm] at this
    rw [← this]
    pointwise [val_main_v73]
    rw [dif_pos (by omega)]
  · rw [dy_off _ _ (by simp [tokX, h])]
    pointwise [val_main_v73, val_main_cst_19]
    rw [dif_neg (by omega), EReal.coe_zero]

/-- The gated row's gradient. -/
theorem r74 (j : Fin 2816) : val_main_v74 (F := Ideal) (cz a0) (cz a1) (cz a2) (cz a3) (cz a4) (cz a5) (cz a6) (cz a7) (cz a8) (cz a9) (cz a10) (ix3 b s j) = ((R.dact (tokW a4 a5 a6 a7 a8 a9 a10) (tokX a0 a1 a2 a3 b s) j : ℝ) : EReal) := by
  unfold R.dact
  pointwise [val_main_v74]
  simp only [r73 a0 a1 a2 a3 a4 a5 a6 a7 a8 a9 a10, cz_at, ← EReal.coe_mul, coe_sum, ← EReal.coe_add, ← EReal.coe_sub, ← EReal.coe_neg]
  rfl

/-- The other projection's gradient. -/
theorem r75 (j : Fin 2816) : val_main_v75 (F := Ideal) (cz a0) (cz a1) (cz a2) (cz a3) (cz a4) (cz a5) (cz a6) (cz a7) (cz a8) (cz a9) (cz a10) (ix3 b s j) = ((R.dup (tokW a4 a5 a6 a7 a8 a9 a10) (tokX a0 a1 a2 a3 b s) j : ℝ) : EReal) := by
  unfold R.dup
  pointwise [val_main_v75, val_main_v53_0]
  simp only [r51 a0 a1 a2 a3 a4 a5 a6 a7 a8 a9 a10, r53_2 a0 a1 a2 a3 a4 a5 a6 a7 a8 a9 a10, r74 a0 a1 a2 a3 a4 a5 a6 a7 a8 a9 a10, cz_at, ← EReal.coe_mul, coe_sum, ← EReal.coe_add, ← EReal.coe_sub, ← EReal.coe_neg]
  exact congrArg _ (by ring)

/-- The gate's gradient. -/
theorem r77 (j : Fin 2816) : val_main_v77 (F := Ideal) (cz a0) (cz a1) (cz a2) (cz a3) (cz a4) (cz a5) (cz a6) (cz a7) (cz a8) (cz a9) (cz a10) (ix3 b s j) = ((R.dgate (tokW a4 a5 a6 a7 a8 a9 a10) (tokX a0 a1 a2 a3 b s) j : ℝ) : EReal) := by
  unfold R.dgate
  pointwise [val_main_v77, val_main_call1_v2, val_main_call1_v1, val_main_call1_v0, val_main_v76]
  simp only [r51 a0 a1 a2 a3 a4 a5 a6 a7 a8 a9 a10, r52 a0 a1 a2 a3 a4 a5 a6 a7 a8 a9 a10, r53_1 a0 a1 a2 a3 a4 a5 a6 a7 a8 a9 a10, r53_2 a0 a1 a2 a3 a4 a5 a6 a7 a8 a9 a10, r74 a0 a1 a2 a3 a4 a5 a6 a7 a8 a9 a10, cz_at, ← EReal.coe_mul, coe_sum, ← EReal.coe_add, ← EReal.coe_sub, ← EReal.coe_neg]
  exact congrArg _ (by ring)

/-- The normed row's gradient. -/
theorem r80 (c : Fin 1024) : val_main_v80 (F := Ideal) (cz a0) (cz a1) (cz a2) (cz a3) (cz a4) (cz a5) (cz a6) (cz a7) (cz a8) (cz a9) (cz a10) (ix3 b s c) = ((R.dhn (tokW a4 a5 a6 a7 a8 a9 a10) (tokX a0 a1 a2 a3 b s) c : ℝ) : EReal) := by
  unfold R.dhn
  pointwise [val_main_v80, val_main_v79, val_main_v78]
  simp only [r75 a0 a1 a2 a3 a4 a5 a6 a7 a8 a9 a10, r77 a0 a1 a2 a3 a4 a5 a6 a7 a8 a9 a10, cz_at, ← EReal.coe_mul, coe_sum, ← EReal.coe_add, ← EReal.coe_sub, ← EReal.coe_neg]
  exact congrArg _ (add_comm _ _)

/-- The second scale's gradient. -/
theorem r176 (c : Fin 1024) : val_main_v176 (F := Ideal) (cz a0) (cz a1) (cz a2) (cz a3) (cz a4) (cz a5) (cz a6) (cz a7) (cz a8) (cz a9) (cz a10) (ix2 0 c) = ((∑ b, ∑ s, R.dg2 (tokW a4 a5 a6 a7 a8 a9 a10) (tokX a0 a1 a2 a3 b s) c : ℝ) : EReal) := by
  unfold R.dg2
  pointwise [val_main_v176, val_main_v86, val_main_cst_21, val_main_v83, val_main_v82, val_main_cst_20, val_main_v81, red01]
  simp only [Fin.sum_univ_one, Finset.univ_unique, Finset.sum_singleton, Fin.default_eq_zero, r47 a0 a1 a2 a3 a4 a5 a6 a7 a8 a9 a10, r80 a0 a1 a2 a3 a4 a5 a6 a7 a8 a9 a10, zero_bits, zero_add, cz_at, ← EReal.coe_mul, coe_sum, ← EReal.coe_add, ← EReal.coe_sub, ← EReal.coe_neg]
  exact congrArg _ (Finset.sum_congr rfl fun _ _ => Finset.sum_congr rfl fun _ _ => mul_comm _ _)

/-- What the residual stream's gradient gets through the root. -/
theorem r96 (k : Fin 1024) : val_main_v96 (F := Ideal) (cz a0) (cz a1) (cz a2) (cz a3) (cz a4) (cz a5) (cz a6) (cz a7) (cz a8) (cz a9) (cz a10) (ix3 b s k) = (((∑ j, R.h1 (tokW a4 a5 a6 a7 a8 a9 a10) (tokX a0 a1 a2 a3 b s) j * (R.dhn (tokW a4 a5 a6 a7 a8 a9 a10) (tokX a0 a1 a2 a3 b s) j * a6 (ix1 j))) * (-(1 / 2) * (R.inv (1 / 1024) (fun k => R.h1 (tokW a4 a5 a6 a7 a8 a9 a10) (tokX a0 a1 a2 a3 b s) k) * (1 / ((∑ k, R.h1 (tokW a4 a5 a6 a7 a8 a9 a10) (tokX a0 a1 a2 a3 b s) k * R.h1 (tokW a4 a5 a6 a7 a8 a9 a10) (tokX a0 a1 a2 a3 b s) k) * (1 / 1024) + eps)))) * (1 / 1024) : ℝ) : EReal) := by
  pointwise [val_main_v96, val_main_v95, val_main_cst_24, val_main_v94, val_main_v93, val_main_cst_23, val_main_v92, val_main_v89, val_main_v88, val_main_cst_22, val_main_v87, val_main_v85, val_main_v84, val_main_v48]
  simp only [Fin.sum_univ_one, Finset.univ_unique, Finset.sum_singleton, Fin.default_eq_zero, r34 a0 a1 a2 a3 a4 a5 a6 a7 a8 a9 a10, r80 a0 a1 a2 a3 a4 a5 a6 a7 a8 a9 a10, r45 a0 a1 a2 a3 a4 a5 a6 a7 a8 a9 a10, zero_bits, zero_add, b1024, eps_bits, Ideal.div_coe ne1024, cz_at, ← EReal.coe_mul, coe_sum, ← EReal.coe_add, ← EReal.coe_sub, ← EReal.coe_neg]

/-- The residual stream's gradient, through the norm. -/
theorem r100 (k : Fin 1024) : val_main_v100 (F := Ideal) (cz a0) (cz a1) (cz a2) (cz a3) (cz a4) (cz a5) (cz a6) (cz a7) (cz a8) (cz a9) (cz a10) (ix3 b s k) = ((R.back (1 / 1024) (fun k => R.h1 (tokW a4 a5 a6 a7 a8 a9 a10) (tokX a0 a1 a2 a3 b s) k) (R.dhn (tokW a4 a5 a6 a7 a8 a9 a10) (tokX a0 a1 a2 a3 b s)) (fun k => a6 (ix1 k)) k : ℝ) : EReal) := by
  rw [← back_chain (1 / 1024) c1024_nonneg]
  pointwise [val_main_v100, val_main_v99, val_main_v98, val_main_v97, val_main_v91, val_main_v90, val_main_v85, val_main_v84, val_main_v48]
  simp only [r34 a0 a1 a2 a3 a4 a5 a6 a7 a8 a9 a10, r80 a0 a1 a2 a3 a4 a5 a6 a7 a8 a9 a10, r42 a0 a1 a2 a3 a4 a5 a6 a7 a8 a9 a10, r96 a0 a1 a2 a3 a4 a5 a6 a7 a8 a9 a10, cz_at, ← EReal.coe_mul, coe_sum, ← EReal.coe_add, ← EReal.coe_sub, ← EReal.coe_neg]

/-- The residual stream's gradient. -/
theorem r101 (c : Fin 1024) : val_main_v101 (F := Ideal) (cz a0) (cz a1) (cz a2) (cz a3) (cz a4) (cz a5) (cz a6) (cz a7) (cz a8) (cz a9) (cz a10) (ix3 b s c) = ((R.dh1 (tokW a4 a5 a6 a7 a8 a9 a10) (tokX a0 a1 a2 a3 b s) c : ℝ) : EReal) := by
  unfold R.dh1
  pointwise [val_main_v101]
  simp only [r73 a0 a1 a2 a3 a4 a5 a6 a7 a8 a9 a10, r100 a0 a1 a2 a3 a4 a5 a6 a7 a8 a9 a10, cz_at, ← EReal.coe_mul, coe_sum, ← EReal.coe_add, ← EReal.coe_sub, ← EReal.coe_neg]
  rfl

/-- The mixed heads' gradient. -/
theorem r102 (k : Fin 1024) : val_main_v102 (F := Ideal) (cz a0) (cz a1) (cz a2) (cz a3) (cz a4) (cz a5) (cz a6) (cz a7) (cz a8) (cz a9) (cz a10) (ix3 b s k) = ((R.dmix (tokW a4 a5 a6 a7 a8 a9 a10) (tokX a0 a1 a2 a3 b s) k : ℝ) : EReal) := by
  unfold R.dmix
  pointwise [val_main_v102]
  simp only [r101 a0 a1 a2 a3 a4 a5 a6 a7 a8 a9 a10, cz_at, ← EReal.coe_mul, coe_sum, ← EReal.coe_add, ← EReal.coe_sub, ← EReal.coe_neg]
  rfl

/-- The first heads' part of it. -/
theorem r103 (k : Fin 512) : val_main_v103 (F := Ideal) (cz a0) (cz a1) (cz a2) (cz a3) (cz a4) (cz a5) (cz a6) (cz a7) (cz a8) (cz a9) (cz a10) (ix3 b s k) = ((R.dma (tokW a4 a5 a6 a7 a8 a9 a10) (tokX a0 a1 a2 a3 b s) k : ℝ) : EReal) := by
  unfold R.dma
  pointwise [val_main_v103]
  simp only [r102 a0 a1 a2 a3 a4 a5 a6 a7 a8 a9 a10, cz_at, ← EReal.coe_mul, coe_sum, ← EReal.coe_add, ← EReal.coe_sub, ← EReal.coe_neg]

/-- The second heads' part of it. -/
theorem r104 (k : Fin 512) : val_main_v104 (F := Ideal) (cz a0) (cz a1) (cz a2) (cz a3) (cz a4) (cz a5) (cz a6) (cz a7) (cz a8) (cz a9) (cz a10) (ix3 b s k) = ((R.dmr (tokW a4 a5 a6 a7 a8 a9 a10) (tokX a0 a1 a2 a3 b s) k : ℝ) : EReal) := by
  unfold R.dmr
  pointwise [val_main_v104]
  simp only [r102 a0 a1 a2 a3 a4 a5 a6 a7 a8 a9 a10, cz_at, ← EReal.coe_mul, coe_sum, ← EReal.coe_add, ← EReal.coe_sub, ← EReal.coe_neg]

/-- The second heads' scale's gradient. -/
theorem r175 (c : Fin 512) : val_main_v175 (F := Ideal) (cz a0) (cz a1) (cz a2) (cz a3) (cz a4) (cz a5) (cz a6) (cz a7) (cz a8) (cz a9) (cz a10) (ix2 0 c) = ((∑ b, ∑ s, R.dgr (tokW a4 a5 a6 a7 a8 a9 a10) (tokX a0 a1 a2 a3 b s) c : ℝ) : EReal) := by
  unfold R.dgr
  pointwise [val_main_v175, val_main_v110, val_main_cst_26, val_main_v107, val_main_v106, val_main_cst_25, val_main_v105, red01]
  simp only [Fin.sum_univ_one, Finset.univ_unique, Finset.sum_singleton, Fin.default_eq_zero, r28, r104 a0 a1 a2 a3 a4 a5 a6 a7 a8 a9 a10, zero_bits, zero_add, cz_at, ← EReal.coe_mul, coe_sum, ← EReal.coe_add, ← EReal.coe_sub, ← EReal.coe_neg]
  exact congrArg _ (Finset.sum_congr rfl fun _ _ => Finset.sum_congr rfl fun _ _ => mul_comm _ _)

/-- What the second heads's gradient gets through the root. -/
theorem r120 (k : Fin 512) : val_main_v120 (F := Ideal) (cz a0) (cz a1) (cz a2) (cz a3) (cz a4) (cz a5) (cz a6) (cz a7) (cz a8) (cz a9) (cz a10) (ix3 b s k) = (((∑ j, a1 (ix3 b s j) * (R.dmr (tokW a4 a5 a6 a7 a8 a9 a10) (tokX a0 a1 a2 a3 b s) j * a5 (ix1 j))) * (-(1 / 2) * (R.inv (1 / 512) (fun k => a1 (ix3 b s k)) * (1 / ((∑ k, a1 (ix3 b s k) * a1 (ix3 b s k)) * (1 / 512) + eps)))) * (1 / 512) : ℝ) : EReal) := by
  pointwise [val_main_v120, val_main_v119, val_main_cst_29, val_main_v118, val_main_v117, val_main_cst_28, val_main_v116, val_main_v113, val_main_v112, val_main_cst_27, val_main_v111, val_main_v109, val_main_v108, val_main_v29]
  simp only [Fin.sum_univ_one, Finset.univ_unique, Finset.sum_singleton, Fin.default_eq_zero, r104 a0 a1 a2 a3 a4 a5 a6 a7 a8 a9 a10, r26, zero_bits, zero_add, b512, eps_bits, Ideal.div_coe ne512, cz_at, ← EReal.coe_mul, coe_sum, ← EReal.coe_add, ← EReal.coe_sub, ← EReal.coe_neg]

/-- The second heads's gradient, through the norm. -/
theorem r124 (k : Fin 512) : val_main_v124 (F := Ideal) (cz a0) (cz a1) (cz a2) (cz a3) (cz a4) (cz a5) (cz a6) (cz a7) (cz a8) (cz a9) (cz a10) (ix3 b s k) = ((R.back (1 / 512) (fun k => a1 (ix3 b s k)) (R.dmr (tokW a4 a5 a6 a7 a8 a9 a10) (tokX a0 a1 a2 a3 b s)) (fun k => a5 (ix1 k)) k : ℝ) : EReal) := by
  rw [← back_chain (1 / 512) c512_nonneg]
  pointwise [val_main_v124, val_main_v123, val_main_v122, val_main_v121, val_main_v115, val_main_v114, val_main_v109, val_main_v108, val_main_v29]
  simp only [r104 a0 a1 a2 a3 a4 a5 a6 a7 a8 a9 a10, r23, r120 a0 a1 a2 a3 a4 a5 a6 a7 a8 a9 a10, cz_at, ← EReal.coe_mul, coe_sum, ← EReal.coe_add, ← EReal.coe_sub, ← EReal.coe_neg]

/-- The first heads' scale's gradient. -/
theorem r174 (c : Fin 512) : val_main_v174 (F := Ideal) (cz a0) (cz a1) (cz a2) (cz a3) (cz a4) (cz a5) (cz a6) (cz a7) (cz a8) (cz a9) (cz a10) (ix2 0 c) = ((∑ b, ∑ s, R.dga (tokW a4 a5 a6 a7 a8 a9 a10) (tokX a0 a1 a2 a3 b s) c : ℝ) : EReal) := by
  unfold R.dga
  pointwise [val_main_v174, val_main_v130, val_main_cst_31, val_main_v127, val_main_v126, val_main_cst_30, val_main_v125, red01]
  simp only [Fin.sum_univ_one, Finset.univ_unique, Finset.sum_singleton, Fin.default_eq_zero, r12, r103 a0 a1 a2 a3 a4 a5 a6 a7 a8 a9 a10, zero_bits, zero_add, cz_at, ← EReal.coe_mul, coe_sum, ← EReal.coe_add, ← EReal.coe_sub, ← EReal.coe_neg]
  exact congrArg _ (Finset.sum_congr rfl fun _ _ => Finset.sum_congr rfl fun _ _ => mul_comm _ _)

/-- What the first heads's gradient gets through the root. -/
theorem r140 (k : Fin 512) : val_main_v140 (F := Ideal) (cz a0) (cz a1) (cz a2) (cz a3) (cz a4) (cz a5) (cz a6) (cz a7) (cz a8) (cz a9) (cz a10) (ix3 b s k) = (((∑ j, a0 (ix3 b s j) * (R.dma (tokW a4 a5 a6 a7 a8 a9 a10) (tokX a0 a1 a2 a3 b s) j * a4 (ix1 j))) * (-(1 / 2) * (R.inv (1 / 512) (fun k => a0 (ix3 b s k)) * (1 / ((∑ k, a0 (ix3 b s k) * a0 (ix3 b s k)) * (1 / 512) + eps)))) * (1 / 512) : ℝ) : EReal) := by
  pointwise [val_main_v140, val_main_v139, val_main_cst_34, val_main_v138, val_main_v137, val_main_cst_33, val_main_v136, val_main_v133, val_main_v132, val_main_cst_32, val_main_v131, val_main_v129, val_main_v128, val_main_v13]
  simp only [Fin.sum_univ_one, Finset.univ_unique, Finset.sum_singleton, Fin.default_eq_zero, r103 a0 a1 a2 a3 a4 a5 a6 a7 a8 a9 a10, r10, zero_bits, zero_add, b512, eps_bits, Ideal.div_coe ne512, cz_at, ← EReal.coe_mul, coe_sum, ← EReal.coe_add, ← EReal.coe_sub, ← EReal.coe_neg]

/-- The first heads's gradient, through the norm. -/
theorem r144 (k : Fin 512) : val_main_v144 (F := Ideal) (cz a0) (cz a1) (cz a2) (cz a3) (cz a4) (cz a5) (cz a6) (cz a7) (cz a8) (cz a9) (cz a10) (ix3 b s k) = ((R.back (1 / 512) (fun k => a0 (ix3 b s k)) (R.dma (tokW a4 a5 a6 a7 a8 a9 a10) (tokX a0 a1 a2 a3 b s)) (fun k => a4 (ix1 k)) k : ℝ) : EReal) := by
  rw [← back_chain (1 / 512) c512_nonneg]
  pointwise [val_main_v144, val_main_v143, val_main_v142, val_main_v141, val_main_v135, val_main_v134, val_main_v129, val_main_v128, val_main_v13]
  simp only [r103 a0 a1 a2 a3 a4 a5 a6 a7 a8 a9 a10, r7, r140 a0 a1 a2 a3 a4 a5 a6 a7 a8 a9 a10, cz_at, ← EReal.coe_mul, coe_sum, ← EReal.coe_add, ← EReal.coe_sub, ← EReal.coe_neg]

end

/-- A padding row. -/
def padX : Row ℝ := ⟨fun _ => 0, fun _ => 0, fun _ => 0, fun _ => 0, false⟩

section
variable (a0 a1 : S2x2064x512.Idx → ℝ) (a2 : S2x2064x1024.Idx → ℝ) (a3 : S2x2048x1024.Idx → ℝ) (a4 a5 : S512.Idx → ℝ) (a6 : S1024.Idx → ℝ)
  (a7 : S1024x1024.Idx → ℝ) (a8 a9 : S1024x2816.Idx → ℝ) (a10 : S2816x1024.Idx → ℝ) (q : Fin 4352)

/-- A row of the padded arrays: each batch is 112 padding rows and its 2064 tokens. -/
def flatX : Row ℝ := if h : 112 ≤ q.val % 2176 then tokX a0 a1 a2 a3 ⟨q.val / 2176, by omega⟩ ⟨q.val % 2176 - 112, by omega⟩ else padX

/-- The result `doa` of the reference. -/
theorem f146 (k : Fin 512) : val_main_v146 (F := Ideal) (cz a0) (cz a1) (cz a2) (cz a3) (cz a4) (cz a5) (cz a6) (cz a7) (cz a8) (cz a9) (cz a10) (ix2 q k) = ((R.doa (tokW a4 a5 a6 a7 a8 a9 a10) (flatX a0 a1 a2 a3 q) k : ℝ) : EReal) := by
  unfold flatX
  split
  · rename_i h
    refine Eq.trans ?_ (r144 a0 a1 a2 a3 a4 a5 a6 a7 a8 a9 a10 ⟨q.val / 2176, by omega⟩ ⟨q.val % 2176 - 112, by omega⟩ k)
    pointwise [val_main_v146, val_main_v145, val_main_call2_v0, val_main_c]
    rw [dif_pos (by omega)]
  · rename_i h
    rw [doa_off _ _ rfl]
    pointwise [val_main_v146, val_main_v145, val_main_call2_v0, val_main_c]
    rw [dif_neg (by omega)]
    show (((0#32 : BitVec 32).toInt : ℝ) : EReal) = ((0 : ℝ) : EReal)
    simp

/-- The result `dorn` of the reference. -/
theorem f148 (k : Fin 512) : val_main_v148 (F := Ideal) (cz a0) (cz a1) (cz a2) (cz a3) (cz a4) (cz a5) (cz a6) (cz a7) (cz a8) (cz a9) (cz a10) (ix2 q k) = ((R.dorn (tokW a4 a5 a6 a7 a8 a9 a10) (flatX a0 a1 a2 a3 q) k : ℝ) : EReal) := by
  unfold flatX
  split
  · rename_i h
    refine Eq.trans ?_ (r124 a0 a1 a2 a3 a4 a5 a6 a7 a8 a9 a10 ⟨q.val / 2176, by omega⟩ ⟨q.val % 2176 - 112, by omega⟩ k)
    pointwise [val_main_v148, val_main_v147, val_main_call3_v0, val_main_c_35]
    rw [dif_pos (by omega)]
  · rename_i h
    rw [dorn_off _ _ rfl]
    pointwise [val_main_v148, val_main_v147, val_main_call3_v0, val_main_c_35]
    rw [dif_neg (by omega)]
    show (((0#32 : BitVec 32).toInt : ℝ) : EReal) = ((0 : ℝ) : EReal)
    simp

/-- The result `dh1` of the reference. -/
theorem f150 (k : Fin 1024) : val_main_v150 (F := Ideal) (cz a0) (cz a1) (cz a2) (cz a3) (cz a4) (cz a5) (cz a6) (cz a7) (cz a8) (cz a9) (cz a10) (ix2 q k) = ((R.dh1 (tokW a4 a5 a6 a7 a8 a9 a10) (flatX a0 a1 a2 a3 q) k : ℝ) : EReal) := by
  unfold flatX
  split
  · rename_i h
    refine Eq.trans ?_ (r101 a0 a1 a2 a3 a4 a5 a6 a7 a8 a9 a10 ⟨q.val / 2176, by omega⟩ ⟨q.val % 2176 - 112, by omega⟩ k)
    pointwise [val_main_v150, val_main_v149, val_main_call4_v0, val_main_c_36]
    rw [dif_pos (by omega)]
  · rename_i h
    rw [dh1_off _ _ rfl]
    pointwise [val_main_v150, val_main_v149, val_main_call4_v0, val_main_c_36]
    rw [dif_neg (by omega)]
    show (((0#32 : BitVec 32).toInt : ℝ) : EReal) = ((0 : ℝ) : EReal)
    simp

/-- The result `mix` of the reference. -/
theorem f154 (k : Fin 1024) : val_main_v154 (F := Ideal) (cz a0) (cz a1) (cz a4) (cz a5) (ix2 k q) = ((R.mix (tokW a4 a5 a6 a7 a8 a9 a10) (flatX a0 a1 a2 a3 q) k : ℝ) : EReal) := by
  unfold flatX
  split
  · rename_i h
    refine Eq.trans ?_ (r32 a0 a1 a2 a3 a4 a5 a6 a7 a8 a9 a10 ⟨q.val / 2176, by omega⟩ ⟨q.val % 2176 - 112, by omega⟩ k)
    pointwise [val_main_v154, val_main_v153, val_main_v152, val_main_v151, val_main_call5_v0, val_main_c_37]
    rw [dif_pos (by omega)]
  · rename_i h
    rw [mix_pad _ _ (fun _ => rfl) (fun _ => rfl)]
    pointwise [val_main_v154, val_main_v153, val_main_v152, val_main_v151, val_main_call5_v0, val_main_c_37]
    rw [dif_neg (by omega)]
    show (((0#32 : BitVec 32).toInt : ℝ) : EReal) = ((0 : ℝ) : EReal)
    simp

/-- The result `hn` of the reference. -/
theorem f157 (k : Fin 1024) : val_main_v157 (F := Ideal) (cz a0) (cz a1) (cz a2) (cz a4) (cz a5) (cz a6) (cz a7) (ix2 q k) = ((R.hn (tokW a4 a5 a6 a7 a8 a9 a10) (flatX a0 a1 a2 a3 q) k : ℝ) : EReal) := by
  unfold flatX
  split
  · rename_i h
    refine Eq.trans ?_ (r50 a0 a1 a2 a3 a4 a5 a6 a7 a8 a9 a10 ⟨q.val / 2176, by omega⟩ ⟨q.val % 2176 - 112, by omega⟩ k)
    pointwise [val_main_v157, val_main_v156, val_main_v155, val_main_call6_v0, val_main_c_38]
    rw [dif_pos (by omega)]
  · rename_i h
    rw [hn_pad _ _ (fun _ => rfl) (fun _ => rfl) (fun _ => rfl)]
    pointwise [val_main_v157, val_main_v156, val_main_v155, val_main_call6_v0, val_main_c_38]
    rw [dif_neg (by omega)]
    show (((0#32 : BitVec 32).toInt : ℝ) : EReal) = ((0 : ℝ) : EReal)
    simp

/-- The result `act` of the reference. -/
theorem f161 (k : Fin 2816) : val_main_v161 (F := Ideal) (cz a0) (cz a1) (cz a2) (cz a4) (cz a5) (cz a6) (cz a7) (cz a8) (cz a9) (ix2 k q) = ((R.act (tokW a4 a5 a6 a7 a8 a9 a10) (flatX a0 a1 a2 a3 q) k : ℝ) : EReal) := by
  unfold flatX
  split
  · rename_i h
    refine Eq.trans ?_ (r54 a0 a1 a2 a3 a4 a5 a6 a7 a8 a9 a10 ⟨q.val / 2176, by omega⟩ ⟨q.val % 2176 - 112, by omega⟩ k)
    pointwise [val_main_v161, val_main_v160, val_main_v159, val_main_v158, val_main_call7_v0, val_main_c_39]
    rw [dif_pos (by omega)]
  · rename_i h
    rw [act_pad _ _ (fun _ => rfl) (fun _ => rfl) (fun _ => rfl)]
    pointwise [val_main_v161, val_main_v160, val_main_v159, val_main_v158, val_main_call7_v0, val_main_c_39]
    rw [dif_neg (by omega)]
    show (((0#32 : BitVec 32).toInt : ℝ) : EReal) = ((0 : ℝ) : EReal)
    simp

/-- The result `dgate` of the reference. -/
theorem f165 (k : Fin 2816) : val_main_v165 (F := Ideal) (cz a0) (cz a1) (cz a2) (cz a3) (cz a4) (cz a5) (cz a6) (cz a7) (cz a8) (cz a9) (cz a10) (ix2 k q) = ((R.dgate (tokW a4 a5 a6 a7 a8 a9 a10) (flatX a0 a1 a2 a3 q) k : ℝ) : EReal) := by
  unfold flatX
  split
  · rename_i h
    refine Eq.trans ?_ (r77 a0 a1 a2 a3 a4 a5 a6 a7 a8 a9 a10 ⟨q.val / 2176, by omega⟩ ⟨q.val % 2176 - 112, by omega⟩ k)
    pointwise [val_main_v165, val_main_v164, val_main_v163, val_main_v162, val_main_call8_v0, val_main_c_40]
    rw [dif_pos (by omega)]
  · rename_i h
    rw [dgate_off _ _ rfl]
    pointwise [val_main_v165, val_main_v164, val_main_v163, val_main_v162, val_main_call8_v0, val_main_c_40]
    rw [dif_neg (by omega)]
    show (((0#32 : BitVec 32).toInt : ℝ) : EReal) = ((0 : ℝ) : EReal)
    simp

/-- The result `dup` of the reference. -/
theorem f169 (k : Fin 2816) : val_main_v169 (F := Ideal) (cz a0) (cz a1) (cz a2) (cz a3) (cz a4) (cz a5) (cz a6) (cz a7) (cz a8) (cz a9) (cz a10) (ix2 k q) = ((R.dup (tokW a4 a5 a6 a7 a8 a9 a10) (flatX a0 a1 a2 a3 q) k : ℝ) : EReal) := by
  unfold flatX
  split
  · rename_i h
    refine Eq.trans ?_ (r75 a0 a1 a2 a3 a4 a5 a6 a7 a8 a9 a10 ⟨q.val / 2176, by omega⟩ ⟨q.val % 2176 - 112, by omega⟩ k)
    pointwise [val_main_v169, val_main_v168, val_main_v167, val_main_v166, val_main_call9_v0, val_main_c_41]
    rw [dif_pos (by omega)]
  · rename_i h
    rw [dup_off _ _ rfl]
    pointwise [val_main_v169, val_main_v168, val_main_v167, val_main_v166, val_main_call9_v0, val_main_c_41]
    rw [dif_neg (by omega)]
    show (((0#32 : BitVec 32).toInt : ℝ) : EReal) = ((0 : ℝ) : EReal)
    simp

/-- The result `dy` of the reference. -/
theorem f172 (k : Fin 1024) : val_main_v172 (F := Ideal) (cz a0) (cz a1) (cz a2) (cz a3) (cz a4) (cz a5) (cz a6) (cz a7) (cz a8) (cz a9) (cz a10) (ix2 q k) = ((R.dy (tokW a4 a5 a6 a7 a8 a9 a10) (flatX a0 a1 a2 a3 q) k : ℝ) : EReal) := by
  unfold flatX
  split
  · rename_i h
    refine Eq.trans ?_ (r73 a0 a1 a2 a3 a4 a5 a6 a7 a8 a9 a10 ⟨q.val / 2176, by omega⟩ ⟨q.val % 2176 - 112, by omega⟩ k)
    pointwise [val_main_v172, val_main_v171, val_main_v170, val_main_call10_v0, val_main_c_42]
    rw [dif_pos (by omega)]
  · rename_i h
    rw [dy_off _ _ rfl]
    pointwise [val_main_v172, val_main_v171, val_main_v170, val_main_call10_v0, val_main_c_42]
    rw [dif_neg (by omega)]
    show (((0#32 : BitVec 32).toInt : ℝ) : EReal) = ((0 : ℝ) : EReal)
    simp

end
end Cert.Reference2Ideal.Read
end
-- ==== Proof.PostHost.lean ====
/- What the input windows of the layer's call read: the rows of the padded arguments and the weights, on real arguments. -/
module

public import proofs.«01_k».proof.Proof.Gen.Kernel2Ideal.Frame.Runs
public import proofs.«01_k».proof.Proof.PostPay
public import proofs.«01_k».proof.Proof.PostRef
public import Idealize.ShloMosaic.Lib.StableHlo.RunRead
public import Idealize.ShloMosaic.Lib.Claim

@[expose] public section

set_option maxRecDepth 16384

noncomputable section

namespace Cert.Kernel2Ideal.Gen

open Cert.Post Cert.Reference2Ideal.Read Idealize.ShloMosaic Idealize.ShloMosaic.TcCoe Idealize.ShloMosaic.Tactic Idealize.SL.Sem Idealize.ShloMosaic.StableHlo

/-- Row `r` of a point's tile, as a row of the arrays. -/
def place (t : Fin cfg0.N) (r : Fin 256) : Fin 4352 := ⟨t.val * 256 + r.val, by have := t.isLt; have : cfg0.N = 17 := N_0; omega⟩

/-- A point's number is its coordinate. -/
theorem coord_eq : ∀ t : Fin cfg0.N, (grid0.coords t 0).val = t.val :=
  (by decide +kernel : ∀ t : Fin grid0.N, (grid0.coords t 0).val = t.val)

/-- The padded rows of the first heads' width. -/
def rows512 (a : FVec Ideal S2x2064x512 .f32) : FVec Ideal S4352x512 .f32 :=
  shapeCast S4352x512 (pad S2x2176x512 ![0, 112, 0] ![0, 0, 0] ![0, 0, 0] a (sitofp .f32 (constantI S_ 32 0#32)) pads_S2x2064x512_S2x2176x512_000_11200_000 h_S_) shapeCasts_S2x2176x512_S4352x512

/-- The padded rows of the residual stream's width. -/
def rows1024 (a : FVec Ideal S2x2064x1024 .f32) : FVec Ideal S4352x1024 .f32 :=
  shapeCast S4352x1024 (pad S2x2176x1024 ![0, 112, 0] ![0, 0, 0] ![0, 0, 0] a (sitofp .f32 (constantI S_ 32 0#32)) pads_S2x2064x1024_S2x2176x1024_000_11200_000 h_S_) shapeCasts_S2x2176x1024_S4352x1024

/-- The output projection, as the call reads it. -/
def matO (a : FVec Ideal S1024x1024 .f32) : FVec Ideal S1024x1024 .bf16 := truncf .bf16 a bitsLt_bf16_f32

/-- A projection to the inner width, as the call reads it. -/
def matT (a : FVec Ideal S1024x2816 .f32) : FVec Ideal S2816x1024 .bf16 :=
  truncf .bf16 (transpose S2816x1024 [1, 0] a transposes_S1024x2816_S2816x1024_1_0) bitsLt_bf16_f32

/-- The projection from the inner width, as the call reads it. -/
def matD (a : FVec Ideal S2816x1024 .f32) : FVec Ideal S2816x1024 .bf16 := truncf .bf16 a bitsLt_bf16_f32

variable (m : (ℓ : Loc nD τ sig) → Buf (Elt Ideal) ℓ) (c : Dev nD)

/-- The first heads, as the call's operand. -/
theorem val0 : (V m c main_v1 : FVec Ideal S4352x512 .f32) = rows512 (m ((c.tc : Thread nD τ).loc main_arg0)) := by
  unfold_abbrev_sides
  simp only [List.flatten_cons, List.flatten_nil, List.append_nil, List.cons_append, List.nil_append, TRef.binary, TRef.unary, TRef.toBuf, TRef.ofBuf, cast_eq]
  after_results_simp
  rfl

/-- The second heads, as the call's operand. -/
theorem val1 : (V m c main_v3 : FVec Ideal S4352x512 .f32) = rows512 (m ((c.tc : Thread nD τ).loc main_arg1)) := by
  unfold_abbrev_sides
  simp only [List.flatten_cons, List.flatten_nil, List.append_nil, List.cons_append, List.nil_append, TRef.binary, TRef.unary, TRef.toBuf, TRef.ofBuf, cast_eq]
  after_results_simp
  rfl

/-- The residual stream, as the call's operand. -/
theorem val2 : (V m c main_v5 : FVec Ideal S4352x1024 .f32) = rows1024 (m ((c.tc : Thread nD τ).loc main_arg2)) := by
  unfold_abbrev_sides
  simp only [List.flatten_cons, List.flatten_nil, List.append_nil, List.cons_append, List.nil_append, TRef.binary, TRef.unary, TRef.toBuf, TRef.ofBuf, cast_eq]
  after_results_simp
  rfl

/-- The first scale, as the call's operand. -/
theorem val5 : (V m c main_v6 : FVec Ideal S1x512 .f32) = shapeCast S1x512 (m ((c.tc : Thread nD τ).loc main_arg4)) shapeCasts_S512_S1x512 := by
  unfold_abbrev_sides
  simp only [List.flatten_cons, List.flatten_nil, List.append_nil, List.cons_append, List.nil_append, TRef.binary, TRef.unary, TRef.toBuf, TRef.ofBuf, cast_eq]
  after_results_simp
  rfl

/-- The second scale, as the call's operand. -/
theorem val6 : (V m c main_v7 : FVec Ideal S1x512 .f32) = shapeCast S1x512 (m ((c.tc : Thread nD τ).loc main_arg5)) shapeCasts_S512_S1x512 := by
  unfold_abbrev_sides
  simp only [List.flatten_cons, List.flatten_nil, List.append_nil, List.cons_append, List.nil_append, TRef.binary, TRef.unary, TRef.toBuf, TRef.ofBuf, cast_eq]
  after_results_simp
  rfl

/-- The norm's scale, as the call's operand. -/
theorem val7 : (V m c main_v8 : FVec Ideal S1x1024 .f32) = shapeCast S1x1024 (m ((c.tc : Thread nD τ).loc main_arg6)) shapeCasts_S1024_S1x1024 := by
  unfold_abbrev_sides
  simp only [List.flatten_cons, List.flatten_nil, List.append_nil, List.cons_append, List.nil_append, TRef.binary, TRef.unary, TRef.toBuf, TRef.ofBuf, cast_eq]
  after_results_simp
  rfl

/-- The output projection, as the call's operand. -/
theorem val8 : (V m c main_v9 : FVec Ideal S1024x1024 .bf16) = matO (m ((c.tc : Thread nD τ).loc main_arg7)) := by
  unfold_abbrev_sides
  simp only [List.flatten_cons, List.flatten_nil, List.append_nil, List.cons_append, List.nil_append, TRef.binary, TRef.unary, TRef.toBuf, TRef.ofBuf, cast_eq]
  after_results_simp
  rfl

/-- The gate's projection, as the call's operand. -/
theorem val9 : (V m c main_v11 : FVec Ideal S2816x1024 .bf16) = matT (m ((c.tc : Thread nD τ).loc main_arg8)) := by
  unfold_abbrev_sides
  simp only [List.flatten_cons, List.flatten_nil, List.append_nil, List.cons_append, List.nil_append, TRef.binary, TRef.unary, TRef.toBuf, TRef.ofBuf, cast_eq]
  after_results_simp
  rfl

/-- The other projection, as the call's operand. -/
theorem val10 : (V m c main_v13 : FVec Ideal S2816x1024 .bf16) = matT (m ((c.tc : Thread nD τ).loc main_arg9)) := by
  unfold_abbrev_sides
  simp only [List.flatten_cons, List.flatten_nil, List.append_nil, List.cons_append, List.nil_append, TRef.binary, TRef.unary, TRef.toBuf, TRef.ofBuf, cast_eq]
  after_results_simp
  rfl

/-- The last projection, as the call's operand. -/
theorem val11 : (V m c main_v14 : FVec Ideal S2816x1024 .bf16) = matD (m ((c.tc : Thread nD τ).loc main_arg10)) := by
  unfold_abbrev_sides
  simp only [List.flatten_cons, List.flatten_nil, List.append_nil, List.cons_append, List.nil_append, TRef.binary, TRef.unary, TRef.toBuf, TRef.ofBuf, cast_eq]
  after_results_simp
  rfl

/-- The targets, as the call's operand. -/
theorem val3 : (V m c main_arg3 : FVec Ideal S2x2048x1024 .f32) = (m ((c.tc : Thread nD τ).loc main_arg3)) := by
  unfold_abbrev_sides
  simp only [List.flatten_cons, List.flatten_nil, List.append_nil, List.cons_append, List.nil_append, TRef.binary, TRef.unary, TRef.toBuf, TRef.ofBuf, cast_eq]
  after_results_simp

/-- The place of window 0's block at each point. -/
theorem place0 : ∀ t : Fin cfg0.N, win0_0.index t 0 = t.val ∧ win0_0.index t 1 = 0 :=
  (by decide +kernel : ∀ t : Fin grid0.N, win0_0.index t 0 = t.val ∧ win0_0.index t 1 = 0)

/-- Window 0's block, at an index. -/
theorem in0 (t : Fin cfg0.N) (r : Fin 256) (l : Fin 512) :
    (iblk m c 0 t : Vec Ideal S256x512 .f32) (ix2 r l) = (V m c main_v1 : Vec Ideal S4352x512 .f32) (ix2 (place t r) l) := by
  have h := place0 t
  show (V m c main_v1 : Vec Ideal S4352x512 .f32) _ = (V m c main_v1 : Vec Ideal S4352x512 .f32) _
  congr 1
  funext a
  apply Fin.ext
  match a with
  | ⟨0, _⟩ => show win0_0.index t 0 * 256 + 1 * r.val = t.val * 256 + r.val; rw [h.1]; omega
  | ⟨1, _⟩ => show win0_0.index t 1 * 512 + 1 * l.val = l.val; rw [h.2]; omega

/-- The place of window 1's block at each point. -/
theorem place1 : ∀ t : Fin cfg0.N, win0_1.index t 0 = t.val ∧ win0_1.index t 1 = 0 :=
  (by decide +kernel : ∀ t : Fin grid0.N, win0_1.index t 0 = t.val ∧ win0_1.index t 1 = 0)

/-- Window 1's block, at an index. -/
theorem in1 (t : Fin cfg0.N) (r : Fin 256) (l : Fin 512) :
    (iblk m c 1 t : Vec Ideal S256x512 .f32) (ix2 r l) = (V m c main_v3 : Vec Ideal S4352x512 .f32) (ix2 (place t r) l) := by
  have h := place1 t
  show (V m c main_v3 : Vec Ideal S4352x512 .f32) _ = (V m c main_v3 : Vec Ideal S4352x512 .f32) _
  congr 1
  funext a
  apply Fin.ext
  match a with
  | ⟨0, _⟩ => show win0_1.index t 0 * 256 + 1 * r.val = t.val * 256 + r.val; rw [h.1]; omega
  | ⟨1, _⟩ => show win0_1.index t 1 * 512 + 1 * l.val = l.val; rw [h.2]; omega

/-- The place of window 2's block at each point. -/
theorem place2 : ∀ t : Fin cfg0.N, win0_2.index t 0 = t.val ∧ win0_2.index t 1 = 0 :=
  (by decide +kernel : ∀ t : Fin grid0.N, win0_2.index t 0 = t.val ∧ win0_2.index t 1 = 0)

/-- Window 2's block, at an index. -/
theorem in2 (t : Fin cfg0.N) (r : Fin 256) (l : Fin 1024) :
    (iblk m c 2 t : Vec Ideal S256x1024 .f32) (ix2 r l) = (V m c main_v5 : Vec Ideal S4352x1024 .f32) (ix2 (place t r) l) := by
  have h := place2 t
  show (V m c main_v5 : Vec Ideal S4352x1024 .f32) _ = (V m c main_v5 : Vec Ideal S4352x1024 .f32) _
  congr 1
  funext a
  apply Fin.ext
  match a with
  | ⟨0, _⟩ => show win0_2.index t 0 * 256 + 1 * r.val = t.val * 256 + r.val; rw [h.1]; omega
  | ⟨1, _⟩ => show win0_2.index t 1 * 1024 + 1 * l.val = l.val; rw [h.2]; omega

/-- The place of window 5's block at each point. -/
theorem place5 : ∀ t : Fin cfg0.N, win0_5.index t 0 = 0 ∧ win0_5.index t 1 = 0 :=
  (by decide +kernel : ∀ t : Fin grid0.N, win0_5.index t 0 = 0 ∧ win0_5.index t 1 = 0)

/-- Window 5's block, at an index. -/
theorem in5 (t : Fin cfg0.N) (r : Fin 1) (l : Fin 512) :
    (iblk m c 5 t : Vec Ideal S1x512 .f32) (ix2 r l) = (V m c main_v6 : Vec Ideal S1x512 .f32) (ix2 r l) := by
  have h := place5 t
  show (V m c main_v6 : Vec Ideal S1x512 .f32) _ = (V m c main_v6 : Vec Ideal S1x512 .f32) _
  congr 1
  funext a
  apply Fin.ext
  match a with
  | ⟨0, _⟩ => show win0_5.index t 0 * 1 + 1 * r.val = r.val; rw [h.1]; omega
  | ⟨1, _⟩ => show win0_5.index t 1 * 512 + 1 * l.val = l.val; rw [h.2]; omega

/-- The place of window 6's block at each point. -/
theorem place6 : ∀ t : Fin cfg0.N, win0_6.index t 0 = 0 ∧ win0_6.index t 1 = 0 :=
  (by decide +kernel : ∀ t : Fin grid0.N, win0_6.index t 0 = 0 ∧ win0_6.index t 1 = 0)

/-- Window 6's block, at an index. -/
theorem in6 (t : Fin cfg0.N) (r : Fin 1) (l : Fin 512) :
    (iblk m c 6 t : Vec Ideal S1x512 .f32) (ix2 r l) = (V m c main_v7 : Vec Ideal S1x512 .f32) (ix2 r l) := by
  have h := place6 t
  show (V m c main_v7 : Vec Ideal S1x512 .f32) _ = (V m c main_v7 : Vec Ideal S1x512 .f32) _
  congr 1
  funext a
  apply Fin.ext
  match a with
  | ⟨0, _⟩ => show win0_6.index t 0 * 1 + 1 * r.val = r.val; rw [h.1]; omega
  | ⟨1, _⟩ => show win0_6.index t 1 * 512 + 1 * l.val = l.val; rw [h.2]; omega

/-- The place of window 7's block at each point. -/
theorem place7 : ∀ t : Fin cfg0.N, win0_7.index t 0 = 0 ∧ win0_7.index t 1 = 0 :=
  (by decide +kernel : ∀ t : Fin grid0.N, win0_7.index t 0 = 0 ∧ win0_7.index t 1 = 0)

/-- Window 7's block, at an index. -/
theorem in7 (t : Fin cfg0.N) (r : Fin 1) (l : Fin 1024) :
    (iblk m c 7 t : Vec Ideal S1x1024 .f32) (ix2 r l) = (V m c main_v8 : Vec Ideal S1x1024 .f32) (ix2 r l) := by
  have h := place7 t
  show (V m c main_v8 : Vec Ideal S1x1024 .f32) _ = (V m c main_v8 : Vec Ideal S1x1024 .f32) _
  congr 1
  funext a
  apply Fin.ext
  match a with
  | ⟨0, _⟩ => show win0_7.index t 0 * 1 + 1 * r.val = r.val; rw [h.1]; omega
  | ⟨1, _⟩ => show win0_7.index t 1 * 1024 + 1 * l.val = l.val; rw [h.2]; omega

/-- The place of window 8's block at each point. -/
theorem place8 : ∀ t : Fin cfg0.N, win0_8.index t 0 = 0 ∧ win0_8.index t 1 = 0 :=
  (by decide +kernel : ∀ t : Fin grid0.N, win0_8.index t 0 = 0 ∧ win0_8.index t 1 = 0)

/-- Window 8's block, at an index. -/
theorem in8 (t : Fin cfg0.N) (r : Fin 1024) (l : Fin 1024) :
    (iblk m c 8 t : Vec Ideal S1024x1024 .bf16) (ix2 r l) = (V m c main_v9 : Vec Ideal S1024x1024 .bf16) (ix2 r l) := by
  have h := place8 t
  show (V m c main_v9 : Vec Ideal S1024x1024 .bf16) _ = (V m c main_v9 : Vec Ideal S1024x1024 .bf16) _
  congr 1
  funext a
  apply Fin.ext
  match a with
  | ⟨0, _⟩ => show win0_8.index t 0 * 1024 + 1 * r.val = r.val; rw [h.1]; omega
  | ⟨1, _⟩ => show win0_8.index t 1 * 1024 + 1 * l.val = l.val; rw [h.2]; omega

/-- The place of window 9's block at each point. -/
theorem place9 : ∀ t : Fin cfg0.N, win0_9.index t 0 = 0 ∧ win0_9.index t 1 = 0 :=
  (by decide +kernel : ∀ t : Fin grid0.N, win0_9.index t 0 = 0 ∧ win0_9.index t 1 = 0)

/-- Window 9's block, at an index. -/
theorem in9 (t : Fin cfg0.N) (r : Fin 2816) (l : Fin 1024) :
    (iblk m c 9 t : Vec Ideal S2816x1024 .bf16) (ix2 r l) = (V m c main_v11 : Vec Ideal S2816x1024 .bf16) (ix2 r l) := by
  have h := place9 t
  show (V m c main_v11 : Vec Ideal S2816x1024 .bf16) _ = (V m c main_v11 : Vec Ideal S2816x1024 .bf16) _
  congr 1
  funext a
  apply Fin.ext
  match a with
  | ⟨0, _⟩ => show win0_9.index t 0 * 2816 + 1 * r.val = r.val; rw [h.1]; omega
  | ⟨1, _⟩ => show win0_9.index t 1 * 1024 + 1 * l.val = l.val; rw [h.2]; omega

/-- The place of window 10's block at each point. -/
theorem place10 : ∀ t : Fin cfg0.N, win0_10.index t 0 = 0 ∧ win0_10.index t 1 = 0 :=
  (by decide +kernel : ∀ t : Fin grid0.N, win0_10.index t 0 = 0 ∧ win0_10.index t 1 = 0)

/-- Window 10's block, at an index. -/
theorem in10 (t : Fin cfg0.N) (r : Fin 2816) (l : Fin 1024) :
    (iblk m c 10 t : Vec Ideal S2816x1024 .bf16) (ix2 r l) = (V m c main_v13 : Vec Ideal S2816x1024 .bf16) (ix2 r l) := by
  have h := place10 t
  show (V m c main_v13 : Vec Ideal S2816x1024 .bf16) _ = (V m c main_v13 : Vec Ideal S2816x1024 .bf16) _
  congr 1
  funext a
  apply Fin.ext
  match a with
  | ⟨0, _⟩ => show win0_10.index t 0 * 2816 + 1 * r.val = r.val; rw [h.1]; omega
  | ⟨1, _⟩ => show win0_10.index t 1 * 1024 + 1 * l.val = l.val; rw [h.2]; omega

/-- The place of window 11's block at each point. -/
theorem place11 : ∀ t : Fin cfg0.N, win0_11.index t 0 = 0 ∧ win0_11.index t 1 = 0 :=
  (by decide +kernel : ∀ t : Fin grid0.N, win0_11.index t 0 = 0 ∧ win0_11.index t 1 = 0)

/-- Window 11's block, at an index. -/
theorem in11 (t : Fin cfg0.N) (r : Fin 2816) (l : Fin 1024) :
    (iblk m c 11 t : Vec Ideal S2816x1024 .bf16) (ix2 r l) = (V m c main_v14 : Vec Ideal S2816x1024 .bf16) (ix2 r l) := by
  have h := place11 t
  show (V m c main_v14 : Vec Ideal S2816x1024 .bf16) _ = (V m c main_v14 : Vec Ideal S2816x1024 .bf16) _
  congr 1
  funext a
  apply Fin.ext
  match a with
  | ⟨0, _⟩ => show win0_11.index t 0 * 2816 + 1 * r.val = r.val; rw [h.1]; omega
  | ⟨1, _⟩ => show win0_11.index t 1 * 1024 + 1 * l.val = l.val; rw [h.2]; omega

/-- The place of window 3's block at each point. -/
theorem place3 : ∀ t : Fin cfg0.N, win0_3.index t 0 = 2 * t.val / 17 ∧ win0_3.index t 1 = 2 * t.val % 17 - 1 ∧ win0_3.index t 2 = 0 :=
  (by decide +kernel : ∀ t : Fin grid0.N, win0_3.index t 0 = 2 * t.val / 17 ∧ win0_3.index t 1 = 2 * t.val % 17 - 1 ∧ win0_3.index t 2 = 0)

/-- Window 3's block, at an index. -/
theorem in3 (t : Fin cfg0.N) (r : Fin 128) (l : Fin 1024) :
    (iblk m c 3 t : Vec Ideal S1x128x1024 .f32) (ix3 0 r l) = (V m c main_arg3 : Vec Ideal S2x2048x1024 .f32)
      (ix3 ⟨2 * t.val / 17, by have := t.isLt; have : cfg0.N = 17 := N_0; omega⟩ ⟨(2 * t.val % 17 - 1) * 128 + r.val, by omega⟩ l) := by
  have h := place3 t
  show (V m c main_arg3 : Vec Ideal S2x2048x1024 .f32) _ = (V m c main_arg3 : Vec Ideal S2x2048x1024 .f32) _
  congr 1
  funext a
  apply Fin.ext
  match a with
  | ⟨0, _⟩ => show win0_3.index t 0 * 1 + 1 * 0 = 2 * t.val / 17; rw [h.1]; omega
  | ⟨1, _⟩ => show win0_3.index t 1 * 128 + 1 * r.val = (2 * t.val % 17 - 1) * 128 + r.val; rw [h.2.1]; omega
  | ⟨2, _⟩ => show win0_3.index t 2 * 1024 + 1 * l.val = l.val; rw [h.2.2]; omega

/-- The place of window 4's block at each point. -/
theorem place4 : ∀ t : Fin cfg0.N, win0_4.index t 0 = (2 * t.val + 1) / 17 ∧ win0_4.index t 1 = (2 * t.val + 1) % 17 - 1 ∧ win0_4.index t 2 = 0 :=
  (by decide +kernel : ∀ t : Fin grid0.N, win0_4.index t 0 = (2 * t.val + 1) / 17 ∧ win0_4.index t 1 = (2 * t.val + 1) % 17 - 1 ∧ win0_4.index t 2 = 0)

/-- Window 4's block, at an index. -/
theorem in4 (t : Fin cfg0.N) (r : Fin 128) (l : Fin 1024) :
    (iblk m c 4 t : Vec Ideal S1x128x1024 .f32) (ix3 0 r l) = (V m c main_arg3 : Vec Ideal S2x2048x1024 .f32)
      (ix3 ⟨(2 * t.val + 1) / 17, by have := t.isLt; have : cfg0.N = 17 := N_0; omega⟩ ⟨((2 * t.val + 1) % 17 - 1) * 128 + r.val, by omega⟩ l) := by
  have h := place4 t
  show (V m c main_arg3 : Vec Ideal S2x2048x1024 .f32) _ = (V m c main_arg3 : Vec Ideal S2x2048x1024 .f32) _
  congr 1
  funext a
  apply Fin.ext
  match a with
  | ⟨0, _⟩ => show win0_4.index t 0 * 1 + 1 * 0 = (2 * t.val + 1) / 17; rw [h.1]; omega
  | ⟨1, _⟩ => show win0_4.index t 1 * 128 + 1 * r.val = ((2 * t.val + 1) % 17 - 1) * 128 + r.val; rw [h.2.1]; omega
  | ⟨2, _⟩ => show win0_4.index t 2 * 1024 + 1 * l.val = l.val; rw [h.2.2]; omega

variable (a0 a1 : S2x2064x512.Idx → ℝ) (a2 : S2x2064x1024.Idx → ℝ) (a3 : S2x2048x1024.Idx → ℝ) (a4 a5 : S512.Idx → ℝ) (a6 : S1024.Idx → ℝ)
  (a7 : S1024x1024.Idx → ℝ) (a8 a9 : S1024x2816.Idx → ℝ) (a10 : S2816x1024.Idx → ℝ)

/-- A padded row's `oa`. -/
theorem flat_oa (q : Fin 4352) (k : Fin 512) : rows512 (cz a0) (ix2 q k) = (((flatX a0 a1 a2 a3 q).oa k : ℝ) : EReal) := by
  unfold flatX
  split
  · rename_i h
    pointwise [rows512]
    rw [dif_pos (by omega)]
    rfl
  · rename_i h
    pointwise [rows512]
    rw [dif_neg (by omega)]
    show (((0#32 : BitVec 32).toInt : ℝ) : EReal) = ((0 : ℝ) : EReal)
    simp

/-- A padded row's `orn`. -/
theorem flat_orn (q : Fin 4352) (k : Fin 512) : rows512 (cz a1) (ix2 q k) = (((flatX a0 a1 a2 a3 q).orn k : ℝ) : EReal) := by
  unfold flatX
  split
  · rename_i h
    pointwise [rows512]
    rw [dif_pos (by omega)]
    rfl
  · rename_i h
    pointwise [rows512]
    rw [dif_neg (by omega)]
    show (((0#32 : BitVec 32).toInt : ℝ) : EReal) = ((0 : ℝ) : EReal)
    simp

/-- A padded row's `h`. -/
theorem flat_h (q : Fin 4352) (k : Fin 1024) : rows1024 (cz a2) (ix2 q k) = (((flatX a0 a1 a2 a3 q).h k : ℝ) : EReal) := by
  unfold flatX
  split
  · rename_i h
    pointwise [rows1024]
    rw [dif_pos (by omega)]
    rfl
  · rename_i h
    pointwise [rows1024]
    rw [dif_neg (by omega)]
    show (((0#32 : BitVec 32).toInt : ℝ) : EReal) = ((0 : ℝ) : EReal)
    simp

/-- Whether a padded row has a loss. -/
theorem flat_on (q : Fin 4352) : (flatX a0 a1 a2 a3 q).on = decide (128 ≤ q.val % 2176) := by
  unfold flatX
  split
  · rename_i h
    show decide (16 ≤ q.val % 2176 - 112) = _
    exact decide_eq_decide.mpr (by omega)
  · rename_i h
    show false = _
    exact (decide_eq_false (by omega)).symm

/-- A padded row's target. -/
theorem flat_t (q : Fin 4352) (k : Fin 1024) : (flatX a0 a1 a2 a3 q).t k
    = if h : 128 ≤ q.val % 2176 then a3 (ix3 ⟨q.val / 2176, by omega⟩ ⟨q.val % 2176 - 128, by omega⟩ k) else 0 := by
  unfold flatX
  split
  · rename_i h
    show (if h : 16 ≤ q.val % 2176 - 112 then a3 (ix3 ⟨q.val / 2176, by omega⟩ ⟨q.val % 2176 - 112 - 16, by omega⟩ k) else 0) = _
    by_cases g : 128 ≤ q.val % 2176
    · rw [dif_pos g, dif_pos (by omega)]
      exact congrArg a3 (congrArg (fun s => ix3 _ s k) (Fin.ext (by show q.val % 2176 - 112 - 16 = q.val % 2176 - 128; omega)))
    · rw [dif_neg g, dif_neg (by omega)]
  · rename_i h
    rw [dif_neg (by omega)]
    rfl

/-- Rows with the same entries are equal. -/
theorem row_ext {X Y : Row EReal} (h0 : X.oa = Y.oa) (h1 : X.orn = Y.orn) (h2 : X.h = Y.h) (h3 : X.t = Y.t) (h4 : X.on = Y.on) : X = Y := by
  cases X; cases Y; cases h0; cases h1; cases h2; cases h3; cases h4; rfl

/-- Weights with the same entries are equal. -/
theorem wts_ext {X Y : Wts EReal} (h0 : X.ga = Y.ga) (h1 : X.gr = Y.gr) (h2 : X.g2 = Y.g2) (h3 : X.wo = Y.wo) (h4 : X.wg = Y.wg) (h5 : X.wu = Y.wu) (h6 : X.wd = Y.wd) : X = Y := by
  cases X; cases Y; cases h0; cases h1; cases h2; cases h3; cases h4; cases h5; cases h6; rfl

/-- The rows of a point's tile are the padded arguments' rows. -/
theorem rows_eq (h0 : (m ((c.tc : Thread nD τ).loc main_arg0)) = cz a0) (h1 : (m ((c.tc : Thread nD τ).loc main_arg1)) = cz a1) (h2 : (m ((c.tc : Thread nD τ).loc main_arg2)) = cz a2) (h3 : (m ((c.tc : Thread nD τ).loc main_arg3)) = cz a3) (t : Fin cfg0.N) (r : Fin 256) :
    rowOf (grid0.coords t 0) (iblk m c 0 t) (iblk m c 1 t) (iblk m c 2 t) (iblk m c 3 t) (iblk m c 4 t) r = (flatX a0 a1 a2 a3 (place t r)).coe := by
  have hon : onAt (grid0.coords t 0) r = decide (128 ≤ (place t r).val % 2176) := by
    unfold onAt
    rw [coord_eq t]
    rfl
  refine row_ext ?_ ?_ ?_ ?_ ?_
  · funext k
    refine (in0 m c t r k).trans ?_
    rw [val0, h0]
    exact flat_oa a0 a1 a2 a3 (place t r) k
  · funext k
    refine (in1 m c t r k).trans ?_
    rw [val1, h1]
    exact flat_orn a0 a1 a2 a3 (place t r) k
  · funext k
    refine (in2 m c t r k).trans ?_
    rw [val2, h2]
    exact flat_h a0 a1 a2 a3 (place t r) k
  · funext k
    show (if onAt (grid0.coords t 0) r then (if h : r.val < 128 then (iblk m c 3 t : Vec Ideal S1x128x1024 .f32) (ix3 0 ⟨r.val, h⟩ k)
      else (iblk m c 4 t : Vec Ideal S1x128x1024 .f32) (ix3 0 ⟨r.val - 128, by omega⟩ k)) else (0 : EReal)) = (((flatX a0 a1 a2 a3 (place t r)).t k : ℝ) : EReal)
    rw [hon, flat_t]
    by_cases g : 128 ≤ (place t r).val % 2176
    · have g' : 128 ≤ (t.val * 256 + r.val) % 2176 := g
      rw [dif_pos g, if_pos (decide_eq_true g)]
      by_cases hr : r.val < 128
      · rw [dif_pos hr, in3, val3, h3]
        refine congrArg (fun x : ℝ => (x : EReal)) ?_
        refine congrArg₂ (fun b s => a3 (ix3 b s k)) (Fin.ext ?_) (Fin.ext ?_)
        · show 2 * t.val / 17 = (t.val * 256 + r.val) / 2176
          omega
        · show (2 * t.val % 17 - 1) * 128 + r.val = (t.val * 256 + r.val) % 2176 - 128
          omega
      · rw [dif_neg hr, in4, val3, h3]
        refine congrArg (fun x : ℝ => (x : EReal)) ?_
        refine congrArg₂ (fun b s => a3 (ix3 b s k)) (Fin.ext ?_) (Fin.ext ?_)
        · show (2 * t.val + 1) / 17 = (t.val * 256 + r.val) / 2176
          omega
        · show ((2 * t.val + 1) % 17 - 1) * 128 + (r.val - 128) = (t.val * 256 + r.val) % 2176 - 128
          omega
    · rw [dif_neg g, if_neg (by simpa using g)]
      rfl
  · show onAt (grid0.coords t 0) r = (flatX a0 a1 a2 a3 (place t r)).on
    rw [hon, flat_on]

/-- A cast matrix, at an index. -/
theorem cast_wo (a : S1024x1024.Idx → ℝ) (j k : Fin 1024) : matO (cz a) (ix2 j k) = ((a (ix2 j k) : ℝ) : EReal) := by
  rfl

/-- A cast matrix, at an index. -/
theorem cast_wd (a : S2816x1024.Idx → ℝ) (j : Fin 2816) (k : Fin 1024) : matD (cz a) (ix2 j k) = ((a (ix2 j k) : ℝ) : EReal) := by
  rfl

/-- A transposed and cast matrix, at an index. -/
theorem cast_tr (a : S1024x2816.Idx → ℝ) (j : Fin 2816) (k : Fin 1024) : matT (cz a) (ix2 j k) = ((a (ix2 k j) : ℝ) : EReal) := by
  refine congrArg (fun x : ℝ => (x : EReal)) ?_
  refine congrArg a ?_
  funext i
  match i with
  | ⟨0, _⟩ => rfl
  | ⟨1, _⟩ => rfl

/-- A vector as a row, at an index. -/
theorem row_512 (a : S512.Idx → ℝ) (k : Fin 512) : shapeCast S1x512 (cz a : FVec Ideal S512 .f32) shapeCasts_S512_S1x512 (ix2 0 k) = ((a (ix1 k) : ℝ) : EReal) := by
  pointwise [cz]

/-- A vector as a row, at an index. -/
theorem row_1024 (a : S1024.Idx → ℝ) (k : Fin 1024) : shapeCast S1x1024 (cz a : FVec Ideal S1024 .f32) shapeCasts_S1024_S1x1024 (ix2 0 k) = ((a (ix1 k) : ℝ) : EReal) := by
  pointwise [cz]

/-- The block of `ga`, at an index. -/
theorem wt_ga (h : (m ((c.tc : Thread nD τ).loc main_arg4)) = cz a4) (t : Fin cfg0.N) (k : Fin 512) : (iblk m c 5 t : Vec Ideal S1x512 .f32) (ix2 0 k) = ((a4 (ix1 k) : ℝ) : EReal) := by
  refine (in5 m c t 0 k).trans ((congrFun (val5 m c) _).trans ?_)
  rw [h]
  exact row_512 a4 k

/-- The block of `gr`, at an index. -/
theorem wt_gr (h : (m ((c.tc : Thread nD τ).loc main_arg5)) = cz a5) (t : Fin cfg0.N) (k : Fin 512) : (iblk m c 6 t : Vec Ideal S1x512 .f32) (ix2 0 k) = ((a5 (ix1 k) : ℝ) : EReal) := by
  refine (in6 m c t 0 k).trans ((congrFun (val6 m c) _).trans ?_)
  rw [h]
  exact row_512 a5 k

/-- The block of `g2`, at an index. -/
theorem wt_g2 (h : (m ((c.tc : Thread nD τ).loc main_arg6)) = cz a6) (t : Fin cfg0.N) (k : Fin 1024) : (iblk m c 7 t : Vec Ideal S1x1024 .f32) (ix2 0 k) = ((a6 (ix1 k) : ℝ) : EReal) := by
  refine (in7 m c t 0 k).trans ((congrFun (val7 m c) _).trans ?_)
  rw [h]
  exact row_1024 a6 k

/-- The block of `wo`, at an index. -/
theorem wt_wo (h : (m ((c.tc : Thread nD τ).loc main_arg7)) = cz a7) (t : Fin cfg0.N) (j : Fin 1024) (k : Fin 1024) : (iblk m c 8 t : Vec Ideal S1024x1024 .bf16) (ix2 j k) = ((a7 (ix2 j k) : ℝ) : EReal) := by
  refine (in8 m c t j k).trans ((congrFun (val8 m c) _).trans ?_)
  rw [h]
  exact cast_wo a7 j k

/-- The block of `wg`, at an index. -/
theorem wt_wg (h : (m ((c.tc : Thread nD τ).loc main_arg8)) = cz a8) (t : Fin cfg0.N) (j : Fin 2816) (k : Fin 1024) : (iblk m c 9 t : Vec Ideal S2816x1024 .bf16) (ix2 j k) = ((a8 (ix2 k j) : ℝ) : EReal) := by
  refine (in9 m c t j k).trans ((congrFun (val9 m c) _).trans ?_)
  rw [h]
  exact cast_tr a8 j k

/-- The block of `wu`, at an index. -/
theorem wt_wu (h : (m ((c.tc : Thread nD τ).loc main_arg9)) = cz a9) (t : Fin cfg0.N) (j : Fin 2816) (k : Fin 1024) : (iblk m c 10 t : Vec Ideal S2816x1024 .bf16) (ix2 j k) = ((a9 (ix2 k j) : ℝ) : EReal) := by
  refine (in10 m c t j k).trans ((congrFun (val10 m c) _).trans ?_)
  rw [h]
  exact cast_tr a9 j k

/-- The block of `wd`, at an index. -/
theorem wt_wd (h : (m ((c.tc : Thread nD τ).loc main_arg10)) = cz a10) (t : Fin cfg0.N) (j : Fin 2816) (k : Fin 1024) : (iblk m c 11 t : Vec Ideal S2816x1024 .bf16) (ix2 j k) = ((a10 (ix2 j k) : ℝ) : EReal) := by
  refine (in11 m c t j k).trans ((congrFun (val11 m c) _).trans ?_)
  rw [h]
  exact cast_wd a10 j k

/-- The weights of a point are the arguments' weights. -/
theorem wts_eq (h4 : (m ((c.tc : Thread nD τ).loc main_arg4)) = cz a4) (h5 : (m ((c.tc : Thread nD τ).loc main_arg5)) = cz a5) (h6 : (m ((c.tc : Thread nD τ).loc main_arg6)) = cz a6) (h7 : (m ((c.tc : Thread nD τ).loc main_arg7)) = cz a7) (h8 : (m ((c.tc : Thread nD τ).loc main_arg8)) = cz a8) (h9 : (m ((c.tc : Thread nD τ).loc main_arg9)) = cz a9) (h10 : (m ((c.tc : Thread nD τ).loc main_arg10)) = cz a10) (t : Fin cfg0.N) :
    wtsOf (iblk m c 5 t) (iblk m c 6 t) (iblk m c 7 t) (iblk m c 8 t) (iblk m c 9 t) (iblk m c 10 t) (iblk m c 11 t) = (tokW a4 a5 a6 a7 a8 a9 a10).coe := by
  refine wts_ext ?_ ?_ ?_ ?_ ?_ ?_ ?_
  · funext k
    exact wt_ga m c a4 h4 t k
  · funext k
    exact wt_gr m c a5 h5 t k
  · funext k
    exact wt_g2 m c a6 h6 t k
  · funext j k
    exact wt_wo m c a7 h7 t j k
  · funext j k
    exact wt_wg m c a8 h8 t j k
  · funext j k
    exact wt_wu m c a9 h9 t j k
  · funext j k
    exact wt_wd m c a10 h10 t j k

end Cert.Kernel2Ideal.Gen

end
-- ==== Proof.PostArrays.lean ====
/- The thirteen output arrays of the layer's call after its seventeen points, when the blocks that its input windows read hold real
   rows and real weights: each row's values, and for the four accumulators the sums over all rows. -/
module

public import proofs.«01_k».proof.Proof.PostFrame
public import proofs.«01_k».proof.Proof.PostBlocks
public import proofs.«01_k».proof.Proof.PostHost

@[expose] public section

set_option maxRecDepth 16384

noncomputable section

namespace Cert.Kernel2Ideal.Gen

open Cert.Post Cert.Kernel2Ideal.Value Idealize.ShloMosaic Idealize.ShloMosaic.TcCoe Idealize.ShloMosaic.Tactic Idealize.SL.Sem

/-- The place of window 12's block at each point. -/
theorem place12 : ∀ t : Fin cfg0.N, win0_12.index t 0 = t.val ∧ win0_12.index t 1 = 0 :=
  (by decide +kernel : ∀ t : Fin grid0.N, win0_12.index t 0 = t.val ∧ win0_12.index t 1 = 0)

/-- Window 12's block of an array, at an index. -/
theorem read12 (f : Vec Ideal S4352x512 .f32) (t : Fin cfg0.N) (r : Fin 256) (l : Fin 512) :
    (((cfg0.win 12).blk t).view.read (Elt Ideal) f : Vec Ideal S256x512 .f32) (ix2 r l) = f (ix2 (place t r) l) := by
  rw [View.read_apply]
  have h := place12 t
  show f _ = f _
  congr 1
  funext a
  apply Fin.ext
  match a with
  | ⟨0, _⟩ => show win0_12.index t 0 * 256 + 1 * r.val = t.val * 256 + r.val; rw [h.1]; omega
  | ⟨1, _⟩ => show win0_12.index t 1 * 512 + 1 * l.val = l.val; rw [h.2]; omega

/-- The place of window 13's block at each point. -/
theorem place13 : ∀ t : Fin cfg0.N, win0_13.index t 0 = t.val ∧ win0_13.index t 1 = 0 :=
  (by decide +kernel : ∀ t : Fin grid0.N, win0_13.index t 0 = t.val ∧ win0_13.index t 1 = 0)

/-- Window 13's block of an array, at an index. -/
theorem read13 (f : Vec Ideal S4352x512 .f32) (t : Fin cfg0.N) (r : Fin 256) (l : Fin 512) :
    (((cfg0.win 13).blk t).view.read (Elt Ideal) f : Vec Ideal S256x512 .f32) (ix2 r l) = f (ix2 (place t r) l) := by
  rw [View.read_apply]
  have h := place13 t
  show f _ = f _
  congr 1
  funext a
  apply Fin.ext
  match a with
  | ⟨0, _⟩ => show win0_13.index t 0 * 256 + 1 * r.val = t.val * 256 + r.val; rw [h.1]; omega
  | ⟨1, _⟩ => show win0_13.index t 1 * 512 + 1 * l.val = l.val; rw [h.2]; omega

/-- The place of window 14's block at each point. -/
theorem place14 : ∀ t : Fin cfg0.N, win0_14.index t 0 = t.val ∧ win0_14.index t 1 = 0 :=
  (by decide +kernel : ∀ t : Fin grid0.N, win0_14.index t 0 = t.val ∧ win0_14.index t 1 = 0)

/-- Window 14's block of an array, at an index. -/
theorem read14 (f : Vec Ideal S4352x1024 .f32) (t : Fin cfg0.N) (r : Fin 256) (l : Fin 1024) :
    (((cfg0.win 14).blk t).view.read (Elt Ideal) f : Vec Ideal S256x1024 .f32) (ix2 r l) = f (ix2 (place t r) l) := by
  rw [View.read_apply]
  have h := place14 t
  show f _ = f _
  congr 1
  funext a
  apply Fin.ext
  match a with
  | ⟨0, _⟩ => show win0_14.index t 0 * 256 + 1 * r.val = t.val * 256 + r.val; rw [h.1]; omega
  | ⟨1, _⟩ => show win0_14.index t 1 * 1024 + 1 * l.val = l.val; rw [h.2]; omega

/-- The place of window 15's block at each point. -/
theorem place15 : ∀ t : Fin cfg0.N, win0_15.index t 0 = 0 ∧ win0_15.index t 1 = t.val :=
  (by decide +kernel : ∀ t : Fin grid0.N, win0_15.index t 0 = 0 ∧ win0_15.index t 1 = t.val)

/-- Window 15's block of an array, at an index. -/
theorem read15 (f : Vec Ideal S1024x4352 .bf16) (t : Fin cfg0.N) (r : Fin 1024) (l : Fin 256) :
    (((cfg0.win 15).blk t).view.read (Elt Ideal) f : Vec Ideal S1024x256 .bf16) (ix2 r l) = f (ix2 r (place t l)) := by
  rw [View.read_apply]
  have h := place15 t
  show f _ = f _
  congr 1
  funext a
  apply Fin.ext
  match a with
  | ⟨0, _⟩ => show win0_15.index t 0 * 1024 + 1 * r.val = r.val; rw [h.1]; omega
  | ⟨1, _⟩ => show win0_15.index t 1 * 256 + 1 * l.val = t.val * 256 + l.val; rw [h.2]; omega

/-- The place of window 16's block at each point. -/
theorem place16 : ∀ t : Fin cfg0.N, win0_16.index t 0 = t.val ∧ win0_16.index t 1 = 0 :=
  (by decide +kernel : ∀ t : Fin grid0.N, win0_16.index t 0 = t.val ∧ win0_16.index t 1 = 0)

/-- Window 16's block of an array, at an index. -/
theorem read16 (f : Vec Ideal S4352x1024 .bf16) (t : Fin cfg0.N) (r : Fin 256) (l : Fin 1024) :
    (((cfg0.win 16).blk t).view.read (Elt Ideal) f : Vec Ideal S256x1024 .bf16) (ix2 r l) = f (ix2 (place t r) l) := by
  rw [View.read_apply]
  have h := place16 t
  show f _ = f _
  congr 1
  funext a
  apply Fin.ext
  match a with
  | ⟨0, _⟩ => show win0_16.index t 0 * 256 + 1 * r.val = t.val * 256 + r.val; rw [h.1]; omega
  | ⟨1, _⟩ => show win0_16.index t 1 * 1024 + 1 * l.val = l.val; rw [h.2]; omega

/-- The place of window 17's block at each point. -/
theorem place17 : ∀ t : Fin cfg0.N, win0_17.index t 0 = 0 ∧ win0_17.index t 1 = t.val :=
  (by decide +kernel : ∀ t : Fin grid0.N, win0_17.index t 0 = 0 ∧ win0_17.index t 1 = t.val)

/-- Window 17's block of an array, at an index. -/
theorem read17 (f : Vec Ideal S2816x4352 .bf16) (t : Fin cfg0.N) (r : Fin 2816) (l : Fin 256) :
    (((cfg0.win 17).blk t).view.read (Elt Ideal) f : Vec Ideal S2816x256 .bf16) (ix2 r l) = f (ix2 r (place t l)) := by
  rw [View.read_apply]
  have h := place17 t
  show f _ = f _
  congr 1
  funext a
  apply Fin.ext
  match a with
  | ⟨0, _⟩ => show win0_17.index t 0 * 2816 + 1 * r.val = r.val; rw [h.1]; omega
  | ⟨1, _⟩ => show win0_17.index t 1 * 256 + 1 * l.val = t.val * 256 + l.val; rw [h.2]; omega

/-- The place of window 18's block at each point. -/
theorem place18 : ∀ t : Fin cfg0.N, win0_18.index t 0 = 0 ∧ win0_18.index t 1 = t.val :=
  (by decide +kernel : ∀ t : Fin grid0.N, win0_18.index t 0 = 0 ∧ win0_18.index t 1 = t.val)

/-- Window 18's block of an array, at an index. -/
theorem read18 (f : Vec Ideal S2816x4352 .bf16) (t : Fin cfg0.N) (r : Fin 2816) (l : Fin 256) :
    (((cfg0.win 18).blk t).view.read (Elt Ideal) f : Vec Ideal S2816x256 .bf16) (ix2 r l) = f (ix2 r (place t l)) := by
  rw [View.read_apply]
  have h := place18 t
  show f _ = f _
  congr 1
  funext a
  apply Fin.ext
  match a with
  | ⟨0, _⟩ => show win0_18.index t 0 * 2816 + 1 * r.val = r.val; rw [h.1]; omega
  | ⟨1, _⟩ => show win0_18.index t 1 * 256 + 1 * l.val = t.val * 256 + l.val; rw [h.2]; omega

/-- The place of window 19's block at each point. -/
theorem place19 : ∀ t : Fin cfg0.N, win0_19.index t 0 = 0 ∧ win0_19.index t 1 = t.val :=
  (by decide +kernel : ∀ t : Fin grid0.N, win0_19.index t 0 = 0 ∧ win0_19.index t 1 = t.val)

/-- Window 19's block of an array, at an index. -/
theorem read19 (f : Vec Ideal S2816x4352 .bf16) (t : Fin cfg0.N) (r : Fin 2816) (l : Fin 256) :
    (((cfg0.win 19).blk t).view.read (Elt Ideal) f : Vec Ideal S2816x256 .bf16) (ix2 r l) = f (ix2 r (place t l)) := by
  rw [View.read_apply]
  have h := place19 t
  show f _ = f _
  congr 1
  funext a
  apply Fin.ext
  match a with
  | ⟨0, _⟩ => show win0_19.index t 0 * 2816 + 1 * r.val = r.val; rw [h.1]; omega
  | ⟨1, _⟩ => show win0_19.index t 1 * 256 + 1 * l.val = t.val * 256 + l.val; rw [h.2]; omega

/-- The place of window 20's block at each point. -/
theorem place20 : ∀ t : Fin cfg0.N, win0_20.index t 0 = t.val ∧ win0_20.index t 1 = 0 :=
  (by decide +kernel : ∀ t : Fin grid0.N, win0_20.index t 0 = t.val ∧ win0_20.index t 1 = 0)

/-- Window 20's block of an array, at an index. -/
theorem read20 (f : Vec Ideal S4352x1024 .bf16) (t : Fin cfg0.N) (r : Fin 256) (l : Fin 1024) :
    (((cfg0.win 20).blk t).view.read (Elt Ideal) f : Vec Ideal S256x1024 .bf16) (ix2 r l) = f (ix2 (place t r) l) := by
  rw [View.read_apply]
  have h := place20 t
  show f _ = f _
  congr 1
  funext a
  apply Fin.ext
  match a with
  | ⟨0, _⟩ => show win0_20.index t 0 * 256 + 1 * r.val = t.val * 256 + r.val; rw [h.1]; omega
  | ⟨1, _⟩ => show win0_20.index t 1 * 1024 + 1 * l.val = l.val; rw [h.2]; omega

/-- The place of window 21's block at each point. -/
theorem place21 : ∀ t : Fin cfg0.N, win0_21.index t 0 = 0 ∧ win0_21.index t 1 = 0 :=
  (by decide +kernel : ∀ t : Fin grid0.N, win0_21.index t 0 = 0 ∧ win0_21.index t 1 = 0)

/-- Window 21's block of an array, at an index. -/
theorem read21 (f : Vec Ideal S1x128 .f32) (t : Fin cfg0.N) (r : Fin 1) (l : Fin 128) :
    (((cfg0.win 21).blk t).view.read (Elt Ideal) f : Vec Ideal S1x128 .f32) (ix2 r l) = f (ix2 r l) := by
  rw [View.read_apply]
  have h := place21 t
  show f _ = f _
  congr 1
  funext a
  apply Fin.ext
  match a with
  | ⟨0, _⟩ => show win0_21.index t 0 * 1 + 1 * r.val = r.val; rw [h.1]; omega
  | ⟨1, _⟩ => show win0_21.index t 1 * 128 + 1 * l.val = l.val; rw [h.2]; omega

/-- The place of window 22's block at each point. -/
theorem place22 : ∀ t : Fin cfg0.N, win0_22.index t 0 = 0 ∧ win0_22.index t 1 = 0 :=
  (by decide +kernel : ∀ t : Fin grid0.N, win0_22.index t 0 = 0 ∧ win0_22.index t 1 = 0)

/-- Window 22's block of an array, at an index. -/
theorem read22 (f : Vec Ideal S1x512 .f32) (t : Fin cfg0.N) (r : Fin 1) (l : Fin 512) :
    (((cfg0.win 22).blk t).view.read (Elt Ideal) f : Vec Ideal S1x512 .f32) (ix2 r l) = f (ix2 r l) := by
  rw [View.read_apply]
  have h := place22 t
  show f _ = f _
  congr 1
  funext a
  apply Fin.ext
  match a with
  | ⟨0, _⟩ => show win0_22.index t 0 * 1 + 1 * r.val = r.val; rw [h.1]; omega
  | ⟨1, _⟩ => show win0_22.index t 1 * 512 + 1 * l.val = l.val; rw [h.2]; omega

/-- The place of window 23's block at each point. -/
theorem place23 : ∀ t : Fin cfg0.N, win0_23.index t 0 = 0 ∧ win0_23.index t 1 = 0 :=
  (by decide +kernel : ∀ t : Fin grid0.N, win0_23.index t 0 = 0 ∧ win0_23.index t 1 = 0)

/-- Window 23's block of an array, at an index. -/
theorem read23 (f : Vec Ideal S1x512 .f32) (t : Fin cfg0.N) (r : Fin 1) (l : Fin 512) :
    (((cfg0.win 23).blk t).view.read (Elt Ideal) f : Vec Ideal S1x512 .f32) (ix2 r l) = f (ix2 r l) := by
  rw [View.read_apply]
  have h := place23 t
  show f _ = f _
  congr 1
  funext a
  apply Fin.ext
  match a with
  | ⟨0, _⟩ => show win0_23.index t 0 * 1 + 1 * r.val = r.val; rw [h.1]; omega
  | ⟨1, _⟩ => show win0_23.index t 1 * 512 + 1 * l.val = l.val; rw [h.2]; omega

/-- The place of window 24's block at each point. -/
theorem place24 : ∀ t : Fin cfg0.N, win0_24.index t 0 = 0 ∧ win0_24.index t 1 = 0 :=
  (by decide +kernel : ∀ t : Fin grid0.N, win0_24.index t 0 = 0 ∧ win0_24.index t 1 = 0)

/-- Window 24's block of an array, at an index. -/
theorem read24 (f : Vec Ideal S1x1024 .f32) (t : Fin cfg0.N) (r : Fin 1) (l : Fin 1024) :
    (((cfg0.win 24).blk t).view.read (Elt Ideal) f : Vec Ideal S1x1024 .f32) (ix2 r l) = f (ix2 r l) := by
  rw [View.read_apply]
  have h := place24 t
  show f _ = f _
  congr 1
  funext a
  apply Fin.ext
  match a with
  | ⟨0, _⟩ => show win0_24.index t 0 * 1 + 1 * r.val = r.val; rw [h.1]; omega
  | ⟨1, _⟩ => show win0_24.index t 1 * 1024 + 1 * l.val = l.val; rw [h.2]; omega

section
variable (m : (ℓ : Loc nD τ sig) → Buf (Elt Ideal) ℓ) (c : Dev nD) (t : Fin cfg0.N)

/-- At the first point, the first heads' gradient. -/
theorem tA12 (h : t.val % 17 = 0) : (tupA m c t h).1 = b12 (grid0.coords t 0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
  unfold tupA outsA
  dsimp only
  exact o12A ..

/-- At a later point, the first heads' gradient. -/
theorem tB12 (h : ¬ t.val % 17 = 0) (p : Vec Ideal S256x512 .f32 × Vec Ideal S256x512 .f32 × Vec Ideal S256x1024 .f32 × Vec Ideal S1024x256 .bf16 × Vec Ideal S256x1024 .bf16 × Vec Ideal S2816x256 .bf16 × Vec Ideal S2816x256 .bf16 × Vec Ideal S2816x256 .bf16 × Vec Ideal S256x1024 .bf16 × Vec Ideal S1x128 .f32 × Vec Ideal S1x512 .f32 × Vec Ideal S1x512 .f32 × Vec Ideal S1x1024 .f32) : (tupB m c t h p).1 = b12 (grid0.coords t 0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
  unfold tupB outsB
  dsimp only
  exact o12B ..

/-- At the first point, the second heads' gradient. -/
theorem tA13 (h : t.val % 17 = 0) : (tupA m c t h).2.1 = b13 (grid0.coords t 0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
  unfold tupA outsA
  dsimp only
  exact o13A ..

/-- At a later point, the second heads' gradient. -/
theorem tB13 (h : ¬ t.val % 17 = 0) (p : Vec Ideal S256x512 .f32 × Vec Ideal S256x512 .f32 × Vec Ideal S256x1024 .f32 × Vec Ideal S1024x256 .bf16 × Vec Ideal S256x1024 .bf16 × Vec Ideal S2816x256 .bf16 × Vec Ideal S2816x256 .bf16 × Vec Ideal S2816x256 .bf16 × Vec Ideal S256x1024 .bf16 × Vec Ideal S1x128 .f32 × Vec Ideal S1x512 .f32 × Vec Ideal S1x512 .f32 × Vec Ideal S1x1024 .f32) : (tupB m c t h p).2.1 = b13 (grid0.coords t 0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
  unfold tupB outsB
  dsimp only
  exact o13B ..

/-- At the first point, the residual stream's gradient. -/
theorem tA14 (h : t.val % 17 = 0) : (tupA m c t h).2.2.1 = b14 (grid0.coords t 0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
  unfold tupA outsA
  dsimp only
  exact o14A ..

/-- At a later point, the residual stream's gradient. -/
theorem tB14 (h : ¬ t.val % 17 = 0) (p : Vec Ideal S256x512 .f32 × Vec Ideal S256x512 .f32 × Vec Ideal S256x1024 .f32 × Vec Ideal S1024x256 .bf16 × Vec Ideal S256x1024 .bf16 × Vec Ideal S2816x256 .bf16 × Vec Ideal S2816x256 .bf16 × Vec Ideal S2816x256 .bf16 × Vec Ideal S256x1024 .bf16 × Vec Ideal S1x128 .f32 × Vec Ideal S1x512 .f32 × Vec Ideal S1x512 .f32 × Vec Ideal S1x1024 .f32) : (tupB m c t h p).2.2.1 = b14 (grid0.coords t 0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
  unfold tupB outsB
  dsimp only
  exact o14B ..

/-- At the first point, the mixed heads, transposed. -/
theorem tA15 (h : t.val % 17 = 0) : (tupA m c t h).2.2.2.1 = b15 (grid0.coords t 0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
  unfold tupA outsA
  dsimp only
  exact o15A ..

/-- At a later point, the mixed heads, transposed. -/
theorem tB15 (h : ¬ t.val % 17 = 0) (p : Vec Ideal S256x512 .f32 × Vec Ideal S256x512 .f32 × Vec Ideal S256x1024 .f32 × Vec Ideal S1024x256 .bf16 × Vec Ideal S256x1024 .bf16 × Vec Ideal S2816x256 .bf16 × Vec Ideal S2816x256 .bf16 × Vec Ideal S2816x256 .bf16 × Vec Ideal S256x1024 .bf16 × Vec Ideal S1x128 .f32 × Vec Ideal S1x512 .f32 × Vec Ideal S1x512 .f32 × Vec Ideal S1x1024 .f32) : (tupB m c t h p).2.2.2.1 = b15 (grid0.coords t 0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
  unfold tupB outsB
  dsimp only
  exact o15B ..

/-- At the first point, the normed rows. -/
theorem tA16 (h : t.val % 17 = 0) : (tupA m c t h).2.2.2.2.1 = b16 (grid0.coords t 0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
  unfold tupA outsA
  dsimp only
  exact o16A ..

/-- At a later point, the normed rows. -/
theorem tB16 (h : ¬ t.val % 17 = 0) (p : Vec Ideal S256x512 .f32 × Vec Ideal S256x512 .f32 × Vec Ideal S256x1024 .f32 × Vec Ideal S1024x256 .bf16 × Vec Ideal S256x1024 .bf16 × Vec Ideal S2816x256 .bf16 × Vec Ideal S2816x256 .bf16 × Vec Ideal S2816x256 .bf16 × Vec Ideal S256x1024 .bf16 × Vec Ideal S1x128 .f32 × Vec Ideal S1x512 .f32 × Vec Ideal S1x512 .f32 × Vec Ideal S1x1024 .f32) : (tupB m c t h p).2.2.2.2.1 = b16 (grid0.coords t 0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
  unfold tupB outsB
  dsimp only
  exact o16B ..

/-- At the first point, the gated rows, transposed. -/
theorem tA17 (h : t.val % 17 = 0) : (tupA m c t h).2.2.2.2.2.1 = b17 (grid0.coords t 0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
  unfold tupA outsA
  dsimp only
  exact o17A ..

/-- At a later point, the gated rows, transposed. -/
theorem tB17 (h : ¬ t.val % 17 = 0) (p : Vec Ideal S256x512 .f32 × Vec Ideal S256x512 .f32 × Vec Ideal S256x1024 .f32 × Vec Ideal S1024x256 .bf16 × Vec Ideal S256x1024 .bf16 × Vec Ideal S2816x256 .bf16 × Vec Ideal S2816x256 .bf16 × Vec Ideal S2816x256 .bf16 × Vec Ideal S256x1024 .bf16 × Vec Ideal S1x128 .f32 × Vec Ideal S1x512 .f32 × Vec Ideal S1x512 .f32 × Vec Ideal S1x1024 .f32) : (tupB m c t h p).2.2.2.2.2.1 = b17 (grid0.coords t 0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
  unfold tupB outsB
  dsimp only
  exact o17B ..

/-- At the first point, the gate's gradient, transposed. -/
theorem tA18 (h : t.val % 17 = 0) : (tupA m c t h).2.2.2.2.2.2.1 = b18 (grid0.coords t 0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
  unfold tupA outsA
  dsimp only
  exact o18A ..

/-- At a later point, the gate's gradient, transposed. -/
theorem tB18 (h : ¬ t.val % 17 = 0) (p : Vec Ideal S256x512 .f32 × Vec Ideal S256x512 .f32 × Vec Ideal S256x1024 .f32 × Vec Ideal S1024x256 .bf16 × Vec Ideal S256x1024 .bf16 × Vec Ideal S2816x256 .bf16 × Vec Ideal S2816x256 .bf16 × Vec Ideal S2816x256 .bf16 × Vec Ideal S256x1024 .bf16 × Vec Ideal S1x128 .f32 × Vec Ideal S1x512 .f32 × Vec Ideal S1x512 .f32 × Vec Ideal S1x1024 .f32) : (tupB m c t h p).2.2.2.2.2.2.1 = b18 (grid0.coords t 0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
  unfold tupB outsB
  dsimp only
  exact o18B ..

/-- At the first point, the other projection's gradient, transposed. -/
theorem tA19 (h : t.val % 17 = 0) : (tupA m c t h).2.2.2.2.2.2.2.1 = b19 (grid0.coords t 0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
  unfold tupA outsA
  dsimp only
  exact o19A ..

/-- At a later point, the other projection's gradient, transposed. -/
theorem tB19 (h : ¬ t.val % 17 = 0) (p : Vec Ideal S256x512 .f32 × Vec Ideal S256x512 .f32 × Vec Ideal S256x1024 .f32 × Vec Ideal S1024x256 .bf16 × Vec Ideal S256x1024 .bf16 × Vec Ideal S2816x256 .bf16 × Vec Ideal S2816x256 .bf16 × Vec Ideal S2816x256 .bf16 × Vec Ideal S256x1024 .bf16 × Vec Ideal S1x128 .f32 × Vec Ideal S1x512 .f32 × Vec Ideal S1x512 .f32 × Vec Ideal S1x1024 .f32) : (tupB m c t h p).2.2.2.2.2.2.2.1 = b19 (grid0.coords t 0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
  unfold tupB outsB
  dsimp only
  exact o19B ..

/-- At the first point, the output's gradient. -/
theorem tA20 (h : t.val % 17 = 0) : (tupA m c t h).2.2.2.2.2.2.2.2.1 = b20 (grid0.coords t 0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
  unfold tupA outsA
  dsimp only
  exact o20A ..

/-- At a later point, the output's gradient. -/
theorem tB20 (h : ¬ t.val % 17 = 0) (p : Vec Ideal S256x512 .f32 × Vec Ideal S256x512 .f32 × Vec Ideal S256x1024 .f32 × Vec Ideal S1024x256 .bf16 × Vec Ideal S256x1024 .bf16 × Vec Ideal S2816x256 .bf16 × Vec Ideal S2816x256 .bf16 × Vec Ideal S2816x256 .bf16 × Vec Ideal S256x1024 .bf16 × Vec Ideal S1x128 .f32 × Vec Ideal S1x512 .f32 × Vec Ideal S1x512 .f32 × Vec Ideal S1x1024 .f32) : (tupB m c t h p).2.2.2.2.2.2.2.2.1 = b20 (grid0.coords t 0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
  unfold tupB outsB
  dsimp only
  exact o20B ..

/-- At the first point, the loss. -/
theorem tA21 (h : t.val % 17 = 0) : (tupA m c t h).2.2.2.2.2.2.2.2.2.1 = b21 (grid0.coords t 0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (fun _ => 0) := by
  unfold tupA outsA
  dsimp only
  exact o21A ..

/-- At a later point, the loss. -/
theorem tB21 (h : ¬ t.val % 17 = 0) (p : Vec Ideal S256x512 .f32 × Vec Ideal S256x512 .f32 × Vec Ideal S256x1024 .f32 × Vec Ideal S1024x256 .bf16 × Vec Ideal S256x1024 .bf16 × Vec Ideal S2816x256 .bf16 × Vec Ideal S2816x256 .bf16 × Vec Ideal S2816x256 .bf16 × Vec Ideal S256x1024 .bf16 × Vec Ideal S1x128 .f32 × Vec Ideal S1x512 .f32 × Vec Ideal S1x512 .f32 × Vec Ideal S1x1024 .f32) : (tupB m c t h p).2.2.2.2.2.2.2.2.2.1 = b21 (grid0.coords t 0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.2.2.2.2.2.2.1 := by
  unfold tupB outsB
  dsimp only
  exact o21B ..

/-- At the first point, the first scale's gradient. -/
theorem tA22 (h : t.val % 17 = 0) : (tupA m c t h).2.2.2.2.2.2.2.2.2.2.1 = b22 (grid0.coords t 0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (fun _ => 0) := by
  unfold tupA outsA
  dsimp only
  exact o22A ..

/-- At a later point, the first scale's gradient. -/
theorem tB22 (h : ¬ t.val % 17 = 0) (p : Vec Ideal S256x512 .f32 × Vec Ideal S256x512 .f32 × Vec Ideal S256x1024 .f32 × Vec Ideal S1024x256 .bf16 × Vec Ideal S256x1024 .bf16 × Vec Ideal S2816x256 .bf16 × Vec Ideal S2816x256 .bf16 × Vec Ideal S2816x256 .bf16 × Vec Ideal S256x1024 .bf16 × Vec Ideal S1x128 .f32 × Vec Ideal S1x512 .f32 × Vec Ideal S1x512 .f32 × Vec Ideal S1x1024 .f32) : (tupB m c t h p).2.2.2.2.2.2.2.2.2.2.1 = b22 (grid0.coords t 0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.2.2.2.2.2.2.2.1 := by
  unfold tupB outsB
  dsimp only
  exact o22B ..

/-- At the first point, the second scale's gradient. -/
theorem tA23 (h : t.val % 17 = 0) : (tupA m c t h).2.2.2.2.2.2.2.2.2.2.2.1 = b23 (grid0.coords t 0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (fun _ => 0) := by
  unfold tupA outsA
  dsimp only
  exact o23A ..

/-- At a later point, the second scale's gradient. -/
theorem tB23 (h : ¬ t.val % 17 = 0) (p : Vec Ideal S256x512 .f32 × Vec Ideal S256x512 .f32 × Vec Ideal S256x1024 .f32 × Vec Ideal S1024x256 .bf16 × Vec Ideal S256x1024 .bf16 × Vec Ideal S2816x256 .bf16 × Vec Ideal S2816x256 .bf16 × Vec Ideal S2816x256 .bf16 × Vec Ideal S256x1024 .bf16 × Vec Ideal S1x128 .f32 × Vec Ideal S1x512 .f32 × Vec Ideal S1x512 .f32 × Vec Ideal S1x1024 .f32) : (tupB m c t h p).2.2.2.2.2.2.2.2.2.2.2.1 = b23 (grid0.coords t 0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.2.2.2.2.2.2.2.2.1 := by
  unfold tupB outsB
  dsimp only
  exact o23B ..

/-- At the first point, the norm's scale's gradient. -/
theorem tA24 (h : t.val % 17 = 0) : (tupA m c t h).2.2.2.2.2.2.2.2.2.2.2.2 = b24 (grid0.coords t 0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (fun _ => 0) := by
  unfold tupA outsA
  dsimp only
  exact o24A ..

/-- At a later point, the norm's scale's gradient. -/
theorem tB24 (h : ¬ t.val % 17 = 0) (p : Vec Ideal S256x512 .f32 × Vec Ideal S256x512 .f32 × Vec Ideal S256x1024 .f32 × Vec Ideal S1024x256 .bf16 × Vec Ideal S256x1024 .bf16 × Vec Ideal S2816x256 .bf16 × Vec Ideal S2816x256 .bf16 × Vec Ideal S2816x256 .bf16 × Vec Ideal S256x1024 .bf16 × Vec Ideal S1x128 .f32 × Vec Ideal S1x512 .f32 × Vec Ideal S1x512 .f32 × Vec Ideal S1x1024 .f32) : (tupB m c t h p).2.2.2.2.2.2.2.2.2.2.2.2 = b24 (grid0.coords t 0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.2.2.2.2.2.2.2.2.2 := by
  unfold tupB outsB
  dsimp only
  exact o24B ..

end

section
variable (W : Wts ℝ) (X : Fin 4352 → Row ℝ)

/-- The array of the first heads' gradient. -/
def arr12 : Vec Ideal S4352x512 .f32 := fun i => ((R.doa W (X (i 0)) (i 1) : ℝ) : EReal)
/-- The array of the second heads' gradient. -/
def arr13 : Vec Ideal S4352x512 .f32 := fun i => ((R.dorn W (X (i 0)) (i 1) : ℝ) : EReal)
/-- The array of the residual stream's gradient. -/
def arr14 : Vec Ideal S4352x1024 .f32 := fun i => ((R.dh1 W (X (i 0)) (i 1) : ℝ) : EReal)
/-- The array of the mixed heads, transposed. -/
def arr15 : Vec Ideal S1024x4352 .bf16 := fun i => ((R.mix W (X (i 1)) (i 0) : ℝ) : EReal)
/-- The array of the normed rows. -/
def arr16 : Vec Ideal S4352x1024 .bf16 := fun i => ((R.hn W (X (i 0)) (i 1) : ℝ) : EReal)
/-- The array of the gated rows, transposed. -/
def arr17 : Vec Ideal S2816x4352 .bf16 := fun i => ((R.act W (X (i 1)) (i 0) : ℝ) : EReal)
/-- The array of the gate's gradient, transposed. -/
def arr18 : Vec Ideal S2816x4352 .bf16 := fun i => ((R.dgate W (X (i 1)) (i 0) : ℝ) : EReal)
/-- The array of the other projection's gradient, transposed. -/
def arr19 : Vec Ideal S2816x4352 .bf16 := fun i => ((R.dup W (X (i 1)) (i 0) : ℝ) : EReal)
/-- The array of the output's gradient. -/
def arr20 : Vec Ideal S4352x1024 .bf16 := fun i => ((R.dy W (X (i 0)) (i 1) : ℝ) : EReal)
/-- The array of the loss. -/
def arr21 : Vec Ideal S1x128 .f32 := fun _ => ((∑ q : Fin 4352, 1 / 2048 * R.sq W (X q) : ℝ) : EReal)
/-- The array of the first scale's gradient. -/
def arr22 : Vec Ideal S1x512 .f32 := fun i => ((∑ q : Fin 4352, R.dga W (X q) (i 1) : ℝ) : EReal)
/-- The array of the second scale's gradient. -/
def arr23 : Vec Ideal S1x512 .f32 := fun i => ((∑ q : Fin 4352, R.dgr W (X q) (i 1) : ℝ) : EReal)
/-- The array of the norm's scale's gradient. -/
def arr24 : Vec Ideal S1x1024 .f32 := fun i => ((∑ q : Fin 4352, R.dg2 W (X q) (i 1) : ℝ) : EReal)

/-- The sum of a row's term over the rows of a point's tile. -/
def part (f : Row ℝ → ℝ) (n : Nat) : ℝ := if h : n < 17 then ∑ r : Fin 256, f (X ⟨n * 256 + r.val, by omega⟩) else 0

/-- It is the sum over the tile's places. -/
theorem part_eq (f : Row ℝ → ℝ) (t : Fin cfg0.N) : part X f t.val = ∑ r, f (X (place t r)) := by
  have h : t.val < 17 := by have := t.isLt; have : cfg0.N = 17 := N_0; omega
  unfold part
  rw [dif_pos h]
  rfl

/-- The tiles' sums add up to the sum over all rows. -/
theorem part_sum (f : Row ℝ → ℝ) : ∑ s ∈ Finset.range 17, part X f s = ∑ q : Fin 4352, f (X q) := by
  rw [Finset.sum_range]
  have e : ∀ s : Fin 17, part X f s.val = ∑ r : Fin 256, f (X (finProdFinEquiv (m := 17) (n := 256) (s, r))) := fun s => by
    unfold part
    rw [dif_pos s.isLt]
    exact Finset.sum_congr rfl fun r _ => congrArg (fun q => f (X q)) (Fin.ext (by show s.val * 256 + r.val = r.val + 256 * s.val; omega))
  rw [Finset.sum_congr rfl fun s _ => e s, ← Fintype.sum_prod_type']
  exact Fintype.sum_equiv (finProdFinEquiv (m := 17) (n := 256)) _ _ fun _ => rfl

end

section
variable (m : (ℓ : Loc nD τ sig) → Buf (Elt Ideal) ℓ) (c : Dev nD) (W : Wts ℝ) (X : Fin 4352 → Row ℝ)
  (hW : ∀ t : Fin cfg0.N, wtsOf (iblk m c 5 t) (iblk m c 6 t) (iblk m c 7 t) (iblk m c 8 t) (iblk m c 9 t) (iblk m c 10 t) (iblk m c 11 t) = W.coe)
  (hX : ∀ (t : Fin cfg0.N) (r : Fin 256), rowOf (grid0.coords t 0) (iblk m c 0 t) (iblk m c 1 t) (iblk m c 2 t) (iblk m c 3 t) (iblk m c 4 t) r = (X (place t r)).coe)
include hW hX

/-- A point's block of the first heads' gradient is its block of the array. -/
theorem point12 (t : Fin cfg0.N) : (b12 (grid0.coords t 0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : Vec Ideal S256x512 .f32) = ((cfg0.win 12).blk t).view.read (Elt Ideal) (arr12 W X) := by
  funext x
  idx_vars x
  refine Eq.trans ?_ (read12 _ t x0 x1).symm
  show E.doa (wtsOf (iblk m c 5 t) (iblk m c 6 t) (iblk m c 7 t) (iblk m c 8 t) (iblk m c 9 t) (iblk m c 10 t) (iblk m c 11 t)) (rowOf (grid0.coords t 0) (iblk m c 0 t) (iblk m c 1 t) (iblk m c 2 t) (iblk m c 3 t) (iblk m c 4 t) x0) x1 = ((R.doa W (X (place t x0)) x1 : ℝ) : EReal)
  rw [hW, hX, doa_coe]

/-- Every point writes back its block of the first heads' gradient. -/
theorem wb12 (t : Fin cfg0.N) : (dats m 0 c).flushed 12 t = ((cfg0.win 12).blk t).view.read (Elt Ideal) (arr12 W X) := by
  rw [← point12 m c W X hW hX]
  by_cases h0 : t.val % 17 = 0
  · rw [flushed12, outsAt0_A m c t h0, tA12]
    rfl
  · rw [flushed12, outsAt0_B m c t h0, tB12]
    rfl

/-- Window 12's array after the run. -/
theorem array12 : (dats m 0 c).arrAt 12 cfg0.N = arr12 W X := by
  refine (dats m 0 c).arrAt_eq_of_cover 12 _ (fun t _ => wb12 m c W X hW hX t) fun i => ?_
  have b0 : (i 0 : Nat) < 4352 := (i 0).isLt
  have b1 : (i 1 : Nat) < 512 := (i 1).isLt
  have hN : grid0.N = 17 := N_0
  refine ⟨⟨(i 0 : Nat) / 256, by show _ < grid0.N; rw [hN]; omega⟩, flush0_12 _, ?_⟩
  generalize ht : (⟨(i 0 : Nat) / 256, _⟩ : Fin cfg0.N) = t
  have hv : (i 0 : Nat) / 256 = t.val := congrArg Fin.val ht
  have h := place12 t
  show i ∈ ((View.whole main_v15_0).slice (win0_12.rect t)).set
  rw [View.set_slice_whole, Rect.mem_set_unit]
  intro a
  match a with
  | ⟨0, _⟩ =>
      show win0_12.index t 0 * 256 ≤ (i 0 : Nat) ∧ (i 0 : Nat) < win0_12.index t 0 * 256 + 256
      rw [h.1]; omega
  | ⟨1, _⟩ =>
      show win0_12.index t 1 * 512 ≤ (i 1 : Nat) ∧ (i 1 : Nat) < win0_12.index t 1 * 512 + 512
      rw [h.2]; omega

/-- A point's block of the second heads' gradient is its block of the array. -/
theorem point13 (t : Fin cfg0.N) : (b13 (grid0.coords t 0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : Vec Ideal S256x512 .f32) = ((cfg0.win 13).blk t).view.read (Elt Ideal) (arr13 W X) := by
  funext x
  idx_vars x
  refine Eq.trans ?_ (read13 _ t x0 x1).symm
  show E.dorn (wtsOf (iblk m c 5 t) (iblk m c 6 t) (iblk m c 7 t) (iblk m c 8 t) (iblk m c 9 t) (iblk m c 10 t) (iblk m c 11 t)) (rowOf (grid0.coords t 0) (iblk m c 0 t) (iblk m c 1 t) (iblk m c 2 t) (iblk m c 3 t) (iblk m c 4 t) x0) x1 = ((R.dorn W (X (place t x0)) x1 : ℝ) : EReal)
  rw [hW, hX, dorn_coe]

/-- Every point writes back its block of the second heads' gradient. -/
theorem wb13 (t : Fin cfg0.N) : (dats m 0 c).flushed 13 t = ((cfg0.win 13).blk t).view.read (Elt Ideal) (arr13 W X) := by
  rw [← point13 m c W X hW hX]
  by_cases h0 : t.val % 17 = 0
  · rw [flushed13, outsAt0_A m c t h0, tA13]
    rfl
  · rw [flushed13, outsAt0_B m c t h0, tB13]
    rfl

/-- Window 13's array after the run. -/
theorem array13 : (dats m 0 c).arrAt 13 cfg0.N = arr13 W X := by
  refine (dats m 0 c).arrAt_eq_of_cover 13 _ (fun t _ => wb13 m c W X hW hX t) fun i => ?_
  have b0 : (i 0 : Nat) < 4352 := (i 0).isLt
  have b1 : (i 1 : Nat) < 512 := (i 1).isLt
  have hN : grid0.N = 17 := N_0
  refine ⟨⟨(i 0 : Nat) / 256, by show _ < grid0.N; rw [hN]; omega⟩, flush0_13 _, ?_⟩
  generalize ht : (⟨(i 0 : Nat) / 256, _⟩ : Fin cfg0.N) = t
  have hv : (i 0 : Nat) / 256 = t.val := congrArg Fin.val ht
  have h := place13 t
  show i ∈ ((View.whole main_v15_1).slice (win0_13.rect t)).set
  rw [View.set_slice_whole, Rect.mem_set_unit]
  intro a
  match a with
  | ⟨0, _⟩ =>
      show win0_13.index t 0 * 256 ≤ (i 0 : Nat) ∧ (i 0 : Nat) < win0_13.index t 0 * 256 + 256
      rw [h.1]; omega
  | ⟨1, _⟩ =>
      show win0_13.index t 1 * 512 ≤ (i 1 : Nat) ∧ (i 1 : Nat) < win0_13.index t 1 * 512 + 512
      rw [h.2]; omega

/-- A point's block of the residual stream's gradient is its block of the array. -/
theorem point14 (t : Fin cfg0.N) : (b14 (grid0.coords t 0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : Vec Ideal S256x1024 .f32) = ((cfg0.win 14).blk t).view.read (Elt Ideal) (arr14 W X) := by
  funext x
  idx_vars x
  refine Eq.trans ?_ (read14 _ t x0 x1).symm
  show E.dh1 (wtsOf (iblk m c 5 t) (iblk m c 6 t) (iblk m c 7 t) (iblk m c 8 t) (iblk m c 9 t) (iblk m c 10 t) (iblk m c 11 t)) (rowOf (grid0.coords t 0) (iblk m c 0 t) (iblk m c 1 t) (iblk m c 2 t) (iblk m c 3 t) (iblk m c 4 t) x0) x1 = ((R.dh1 W (X (place t x0)) x1 : ℝ) : EReal)
  rw [hW, hX, dh1_coe]

/-- Every point writes back its block of the residual stream's gradient. -/
theorem wb14 (t : Fin cfg0.N) : (dats m 0 c).flushed 14 t = ((cfg0.win 14).blk t).view.read (Elt Ideal) (arr14 W X) := by
  rw [← point14 m c W X hW hX]
  by_cases h0 : t.val % 17 = 0
  · rw [flushed14, outsAt0_A m c t h0, tA14]
    rfl
  · rw [flushed14, outsAt0_B m c t h0, tB14]
    rfl

/-- Window 14's array after the run. -/
theorem array14 : (dats m 0 c).arrAt 14 cfg0.N = arr14 W X := by
  refine (dats m 0 c).arrAt_eq_of_cover 14 _ (fun t _ => wb14 m c W X hW hX t) fun i => ?_
  have b0 : (i 0 : Nat) < 4352 := (i 0).isLt
  have b1 : (i 1 : Nat) < 1024 := (i 1).isLt
  have hN : grid0.N = 17 := N_0
  refine ⟨⟨(i 0 : Nat) / 256, by show _ < grid0.N; rw [hN]; omega⟩, flush0_14 _, ?_⟩
  generalize ht : (⟨(i 0 : Nat) / 256, _⟩ : Fin cfg0.N) = t
  have hv : (i 0 : Nat) / 256 = t.val := congrArg Fin.val ht
  have h := place14 t
  show i ∈ ((View.whole main_v15_2).slice (win0_14.rect t)).set
  rw [View.set_slice_whole, Rect.mem_set_unit]
  intro a
  match a with
  | ⟨0, _⟩ =>
      show win0_14.index t 0 * 256 ≤ (i 0 : Nat) ∧ (i 0 : Nat) < win0_14.index t 0 * 256 + 256
      rw [h.1]; omega
  | ⟨1, _⟩ =>
      show win0_14.index t 1 * 1024 ≤ (i 1 : Nat) ∧ (i 1 : Nat) < win0_14.index t 1 * 1024 + 1024
      rw [h.2]; omega

/-- A point's block of the mixed heads, transposed is its block of the array. -/
theorem point15 (t : Fin cfg0.N) : (b15 (grid0.coords t 0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : Vec Ideal S1024x256 .bf16) = ((cfg0.win 15).blk t).view.read (Elt Ideal) (arr15 W X) := by
  funext x
  idx_vars x
  refine Eq.trans ?_ (read15 _ t x0 x1).symm
  show E.mix (wtsOf (iblk m c 5 t) (iblk m c 6 t) (iblk m c 7 t) (iblk m c 8 t) (iblk m c 9 t) (iblk m c 10 t) (iblk m c 11 t)) (rowOf (grid0.coords t 0) (iblk m c 0 t) (iblk m c 1 t) (iblk m c 2 t) (iblk m c 3 t) (iblk m c 4 t) x1) x0 = ((R.mix W (X (place t x1)) x0 : ℝ) : EReal)
  rw [hW, hX, mix_coe]

/-- Every point writes back its block of the mixed heads, transposed. -/
theorem wb15 (t : Fin cfg0.N) : (dats m 0 c).flushed 15 t = ((cfg0.win 15).blk t).view.read (Elt Ideal) (arr15 W X) := by
  rw [← point15 m c W X hW hX]
  by_cases h0 : t.val % 17 = 0
  · rw [flushed15, outsAt0_A m c t h0, tA15]
    rfl
  · rw [flushed15, outsAt0_B m c t h0, tB15]
    rfl

/-- Window 15's array after the run. -/
theorem array15 : (dats m 0 c).arrAt 15 cfg0.N = arr15 W X := by
  refine (dats m 0 c).arrAt_eq_of_cover 15 _ (fun t _ => wb15 m c W X hW hX t) fun i => ?_
  have b0 : (i 0 : Nat) < 1024 := (i 0).isLt
  have b1 : (i 1 : Nat) < 4352 := (i 1).isLt
  have hN : grid0.N = 17 := N_0
  refine ⟨⟨(i 1 : Nat) / 256, by show _ < grid0.N; rw [hN]; omega⟩, flush0_15 _, ?_⟩
  generalize ht : (⟨(i 1 : Nat) / 256, _⟩ : Fin cfg0.N) = t
  have hv : (i 1 : Nat) / 256 = t.val := congrArg Fin.val ht
  have h := place15 t
  show i ∈ ((View.whole main_v15_3).slice (win0_15.rect t)).set
  rw [View.set_slice_whole, Rect.mem_set_unit]
  intro a
  match a with
  | ⟨0, _⟩ =>
      show win0_15.index t 0 * 1024 ≤ (i 0 : Nat) ∧ (i 0 : Nat) < win0_15.index t 0 * 1024 + 1024
      rw [h.1]; omega
  | ⟨1, _⟩ =>
      show win0_15.index t 1 * 256 ≤ (i 1 : Nat) ∧ (i 1 : Nat) < win0_15.index t 1 * 256 + 256
      rw [h.2]; omega

/-- A point's block of the normed rows is its block of the array. -/
theorem point16 (t : Fin cfg0.N) : (b16 (grid0.coords t 0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : Vec Ideal S256x1024 .bf16) = ((cfg0.win 16).blk t).view.read (Elt Ideal) (arr16 W X) := by
  funext x
  idx_vars x
  refine Eq.trans ?_ (read16 _ t x0 x1).symm
  show E.hn (wtsOf (iblk m c 5 t) (iblk m c 6 t) (iblk m c 7 t) (iblk m c 8 t) (iblk m c 9 t) (iblk m c 10 t) (iblk m c 11 t)) (rowOf (grid0.coords t 0) (iblk m c 0 t) (iblk m c 1 t) (iblk m c 2 t) (iblk m c 3 t) (iblk m c 4 t) x0) x1 = ((R.hn W (X (place t x0)) x1 : ℝ) : EReal)
  rw [hW, hX, hn_coe]

/-- Every point writes back its block of the normed rows. -/
theorem wb16 (t : Fin cfg0.N) : (dats m 0 c).flushed 16 t = ((cfg0.win 16).blk t).view.read (Elt Ideal) (arr16 W X) := by
  rw [← point16 m c W X hW hX]
  by_cases h0 : t.val % 17 = 0
  · rw [flushed16, outsAt0_A m c t h0, tA16]
    rfl
  · rw [flushed16, outsAt0_B m c t h0, tB16]
    rfl

/-- Window 16's array after the run. -/
theorem array16 : (dats m 0 c).arrAt 16 cfg0.N = arr16 W X := by
  refine (dats m 0 c).arrAt_eq_of_cover 16 _ (fun t _ => wb16 m c W X hW hX t) fun i => ?_
  have b0 : (i 0 : Nat) < 4352 := (i 0).isLt
  have b1 : (i 1 : Nat) < 1024 := (i 1).isLt
  have hN : grid0.N = 17 := N_0
  refine ⟨⟨(i 0 : Nat) / 256, by show _ < grid0.N; rw [hN]; omega⟩, flush0_16 _, ?_⟩
  generalize ht : (⟨(i 0 : Nat) / 256, _⟩ : Fin cfg0.N) = t
  have hv : (i 0 : Nat) / 256 = t.val := congrArg Fin.val ht
  have h := place16 t
  show i ∈ ((View.whole main_v15_4).slice (win0_16.rect t)).set
  rw [View.set_slice_whole, Rect.mem_set_unit]
  intro a
  match a with
  | ⟨0, _⟩ =>
      show win0_16.index t 0 * 256 ≤ (i 0 : Nat) ∧ (i 0 : Nat) < win0_16.index t 0 * 256 + 256
      rw [h.1]; omega
  | ⟨1, _⟩ =>
      show win0_16.index t 1 * 1024 ≤ (i 1 : Nat) ∧ (i 1 : Nat) < win0_16.index t 1 * 1024 + 1024
      rw [h.2]; omega

/-- A point's block of the gated rows, transposed is its block of the array. -/
theorem point17 (t : Fin cfg0.N) : (b17 (grid0.coords t 0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : Vec Ideal S2816x256 .bf16) = ((cfg0.win 17).blk t).view.read (Elt Ideal) (arr17 W X) := by
  funext x
  idx_vars x
  refine Eq.trans ?_ (read17 _ t x0 x1).symm
  show E.act (wtsOf (iblk m c 5 t) (iblk m c 6 t) (iblk m c 7 t) (iblk m c 8 t) (iblk m c 9 t) (iblk m c 10 t) (iblk m c 11 t)) (rowOf (grid0.coords t 0) (iblk m c 0 t) (iblk m c 1 t) (iblk m c 2 t) (iblk m c 3 t) (iblk m c 4 t) x1) x0 = ((R.act W (X (place t x1)) x0 : ℝ) : EReal)
  rw [hW, hX, act_coe]

/-- Every point writes back its block of the gated rows, transposed. -/
theorem wb17 (t : Fin cfg0.N) : (dats m 0 c).flushed 17 t = ((cfg0.win 17).blk t).view.read (Elt Ideal) (arr17 W X) := by
  rw [← point17 m c W X hW hX]
  by_cases h0 : t.val % 17 = 0
  · rw [flushed17, outsAt0_A m c t h0, tA17]
    rfl
  · rw [flushed17, outsAt0_B m c t h0, tB17]
    rfl

/-- Window 17's array after the run. -/
theorem array17 : (dats m 0 c).arrAt 17 cfg0.N = arr17 W X := by
  refine (dats m 0 c).arrAt_eq_of_cover 17 _ (fun t _ => wb17 m c W X hW hX t) fun i => ?_
  have b0 : (i 0 : Nat) < 2816 := (i 0).isLt
  have b1 : (i 1 : Nat) < 4352 := (i 1).isLt
  have hN : grid0.N = 17 := N_0
  refine ⟨⟨(i 1 : Nat) / 256, by show _ < grid0.N; rw [hN]; omega⟩, flush0_17 _, ?_⟩
  generalize ht : (⟨(i 1 : Nat) / 256, _⟩ : Fin cfg0.N) = t
  have hv : (i 1 : Nat) / 256 = t.val := congrArg Fin.val ht
  have h := place17 t
  show i ∈ ((View.whole main_v15_5).slice (win0_17.rect t)).set
  rw [View.set_slice_whole, Rect.mem_set_unit]
  intro a
  match a with
  | ⟨0, _⟩ =>
      show win0_17.index t 0 * 2816 ≤ (i 0 : Nat) ∧ (i 0 : Nat) < win0_17.index t 0 * 2816 + 2816
      rw [h.1]; omega
  | ⟨1, _⟩ =>
      show win0_17.index t 1 * 256 ≤ (i 1 : Nat) ∧ (i 1 : Nat) < win0_17.index t 1 * 256 + 256
      rw [h.2]; omega

/-- A point's block of the gate's gradient, transposed is its block of the array. -/
theorem point18 (t : Fin cfg0.N) : (b18 (grid0.coords t 0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : Vec Ideal S2816x256 .bf16) = ((cfg0.win 18).blk t).view.read (Elt Ideal) (arr18 W X) := by
  funext x
  idx_vars x
  refine Eq.trans ?_ (read18 _ t x0 x1).symm
  show E.dgate (wtsOf (iblk m c 5 t) (iblk m c 6 t) (iblk m c 7 t) (iblk m c 8 t) (iblk m c 9 t) (iblk m c 10 t) (iblk m c 11 t)) (rowOf (grid0.coords t 0) (iblk m c 0 t) (iblk m c 1 t) (iblk m c 2 t) (iblk m c 3 t) (iblk m c 4 t) x1) x0 = ((R.dgate W (X (place t x1)) x0 : ℝ) : EReal)
  rw [hW, hX, dgate_coe]

/-- Every point writes back its block of the gate's gradient, transposed. -/
theorem wb18 (t : Fin cfg0.N) : (dats m 0 c).flushed 18 t = ((cfg0.win 18).blk t).view.read (Elt Ideal) (arr18 W X) := by
  rw [← point18 m c W X hW hX]
  by_cases h0 : t.val % 17 = 0
  · rw [flushed18, outsAt0_A m c t h0, tA18]
    rfl
  · rw [flushed18, outsAt0_B m c t h0, tB18]
    rfl

/-- Window 18's array after the run. -/
theorem array18 : (dats m 0 c).arrAt 18 cfg0.N = arr18 W X := by
  refine (dats m 0 c).arrAt_eq_of_cover 18 _ (fun t _ => wb18 m c W X hW hX t) fun i => ?_
  have b0 : (i 0 : Nat) < 2816 := (i 0).isLt
  have b1 : (i 1 : Nat) < 4352 := (i 1).isLt
  have hN : grid0.N = 17 := N_0
  refine ⟨⟨(i 1 : Nat) / 256, by show _ < grid0.N; rw [hN]; omega⟩, flush0_18 _, ?_⟩
  generalize ht : (⟨(i 1 : Nat) / 256, _⟩ : Fin cfg0.N) = t
  have hv : (i 1 : Nat) / 256 = t.val := congrArg Fin.val ht
  have h := place18 t
  show i ∈ ((View.whole main_v15_6).slice (win0_18.rect t)).set
  rw [View.set_slice_whole, Rect.mem_set_unit]
  intro a
  match a with
  | ⟨0, _⟩ =>
      show win0_18.index t 0 * 2816 ≤ (i 0 : Nat) ∧ (i 0 : Nat) < win0_18.index t 0 * 2816 + 2816
      rw [h.1]; omega
  | ⟨1, _⟩ =>
      show win0_18.index t 1 * 256 ≤ (i 1 : Nat) ∧ (i 1 : Nat) < win0_18.index t 1 * 256 + 256
      rw [h.2]; omega

/-- A point's block of the other projection's gradient, transposed is its block of the array. -/
theorem point19 (t : Fin cfg0.N) : (b19 (grid0.coords t 0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : Vec Ideal S2816x256 .bf16) = ((cfg0.win 19).blk t).view.read (Elt Ideal) (arr19 W X) := by
  funext x
  idx_vars x
  refine Eq.trans ?_ (read19 _ t x0 x1).symm
  show E.dup (wtsOf (iblk m c 5 t) (iblk m c 6 t) (iblk m c 7 t) (iblk m c 8 t) (iblk m c 9 t) (iblk m c 10 t) (iblk m c 11 t)) (rowOf (grid0.coords t 0) (iblk m c 0 t) (iblk m c 1 t) (iblk m c 2 t) (iblk m c 3 t) (iblk m c 4 t) x1) x0 = ((R.dup W (X (place t x1)) x0 : ℝ) : EReal)
  rw [hW, hX, dup_coe]

/-- Every point writes back its block of the other projection's gradient, transposed. -/
theorem wb19 (t : Fin cfg0.N) : (dats m 0 c).flushed 19 t = ((cfg0.win 19).blk t).view.read (Elt Ideal) (arr19 W X) := by
  rw [← point19 m c W X hW hX]
  by_cases h0 : t.val % 17 = 0
  · rw [flushed19, outsAt0_A m c t h0, tA19]
    rfl
  · rw [flushed19, outsAt0_B m c t h0, tB19]
    rfl

/-- Window 19's array after the run. -/
theorem array19 : (dats m 0 c).arrAt 19 cfg0.N = arr19 W X := by
  refine (dats m 0 c).arrAt_eq_of_cover 19 _ (fun t _ => wb19 m c W X hW hX t) fun i => ?_
  have b0 : (i 0 : Nat) < 2816 := (i 0).isLt
  have b1 : (i 1 : Nat) < 4352 := (i 1).isLt
  have hN : grid0.N = 17 := N_0
  refine ⟨⟨(i 1 : Nat) / 256, by show _ < grid0.N; rw [hN]; omega⟩, flush0_19 _, ?_⟩
  generalize ht : (⟨(i 1 : Nat) / 256, _⟩ : Fin cfg0.N) = t
  have hv : (i 1 : Nat) / 256 = t.val := congrArg Fin.val ht
  have h := place19 t
  show i ∈ ((View.whole main_v15_7).slice (win0_19.rect t)).set
  rw [View.set_slice_whole, Rect.mem_set_unit]
  intro a
  match a with
  | ⟨0, _⟩ =>
      show win0_19.index t 0 * 2816 ≤ (i 0 : Nat) ∧ (i 0 : Nat) < win0_19.index t 0 * 2816 + 2816
      rw [h.1]; omega
  | ⟨1, _⟩ =>
      show win0_19.index t 1 * 256 ≤ (i 1 : Nat) ∧ (i 1 : Nat) < win0_19.index t 1 * 256 + 256
      rw [h.2]; omega

/-- A point's block of the output's gradient is its block of the array. -/
theorem point20 (t : Fin cfg0.N) : (b20 (grid0.coords t 0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : Vec Ideal S256x1024 .bf16) = ((cfg0.win 20).blk t).view.read (Elt Ideal) (arr20 W X) := by
  funext x
  idx_vars x
  refine Eq.trans ?_ (read20 _ t x0 x1).symm
  show E.dy (wtsOf (iblk m c 5 t) (iblk m c 6 t) (iblk m c 7 t) (iblk m c 8 t) (iblk m c 9 t) (iblk m c 10 t) (iblk m c 11 t)) (rowOf (grid0.coords t 0) (iblk m c 0 t) (iblk m c 1 t) (iblk m c 2 t) (iblk m c 3 t) (iblk m c 4 t) x0) x1 = ((R.dy W (X (place t x0)) x1 : ℝ) : EReal)
  rw [hW, hX, dy_coe]

/-- Every point writes back its block of the output's gradient. -/
theorem wb20 (t : Fin cfg0.N) : (dats m 0 c).flushed 20 t = ((cfg0.win 20).blk t).view.read (Elt Ideal) (arr20 W X) := by
  rw [← point20 m c W X hW hX]
  by_cases h0 : t.val % 17 = 0
  · rw [flushed20, outsAt0_A m c t h0, tA20]
    rfl
  · rw [flushed20, outsAt0_B m c t h0, tB20]
    rfl

/-- Window 20's array after the run. -/
theorem array20 : (dats m 0 c).arrAt 20 cfg0.N = arr20 W X := by
  refine (dats m 0 c).arrAt_eq_of_cover 20 _ (fun t _ => wb20 m c W X hW hX t) fun i => ?_
  have b0 : (i 0 : Nat) < 4352 := (i 0).isLt
  have b1 : (i 1 : Nat) < 1024 := (i 1).isLt
  have hN : grid0.N = 17 := N_0
  refine ⟨⟨(i 0 : Nat) / 256, by show _ < grid0.N; rw [hN]; omega⟩, flush0_20 _, ?_⟩
  generalize ht : (⟨(i 0 : Nat) / 256, _⟩ : Fin cfg0.N) = t
  have hv : (i 0 : Nat) / 256 = t.val := congrArg Fin.val ht
  have h := place20 t
  show i ∈ ((View.whole main_v15_8).slice (win0_20.rect t)).set
  rw [View.set_slice_whole, Rect.mem_set_unit]
  intro a
  match a with
  | ⟨0, _⟩ =>
      show win0_20.index t 0 * 256 ≤ (i 0 : Nat) ∧ (i 0 : Nat) < win0_20.index t 0 * 256 + 256
      rw [h.1]; omega
  | ⟨1, _⟩ =>
      show win0_20.index t 1 * 1024 ≤ (i 1 : Nat) ∧ (i 1 : Nat) < win0_20.index t 1 * 1024 + 1024
      rw [h.2]; omega

/-- A point's contribution to the loss. -/
theorem term21 (t : Fin cfg0.N) (k : Fin 128) : Ideal.ofBits .f32 0x3A000000#32 * ∑ r, E.sq (wtsOf (iblk m c 5 t) (iblk m c 6 t) (iblk m c 7 t) (iblk m c 8 t) (iblk m c 9 t) (iblk m c 10 t) (iblk m c 11 t)) (rowOf (grid0.coords t 0) (iblk m c 0 t) (iblk m c 1 t) (iblk m c 2 t) (iblk m c 3 t) (iblk m c 4 t) r) = ((part X (fun x => 1 / 2048 * R.sq W x) t.val : ℝ) : EReal) := by
  simp only [hW, hX, sq_coe, coe_sum, c2048_bits, ← EReal.coe_mul, Finset.mul_sum]
  rw [← part_eq X (fun x => 1 / 2048 * R.sq W x) t]

/-- After a point the block holds the loss of the tiles so far. -/
theorem acc21 (n : Nat) (hn : n < cfg0.N) (k : Fin 128) : ((outsAt0 m c n hn).2.2.2.2.2.2.2.2.2.1 : Vec Ideal S1x128 .f32) (ix2 0 k) = ((∑ s ∈ Finset.range (n + 1), part X (fun x => 1 / 2048 * R.sq W x) s : ℝ) : EReal) := by
  induction n with
  | zero =>
    have hz : (⟨0, hn⟩ : Fin cfg0.N).val % 17 = 0 := rfl
    have e := congrArg (fun o => (o.2.2.2.2.2.2.2.2.2.1 : Vec Ideal S1x128 .f32) (ix2 0 k)) (outsAt0_A m c ⟨0, hn⟩ hz)
    dsimp only at e
    rw [tA21] at e
    refine Eq.trans e ?_
    rw [Finset.sum_range_one, ← term21 m c W X hW hX ⟨0, hn⟩ k]
    exact zero_add _
  | succ j ih =>
    have hj : j < cfg0.N := Nat.lt_of_succ_lt hn
    have h0 : ¬ (⟨j + 1, hn⟩ : Fin cfg0.N).val % 17 = 0 := by have : cfg0.N = 17 := N_0; show ¬ (j + 1) % 17 = 0; omega
    have e := congrArg (fun o => (o.2.2.2.2.2.2.2.2.2.1 : Vec Ideal S1x128 .f32) (ix2 0 k)) (outsAt0_B m c ⟨j + 1, hn⟩ h0)
    dsimp only at e
    rw [tB21] at e
    refine Eq.trans e ?_
    rw [Finset.sum_range_succ, EReal.coe_add, ← ih hj, ← term21 m c W X hW hX ⟨j + 1, hn⟩ k]
    rfl

/-- The last point writes back the loss of all tiles. -/
theorem wb21 (t : Fin cfg0.N) (h : (cfg0.win 21).flush t = true) : (dats m 0 c).flushed 21 t = ((cfg0.win 21).blk t).view.read (Elt Ideal) (arr21 W X) := by
  have h16 : t.val + 1 = 17 := by have := (flush0_21 t).mp h; have := t.isLt; have : cfg0.N = 17 := N_0; omega
  rw [flushed21]
  funext x
  idx_vars x
  have z : x0 = 0 := Subsingleton.elim _ _
  subst z
  refine Eq.trans ?_ (read21 _ t 0 x1).symm
  refine Eq.trans (acc21 m c W X hW hX t.val t.isLt x1) ?_
  rw [h16, part_sum]
  rfl

/-- Window 21's array after the run. -/
theorem array21 : (dats m 0 c).arrAt 21 cfg0.N = arr21 W X := by
  refine (dats m 0 c).arrAt_eq_of_cover 21 _ (fun t h => wb21 m c W X hW hX t h) fun i => ?_
  have b0 : (i 0 : Nat) < 1 := (i 0).isLt
  have b1 : (i 1 : Nat) < 128 := (i 1).isLt
  have hN : grid0.N = 17 := N_0
  refine ⟨⟨16, by show _ < grid0.N; rw [hN]; omega⟩, (flush0_21 _).mpr rfl, ?_⟩
  generalize (⟨16, _⟩ : Fin cfg0.N) = t
  have h := place21 t
  show i ∈ ((View.whole main_v15_9).slice (win0_21.rect t)).set
  rw [View.set_slice_whole, Rect.mem_set_unit]
  intro a
  match a with
  | ⟨0, _⟩ =>
      show win0_21.index t 0 * 1 ≤ (i 0 : Nat) ∧ (i 0 : Nat) < win0_21.index t 0 * 1 + 1
      rw [h.1]; omega
  | ⟨1, _⟩ =>
      show win0_21.index t 1 * 128 ≤ (i 1 : Nat) ∧ (i 1 : Nat) < win0_21.index t 1 * 128 + 128
      rw [h.2]; omega

/-- A point's contribution to the first scale's gradient. -/
theorem term22 (t : Fin cfg0.N) (k : Fin 512) : ∑ r, E.dga (wtsOf (iblk m c 5 t) (iblk m c 6 t) (iblk m c 7 t) (iblk m c 8 t) (iblk m c 9 t) (iblk m c 10 t) (iblk m c 11 t)) (rowOf (grid0.coords t 0) (iblk m c 0 t) (iblk m c 1 t) (iblk m c 2 t) (iblk m c 3 t) (iblk m c 4 t) r) k = ((part X (fun x => R.dga W x k) t.val : ℝ) : EReal) := by
  simp only [hW, hX, dga_coe, coe_sum]
  rw [← part_eq X (fun x => R.dga W x k) t]

/-- After a point the block holds the first scale's gradient of the tiles so far. -/
theorem acc22 (n : Nat) (hn : n < cfg0.N) (k : Fin 512) : ((outsAt0 m c n hn).2.2.2.2.2.2.2.2.2.2.1 : Vec Ideal S1x512 .f32) (ix2 0 k) = ((∑ s ∈ Finset.range (n + 1), part X (fun x => R.dga W x k) s : ℝ) : EReal) := by
  induction n with
  | zero =>
    have hz : (⟨0, hn⟩ : Fin cfg0.N).val % 17 = 0 := rfl
    have e := congrArg (fun o => (o.2.2.2.2.2.2.2.2.2.2.1 : Vec Ideal S1x512 .f32) (ix2 0 k)) (outsAt0_A m c ⟨0, hn⟩ hz)
    dsimp only at e
    rw [tA22] at e
    refine Eq.trans e ?_
    rw [Finset.sum_range_one, ← term22 m c W X hW hX ⟨0, hn⟩ k]
    exact zero_add _
  | succ j ih =>
    have hj : j < cfg0.N := Nat.lt_of_succ_lt hn
    have h0 : ¬ (⟨j + 1, hn⟩ : Fin cfg0.N).val % 17 = 0 := by have : cfg0.N = 17 := N_0; show ¬ (j + 1) % 17 = 0; omega
    have e := congrArg (fun o => (o.2.2.2.2.2.2.2.2.2.2.1 : Vec Ideal S1x512 .f32) (ix2 0 k)) (outsAt0_B m c ⟨j + 1, hn⟩ h0)
    dsimp only at e
    rw [tB22] at e
    refine Eq.trans e ?_
    rw [Finset.sum_range_succ, EReal.coe_add, ← ih hj, ← term22 m c W X hW hX ⟨j + 1, hn⟩ k]
    rfl

/-- The last point writes back the first scale's gradient of all tiles. -/
theorem wb22 (t : Fin cfg0.N) (h : (cfg0.win 22).flush t = true) : (dats m 0 c).flushed 22 t = ((cfg0.win 22).blk t).view.read (Elt Ideal) (arr22 W X) := by
  have h16 : t.val + 1 = 17 := by have := (flush0_22 t).mp h; have := t.isLt; have : cfg0.N = 17 := N_0; omega
  rw [flushed22]
  funext x
  idx_vars x
  have z : x0 = 0 := Subsingleton.elim _ _
  subst z
  refine Eq.trans ?_ (read22 _ t 0 x1).symm
  refine Eq.trans (acc22 m c W X hW hX t.val t.isLt x1) ?_
  rw [h16, part_sum]
  rfl

/-- Window 22's array after the run. -/
theorem array22 : (dats m 0 c).arrAt 22 cfg0.N = arr22 W X := by
  refine (dats m 0 c).arrAt_eq_of_cover 22 _ (fun t h => wb22 m c W X hW hX t h) fun i => ?_
  have b0 : (i 0 : Nat) < 1 := (i 0).isLt
  have b1 : (i 1 : Nat) < 512 := (i 1).isLt
  have hN : grid0.N = 17 := N_0
  refine ⟨⟨16, by show _ < grid0.N; rw [hN]; omega⟩, (flush0_22 _).mpr rfl, ?_⟩
  generalize (⟨16, _⟩ : Fin cfg0.N) = t
  have h := place22 t
  show i ∈ ((View.whole main_v15_10).slice (win0_22.rect t)).set
  rw [View.set_slice_whole, Rect.mem_set_unit]
  intro a
  match a with
  | ⟨0, _⟩ =>
      show win0_22.index t 0 * 1 ≤ (i 0 : Nat) ∧ (i 0 : Nat) < win0_22.index t 0 * 1 + 1
      rw [h.1]; omega
  | ⟨1, _⟩ =>
      show win0_22.index t 1 * 512 ≤ (i 1 : Nat) ∧ (i 1 : Nat) < win0_22.index t 1 * 512 + 512
      rw [h.2]; omega

/-- A point's contribution to the second scale's gradient. -/
theorem term23 (t : Fin cfg0.N) (k : Fin 512) : ∑ r, E.dgr (wtsOf (iblk m c 5 t) (iblk m c 6 t) (iblk m c 7 t) (iblk m c 8 t) (iblk m c 9 t) (iblk m c 10 t) (iblk m c 11 t)) (rowOf (grid0.coords t 0) (iblk m c 0 t) (iblk m c 1 t) (iblk m c 2 t) (iblk m c 3 t) (iblk m c 4 t) r) k = ((part X (fun x => R.dgr W x k) t.val : ℝ) : EReal) := by
  simp only [hW, hX, dgr_coe, coe_sum]
  rw [← part_eq X (fun x => R.dgr W x k) t]

/-- After a point the block holds the second scale's gradient of the tiles so far. -/
theorem acc23 (n : Nat) (hn : n < cfg0.N) (k : Fin 512) : ((outsAt0 m c n hn).2.2.2.2.2.2.2.2.2.2.2.1 : Vec Ideal S1x512 .f32) (ix2 0 k) = ((∑ s ∈ Finset.range (n + 1), part X (fun x => R.dgr W x k) s : ℝ) : EReal) := by
  induction n with
  | zero =>
    have hz : (⟨0, hn⟩ : Fin cfg0.N).val % 17 = 0 := rfl
    have e := congrArg (fun o => (o.2.2.2.2.2.2.2.2.2.2.2.1 : Vec Ideal S1x512 .f32) (ix2 0 k)) (outsAt0_A m c ⟨0, hn⟩ hz)
    dsimp only at e
    rw [tA23] at e
    refine Eq.trans e ?_
    rw [Finset.sum_range_one, ← term23 m c W X hW hX ⟨0, hn⟩ k]
    exact zero_add _
  | succ j ih =>
    have hj : j < cfg0.N := Nat.lt_of_succ_lt hn
    have h0 : ¬ (⟨j + 1, hn⟩ : Fin cfg0.N).val % 17 = 0 := by have : cfg0.N = 17 := N_0; show ¬ (j + 1) % 17 = 0; omega
    have e := congrArg (fun o => (o.2.2.2.2.2.2.2.2.2.2.2.1 : Vec Ideal S1x512 .f32) (ix2 0 k)) (outsAt0_B m c ⟨j + 1, hn⟩ h0)
    dsimp only at e
    rw [tB23] at e
    refine Eq.trans e ?_
    rw [Finset.sum_range_succ, EReal.coe_add, ← ih hj, ← term23 m c W X hW hX ⟨j + 1, hn⟩ k]
    rfl

/-- The last point writes back the second scale's gradient of all tiles. -/
theorem wb23 (t : Fin cfg0.N) (h : (cfg0.win 23).flush t = true) : (dats m 0 c).flushed 23 t = ((cfg0.win 23).blk t).view.read (Elt Ideal) (arr23 W X) := by
  have h16 : t.val + 1 = 17 := by have := (flush0_23 t).mp h; have := t.isLt; have : cfg0.N = 17 := N_0; omega
  rw [flushed23]
  funext x
  idx_vars x
  have z : x0 = 0 := Subsingleton.elim _ _
  subst z
  refine Eq.trans ?_ (read23 _ t 0 x1).symm
  refine Eq.trans (acc23 m c W X hW hX t.val t.isLt x1) ?_
  rw [h16, part_sum]
  rfl

/-- Window 23's array after the run. -/
theorem array23 : (dats m 0 c).arrAt 23 cfg0.N = arr23 W X := by
  refine (dats m 0 c).arrAt_eq_of_cover 23 _ (fun t h => wb23 m c W X hW hX t h) fun i => ?_
  have b0 : (i 0 : Nat) < 1 := (i 0).isLt
  have b1 : (i 1 : Nat) < 512 := (i 1).isLt
  have hN : grid0.N = 17 := N_0
  refine ⟨⟨16, by show _ < grid0.N; rw [hN]; omega⟩, (flush0_23 _).mpr rfl, ?_⟩
  generalize (⟨16, _⟩ : Fin cfg0.N) = t
  have h := place23 t
  show i ∈ ((View.whole main_v15_11).slice (win0_23.rect t)).set
  rw [View.set_slice_whole, Rect.mem_set_unit]
  intro a
  match a with
  | ⟨0, _⟩ =>
      show win0_23.index t 0 * 1 ≤ (i 0 : Nat) ∧ (i 0 : Nat) < win0_23.index t 0 * 1 + 1
      rw [h.1]; omega
  | ⟨1, _⟩ =>
      show win0_23.index t 1 * 512 ≤ (i 1 : Nat) ∧ (i 1 : Nat) < win0_23.index t 1 * 512 + 512
      rw [h.2]; omega

/-- A point's contribution to the norm's scale's gradient. -/
theorem term24 (t : Fin cfg0.N) (k : Fin 1024) : ∑ r, E.dg2 (wtsOf (iblk m c 5 t) (iblk m c 6 t) (iblk m c 7 t) (iblk m c 8 t) (iblk m c 9 t) (iblk m c 10 t) (iblk m c 11 t)) (rowOf (grid0.coords t 0) (iblk m c 0 t) (iblk m c 1 t) (iblk m c 2 t) (iblk m c 3 t) (iblk m c 4 t) r) k = ((part X (fun x => R.dg2 W x k) t.val : ℝ) : EReal) := by
  simp only [hW, hX, dg2_coe, coe_sum]
  rw [← part_eq X (fun x => R.dg2 W x k) t]

/-- After a point the block holds the norm's scale's gradient of the tiles so far. -/
theorem acc24 (n : Nat) (hn : n < cfg0.N) (k : Fin 1024) : ((outsAt0 m c n hn).2.2.2.2.2.2.2.2.2.2.2.2 : Vec Ideal S1x1024 .f32) (ix2 0 k) = ((∑ s ∈ Finset.range (n + 1), part X (fun x => R.dg2 W x k) s : ℝ) : EReal) := by
  induction n with
  | zero =>
    have hz : (⟨0, hn⟩ : Fin cfg0.N).val % 17 = 0 := rfl
    have e := congrArg (fun o => (o.2.2.2.2.2.2.2.2.2.2.2.2 : Vec Ideal S1x1024 .f32) (ix2 0 k)) (outsAt0_A m c ⟨0, hn⟩ hz)
    dsimp only at e
    rw [tA24] at e
    refine Eq.trans e ?_
    rw [Finset.sum_range_one, ← term24 m c W X hW hX ⟨0, hn⟩ k]
    exact zero_add _
  | succ j ih =>
    have hj : j < cfg0.N := Nat.lt_of_succ_lt hn
    have h0 : ¬ (⟨j + 1, hn⟩ : Fin cfg0.N).val % 17 = 0 := by have : cfg0.N = 17 := N_0; show ¬ (j + 1) % 17 = 0; omega
    have e := congrArg (fun o => (o.2.2.2.2.2.2.2.2.2.2.2.2 : Vec Ideal S1x1024 .f32) (ix2 0 k)) (outsAt0_B m c ⟨j + 1, hn⟩ h0)
    dsimp only at e
    rw [tB24] at e
    refine Eq.trans e ?_
    rw [Finset.sum_range_succ, EReal.coe_add, ← ih hj, ← term24 m c W X hW hX ⟨j + 1, hn⟩ k]
    rfl

/-- The last point writes back the norm's scale's gradient of all tiles. -/
theorem wb24 (t : Fin cfg0.N) (h : (cfg0.win 24).flush t = true) : (dats m 0 c).flushed 24 t = ((cfg0.win 24).blk t).view.read (Elt Ideal) (arr24 W X) := by
  have h16 : t.val + 1 = 17 := by have := (flush0_24 t).mp h; have := t.isLt; have : cfg0.N = 17 := N_0; omega
  rw [flushed24]
  funext x
  idx_vars x
  have z : x0 = 0 := Subsingleton.elim _ _
  subst z
  refine Eq.trans ?_ (read24 _ t 0 x1).symm
  refine Eq.trans (acc24 m c W X hW hX t.val t.isLt x1) ?_
  rw [h16, part_sum]
  rfl

/-- Window 24's array after the run. -/
theorem array24 : (dats m 0 c).arrAt 24 cfg0.N = arr24 W X := by
  refine (dats m 0 c).arrAt_eq_of_cover 24 _ (fun t h => wb24 m c W X hW hX t h) fun i => ?_
  have b0 : (i 0 : Nat) < 1 := (i 0).isLt
  have b1 : (i 1 : Nat) < 1024 := (i 1).isLt
  have hN : grid0.N = 17 := N_0
  refine ⟨⟨16, by show _ < grid0.N; rw [hN]; omega⟩, (flush0_24 _).mpr rfl, ?_⟩
  generalize (⟨16, _⟩ : Fin cfg0.N) = t
  have h := place24 t
  show i ∈ ((View.whole main_v15_12).slice (win0_24.rect t)).set
  rw [View.set_slice_whole, Rect.mem_set_unit]
  intro a
  match a with
  | ⟨0, _⟩ =>
      show win0_24.index t 0 * 1 ≤ (i 0 : Nat) ∧ (i 0 : Nat) < win0_24.index t 0 * 1 + 1
      rw [h.1]; omega
  | ⟨1, _⟩ =>
      show win0_24.index t 1 * 1024 ≤ (i 1 : Nat) ∧ (i 1 : Nat) < win0_24.index t 1 * 1024 + 1024
      rw [h.2]; omega

end

end Cert.Kernel2Ideal.Gen

end
-- ==== Proof.PostSums.lean ====
/- The four sums of the layer's call: a sum over the padded rows is the sum over the batches' tokens, as a padding row adds nothing. -/
module

public import proofs.«01_k».proof.Proof.PostRef

@[expose] public section

set_option maxRecDepth 16384

noncomputable section

namespace Cert.Reference2Ideal.Read

open Cert.Post Cert.Reference2Ideal Cert.Reference2Ideal.Gen Idealize.ShloMosaic Idealize.ShloMosaic.TcCoe Idealize.ShloMosaic.Tactic Idealize.SL.Sem

variable (a0 a1 : S2x2064x512.Idx → ℝ) (a2 : S2x2064x1024.Idx → ℝ) (a3 : S2x2048x1024.Idx → ℝ) (a4 a5 : S512.Idx → ℝ) (a6 : S1024.Idx → ℝ)
  (a7 : S1024x1024.Idx → ℝ) (a8 a9 : S1024x2816.Idx → ℝ) (a10 : S2816x1024.Idx → ℝ)

/-- A padding row of a batch. -/
theorem flat_pad (b : Fin 2) (p : Fin 112) : flatX a0 a1 a2 a3 ⟨b.val * 2176 + p.val, by omega⟩ = padX := by
  unfold flatX
  exact dif_neg (by show ¬ 112 ≤ (b.val * 2176 + p.val) % 2176; omega)

/-- A token's row of a batch. -/
theorem flat_tok (b : Fin 2) (s : Fin 2064) : flatX a0 a1 a2 a3 ⟨b.val * 2176 + (112 + s.val), by omega⟩ = tokX a0 a1 a2 a3 b s := by
  unfold flatX
  rw [dif_pos (by show 112 ≤ (b.val * 2176 + (112 + s.val)) % 2176; omega)]
  congr 1
  · exact Fin.ext (by show (b.val * 2176 + (112 + s.val)) / 2176 = b.val; omega)
  · exact Fin.ext (by show (b.val * 2176 + (112 + s.val)) % 2176 - 112 = s.val; omega)

/-- A sum over the padded rows is the sum over the tokens, for a term that is zero at a padding row. -/
theorem sum_flat (f : Row ℝ → ℝ) (hf : f padX = 0) : ∑ q : Fin 4352, f (flatX a0 a1 a2 a3 q) = ∑ b, ∑ s, f (tokX a0 a1 a2 a3 b s) := by
  have e : ∀ b : Fin 2, ∑ r : Fin 2176, f (flatX a0 a1 a2 a3 (finProdFinEquiv (m := 2) (n := 2176) (b, r))) = ∑ s, f (tokX a0 a1 a2 a3 b s) := fun b => by
    refine (Fin.sum_univ_add (a := 112) (b := 2064) fun r => f (flatX a0 a1 a2 a3 (finProdFinEquiv (m := 2) (n := 2176) (b, r)))).trans ?_
    have hp : ∀ p : Fin 112, f (flatX a0 a1 a2 a3 (finProdFinEquiv (m := 2) (n := 2176) (b, Fin.castAdd 2064 p))) = 0 := fun p => by
      rw [← hf, ← flat_pad a0 a1 a2 a3 b p]
      exact congrArg (fun q => f (flatX a0 a1 a2 a3 q)) (Fin.ext (by show p.val + 2176 * b.val = b.val * 2176 + p.val; omega))
    have ht : ∀ s : Fin 2064, f (flatX a0 a1 a2 a3 (finProdFinEquiv (m := 2) (n := 2176) (b, Fin.natAdd 112 s))) = f (tokX a0 a1 a2 a3 b s) := fun s => by
      rw [← flat_tok a0 a1 a2 a3 b s]
      exact congrArg (fun q => f (flatX a0 a1 a2 a3 q)) (Fin.ext (by show (112 + s.val) + 2176 * b.val = b.val * 2176 + (112 + s.val); omega))
    rw [Finset.sum_congr rfl fun p _ => hp p, Finset.sum_congr rfl fun s _ => ht s, Finset.sum_const_zero, zero_add]
  rw [← Finset.sum_congr rfl fun b _ => e b, ← Fintype.sum_prod_type']
  exact (Fintype.sum_equiv (finProdFinEquiv (m := 2) (n := 2176)) _ _ fun _ => rfl).symm

/-- The loss as the call adds it up is the mean of the tokens' squared errors, halved: the first sixteen tokens of a batch have none. -/
theorem loss_sum : ∑ q : Fin 4352, 1 / 2048 * R.sq (tokW a4 a5 a6 a7 a8 a9 a10) (flatX a0 a1 a2 a3 q)
    = 1 / 2 * ∑ b, ∑ t : Fin 2048, R.sq (tokW a4 a5 a6 a7 a8 a9 a10) (tokX a0 a1 a2 a3 b ⟨16 + t.val, by omega⟩) * (1 / 1024) := by
  rw [sum_flat a0 a1 a2 a3 (fun x => 1 / 2048 * R.sq (tokW a4 a5 a6 a7 a8 a9 a10) x) (by rw [sq_off _ _ rfl, mul_zero]), Finset.mul_sum]
  refine Finset.sum_congr rfl fun b _ => ?_
  refine (Fin.sum_univ_add (a := 16) (b := 2048) fun s => 1 / 2048 * R.sq (tokW a4 a5 a6 a7 a8 a9 a10) (tokX a0 a1 a2 a3 b s)).trans ?_
  have hp : ∀ p : Fin 16, 1 / 2048 * R.sq (tokW a4 a5 a6 a7 a8 a9 a10) (tokX a0 a1 a2 a3 b (Fin.castAdd 2048 p)) = 0 := fun p => by
    rw [sq_off _ _ (decide_eq_false (by show ¬ 16 ≤ p.val; omega)), mul_zero]
  rw [Finset.sum_congr rfl fun p _ => hp p, Finset.sum_const_zero, zero_add, Finset.mul_sum]
  refine Finset.sum_congr rfl fun t _ => ?_
  show 1 / 2048 * R.sq (tokW a4 a5 a6 a7 a8 a9 a10) (tokX a0 a1 a2 a3 b ⟨16 + t.val, by omega⟩) = _
  ring

/-- The result `loss` of the reference, in each of its lanes. -/
theorem f173 (l : Fin 128) : val_main_v173 (F := Ideal) (cz a0) (cz a1) (cz a2) (cz a3) (cz a4) (cz a5) (cz a6) (cz a7) (cz a8) (cz a9) (cz a10) (ix2 0 l)
    = ((∑ q : Fin 4352, 1 / 2048 * R.sq (tokW a4 a5 a6 a7 a8 a9 a10) (flatX a0 a1 a2 a3 q) : ℝ) : EReal) := by
  rw [loss_sum, val_main_v173_apply, show idx_main_v173 (ix2 0 l) = ix0 from funext fun a => a.elim0]
  exact r66 a0 a1 a2 a3 a4 a5 a6 a7 a8 a9 a10

/-- The result `dga` of the reference. -/
theorem f174 (k : Fin 512) : val_main_v174 (F := Ideal) (cz a0) (cz a1) (cz a2) (cz a3) (cz a4) (cz a5) (cz a6) (cz a7) (cz a8) (cz a9) (cz a10) (ix2 0 k)
    = ((∑ q : Fin 4352, R.dga (tokW a4 a5 a6 a7 a8 a9 a10) (flatX a0 a1 a2 a3 q) k : ℝ) : EReal) := by
  rw [sum_flat a0 a1 a2 a3 (fun x => R.dga (tokW a4 a5 a6 a7 a8 a9 a10) x k) (dga_off _ _ rfl k)]
  exact r174 a0 a1 a2 a3 a4 a5 a6 a7 a8 a9 a10 k

/-- The result `dgr` of the reference. -/
theorem f175 (k : Fin 512) : val_main_v175 (F := Ideal) (cz a0) (cz a1) (cz a2) (cz a3) (cz a4) (cz a5) (cz a6) (cz a7) (cz a8) (cz a9) (cz a10) (ix2 0 k)
    = ((∑ q : Fin 4352, R.dgr (tokW a4 a5 a6 a7 a8 a9 a10) (flatX a0 a1 a2 a3 q) k : ℝ) : EReal) := by
  rw [sum_flat a0 a1 a2 a3 (fun x => R.dgr (tokW a4 a5 a6 a7 a8 a9 a10) x k) (dgr_off _ _ rfl k)]
  exact r175 a0 a1 a2 a3 a4 a5 a6 a7 a8 a9 a10 k

/-- The result `dg2` of the reference. -/
theorem f176 (k : Fin 1024) : val_main_v176 (F := Ideal) (cz a0) (cz a1) (cz a2) (cz a3) (cz a4) (cz a5) (cz a6) (cz a7) (cz a8) (cz a9) (cz a10) (ix2 0 k)
    = ((∑ q : Fin 4352, R.dg2 (tokW a4 a5 a6 a7 a8 a9 a10) (flatX a0 a1 a2 a3 q) k : ℝ) : EReal) := by
  rw [sum_flat a0 a1 a2 a3 (fun x => R.dg2 (tokW a4 a5 a6 a7 a8 a9 a10) x k) (dg2_off _ _ rfl k)]
  exact r176 a0 a1 a2 a3 a4 a5 a6 a7 a8 a9 a10 k

end Cert.Reference2Ideal.Read
end
-- ==== Proof.Blocks.lean ====
/- What one point of the attention's backward call leaves in each of its three output blocks, as sums over the
   extended reals: the pieces of the generated run, read at an index. -/
module

public import proofs.«01_k».proof.Proof.Gen.KernelIdeal.Frame
public import Idealize.ShloMosaic.Lib.Pointwise
public import Idealize.ShloMosaic.Lib.Pipeline.ReadBack
@[expose] public section
set_option maxRecDepth 16384
noncomputable section
namespace Cert.KernelIdeal.Gen
open Idealize.ShloMosaic Idealize.ShloMosaic.TcCoe Idealize.ShloMosaic.Tactic

/-- Whether lane `l` of a block of two heads of 64 lanes belongs to head `j`. -/
def inHead (j : Fin 2) (l : Fin 128) : Prop := l.val / 64 = j.val
/-- Membership of a lane in a head is decided by computation. -/
instance (j : Fin 2) (l : Fin 128) : Decidable (inHead j l) := by unfold inHead; infer_instance

/-- The head to which a column of a block of two heads of 128 columns belongs. -/
def headOf (c : Fin 256) : Fin 2 := ⟨c.val / 128, by omega⟩

/-- The first lane of head `j`. -/
def laneOf (j : Fin 2) : Fin 128 := ⟨j.val * 64, by omega⟩

/-- A column of the first 128 belongs to head 0. -/
theorem headOf_lo (x : Fin 128) (h : x.val < 256) : headOf ⟨x.val, h⟩ = 0 := by
  apply Fin.ext; show x.val / 128 = 0; omega
/-- A column of the last 128 belongs to head 1. -/
theorem headOf_hi (x : Fin 128) (h : 128 + x.val < 256) : headOf ⟨128 + x.val, h⟩ = 1 := by
  apply Fin.ext; show (128 + x.val) / 128 = 1; omega

/-- The test of a lane against 64 selects the lanes of head 0. -/
theorem sel_lo (l : Fin 128) (a b : EReal) : Scalar.select (IntOp.cmpi .slt (BitVec.ofNat 32 l.val) 64#32) a b = if inHead 0 l then a else b := by
  have h : ∀ l : Fin 128, IntOp.cmpi .slt (BitVec.ofNat 32 l.val) 64#32 = if inHead 0 l then 1#1 else 0#1 := by decide +kernel
  rw [h]; by_cases g : inHead 0 l <;> simp [g, Scalar.select]
/-- The other test of a lane against 64 selects the lanes of head 1. -/
theorem sel_hi (l : Fin 128) (a b : EReal) : Scalar.select (IntOp.cmpi .sge (BitVec.ofNat 32 l.val) 64#32) a b = if inHead 1 l then a else b := by
  have h : ∀ l : Fin 128, IntOp.cmpi .sge (BitVec.ofNat 32 l.val) 64#32 = if inHead 1 l then 1#1 else 0#1 := by decide +kernel
  rw [h]; by_cases g : inHead 1 l <;> simp [g, Scalar.select]

/-- A sum over the 2176 keys in the four chunks in which the body takes them. -/
theorem sum_chunks (f : Fin 2176 → EReal) : ∑ k, f k =
    ((∑ x : Fin 640, f ⟨x.val, by omega⟩ + ∑ x : Fin 512, f ⟨640 + x.val, by omega⟩) + ∑ x : Fin 512, f ⟨1152 + x.val, by omega⟩)
      + ∑ x : Fin 512, f ⟨1664 + x.val, by omega⟩ := by
  rw [Fin.sum_univ_two_halves 1664 512 rfl f, Fin.sum_univ_two_halves 1152 512 rfl, Fin.sum_univ_two_halves 640 512 rfl]

/-- The embedding of a rectangle is its index map. -/
theorem emb_idx {S : Shape} (r : Rect S) (x : r.shape.Idx) : r.emb x = r.toLoadRect.idx x := rfl

section
variable (x0 : Vec Ideal S1088x256 .bf16) (x1 : Vec Ideal S2176x256 .bf16) (x2 : Vec Ideal S2176x128 .bf16) (x3 x4 x5 : Vec Ideal S1088x128 .f32)
  (x6 : Vec Ideal S1x2x1088x2176 .bf16)

/-- The reciprocal of the softmax's denominator of head `j` at row `r` of the block. -/
def invL (j : Fin 2) (r : Fin 1088) : EReal := Ideal.div 1 (x5 (ix2 r (laneOf j)))

/-- The gradient of the scores, head `j`, at row `r` and key `k` of the block. -/
def dsAt (j : Fin 2) (r : Fin 1088) (k : Fin 2176) : EReal :=
  x6 (ix4 0 j r k) * ((∑ l : Fin 128, if inHead j l then x3 (ix2 r l) * x2 (ix2 k l) else 0)
    - ∑ l : Fin 128, if inHead j l then x3 (ix2 r l) * x4 (ix2 r l) else 0) * (invL x5 j r * Ideal.ofBits .f32 0x3DD105EC#32)

/-- The block of the queries' gradient at one point. -/
def dqBlock : Vec Ideal S1088x256 .f32 := fun i =>
  ∑ k : Fin 2176, dsAt x2 x3 x4 x5 x6 (headOf (i 1)) (i 0) k * x1 (ix2 k (i 1))

/-- The block of the keys' gradient after a point, from the block `xo` before it. -/
def dkBlock (xo : Vec Ideal S2176x256 .f32) : Vec Ideal S2176x256 .f32 := fun i =>
  xo i + ∑ r : Fin 1088, dsAt x2 x3 x4 x5 x6 (headOf (i 1)) r (i 0) * x0 (ix2 r (i 1))

/-- The block of the values' gradient after a point, from the block `xo` before it. -/
def dvBlock (xo : Vec Ideal S2176x128 .f32) : Vec Ideal S2176x128 .f32 := fun i =>
  let l : Fin 128 := i 1
  xo i + ((∑ r : Fin 1088, if inHead 0 l then x6 (ix4 0 0 r (i 0)) * (x3 (ix2 r l) * invL x5 0 r) else 0)
    + ∑ r : Fin 1088, if inHead 1 l then x6 (ix4 0 1 r (i 0)) * (x3 (ix2 r l) * invL x5 1 r) else 0)
end

section
variable (c : Dev nD) (i : grid0.Coords) (arg3 : Memref sig .tc .vmem S1088x256 .bf16) (harg3 : arg3.IsWhole) (arg4 : Memref sig .tc .vmem S2176x256 .bf16) (harg4 : arg4.IsWhole) (arg5 : Memref sig .tc .vmem S2176x128 .bf16) (harg5 : arg5.IsWhole) (arg6 : Memref sig .tc .vmem S1088x128 .f32) (harg6 : arg6.IsWhole) (arg7 : Memref sig .tc .vmem S1088x128 .f32) (harg7 : arg7.IsWhole) (arg8 : Memref sig .tc .vmem S1088x128 .f32) (harg8 : arg8.IsWhole) (arg9 : Memref sig .tc .vmem S1x2x1088x2176 .bf16) (harg9 : arg9.IsWhole) (arg10 : Memref sig .tc .vmem S1088x256 .f32) (harg10 : arg10.IsWhole) (arg11 : Memref sig .tc .vmem S2176x256 .f32) (harg11 : arg11.IsWhole) (arg12 : Memref sig .tc .vmem S2176x128 .f32) (harg12 : arg12.IsWhole)
    (x0 : Vec Ideal S1088x256 .bf16) (x1 : Vec Ideal S2176x256 .bf16) (x2 : Vec Ideal S2176x128 .bf16) (x3 : Vec Ideal S1088x128 .f32) (x4 : Vec Ideal S1088x128 .f32) (x5 : Vec Ideal S1088x128 .f32) (x6 : Vec Ideal S1x2x1088x2176 .bf16) (xo8 : Vec Ideal S2176x256 .f32) (xo9 : Vec Ideal S2176x128 .f32)

set_option maxHeartbeats 4000000 in
/-- What a point with the second half of the queries leaves in the block of the keys' gradient. -/
theorem out8B (hc0 : ¬ cond0_0 i) : out0_B_8 c i arg3 harg3 arg4 harg4 arg5 harg5 arg6 harg6 arg7 harg7 arg8 harg8 arg9 harg9 arg10 harg10 arg11 harg11 arg12 harg12 hc0 x0 x1 x2 x3 x4 x5 x6 xo8 xo9
    = dkBlock x0 x2 x3 x4 x5 x6 xo8 := by
  unfold out0_B_8
  rw [View.read_writes_eq_canon _ _ _ (cover0_B_8 c i arg3 harg3 arg4 harg4 arg5 harg5 arg6 harg6 arg7 harg7 arg8 harg8 arg9 harg9 arg10 harg10 arg11 harg11 arg12 harg12 hc0 x0 x1 x2 x3 x4 x5 x6 xo8 xo9)]
  funext y
  refine View.canon_apply_of_pieces _ _ (View.PiecesOf.mem ?_) y (cover0_B_8 c i arg3 harg3 arg4 harg4 arg5 harg5 arg6 harg6 arg7 harg7 arg8 harg8 arg9 harg9 arg10 harg10 arg11 harg11 arg12 harg12 hc0 x0 x1 x2 x3 x4 x5 x6 xo8 xo9 y)
  unfold kernelRun0_B
  dsimp only
  sl_unfold_words
  simp only [View.readAt_eq_ld, harg3.read_unread, harg4.read_unread, harg5.read_unread, harg6.read_unread, harg7.read_unread, harg8.read_unread, harg9.read_unread, harg11.read_unread, harg12.read_unread]
  refine ⟨?_, ?_, ?_, ?_, ?_, ?_, ?_, ?_, trivial⟩
  all_goals
    intro x
    idx_vars x
    unfold_payloads
    pointwise [dkBlock, dsAt, invL, emb_idx]
    simp only [headOf_lo, headOf_hi, sel_lo, sel_hi]
    rfl

set_option maxHeartbeats 4000000 in
/-- What a point with the second half of the queries leaves in the block of the values' gradient. -/
theorem out9B (hc0 : ¬ cond0_0 i) : out0_B_9 c i arg3 harg3 arg4 harg4 arg5 harg5 arg6 harg6 arg7 harg7 arg8 harg8 arg9 harg9 arg10 harg10 arg11 harg11 arg12 harg12 hc0 x0 x1 x2 x3 x4 x5 x6 xo8 xo9
    = dvBlock x3 x5 x6 xo9 := by
  unfold out0_B_9
  rw [View.read_writes_eq_canon _ _ _ (cover0_B_9 c i arg3 harg3 arg4 harg4 arg5 harg5 arg6 harg6 arg7 harg7 arg8 harg8 arg9 harg9 arg10 harg10 arg11 harg11 arg12 harg12 hc0 x0 x1 x2 x3 x4 x5 x6 xo8 xo9)]
  funext y
  refine View.canon_apply_of_pieces _ _ (View.PiecesOf.mem ?_) y (cover0_B_9 c i arg3 harg3 arg4 harg4 arg5 harg5 arg6 harg6 arg7 harg7 arg8 harg8 arg9 harg9 arg10 harg10 arg11 harg11 arg12 harg12 hc0 x0 x1 x2 x3 x4 x5 x6 xo8 xo9 y)
  unfold kernelRun0_B
  dsimp only
  sl_unfold_words
  simp only [View.readAt_eq_ld, harg3.read_unread, harg4.read_unread, harg5.read_unread, harg6.read_unread, harg7.read_unread, harg8.read_unread, harg9.read_unread, harg11.read_unread, harg12.read_unread]
  refine ⟨?_, ?_, ?_, ?_, trivial⟩
  all_goals
    intro x
    idx_vars x
    unfold_payloads
    pointwise [dvBlock, invL, emb_idx]
    simp only [sel_lo, sel_hi]
    rfl

set_option maxHeartbeats 4000000 in
/-- What a point with the second half of the queries leaves in the block of the queries' gradient. -/
theorem out7B (hc0 : ¬ cond0_0 i) : out0_B_7 c i arg3 harg3 arg4 harg4 arg5 harg5 arg6 harg6 arg7 harg7 arg8 harg8 arg9 harg9 arg10 harg10 arg11 harg11 arg12 harg12 hc0 x0 x1 x2 x3 x4 x5 x6 xo8 xo9
    = dqBlock x1 x2 x3 x4 x5 x6 := by
  unfold out0_B_7
  rw [View.read_writes_eq_canon _ _ _ (cover0_B_7 c i arg3 harg3 arg4 harg4 arg5 harg5 arg6 harg6 arg7 harg7 arg8 harg8 arg9 harg9 arg10 harg10 arg11 harg11 arg12 harg12 hc0 x0 x1 x2 x3 x4 x5 x6 xo8 xo9)]
  funext y
  refine View.canon_apply_of_pieces _ _ (View.PiecesOf.mem ?_) y (cover0_B_7 c i arg3 harg3 arg4 harg4 arg5 harg5 arg6 harg6 arg7 harg7 arg8 harg8 arg9 harg9 arg10 harg10 arg11 harg11 arg12 harg12 hc0 x0 x1 x2 x3 x4 x5 x6 xo8 xo9 y)
  unfold kernelRun0_B
  dsimp only
  sl_unfold_words
  simp only [View.readAt_eq_ld, harg3.read_unread, harg4.read_unread, harg5.read_unread, harg6.read_unread, harg7.read_unread, harg8.read_unread, harg9.read_unread, harg11.read_unread, harg12.read_unread]
  refine ⟨?_, ?_, trivial⟩
  all_goals
    intro x
    idx_vars x
    unfold_payloads
    pointwise [dqBlock, dsAt, invL, emb_idx]
    simp only [headOf_lo, headOf_hi, sel_lo, sel_hi, sum_chunks]
    rfl

set_option maxHeartbeats 4000000 in
/-- What a point with the first half of the queries leaves in the block of the queries' gradient. -/
theorem out7A (hc0 : cond0_0 i) : out0_A_7 c i arg3 harg3 arg4 harg4 arg5 harg5 arg6 harg6 arg7 harg7 arg8 harg8 arg9 harg9 arg10 harg10 arg11 harg11 arg12 harg12 hc0 x0 x1 x2 x3 x4 x5 x6
    = dqBlock x1 x2 x3 x4 x5 x6 := by
  unfold out0_A_7
  rw [View.read_writes_eq_canon _ _ _ (cover0_A_7 c i arg3 harg3 arg4 harg4 arg5 harg5 arg6 harg6 arg7 harg7 arg8 harg8 arg9 harg9 arg10 harg10 arg11 harg11 arg12 harg12 hc0 x0 x1 x2 x3 x4 x5 x6)]
  funext y
  refine View.canon_apply_of_pieces _ _ (View.PiecesOf.mem ?_) y (cover0_A_7 c i arg3 harg3 arg4 harg4 arg5 harg5 arg6 harg6 arg7 harg7 arg8 harg8 arg9 harg9 arg10 harg10 arg11 harg11 arg12 harg12 hc0 x0 x1 x2 x3 x4 x5 x6 y)
  unfold kernelRun0_A
  dsimp only
  sl_unfold_words
  simp only [View.readAt_eq_ld, harg3.read_unread, harg4.read_unread, harg5.read_unread, harg6.read_unread, harg7.read_unread, harg8.read_unread, harg9.read_unread, harg11.read_unread, harg12.read_unread]
  try simp (config := {decide := true}) only [↓View.readCov_skip, View.readCov_fill]
  refine ⟨?_, ?_, trivial⟩
  all_goals
    intro x
    idx_vars x
    unfold_payloads
    pointwise [dqBlock, dsAt, invL, emb_idx]
    simp only [headOf_lo, headOf_hi, sel_lo, sel_hi, sum_chunks]
    rfl

set_option maxHeartbeats 4000000 in
/-- What a point with the first half of the queries leaves in the block of the keys' gradient. -/
theorem out8A (hc0 : cond0_0 i) : out0_A_8 c i arg3 harg3 arg4 harg4 arg5 harg5 arg6 harg6 arg7 harg7 arg8 harg8 arg9 harg9 arg10 harg10 arg11 harg11 arg12 harg12 hc0 x0 x1 x2 x3 x4 x5 x6
    = dkBlock x0 x2 x3 x4 x5 x6 (fun _ => 0) := by
  unfold out0_A_8
  rw [View.read_writes_eq_canon _ _ _ (cover0_A_8 c i arg3 harg3 arg4 harg4 arg5 harg5 arg6 harg6 arg7 harg7 arg8 harg8 arg9 harg9 arg10 harg10 arg11 harg11 arg12 harg12 hc0 x0 x1 x2 x3 x4 x5 x6)]
  funext y
  rw [← List.take_append_drop 8 (kernelRun0_A c i arg3 harg3 arg4 harg4 arg5 harg5 arg6 harg6 arg7 harg7 arg8 harg8 arg9 harg9 arg10 harg10 arg11 harg11 arg12 harg12 hc0 x0 x1 x2 x3 x4 x5 x6).2.1]
  refine View.canon_append_of_piecesOf _ _ _ ?_ y
    (View.cover_of_tiledBy (List.take 8 (kernelRun0_A c i arg3 harg3 arg4 harg4 arg5 harg5 arg6 harg6 arg7 harg7 arg8 harg8 arg9 harg9 arg10 harg10 arg11 harg11 arg12 harg12 hc0 x0 x1 x2 x3 x4 x5 x6).2.1) ![128, 128] (by sl_kernel_rfl) y)
  unfold kernelRun0_A
  dsimp only [List.take]
  sl_unfold_words
  simp only [View.readAt_eq_ld, harg3.read_unread, harg4.read_unread, harg5.read_unread, harg6.read_unread, harg7.read_unread, harg8.read_unread, harg9.read_unread, harg11.read_unread, harg12.read_unread]
  try simp (config := {decide := true}) only [↓View.readCov_skip, View.readCov_fill]
  refine ⟨?_, ?_, ?_, ?_, ?_, ?_, ?_, ?_, trivial⟩
  all_goals
    intro x
    idx_vars x
    unfold_payloads
    pointwise [dkBlock, dsAt, invL, emb_idx]
    simp only [headOf_lo, headOf_hi, sel_lo, sel_hi]
    rfl

set_option maxHeartbeats 4000000 in
/-- What a point with the first half of the queries leaves in the block of the values' gradient. -/
theorem out9A (hc0 : cond0_0 i) : out0_A_9 c i arg3 harg3 arg4 harg4 arg5 harg5 arg6 harg6 arg7 harg7 arg8 harg8 arg9 harg9 arg10 harg10 arg11 harg11 arg12 harg12 hc0 x0 x1 x2 x3 x4 x5 x6
    = dvBlock x3 x5 x6 (fun _ => 0) := by
  unfold out0_A_9
  rw [View.read_writes_eq_canon _ _ _ (cover0_A_9 c i arg3 harg3 arg4 harg4 arg5 harg5 arg6 harg6 arg7 harg7 arg8 harg8 arg9 harg9 arg10 harg10 arg11 harg11 arg12 harg12 hc0 x0 x1 x2 x3 x4 x5 x6)]
  funext y
  rw [← List.take_append_drop 4 (kernelRun0_A c i arg3 harg3 arg4 harg4 arg5 harg5 arg6 harg6 arg7 harg7 arg8 harg8 arg9 harg9 arg10 harg10 arg11 harg11 arg12 harg12 hc0 x0 x1 x2 x3 x4 x5 x6).2.2.1]
  refine View.canon_append_of_piecesOf _ _ _ ?_ y
    (View.cover_of_tiledBy (List.take 4 (kernelRun0_A c i arg3 harg3 arg4 harg4 arg5 harg5 arg6 harg6 arg7 harg7 arg8 harg8 arg9 harg9 arg10 harg10 arg11 harg11 arg12 harg12 hc0 x0 x1 x2 x3 x4 x5 x6).2.2.1) ![128, 128] (by sl_kernel_rfl) y)
  unfold kernelRun0_A
  dsimp only [List.take]
  sl_unfold_words
  simp only [View.readAt_eq_ld, harg3.read_unread, harg4.read_unread, harg5.read_unread, harg6.read_unread, harg7.read_unread, harg8.read_unread, harg9.read_unread, harg11.read_unread, harg12.read_unread]
  try simp (config := {decide := true}) only [↓View.readCov_skip, View.readCov_fill]
  refine ⟨?_, ?_, ?_, ?_, trivial⟩
  all_goals
    intro x
    idx_vars x
    unfold_payloads
    pointwise [dvBlock, invL, emb_idx]
    simp only [sel_lo, sel_hi]
    rfl
end
end Cert.KernelIdeal.Gen
end
-- ==== Proof.Arrays.lean ====
/- The three output arrays of the attention's backward call after its sixteen points, as functions of the arrays that
   its input windows read: each block is what its last point left, and the blocks tile the arrays. -/
module

public import proofs.«01_k».proof.Proof.Gen.KernelIdeal.Value
public import proofs.«01_k».proof.Proof.Blocks

@[expose] public section

set_option maxRecDepth 16384

noncomputable section

namespace Cert.KernelIdeal.Gen

open Cert.KernelIdeal.Value Idealize.ShloMosaic Idealize.ShloMosaic.TcCoe Idealize.ShloMosaic.Tactic Idealize.SL.Sem

/-- Row `q` of batch `b`. -/
def rowOf (b : Fin 2) (q : Fin 2176) : Fin 4352 := ⟨b.val * 2176 + q.val, by omega⟩
/-- Column `d` of head `h`, of 64. -/
def vcol (h : Fin 8) (d : Fin 64) : Fin 512 := ⟨h.val * 64 + d.val, by omega⟩
/-- The batch of a row. -/
def batchOf (R : Fin 4352) : Fin 2 := ⟨R.val / 2176, by omega⟩
/-- The place of a row in its batch. -/
def placeOf (R : Fin 4352) : Fin 2176 := ⟨R.val % 2176, by omega⟩
/-- The head of a column, heads of 128. -/
def headK (C : Fin 1024) : Fin 8 := ⟨C.val / 128, by omega⟩
/-- The head of a column, heads of 64. -/
def headV (C : Fin 512) : Fin 8 := ⟨C.val / 64, by omega⟩

section
variable (A0 A1 : Vec Ideal S4352x1024 .bf16) (A2 : Vec Ideal S4352x512 .bf16) (A3 A4 A5 : Vec Ideal S4352x512 .f32)
  (A6 : Vec Ideal S2x8x2176x2176 .bf16)

/-- The gradient of the scores of head `h` of batch `b` at query `q` and key `k`. -/
def dsFull (b : Fin 2) (h : Fin 8) (q k : Fin 2176) : EReal :=
  A6 (ix4 b h q k) * ((∑ d : Fin 64, A3 (ix2 (rowOf b q) (vcol h d)) * A2 (ix2 (rowOf b k) (vcol h d)))
    - ∑ d : Fin 64, A3 (ix2 (rowOf b q) (vcol h d)) * A4 (ix2 (rowOf b q) (vcol h d)))
    * (Ideal.div 1 (A5 (ix2 (rowOf b q) (vcol h 0))) * Ideal.ofBits .f32 0x3DD105EC#32)

/-- The queries' gradient. -/
def dqArr : Vec Ideal S4352x1024 .f32 := fun i =>
  ∑ k : Fin 2176, dsFull A2 A3 A4 A5 A6 (batchOf (i 0)) (headK (i 1)) (placeOf (i 0)) k * A1 (ix2 (rowOf (batchOf (i 0)) k) (i 1))

/-- The keys' gradient. -/
def dkArr : Vec Ideal S4352x1024 .f32 := fun i =>
  ∑ q : Fin 2176, dsFull A2 A3 A4 A5 A6 (batchOf (i 0)) (headK (i 1)) q (placeOf (i 0)) * A0 (ix2 (rowOf (batchOf (i 0)) q) (i 1))

/-- The values' gradient. -/
def dvArr : Vec Ideal S4352x512 .f32 := fun i =>
  ∑ q : Fin 2176, A6 (ix4 (batchOf (i 0)) (headV (i 1)) q (placeOf (i 0)))
    * (A3 (ix2 (rowOf (batchOf (i 0)) q) (i 1)) * Ideal.div 1 (A5 (ix2 (rowOf (batchOf (i 0)) q) (vcol (headV (i 1)) 0))))
end

/-- The sum over the 128 lanes of a block of two heads, of one head's lanes only. -/
theorem sum_inHead (j : Fin 2) (f : Fin 128 → EReal) :
    (∑ l : Fin 128, if inHead j l then f l else 0) = ∑ d : Fin 64, f ⟨j.val * 64 + d.val, by omega⟩ := by
  rw [Fin.sum_univ_two_halves 64 64 rfl]
  fin_cases j
  · have h0 : ∀ x : Fin 64, inHead 0 ⟨x.val, by omega⟩ := by decide +kernel
    have h1 : ∀ x : Fin 64, ¬ inHead 0 ⟨64 + x.val, by omega⟩ := by decide +kernel
    simp only [Fin.zero_eta, Fin.isValue, h0, h1, if_true, if_false, Finset.sum_const_zero, add_zero]
    exact Finset.sum_congr rfl fun d _ => congrArg f (Fin.ext (by simp))
  · have h0 : ∀ x : Fin 64, ¬ inHead 1 ⟨x.val, by omega⟩ := by decide +kernel
    have h1 : ∀ x : Fin 64, inHead 1 ⟨64 + x.val, by omega⟩ := by decide +kernel
    simp only [Fin.mk_one, Fin.isValue, h0, h1, if_true, if_false, Finset.sum_const_zero, zero_add]

/-! ## The blocks of the windows -/

/-- The batch of a point. -/
def pb (t : Fin cfg0.N) : Fin 2 := ⟨t.val / 8, by have := t.isLt; have : cfg0.N = 16 := N_0; omega⟩
/-- The head `j` of a point's pair of heads. -/
def ph (t : Fin cfg0.N) (j : Fin 2) : Fin 8 := ⟨t.val / 2 % 4 * 2 + j.val, by omega⟩
/-- Row `r` of a point's block of rows, as a place in its batch. -/
def pq (t : Fin cfg0.N) (r : Fin 1088) : Fin 2176 := ⟨t.val % 2 * 1088 + r.val, by omega⟩

/-- The place of window 0's block at each point. -/
theorem place0 : ∀ t : Fin cfg0.N, win0_0.index t 0 = t.val / 8 * 2 + t.val % 2 ∧ win0_0.index t 1 = t.val / 2 % 4 :=
  (by decide +kernel : ∀ t : Fin grid0.N, win0_0.index t 0 = t.val / 8 * 2 + t.val % 2 ∧ win0_0.index t 1 = t.val / 2 % 4)

/-- Window 0's block of an array, at an index. -/
theorem read0 (f : Vec Ideal S4352x1024 .bf16) (t : Fin cfg0.N) (r : Fin 1088) (l : Fin 256) :
    (((cfg0.win 0).blk t).view.read (Elt Ideal) f : Vec Ideal S1088x256 .bf16) (ix2 r l)
      = f (ix2 (rowOf (pb t) (pq t r)) ⟨t.val / 2 % 4 * 256 + l.val, by omega⟩) := by
  rw [View.read_apply]
  have h := place0 t
  show f _ = f _
  congr 1
  funext a
  apply Fin.ext
  match a with
  | ⟨0, _⟩ => show win0_0.index t 0 * 1088 + 1 * r.val = t.val / 8 * 2176 + (t.val % 2 * 1088 + r.val); rw [h.1]; omega
  | ⟨1, _⟩ => show win0_0.index t 1 * 256 + 1 * l.val = t.val / 2 % 4 * 256 + l.val; rw [h.2]; omega

/-- The place of window 1's block at each point. -/
theorem place1 : ∀ t : Fin cfg0.N, win0_1.index t 0 = t.val / 8 ∧ win0_1.index t 1 = t.val / 2 % 4 :=
  (by decide +kernel : ∀ t : Fin grid0.N, win0_1.index t 0 = t.val / 8 ∧ win0_1.index t 1 = t.val / 2 % 4)

/-- Window 1's block of an array, at an index. -/
theorem read1 (f : Vec Ideal S4352x1024 .bf16) (t : Fin cfg0.N) (r : Fin 2176) (l : Fin 256) :
    (((cfg0.win 1).blk t).view.read (Elt Ideal) f : Vec Ideal S2176x256 .bf16) (ix2 r l)
      = f (ix2 (rowOf (pb t) r) ⟨t.val / 2 % 4 * 256 + l.val, by omega⟩) := by
  rw [View.read_apply]
  have h := place1 t
  show f _ = f _
  congr 1
  funext a
  apply Fin.ext
  match a with
  | ⟨0, _⟩ => show win0_1.index t 0 * 2176 + 1 * r.val = t.val / 8 * 2176 + r.val; rw [h.1]; omega
  | ⟨1, _⟩ => show win0_1.index t 1 * 256 + 1 * l.val = t.val / 2 % 4 * 256 + l.val; rw [h.2]; omega

/-- The place of window 2's block at each point. -/
theorem place2 : ∀ t : Fin cfg0.N, win0_2.index t 0 = t.val / 8 ∧ win0_2.index t 1 = t.val / 2 % 4 :=
  (by decide +kernel : ∀ t : Fin grid0.N, win0_2.index t 0 = t.val / 8 ∧ win0_2.index t 1 = t.val / 2 % 4)

/-- Window 2's block of an array, at an index. -/
theorem read2 (f : Vec Ideal S4352x512 .bf16) (t : Fin cfg0.N) (r : Fin 2176) (l : Fin 128) :
    (((cfg0.win 2).blk t).view.read (Elt Ideal) f : Vec Ideal S2176x128 .bf16) (ix2 r l)
      = f (ix2 (rowOf (pb t) r) ⟨t.val / 2 % 4 * 128 + l.val, by omega⟩) := by
  rw [View.read_apply]
  have h := place2 t
  show f _ = f _
  congr 1
  funext a
  apply Fin.ext
  match a with
  | ⟨0, _⟩ => show win0_2.index t 0 * 2176 + 1 * r.val = t.val / 8 * 2176 + r.val; rw [h.1]; omega
  | ⟨1, _⟩ => show win0_2.index t 1 * 128 + 1 * l.val = t.val / 2 % 4 * 128 + l.val; rw [h.2]; omega

/-- The place of window 3's block at each point. -/
theorem place3 : ∀ t : Fin cfg0.N, win0_3.index t 0 = t.val / 8 * 2 + t.val % 2 ∧ win0_3.index t 1 = t.val / 2 % 4 :=
  (by decide +kernel : ∀ t : Fin grid0.N, win0_3.index t 0 = t.val / 8 * 2 + t.val % 2 ∧ win0_3.index t 1 = t.val / 2 % 4)

/-- Window 3's block of an array, at an index. -/
theorem read3 (f : Vec Ideal S4352x512 .f32) (t : Fin cfg0.N) (r : Fin 1088) (l : Fin 128) :
    (((cfg0.win 3).blk t).view.read (Elt Ideal) f : Vec Ideal S1088x128 .f32) (ix2 r l)
      = f (ix2 (rowOf (pb t) (pq t r)) ⟨t.val / 2 % 4 * 128 + l.val, by omega⟩) := by
  rw [View.read_apply]
  have h := place3 t
  show f _ = f _
  congr 1
  funext a
  apply Fin.ext
  match a with
  | ⟨0, _⟩ => show win0_3.index t 0 * 1088 + 1 * r.val = t.val / 8 * 2176 + (t.val % 2 * 1088 + r.val); rw [h.1]; omega
  | ⟨1, _⟩ => show win0_3.index t 1 * 128 + 1 * l.val = t.val / 2 % 4 * 128 + l.val; rw [h.2]; omega

/-- The place of window 4's block at each point. -/
theorem place4 : ∀ t : Fin cfg0.N, win0_4.index t 0 = t.val / 8 * 2 + t.val % 2 ∧ win0_4.index t 1 = t.val / 2 % 4 :=
  (by decide +kernel : ∀ t : Fin grid0.N, win0_4.index t 0 = t.val / 8 * 2 + t.val % 2 ∧ win0_4.index t 1 = t.val / 2 % 4)

/-- Window 4's block of an array, at an index. -/
theorem read4 (f : Vec Ideal S4352x512 .f32) (t : Fin cfg0.N) (r : Fin 1088) (l : Fin 128) :
    (((cfg0.win 4).blk t).view.read (Elt Ideal) f : Vec Ideal S1088x128 .f32) (ix2 r l)
      = f (ix2 (rowOf (pb t) (pq t r)) ⟨t.val / 2 % 4 * 128 + l.val, by omega⟩) := by
  rw [View.read_apply]
  have h := place4 t
  show f _ = f _
  congr 1
  funext a
  apply Fin.ext
  match a with
  | ⟨0, _⟩ => show win0_4.index t 0 * 1088 + 1 * r.val = t.val / 8 * 2176 + (t.val % 2 * 1088 + r.val); rw [h.1]; omega
  | ⟨1, _⟩ => show win0_4.index t 1 * 128 + 1 * l.val = t.val / 2 % 4 * 128 + l.val; rw [h.2]; omega

/-- The place of window 5's block at each point. -/
theorem place5 : ∀ t : Fin cfg0.N, win0_5.index t 0 = t.val / 8 * 2 + t.val % 2 ∧ win0_5.index t 1 = t.val / 2 % 4 :=
  (by decide +kernel : ∀ t : Fin grid0.N, win0_5.index t 0 = t.val / 8 * 2 + t.val % 2 ∧ win0_5.index t 1 = t.val / 2 % 4)

/-- Window 5's block of an array, at an index. -/
theorem read5 (f : Vec Ideal S4352x512 .f32) (t : Fin cfg0.N) (r : Fin 1088) (l : Fin 128) :
    (((cfg0.win 5).blk t).view.read (Elt Ideal) f : Vec Ideal S1088x128 .f32) (ix2 r l)
      = f (ix2 (rowOf (pb t) (pq t r)) ⟨t.val / 2 % 4 * 128 + l.val, by omega⟩) := by
  rw [View.read_apply]
  have h := place5 t
  show f _ = f _
  congr 1
  funext a
  apply Fin.ext
  match a with
  | ⟨0, _⟩ => show win0_5.index t 0 * 1088 + 1 * r.val = t.val / 8 * 2176 + (t.val % 2 * 1088 + r.val); rw [h.1]; omega
  | ⟨1, _⟩ => show win0_5.index t 1 * 128 + 1 * l.val = t.val / 2 % 4 * 128 + l.val; rw [h.2]; omega

/-- The place of window 7's block at each point. -/
theorem place7 : ∀ t : Fin cfg0.N, win0_7.index t 0 = t.val / 8 * 2 + t.val % 2 ∧ win0_7.index t 1 = t.val / 2 % 4 :=
  (by decide +kernel : ∀ t : Fin grid0.N, win0_7.index t 0 = t.val / 8 * 2 + t.val % 2 ∧ win0_7.index t 1 = t.val / 2 % 4)

/-- Window 7's block of an array, at an index. -/
theorem read7 (f : Vec Ideal S4352x1024 .f32) (t : Fin cfg0.N) (r : Fin 1088) (l : Fin 256) :
    (((cfg0.win 7).blk t).view.read (Elt Ideal) f : Vec Ideal S1088x256 .f32) (ix2 r l)
      = f (ix2 (rowOf (pb t) (pq t r)) ⟨t.val / 2 % 4 * 256 + l.val, by omega⟩) := by
  rw [View.read_apply]
  have h := place7 t
  show f _ = f _
  congr 1
  funext a
  apply Fin.ext
  match a with
  | ⟨0, _⟩ => show win0_7.index t 0 * 1088 + 1 * r.val = t.val / 8 * 2176 + (t.val % 2 * 1088 + r.val); rw [h.1]; omega
  | ⟨1, _⟩ => show win0_7.index t 1 * 256 + 1 * l.val = t.val / 2 % 4 * 256 + l.val; rw [h.2]; omega

/-- The place of window 8's block at each point. -/
theorem place8 : ∀ t : Fin cfg0.N, win0_8.index t 0 = t.val / 8 ∧ win0_8.index t 1 = t.val / 2 % 4 :=
  (by decide +kernel : ∀ t : Fin grid0.N, win0_8.index t 0 = t.val / 8 ∧ win0_8.index t 1 = t.val / 2 % 4)

/-- Window 8's block of an array, at an index. -/
theorem read8 (f : Vec Ideal S4352x1024 .f32) (t : Fin cfg0.N) (r : Fin 2176) (l : Fin 256) :
    (((cfg0.win 8).blk t).view.read (Elt Ideal) f : Vec Ideal S2176x256 .f32) (ix2 r l)
      = f (ix2 (rowOf (pb t) r) ⟨t.val / 2 % 4 * 256 + l.val, by omega⟩) := by
  rw [View.read_apply]
  have h := place8 t
  show f _ = f _
  congr 1
  funext a
  apply Fin.ext
  match a with
  | ⟨0, _⟩ => show win0_8.index t 0 * 2176 + 1 * r.val = t.val / 8 * 2176 + r.val; rw [h.1]; omega
  | ⟨1, _⟩ => show win0_8.index t 1 * 256 + 1 * l.val = t.val / 2 % 4 * 256 + l.val; rw [h.2]; omega

/-- The place of window 9's block at each point. -/
theorem place9 : ∀ t : Fin cfg0.N, win0_9.index t 0 = t.val / 8 ∧ win0_9.index t 1 = t.val / 2 % 4 :=
  (by decide +kernel : ∀ t : Fin grid0.N, win0_9.index t 0 = t.val / 8 ∧ win0_9.index t 1 = t.val / 2 % 4)

/-- Window 9's block of an array, at an index. -/
theorem read9 (f : Vec Ideal S4352x512 .f32) (t : Fin cfg0.N) (r : Fin 2176) (l : Fin 128) :
    (((cfg0.win 9).blk t).view.read (Elt Ideal) f : Vec Ideal S2176x128 .f32) (ix2 r l)
      = f (ix2 (rowOf (pb t) r) ⟨t.val / 2 % 4 * 128 + l.val, by omega⟩) := by
  rw [View.read_apply]
  have h := place9 t
  show f _ = f _
  congr 1
  funext a
  apply Fin.ext
  match a with
  | ⟨0, _⟩ => show win0_9.index t 0 * 2176 + 1 * r.val = t.val / 8 * 2176 + r.val; rw [h.1]; omega
  | ⟨1, _⟩ => show win0_9.index t 1 * 128 + 1 * l.val = t.val / 2 % 4 * 128 + l.val; rw [h.2]; omega

/-- The place of window 6's block at each point. -/
theorem place6 : ∀ t : Fin cfg0.N, win0_6.index t 0 = t.val / 8 ∧ win0_6.index t 1 = t.val / 2 % 4 ∧ win0_6.index t 2 = t.val % 2 ∧ win0_6.index t 3 = 0 :=
  (by decide +kernel : ∀ t : Fin grid0.N, win0_6.index t 0 = t.val / 8 ∧ win0_6.index t 1 = t.val / 2 % 4 ∧ win0_6.index t 2 = t.val % 2 ∧ win0_6.index t 3 = 0)

/-- Window 6's block of an array, at an index. -/
theorem read6 (f : Vec Ideal S2x8x2176x2176 .bf16) (t : Fin cfg0.N) (j : Fin 2) (r : Fin 1088) (k : Fin 2176) :
    (((cfg0.win 6).blk t).view.read (Elt Ideal) f : Vec Ideal S1x2x1088x2176 .bf16) (ix4 0 j r k) = f (ix4 (pb t) (ph t j) (pq t r) k) := by
  rw [View.read_apply]
  have h := place6 t
  show f _ = f _
  congr 1
  funext a
  apply Fin.ext
  match a with
  | ⟨0, _⟩ => show win0_6.index t 0 * 1 + 1 * 0 = t.val / 8; rw [h.1]; omega
  | ⟨1, _⟩ => show win0_6.index t 1 * 2 + 1 * j.val = t.val / 2 % 4 * 2 + j.val; rw [h.2.1]; omega
  | ⟨2, _⟩ => show win0_6.index t 2 * 1088 + 1 * r.val = t.val % 2 * 1088 + r.val; rw [h.2.2.1]; omega
  | ⟨3, _⟩ => show win0_6.index t 3 * 2176 + 1 * k.val = k.val; rw [h.2.2.2]; omega

/-- The batch of a batch's row. -/
theorem batchOf_rowOf (b : Fin 2) (q : Fin 2176) : batchOf (rowOf b q) = b := Fin.ext (by show (b.val * 2176 + q.val) / 2176 = b.val; omega)
/-- The place of a batch's row. -/
theorem placeOf_rowOf (b : Fin 2) (q : Fin 2176) : placeOf (rowOf b q) = q := Fin.ext (by show (b.val * 2176 + q.val) % 2176 = q.val; omega)
section
variable (A0 A1 : Vec Ideal S4352x1024 .bf16) (A2 : Vec Ideal S4352x512 .bf16) (A3 A4 A5 : Vec Ideal S4352x512 .f32)
  (A6 : Vec Ideal S2x8x2176x2176 .bf16)

/-- A query's term of the keys' gradient. -/
def dkTerm (b : Fin 2) (h : Fin 8) (q k : Fin 2176) (C : Fin 1024) : EReal := dsFull A2 A3 A4 A5 A6 b h q k * A0 (ix2 (rowOf b q) C)

/-- A query's term of the values' gradient. -/
def dvTerm (b : Fin 2) (h : Fin 8) (q k : Fin 2176) (C : Fin 512) : EReal :=
  A6 (ix4 b h q k) * (A3 (ix2 (rowOf b q) C) * Ideal.div 1 (A5 (ix2 (rowOf b q) (vcol h 0))))

/-- The queries' gradient at a batch's row. -/
theorem dqArr_at (b : Fin 2) (h : Fin 8) (q : Fin 2176) (C : Fin 1024) (hh : headK C = h) :
    dqArr A1 A2 A3 A4 A5 A6 (ix2 (rowOf b q) C) = ∑ k : Fin 2176, dsFull A2 A3 A4 A5 A6 b h q k * A1 (ix2 (rowOf b k) C) := by
  show (∑ k : Fin 2176, dsFull A2 A3 A4 A5 A6 (batchOf (rowOf b q)) (headK C) (placeOf (rowOf b q)) k * A1 (ix2 (rowOf (batchOf (rowOf b q)) k) C)) = _
  rw [batchOf_rowOf, placeOf_rowOf, hh]

/-- The keys' gradient at a batch's row. -/
theorem dkArr_at (b : Fin 2) (h : Fin 8) (k : Fin 2176) (C : Fin 1024) (hh : headK C = h) :
    dkArr A0 A2 A3 A4 A5 A6 (ix2 (rowOf b k) C) = ∑ q : Fin 2176, dkTerm A0 A2 A3 A4 A5 A6 b h q k C := by
  show (∑ q : Fin 2176, dsFull A2 A3 A4 A5 A6 (batchOf (rowOf b k)) (headK C) q (placeOf (rowOf b k)) * A0 (ix2 (rowOf (batchOf (rowOf b k)) q) C)) = _
  rw [batchOf_rowOf, placeOf_rowOf, hh]
  rfl

/-- The values' gradient at a batch's row. -/
theorem dvArr_at (b : Fin 2) (h : Fin 8) (k : Fin 2176) (C : Fin 512) (hh : headV C = h) :
    dvArr A3 A5 A6 (ix2 (rowOf b k) C) = ∑ q : Fin 2176, dvTerm A3 A5 A6 b h q k C := by
  show (∑ q : Fin 2176, A6 (ix4 (batchOf (rowOf b k)) (headV C) q (placeOf (rowOf b k)))
    * (A3 (ix2 (rowOf (batchOf (rowOf b k)) q) C) * Ideal.div 1 (A5 (ix2 (rowOf (batchOf (rowOf b k)) q) (vcol (headV C) 0))))) = _
  rw [batchOf_rowOf, placeOf_rowOf, hh]
  rfl
end

/-- A query's term of the keys' gradient, over blocks. -/
def dkAt (x0 : Vec Ideal S1088x256 .bf16) (x2 : Vec Ideal S2176x128 .bf16) (x3 x4 x5 : Vec Ideal S1088x128 .f32)
    (x6 : Vec Ideal S1x2x1088x2176 .bf16) (r : Fin 1088) (k : Fin 2176) (l : Fin 256) : EReal :=
  dsAt x2 x3 x4 x5 x6 (headOf l) r k * x0 (ix2 r l)

/-- The block of the keys' gradient at an index. -/
theorem dkBlock_at (x0 : Vec Ideal S1088x256 .bf16) (x2 : Vec Ideal S2176x128 .bf16) (x3 x4 x5 : Vec Ideal S1088x128 .f32)
    (x6 : Vec Ideal S1x2x1088x2176 .bf16) (xo : Vec Ideal S2176x256 .f32) (k : Fin 2176) (l : Fin 256) :
    dkBlock x0 x2 x3 x4 x5 x6 xo (ix2 k l) = xo (ix2 k l) + ∑ r : Fin 1088, dkAt x0 x2 x3 x4 x5 x6 r k l := rfl

/-- A query's term of the values' gradient, over blocks. -/
def dvAt (x3 x5 : Vec Ideal S1088x128 .f32) (x6 : Vec Ideal S1x2x1088x2176 .bf16) (j : Fin 2) (r : Fin 1088) (k : Fin 2176) (l : Fin 128) : EReal :=
  x6 (ix4 0 j r k) * (x3 (ix2 r l) * invL x5 j r)

/-- The head of a column of a point's block of keys. -/
theorem headK_eq (t : Fin cfg0.N) (l : Fin 256) (h) : headK ⟨t.val / 2 % 4 * 256 + l.val, h⟩ = ph t (headOf l) :=
  Fin.ext (by show (t.val / 2 % 4 * 256 + l.val) / 128 = t.val / 2 % 4 * 2 + l.val / 128; omega)

variable (m : (ℓ : Loc nD τ sig) → Buf (Elt Ideal) ℓ)

/-- Input window 0's block at a point, at an index. -/
theorem in0 (c : Dev nD) (t : Fin cfg0.N) (r : Fin 1088) (l : Fin 256) :
    (iblk m c 0 t : Vec Ideal S1088x256 .bf16) (ix2 r l)
      = (V m c main_v22 : Vec Ideal S4352x1024 .bf16) (ix2 (rowOf (pb t) (pq t r)) ⟨t.val / 2 % 4 * 256 + l.val, by omega⟩) :=
  read0 (V m c main_v22) t r l

/-- Input window 1's block at a point, at an index. -/
theorem in1 (c : Dev nD) (t : Fin cfg0.N) (r : Fin 2176) (l : Fin 256) :
    (iblk m c 1 t : Vec Ideal S2176x256 .bf16) (ix2 r l)
      = (V m c main_v26 : Vec Ideal S4352x1024 .bf16) (ix2 (rowOf (pb t) r) ⟨t.val / 2 % 4 * 256 + l.val, by omega⟩) :=
  read1 (V m c main_v26) t r l

/-- Input window 2's block at a point, at an index. -/
theorem in2 (c : Dev nD) (t : Fin cfg0.N) (r : Fin 2176) (l : Fin 128) :
    (iblk m c 2 t : Vec Ideal S2176x128 .bf16) (ix2 r l)
      = (V m c main_v30 : Vec Ideal S4352x512 .bf16) (ix2 (rowOf (pb t) r) ⟨t.val / 2 % 4 * 128 + l.val, by omega⟩) :=
  read2 (V m c main_v30) t r l

/-- Input window 3's block at a point, at an index. -/
theorem in3 (c : Dev nD) (t : Fin cfg0.N) (r : Fin 1088) (l : Fin 128) :
    (iblk m c 3 t : Vec Ideal S1088x128 .f32) (ix2 r l)
      = (V m c main_v33 : Vec Ideal S4352x512 .f32) (ix2 (rowOf (pb t) (pq t r)) ⟨t.val / 2 % 4 * 128 + l.val, by omega⟩) :=
  read3 (V m c main_v33) t r l

/-- Input window 4's block at a point, at an index. -/
theorem in4 (c : Dev nD) (t : Fin cfg0.N) (r : Fin 1088) (l : Fin 128) :
    (iblk m c 4 t : Vec Ideal S1088x128 .f32) (ix2 r l)
      = (V m c main_v36 : Vec Ideal S4352x512 .f32) (ix2 (rowOf (pb t) (pq t r)) ⟨t.val / 2 % 4 * 128 + l.val, by omega⟩) :=
  read4 (V m c main_v36) t r l

/-- Input window 5's block at a point, at an index. -/
theorem in5 (c : Dev nD) (t : Fin cfg0.N) (r : Fin 1088) (l : Fin 128) :
    (iblk m c 5 t : Vec Ideal S1088x128 .f32) (ix2 r l)
      = (V m c main_v18 : Vec Ideal S4352x512 .f32) (ix2 (rowOf (pb t) (pq t r)) ⟨t.val / 2 % 4 * 128 + l.val, by omega⟩) :=
  read5 (V m c main_v18) t r l

/-- Input window 6's block at a point, at an index. -/
theorem in6 (c : Dev nD) (t : Fin cfg0.N) (j : Fin 2) (r : Fin 1088) (k : Fin 2176) :
    (iblk m c 6 t : Vec Ideal S1x2x1088x2176 .bf16) (ix4 0 j r k)
      = (V m c main_v14 : Vec Ideal S2x8x2176x2176 .bf16) (ix4 (pb t) (ph t j) (pq t r) k) :=
  read6 (V m c main_v14) t j r k

/-- A lane of a point's block of values is a column of its head. -/
theorem col_eq (t : Fin cfg0.N) (j : Fin 2) (d : Fin 64) (h) :
    (⟨t.val / 2 % 4 * 128 + (j.val * 64 + d.val), h⟩ : Fin 512) = vcol (ph t j) d := by
  apply Fin.ext
  show t.val / 2 % 4 * 128 + (j.val * 64 + d.val) = (t.val / 2 % 4 * 2 + j.val) * 64 + d.val
  omega

/-- The first lane of a head is the head's first column. -/
theorem lane_eq (t : Fin cfg0.N) (j : Fin 2) (h) :
    (⟨t.val / 2 % 4 * 128 + (laneOf j).val, h⟩ : Fin 512) = vcol (ph t j) 0 := by
  apply Fin.ext
  show t.val / 2 % 4 * 128 + j.val * 64 = (t.val / 2 % 4 * 2 + j.val) * 64 + 0
  omega

/-- The gradient of the scores over the point's blocks is the one over the whole arrays. -/
theorem dsAt_eq (c : Dev nD) (t : Fin cfg0.N) (j : Fin 2) (r : Fin 1088) (k : Fin 2176) :
    dsAt (iblk m c 2 t) (iblk m c 3 t) (iblk m c 4 t) (iblk m c 5 t) (iblk m c 6 t) j r k
      = dsFull (V m c main_v30) (V m c main_v33) (V m c main_v36) (V m c main_v18) (V m c main_v14) (pb t) (ph t j) (pq t r) k := by
  unfold dsAt invL dsFull
  rw [sum_inHead, sum_inHead, in6]
  simp only [in2, in3, in4, in5, col_eq, lane_eq]

/-- The block of the queries' gradient that a point leaves is its block of the whole gradient. -/
theorem dq_point (c : Dev nD) (t : Fin cfg0.N) :
    (dqBlock (iblk m c 1 t) (iblk m c 2 t) (iblk m c 3 t) (iblk m c 4 t) (iblk m c 5 t) (iblk m c 6 t) : Vec Ideal S1088x256 .f32)
      = ((cfg0.win 7).blk t).view.read (Elt Ideal) (dqArr (V m c main_v26) (V m c main_v30) (V m c main_v33) (V m c main_v36) (V m c main_v18) (V m c main_v14)) := by
  funext x
  idx_vars x
  rename' x0 => r, x1 => l
  refine Eq.trans ?_ ((read7 _ t r l).trans (dqArr_at _ _ _ _ _ _ (pb t) (ph t (headOf l)) (pq t r) _ (headK_eq t l _))).symm
  exact Finset.sum_congr rfl fun k _ => congrArg₂ (· * ·) (dsAt_eq m c t _ r k) (in1 m c t k l)

/-- Every point writes back its block of the queries' gradient. -/
theorem back7 (c : Dev nD) (t : Fin cfg0.N) :
    (dats m 0 c).flushed 7 t = ((cfg0.win 7).blk t).view.read (Elt Ideal) (dqArr (V m c main_v26) (V m c main_v30) (V m c main_v33) (V m c main_v36) (V m c main_v18) (V m c main_v14)) := by
  rw [← dq_point]
  by_cases h0 : t.val % 2 = 0
  · rw [flushed7_A m c t h0, out7A]
    rfl
  · rw [flushed7_B m c t h0, out7B]
    rfl

/-- The sum over the queries of a batch is the sum over its first half and over its second. -/
theorem sum_halves (f : Fin 2176 → EReal) (t t' : Fin cfg0.N) (h : ¬ t.val % 2 = 0) (h' : t'.val % 2 = 0) :
    0 + (∑ r : Fin 1088, f (pq t' r)) + ∑ r : Fin 1088, f (pq t r) = ∑ q : Fin 2176, f q := by
  rw [zero_add, Fin.sum_univ_two_halves 1088 1088 rfl f]
  congr 1
  · exact Finset.sum_congr rfl fun r _ => congrArg f (Fin.ext (by show t'.val % 2 * 1088 + r.val = r.val; omega))
  · exact Finset.sum_congr rfl fun r _ => congrArg f (Fin.ext (by show t.val % 2 * 1088 + r.val = 1088 + r.val; omega))

/-- A query's term of the keys' gradient over a point's blocks. -/
theorem dkAt_eq (c : Dev nD) (t : Fin cfg0.N) (r : Fin 1088) (k : Fin 2176) (l : Fin 256) :
    dkAt (iblk m c 0 t) (iblk m c 2 t) (iblk m c 3 t) (iblk m c 4 t) (iblk m c 5 t) (iblk m c 6 t) r k l
      = dkTerm (V m c main_v22) (V m c main_v30) (V m c main_v33) (V m c main_v36) (V m c main_v18) (V m c main_v14) (pb t) (ph t (headOf l)) (pq t r) k ⟨t.val / 2 % 4 * 256 + l.val, by omega⟩ :=
  congrArg₂ (· * ·) (dsAt_eq m c t _ r k) (in0 m c t r l)

/-- The block of the keys' gradient after the second of a pair of points, from the first's, is its block of the whole. -/
theorem dk_point (c : Dev nD) (t t' : Fin cfg0.N) (h : ¬ t.val % 2 = 0) (h' : t'.val + 1 = t.val) :
    (dkBlock (iblk m c 0 t) (iblk m c 2 t) (iblk m c 3 t) (iblk m c 4 t) (iblk m c 5 t) (iblk m c 6 t) (dkBlock (iblk m c 0 t') (iblk m c 2 t') (iblk m c 3 t') (iblk m c 4 t') (iblk m c 5 t') (iblk m c 6 t') (fun _ => 0)) : Vec Ideal S2176x256 .f32)
      = ((cfg0.win 8).blk t).view.read (Elt Ideal) (dkArr (V m c main_v22) (V m c main_v30) (V m c main_v33) (V m c main_v36) (V m c main_v18) (V m c main_v14)) := by
  funext x
  idx_vars x
  rename' x0 => k, x1 => l
  have eb : pb t' = pb t := Fin.ext (by show t'.val / 8 = t.val / 8; omega)
  have ec : t'.val / 2 % 4 = t.val / 2 % 4 := by omega
  have eh : ph t' (headOf l) = ph t (headOf l) := Fin.ext (by show t'.val / 2 % 4 * 2 + _ = t.val / 2 % 4 * 2 + _; rw [ec])
  refine Eq.trans ?_ ((read8 _ t k l).trans (dkArr_at _ _ _ _ _ _ (pb t) (ph t (headOf l)) k _ (headK_eq t l _))).symm
  rw [← sum_halves _ t t' h (by omega), dkBlock_at, dkBlock_at]
  simp only [dkAt_eq, eb, eh, ec]

/-- A write-back of the keys' gradient writes its block of the whole. -/
theorem back8 (c : Dev nD) (t : Fin cfg0.N) (h : ¬ t.val % 2 = 0) :
    (dats m 0 c).flushed 8 t = ((cfg0.win 8).blk t).view.read (Elt Ideal) (dkArr (V m c main_v22) (V m c main_v30) (V m c main_v33) (V m c main_v36) (V m c main_v18) (V m c main_v14)) := by
  rw [← dk_point m c t ⟨t.val - 1, Nat.lt_of_le_of_lt (Nat.sub_le _ _) t.isLt⟩ h (by show t.val - 1 + 1 = t.val; omega)]
  rw [flushed8_B m c t h, out8B]
  rw [outsAt0_A m c ⟨t.val - 1, Nat.lt_of_le_of_lt (Nat.sub_le _ _) t.isLt⟩ (by show (t.val - 1) % 2 = 0; omega)]
  dsimp only
  rw [out8A]
  rfl

/-- A sum over one head's lanes, of a term that a lane selects. -/
theorem sum_pick (j j' : Fin 2) (l : Fin 128) (hl : inHead j' l) (f : Fin 1088 → EReal) :
    (∑ r : Fin 1088, if inHead j l then f r else 0) = if j = j' then ∑ r, f r else 0 := by
  have hj : inHead j l ↔ j = j' := ⟨fun e => Fin.ext (Eq.trans (Eq.symm e) hl), fun e => e ▸ hl⟩
  simp only [hj]
  split
  · rfl
  · simp

/-- The block of the values' gradient at an index: one head's sum. -/
theorem dvBlock_at (x3 x5 : Vec Ideal S1088x128 .f32) (x6 : Vec Ideal S1x2x1088x2176 .bf16) (xo : Vec Ideal S2176x128 .f32)
    (k : Fin 2176) (l : Fin 128) (j : Fin 2) (hj : inHead j l) :
    dvBlock x3 x5 x6 xo (ix2 k l) = xo (ix2 k l) + ∑ r : Fin 1088, dvAt x3 x5 x6 j r k l := by
  show xo (ix2 k l) + ((∑ r : Fin 1088, if inHead 0 l then x6 (ix4 0 0 r k) * (x3 (ix2 r l) * invL x5 0 r) else 0)
      + ∑ r : Fin 1088, if inHead 1 l then x6 (ix4 0 1 r k) * (x3 (ix2 r l) * invL x5 1 r) else 0) = _
  rw [sum_pick 0 j l hj, sum_pick 1 j l hj]
  fin_cases j
  · simp [dvAt]
  · simp [dvAt]

/-- A term of the values' gradient over the point's blocks. -/
theorem dv_term (c : Dev nD) (t : Fin cfg0.N) (j : Fin 2) (r : Fin 1088) (k : Fin 2176) (l : Fin 128) :
    dvAt (iblk m c 3 t) (iblk m c 5 t) (iblk m c 6 t) j r k l
      = dvTerm (V m c main_v33) (V m c main_v18) (V m c main_v14) (pb t) (ph t j) (pq t r) k ⟨t.val / 2 % 4 * 128 + l.val, by omega⟩ := by
  unfold dvAt invL dvTerm
  rw [in6, in3, in5, lane_eq]

/-- The block of the values' gradient after the second of a pair of points, from the first's, is its block of the whole. -/
theorem dv_point (c : Dev nD) (t t' : Fin cfg0.N) (h : ¬ t.val % 2 = 0) (h' : t'.val + 1 = t.val) :
    (dvBlock (iblk m c 3 t) (iblk m c 5 t) (iblk m c 6 t) (dvBlock (iblk m c 3 t') (iblk m c 5 t') (iblk m c 6 t') (fun _ => 0)) : Vec Ideal S2176x128 .f32)
      = ((cfg0.win 9).blk t).view.read (Elt Ideal) (dvArr (V m c main_v33) (V m c main_v18) (V m c main_v14)) := by
  funext x
  idx_vars x
  rename' x0 => k, x1 => l
  have hj : inHead (⟨l.val / 64, by omega⟩ : Fin 2) l := rfl
  generalize (⟨l.val / 64, by omega⟩ : Fin 2) = j at hj
  have hh : headV ⟨t.val / 2 % 4 * 128 + l.val, by omega⟩ = ph t j := Fin.ext (by
    have e : l.val / 64 = j.val := hj
    show (t.val / 2 % 4 * 128 + l.val) / 64 = t.val / 2 % 4 * 2 + j.val
    omega)
  have eb : pb t' = pb t := Fin.ext (by show t'.val / 8 = t.val / 8; omega)
  have ec : t'.val / 2 % 4 = t.val / 2 % 4 := by omega
  have eh : ph t' j = ph t j := Fin.ext (by show t'.val / 2 % 4 * 2 + _ = t.val / 2 % 4 * 2 + _; rw [ec])
  refine Eq.trans ?_ ((read9 _ t k l).trans (dvArr_at _ _ _ (pb t) (ph t j) k _ hh)).symm
  rw [← sum_halves _ t t' h (by omega), dvBlock_at _ _ _ _ k l j hj, dvBlock_at _ _ _ _ k l j hj]
  simp only [dv_term, eb, eh, ec]

/-- A write-back of the values' gradient writes its block of the whole. -/
theorem back9 (c : Dev nD) (t : Fin cfg0.N) (h : ¬ t.val % 2 = 0) :
    (dats m 0 c).flushed 9 t = ((cfg0.win 9).blk t).view.read (Elt Ideal) (dvArr (V m c main_v33) (V m c main_v18) (V m c main_v14)) := by
  rw [← dv_point m c t ⟨t.val - 1, Nat.lt_of_le_of_lt (Nat.sub_le _ _) t.isLt⟩ h (by show t.val - 1 + 1 = t.val; omega)]
  rw [flushed9_B m c t h, out9B]
  rw [outsAt0_A m c ⟨t.val - 1, Nat.lt_of_le_of_lt (Nat.sub_le _ _) t.isLt⟩ (by show (t.val - 1) % 2 = 0; omega)]
  dsimp only
  rw [out9A]
  rfl

/-- Window 7's array after the run. -/
theorem array7 (c : Dev nD) : (dats m 0 c).arrAt 7 cfg0.N = dqArr (V m c main_v26) (V m c main_v30) (V m c main_v33) (V m c main_v36) (V m c main_v18) (V m c main_v14) := by
  refine (dats m 0 c).arrAt_eq_of_cover 7 _ (fun t _ => back7 m c t) fun i => ?_
  have b0 : (i 0 : Nat) < 4352 := (i 0).isLt
  have b1 : (i 1 : Nat) < 1024 := (i 1).isLt
  have hN : grid0.N = 16 := N_0
  refine ⟨⟨(i 0 : Nat) / 2176 * 8 + (i 1 : Nat) / 256 * 2 + (i 0 : Nat) % 2176 / 1088, by show _ < grid0.N; rw [hN]; omega⟩, flush0_7 _, ?_⟩
  generalize ht : (⟨(i 0 : Nat) / 2176 * 8 + (i 1 : Nat) / 256 * 2 + (i 0 : Nat) % 2176 / 1088, _⟩ : Fin cfg0.N) = t
  have hv : (i 0 : Nat) / 2176 * 8 + (i 1 : Nat) / 256 * 2 + (i 0 : Nat) % 2176 / 1088 = t.val := congrArg Fin.val ht
  have h := place7 t
  show i ∈ ((View.whole main_v37_0).slice (win0_7.rect t)).set
  rw [View.set_slice_whole, Rect.mem_set_unit]
  intro a
  match a with
  | ⟨0, _⟩ =>
      show win0_7.index t 0 * 1088 ≤ (i 0 : Nat) ∧ (i 0 : Nat) < win0_7.index t 0 * 1088 + 1088
      rw [h.1]; omega
  | ⟨1, _⟩ =>
      show win0_7.index t 1 * 256 ≤ (i 1 : Nat) ∧ (i 1 : Nat) < win0_7.index t 1 * 256 + 256
      rw [h.2]; omega

/-- Window 8's array after the run. -/
theorem array8 (c : Dev nD) : (dats m 0 c).arrAt 8 cfg0.N = dkArr (V m c main_v22) (V m c main_v30) (V m c main_v33) (V m c main_v36) (V m c main_v18) (V m c main_v14) := by
  refine (dats m 0 c).arrAt_eq_of_cover 8 _ (fun t hf => back8 m c t (by have := (flush0_8 t).mp hf; omega)) fun i => ?_
  have b0 : (i 0 : Nat) < 4352 := (i 0).isLt
  have b1 : (i 1 : Nat) < 1024 := (i 1).isLt
  have hN : grid0.N = 16 := N_0
  refine ⟨⟨(i 0 : Nat) / 2176 * 8 + (i 1 : Nat) / 256 * 2 + 1, by show _ < grid0.N; rw [hN]; omega⟩, (flush0_8 _).mpr (by show ((i 0 : Nat) / 2176 * 8 + (i 1 : Nat) / 256 * 2 + 1) % 2 = 1; omega), ?_⟩
  generalize ht : (⟨(i 0 : Nat) / 2176 * 8 + (i 1 : Nat) / 256 * 2 + 1, _⟩ : Fin cfg0.N) = t
  have hv : (i 0 : Nat) / 2176 * 8 + (i 1 : Nat) / 256 * 2 + 1 = t.val := congrArg Fin.val ht
  have h := place8 t
  show i ∈ ((View.whole main_v37_1).slice (win0_8.rect t)).set
  rw [View.set_slice_whole, Rect.mem_set_unit]
  intro a
  match a with
  | ⟨0, _⟩ =>
      show win0_8.index t 0 * 2176 ≤ (i 0 : Nat) ∧ (i 0 : Nat) < win0_8.index t 0 * 2176 + 2176
      rw [h.1]; omega
  | ⟨1, _⟩ =>
      show win0_8.index t 1 * 256 ≤ (i 1 : Nat) ∧ (i 1 : Nat) < win0_8.index t 1 * 256 + 256
      rw [h.2]; omega

/-- Window 9's array after the run. -/
theorem array9 (c : Dev nD) : (dats m 0 c).arrAt 9 cfg0.N = dvArr (V m c main_v33) (V m c main_v18) (V m c main_v14) := by
  refine (dats m 0 c).arrAt_eq_of_cover 9 _ (fun t hf => back9 m c t (by have := (flush0_9 t).mp hf; omega)) fun i => ?_
  have b0 : (i 0 : Nat) < 4352 := (i 0).isLt
  have b1 : (i 1 : Nat) < 512 := (i 1).isLt
  have hN : grid0.N = 16 := N_0
  refine ⟨⟨(i 0 : Nat) / 2176 * 8 + (i 1 : Nat) / 128 * 2 + 1, by show _ < grid0.N; rw [hN]; omega⟩, (flush0_9 _).mpr (by show ((i 0 : Nat) / 2176 * 8 + (i 1 : Nat) / 128 * 2 + 1) % 2 = 1; omega), ?_⟩
  generalize ht : (⟨(i 0 : Nat) / 2176 * 8 + (i 1 : Nat) / 128 * 2 + 1, _⟩ : Fin cfg0.N) = t
  have hv : (i 0 : Nat) / 2176 * 8 + (i 1 : Nat) / 128 * 2 + 1 = t.val := congrArg Fin.val ht
  have h := place9 t
  show i ∈ ((View.whole main_v37_2).slice (win0_9.rect t)).set
  rw [View.set_slice_whole, Rect.mem_set_unit]
  intro a
  match a with
  | ⟨0, _⟩ =>
      show win0_9.index t 0 * 2176 ≤ (i 0 : Nat) ∧ (i 0 : Nat) < win0_9.index t 0 * 2176 + 2176
      rw [h.1]; omega
  | ⟨1, _⟩ =>
      show win0_9.index t 1 * 128 ≤ (i 1 : Nat) ∧ (i 1 : Nat) < win0_9.index t 1 * 128 + 128
      rw [h.2]; omega

end Cert.KernelIdeal.Gen

end
-- ==== Proof.Saved.lean ====
/- What the region's input windows hold when it is entered: the arguments and the saved softmax, padded and laid out by
   the host lines, as functions of the arguments and read at an index. -/
module

public import proofs.«01_k».proof.Proof.Arrays
public import Idealize.ShloMosaic.Lib.StableHlo.RunRead

@[expose] public section

set_option maxRecDepth 16384

noncomputable section

namespace Cert.KernelIdeal.Gen

open Idealize.ShloMosaic Idealize.ShloMosaic.TcCoe Idealize.ShloMosaic.Tactic Idealize.SL.Sem Idealize.ShloMosaic.StableHlo

section
variable (Q K : FVec Ideal S2x8x2064x96 .f32) (W : FVec Ideal S2x8x2064x64 .f32)

/-- The scaled scores. -/
def scores : FVec Ideal S2x8x2064x2064 .f32 :=
  mulf (Host.dotGeneral dot_S2x8x2064x96_S2x8x2064x96_S2x8x2064x2064_3_3_2_2_01_01 none Q K)
    (broadcastInDim S2x8x2064x2064 ![] bcast_S_S2x8x2064x2064 (constant S_ .f32 0x3DD105EC#32))

/-- The largest score of each row. -/
def rowMax : FVec Ideal S2x8x2064 .f32 :=
  Host.reduce FloatOps.maximumf (scores Q K) (constant S_ .f32 0xFF800000#32) reducesTo_S2x8x2064x2064_S2x8x2064_d3 h_S_

/-- The softmax's numerator. -/
def numer : FVec Ideal S2x8x2064x2064 .f32 :=
  Host.exp (subf (scores Q K) (broadcastInDim S2x8x2064x2064 ![0, 1, 2, 3] bcast_S2x8x2064x1_S2x8x2064x2064_0_1_2_3
    (broadcastInDim S2x8x2064x1 ![0, 1, 2] bcast_S2x8x2064_S2x8x2064x1_0_1_2 (rowMax Q K))))

/-- The softmax's denominator. -/
def denom : FVec Ideal S2x8x2064x1 .f32 :=
  broadcastInDim S2x8x2064x1 ![0, 1, 2] bcast_S2x8x2064_S2x8x2064x1_0_1_2
    (Host.reduceAdd (numer Q K) (constant S_ .f32 0x00000000#32) reducesTo_S2x8x2064x2064_S2x8x2064_d3 h_S_)

/-- The attention's output. -/
def attnOut : FVec Ideal S2x8x2064x64 .f32 :=
  Host.dotGeneral dot_S2x8x2064x2064_S2x8x2064x64_S2x8x2064x64_3_2_2_3_01_01 none
    (Host.divf (numer Q K) (broadcastInDim S2x8x2064x2064 ![0, 1, 2, 3] bcast_S2x8x2064x1_S2x8x2064x2064_0_1_2_3 (denom Q K))) W

/-- The numerator with its padding. -/
def numerPad : FVec Ideal S2x8x2176x2176 .bf16 :=
  truncf .bf16 (pad S2x8x2176x2176 ![0, 0, 112, 112] ![0, 0, 0, 0] ![0, 0, 0, 0] (numer Q K)
    (sitofp .f32 (constantI S_ 32 0#32)) pads_S2x8x2064x2064_S2x8x2176x2176_000_000_11200_11200 h_S_) bitsLt_bf16_f32

/-- Queries or keys by rows of tokens and columns of heads. -/
def packK : FVec Ideal S4352x1024 .bf16 :=
  truncf .bf16 (shapeCast S4352x1024 (transpose S2x2176x8x128 [0, 2, 1, 3] (pad S2x8x2176x128 ![0, 0, 112, 0] ![0, 0, 0, 32] ![0, 0, 0, 0] Q
    (constant S_ .f32 0x00000000#32) pads_S2x8x2064x96_S2x8x2176x128_000_000_11200_0320 h_S_) transposes_S2x8x2176x128_S2x2176x8x128_0_2_1_3)
    shapeCasts_S2x2176x8x128_S4352x1024) bitsLt_bf16_f32

/-- An array of values' width by rows of tokens and columns of heads, with the word `w` on the padding. -/
def packV (w : BitVec 32) : FVec Ideal S4352x512 .f32 :=
  shapeCast S4352x512 (transpose S2x2176x8x64 [0, 2, 1, 3] (pad S2x8x2176x64 ![0, 0, 112, 0] ![0, 0, 0, 0] ![0, 0, 0, 0] W
    (constant S_ .f32 w) pads_S2x8x2064x64_S2x8x2176x64_000_000_11200_000 h_S_) transposes_S2x8x2176x64_S2x2176x8x64_0_2_1_3)
    shapeCasts_S2x2176x8x64_S4352x512
end

variable (m : (ℓ : Loc nD τ sig) → Buf (Elt Ideal) ℓ)

/-- The queries' window. -/
theorem val0 (c : Dev nD) : (V m c main_v22 : FVec Ideal S4352x1024 .bf16) = packK (m ((c.tc : Thread nD τ).loc main_arg0)) := by
  unfold_abbrev_sides
  simp only [List.flatten_cons, List.flatten_nil, List.append_nil, List.cons_append, List.nil_append, TRef.binary, TRef.unary, TRef.toBuf, TRef.ofBuf, cast_eq]
  after_results_simp
  rfl

/-- The keys' window. -/
theorem val1 (c : Dev nD) : (V m c main_v26 : FVec Ideal S4352x1024 .bf16) = packK (m ((c.tc : Thread nD τ).loc main_arg1)) := by
  unfold_abbrev_sides
  simp only [List.flatten_cons, List.flatten_nil, List.append_nil, List.cons_append, List.nil_append, TRef.binary, TRef.unary, TRef.toBuf, TRef.ofBuf, cast_eq]
  after_results_simp
  rfl

/-- The values' window. -/
theorem val2 (c : Dev nD) : (V m c main_v30 : FVec Ideal S4352x512 .bf16) = truncf .bf16 (packV (m ((c.tc : Thread nD τ).loc main_arg2)) 0x00000000#32) bitsLt_bf16_f32 := by
  unfold_abbrev_sides
  simp only [List.flatten_cons, List.flatten_nil, List.append_nil, List.cons_append, List.nil_append, TRef.binary, TRef.unary, TRef.toBuf, TRef.ofBuf, cast_eq]
  after_results_simp
  rfl

/-- The window of the output's gradient. -/
theorem val3 (c : Dev nD) : (V m c main_v33 : FVec Ideal S4352x512 .f32) = packV (m ((c.tc : Thread nD τ).loc main_arg3)) 0x00000000#32 := by
  unfold_abbrev_sides
  simp only [List.flatten_cons, List.flatten_nil, List.append_nil, List.cons_append, List.nil_append, TRef.binary, TRef.unary, TRef.toBuf, TRef.ofBuf, cast_eq]
  after_results_simp
  rfl

/-- The window of the attention's output. -/
theorem val4 (c : Dev nD) : (V m c main_v36 : FVec Ideal S4352x512 .f32) = packV (attnOut (m ((c.tc : Thread nD τ).loc main_arg0)) (m ((c.tc : Thread nD τ).loc main_arg1)) (m ((c.tc : Thread nD τ).loc main_arg2))) 0x00000000#32 := by
  unfold_abbrev_sides
  simp only [List.flatten_cons, List.flatten_nil, List.append_nil, List.cons_append, List.nil_append, TRef.binary, TRef.unary, TRef.toBuf, TRef.ofBuf, cast_eq]
  after_results_simp
  rfl

/-- The window of the softmax's denominators, repeated over a head's columns, one on the padding. -/
theorem val5 (c : Dev nD) : (V m c main_v18 : FVec Ideal S4352x512 .f32) = packV (broadcastInDim S2x8x2064x64 ![0, 1, 2, 3] bcast_S2x8x2064x1_S2x8x2064x64_0_1_2_3 (denom (m ((c.tc : Thread nD τ).loc main_arg0)) (m ((c.tc : Thread nD τ).loc main_arg1)))) 0x3F800000#32 := by
  unfold_abbrev_sides
  simp only [List.flatten_cons, List.flatten_nil, List.append_nil, List.cons_append, List.nil_append, TRef.binary, TRef.unary, TRef.toBuf, TRef.ofBuf, cast_eq]
  after_results_simp
  rfl

/-- The probabilities' window holds the padded numerator. -/
theorem val6 (c : Dev nD) : (V m c main_v14 : FVec Ideal S2x8x2176x2176 .bf16) = numerPad (m ((c.tc : Thread nD τ).loc main_arg0)) (m ((c.tc : Thread nD τ).loc main_arg1)) := by
  unfold_abbrev_sides
  simp only [List.flatten_cons, List.flatten_nil, List.append_nil, List.cons_append, List.nil_append, TRef.binary, TRef.unary, TRef.toBuf, TRef.ofBuf, cast_eq]
  after_results_simp
  rfl

/-! ## Read at an index -/

section
variable (Q K : FVec Ideal S2x8x2064x96 .f32) (W : FVec Ideal S2x8x2064x64 .f32) (b : Fin 2) (h : Fin 8)

/-- A score. -/
theorem scores_at (q k : Fin 2064) :
    scores Q K (ix4 b h q k) = (∑ x, Q (ix4 b h q x) * K (ix4 b h k x)) * Ideal.ofBits .f32 0x3DD105EC#32 := by
  unfold scores
  pointwise

/-- A row's largest score. -/
theorem rowMax_at (q : Fin 2064) :
    rowMax Q K (ix3 b h q) = Finset.fold max (Ideal.ofBits .f32 0xFF800000#32) (fun x => scores Q K (ix4 b h q x)) Finset.univ := by
  unfold rowMax
  pointwise

/-- An element of the numerator. -/
theorem numer_at (q k : Fin 2064) : numer Q K (ix4 b h q k) = Ideal.exp (scores Q K (ix4 b h q k) - rowMax Q K (ix3 b h q)) := by
  unfold numer
  pointwise

/-- A row's denominator. -/
theorem denom_at (q : Fin 2064) : denom Q K (ix4 b h q 0) = ∑ x, numer Q K (ix4 b h q x) := by
  unfold denom
  pointwise

/-- An element of the attention's output. -/
theorem attnOut_at (q : Fin 2064) (d : Fin 64) :
    attnOut Q K W (ix4 b h q d) = ∑ x, Ideal.div (numer Q K (ix4 b h q x)) (denom Q K (ix4 b h q 0)) * W (ix4 b h x d) := by
  unfold attnOut
  pointwise

/-- A token's place after the padding. -/
def inner (q : Fin 2064) : Fin 2176 := ⟨112 + q.val, by omega⟩
/-- A column of head `h`, of 128. -/
def kcol (h : Fin 8) (l : Fin 128) : Fin 1024 := ⟨h.val * 128 + l.val, by omega⟩

/-- The padded numerator inside the padding. -/
theorem numerPad_inner (q k : Fin 2064) : numerPad Q K (ix4 b h (inner q) (inner k)) = numer Q K (ix4 b h q k) := by
  unfold numerPad
  pointwise [inner]

/-- The padded numerator is zero on the padding's rows. -/
theorem numerPad_row (q k : Fin 2176) (hq : q.val < 112) : numerPad Q K (ix4 b h q k) = 0 := by
  unfold numerPad
  pointwise
  rw [dif_neg (by omega)]
  show (((0#32 : BitVec 32).toInt : ℝ) : EReal) = 0
  simp

/-- The padded numerator is zero on the padding's columns. -/
theorem numerPad_col (q k : Fin 2176) (hk : k.val < 112) : numerPad Q K (ix4 b h q k) = 0 := by
  unfold numerPad
  pointwise
  rw [dif_neg (by omega)]
  show (((0#32 : BitVec 32).toInt : ℝ) : EReal) = 0
  simp

/-- A packed array of the values' width at a token. -/
theorem packV_inner (w : BitVec 32) (q : Fin 2064) (d : Fin 64) : packV W w (ix2 (rowOf b (inner q)) (vcol h d)) = W (ix4 b h q d) := by
  unfold packV
  pointwise [inner, rowOf, vcol]
  rw [dif_pos (by omega)]
  congr 1
  congr 1 <;> exact Fin.ext (by dsimp only; omega)

/-- A packed array of the keys' width at a token. -/
theorem packK_inner (q : Fin 2064) (l : Fin 128) (d : Fin 96) (e : l.val = d.val) :
    packK Q (ix2 (rowOf b (inner q)) (kcol h l)) = Q (ix4 b h q d) := by
  unfold packK
  pointwise [inner, rowOf, kcol]
  rw [dif_pos (by omega)]
  congr 1
  congr 1 <;> exact Fin.ext (by dsimp only; omega)

/-- A packed array of the keys' width is zero on a head's last lanes. -/
theorem packK_lane (q : Fin 4352) (l : Fin 128) (hl : 96 ≤ l.val) : packK Q (ix2 q (kcol h l)) = 0 := by
  unfold packK
  pointwise [kcol]
  rw [dif_neg (by omega)]

end

/-! ## The gradients, over the tokens alone -/

section
variable (Q K : FVec Ideal S2x8x2064x96 .f32) (W C : FVec Ideal S2x8x2064x64 .f32)

/-- The gradient of the scores at a query and a key, as the kernel takes it. -/
def dsIn (b : Fin 2) (h : Fin 8) (q k : Fin 2064) : EReal :=
  numer Q K (ix4 b h q k) * ((∑ d : Fin 64, C (ix4 b h q d) * W (ix4 b h k d)) - ∑ d : Fin 64, C (ix4 b h q d) * attnOut Q K W (ix4 b h q d))
    * (Ideal.div 1 (denom Q K (ix4 b h q 0)) * Ideal.ofBits .f32 0x3DD105EC#32)

/-- The queries' gradient. -/
def dqIn : FVec Ideal S2x8x2064x96 .f32 := fun i =>
  ∑ k : Fin 2064, dsIn Q K W C (i 0) (i 1) (i 2) k * K (ix4 (i 0) (i 1) k (i 3))

/-- The keys' gradient. -/
def dkIn : FVec Ideal S2x8x2064x96 .f32 := fun i =>
  ∑ q : Fin 2064, dsIn Q K W C (i 0) (i 1) q (i 2) * Q (ix4 (i 0) (i 1) q (i 3))

/-- The values' gradient. -/
def dvIn : FVec Ideal S2x8x2064x64 .f32 := fun i =>
  ∑ q : Fin 2064, numer Q K (ix4 (i 0) (i 1) q (i 2)) * (C (ix4 (i 0) (i 1) q (i 3)) * Ideal.div 1 (denom Q K (ix4 (i 0) (i 1) q 0)))

/-- The six windows' arrays but the queries' and keys', as the gradient of the scores reads them. -/
abbrev dsPad (b : Fin 2) (h : Fin 8) (q k : Fin 2176) : EReal :=
  dsFull (truncf .bf16 (packV W 0x00000000#32) bitsLt_bf16_f32) (packV C 0x00000000#32) (packV (attnOut Q K W) 0x00000000#32)
    (packV (broadcastInDim S2x8x2064x64 ![0, 1, 2, 3] bcast_S2x8x2064x1_S2x8x2064x64_0_1_2_3 (denom Q K)) 0x3F800000#32) (numerPad Q K) b h q k

/-- A broadcast denominator. -/
theorem sums_at (b : Fin 2) (h : Fin 8) (q : Fin 2064) (d : Fin 64) :
    (broadcastInDim S2x8x2064x64 ![0, 1, 2, 3] bcast_S2x8x2064x1_S2x8x2064x64_0_1_2_3 (denom Q K)) (ix4 b h q d) = denom Q K (ix4 b h q 0) := by
  pointwise

/-- Inside the padding the gradient of the scores is that of the tokens. -/
theorem dsPad_inner (b : Fin 2) (h : Fin 8) (q k : Fin 2064) : dsPad Q K W C b h (inner q) (inner k) = dsIn Q K W C b h q k := by
  have t : ∀ i, (truncf .bf16 (packV W 0x00000000#32) bitsLt_bf16_f32 : FVec Ideal S4352x512 .bf16) i = packV W 0x00000000#32 i := fun _ => rfl
  unfold dsPad dsFull dsIn
  simp only [t, packV_inner, numerPad_inner]
  rw [sums_at]

/-- The gradient of the scores is zero on the padding's queries. -/
theorem dsPad_row (b : Fin 2) (h : Fin 8) (q k : Fin 2176) (hq : q.val < 112) : dsPad Q K W C b h q k = 0 := by
  unfold dsPad dsFull
  rw [numerPad_row Q K b h q k hq, zero_mul, zero_mul]

/-- The gradient of the scores is zero on the padding's keys. -/
theorem dsPad_col (b : Fin 2) (h : Fin 8) (q k : Fin 2176) (hk : k.val < 112) : dsPad Q K W C b h q k = 0 := by
  unfold dsPad dsFull
  rw [numerPad_col Q K b h q k hk, zero_mul, zero_mul]

/-- A sum over a batch's rows whose padding's terms are zero. -/
theorem sum_inner (f : Fin 2176 → EReal) (hf : ∀ q, q.val < 112 → f q = 0) : ∑ q, f q = ∑ q : Fin 2064, f (inner q) := by
  rw [Fin.sum_univ_two_halves 112 2064 rfl f, Finset.sum_eq_zero (fun x _ => hf _ x.isLt), zero_add]
  rfl

/-- A row of the padded array is on the padding or holds a token. -/
theorem row_cases (q : Fin 2176) : q.val < 112 ∨ ∃ q' : Fin 2064, q = inner q' := by
  by_cases h : q.val < 112
  · exact Or.inl h
  · exact Or.inr ⟨⟨q.val - 112, by omega⟩, Fin.ext (by show q.val = 112 + (q.val - 112); omega)⟩

/-- Every row is a row of a batch. -/
theorem exists_row (R : Fin 4352) : ∃ b q, R = rowOf b q :=
  ⟨batchOf R, placeOf R, Fin.ext (by show R.val = R.val / 2176 * 2176 + R.val % 2176; omega)⟩

/-- Every column of the keys' width is a lane of a head. -/
theorem exists_kcol (X : Fin 1024) : ∃ h l, X = kcol h l :=
  ⟨⟨X.val / 128, by omega⟩, ⟨X.val % 128, by omega⟩, Fin.ext (by show X.val = X.val / 128 * 128 + X.val % 128; omega)⟩

/-- Every column of the values' width is a lane of a head. -/
theorem exists_vcol (X : Fin 512) : ∃ h d, X = vcol h d :=
  ⟨⟨X.val / 64, by omega⟩, ⟨X.val % 64, by omega⟩, Fin.ext (by show X.val = X.val / 64 * 64 + X.val % 64; omega)⟩

/-- The head of a head's lane. -/
theorem headK_kcol (h : Fin 8) (l : Fin 128) : headK (kcol h l) = h := Fin.ext (by show (h.val * 128 + l.val) / 128 = h.val; omega)
/-- The head of a head's lane. -/
theorem headV_vcol (h : Fin 8) (d : Fin 64) : headV (vcol h d) = h := Fin.ext (by show (h.val * 64 + d.val) / 64 = h.val; omega)

/-- A gradient of the keys' width by rows of tokens and columns of heads, zero on the padding. -/
def spreadK (G : FVec Ideal S2x8x2064x96 .f32) : FVec Ideal S4352x1024 .f32 := packK G

/-- A gradient of the values' width by rows of tokens and columns of heads, zero on the padding. -/
def spreadV (G : FVec Ideal S2x8x2064x64 .f32) : FVec Ideal S4352x512 .f32 := packV G 0x00000000#32

/-- A packed array of the keys' width is zero on the padding's rows. -/
theorem packK_row (G : FVec Ideal S2x8x2064x96 .f32) (b : Fin 2) (q : Fin 2176) (X : Fin 1024) (hq : q.val < 112) : packK G (ix2 (rowOf b q) X) = 0 := by
  unfold packK
  pointwise [rowOf]
  rw [dif_neg (by omega)]

/-- A packed array of the values' width is zero on the padding's rows. -/
theorem packV_row (G : FVec Ideal S2x8x2064x64 .f32) (b : Fin 2) (q : Fin 2176) (X : Fin 512) (hq : q.val < 112) : packV G 0x00000000#32 (ix2 (rowOf b q) X) = 0 := by
  unfold packV
  pointwise [rowOf]
  rw [dif_neg (by omega)]

/-- The first result over the windows' arrays is the queries' gradient, spread. -/
theorem dqArr_spread : dqArr (packK K) (truncf .bf16 (packV W 0x00000000#32) bitsLt_bf16_f32) (packV C 0x00000000#32)
    (packV (attnOut Q K W) 0x00000000#32) (packV (broadcastInDim S2x8x2064x64 ![0, 1, 2, 3] bcast_S2x8x2064x1_S2x8x2064x64_0_1_2_3 (denom Q K)) 0x3F800000#32)
    (numerPad Q K) = spreadK (dqIn Q K W C) := by
  funext x
  idx_vars x
  obtain ⟨b, q, rfl⟩ := exists_row x0
  obtain ⟨h, l, rfl⟩ := exists_kcol x1
  rw [dqArr_at _ _ _ _ _ _ b h q _ (headK_kcol h l)]
  show (∑ k, dsPad Q K W C b h q k * packK K (ix2 (rowOf b k) (kcol h l))) = packK (dqIn Q K W C) (ix2 (rowOf b q) (kcol h l))
  rcases row_cases q with hq | ⟨q', rfl⟩
  · rw [packK_row _ _ _ _ hq]
    exact Finset.sum_eq_zero fun k _ => by rw [dsPad_row Q K W C b h q k hq, zero_mul]
  · by_cases hl : 96 ≤ l.val
    · rw [packK_lane _ _ _ _ hl]
      exact Finset.sum_eq_zero fun k _ => by rw [packK_lane _ _ _ _ hl, mul_zero]
    · rw [packK_inner _ b h q' l ⟨l.val, by omega⟩ rfl, sum_inner _ fun k hk => by rw [dsPad_col Q K W C b h _ k hk, zero_mul]]
      refine Finset.sum_congr rfl fun k _ => ?_
      rw [dsPad_inner, packK_inner _ b h k l ⟨l.val, by omega⟩ rfl]
      rfl

/-- The second result over the windows' arrays is the keys' gradient, spread. -/
theorem dkArr_spread : dkArr (packK Q) (truncf .bf16 (packV W 0x00000000#32) bitsLt_bf16_f32) (packV C 0x00000000#32)
    (packV (attnOut Q K W) 0x00000000#32) (packV (broadcastInDim S2x8x2064x64 ![0, 1, 2, 3] bcast_S2x8x2064x1_S2x8x2064x64_0_1_2_3 (denom Q K)) 0x3F800000#32)
    (numerPad Q K) = spreadK (dkIn Q K W C) := by
  funext x
  idx_vars x
  obtain ⟨b, k, rfl⟩ := exists_row x0
  obtain ⟨h, l, rfl⟩ := exists_kcol x1
  rw [dkArr_at _ _ _ _ _ _ b h k _ (headK_kcol h l)]
  show (∑ q, dsPad Q K W C b h q k * packK Q (ix2 (rowOf b q) (kcol h l))) = packK (dkIn Q K W C) (ix2 (rowOf b k) (kcol h l))
  rcases row_cases k with hk | ⟨k', rfl⟩
  · rw [packK_row _ _ _ _ hk]
    exact Finset.sum_eq_zero fun q _ => by rw [dsPad_col Q K W C b h q k hk, zero_mul]
  · by_cases hl : 96 ≤ l.val
    · rw [packK_lane _ _ _ _ hl]
      exact Finset.sum_eq_zero fun q _ => by rw [packK_lane _ _ _ _ hl, mul_zero]
    · rw [packK_inner _ b h k' l ⟨l.val, by omega⟩ rfl, sum_inner _ fun q hq => by rw [dsPad_row Q K W C b h q _ hq, zero_mul]]
      refine Finset.sum_congr rfl fun q _ => ?_
      rw [dsPad_inner, packK_inner _ b h q l ⟨l.val, by omega⟩ rfl]
      rfl

/-- The third result over the windows' arrays is the values' gradient, spread. -/
theorem dvArr_spread : dvArr (packV C 0x00000000#32)
    (packV (broadcastInDim S2x8x2064x64 ![0, 1, 2, 3] bcast_S2x8x2064x1_S2x8x2064x64_0_1_2_3 (denom Q K)) 0x3F800000#32)
    (numerPad Q K) = spreadV (dvIn Q K C) := by
  funext x
  idx_vars x
  obtain ⟨b, k, rfl⟩ := exists_row x0
  obtain ⟨h, d, rfl⟩ := exists_vcol x1
  rw [dvArr_at _ _ _ b h k _ (headV_vcol h d)]
  unfold dvTerm
  show _ = packV (dvIn Q K C) 0x00000000#32 (ix2 (rowOf b k) (vcol h d))
  rcases row_cases k with hk | ⟨k', rfl⟩
  · rw [packV_row _ _ _ _ hk]
    exact Finset.sum_eq_zero fun q _ => by rw [numerPad_col Q K b h q k hk, zero_mul]
  · rw [packV_inner, sum_inner _ fun q hq => by rw [numerPad_row Q K b h q _ hq, zero_mul]]
    refine Finset.sum_congr rfl fun q _ => ?_
    rw [numerPad_inner, packV_inner, packV_inner, sums_at]
    rfl
end

/-- The three results as the run leaves them, as functions of the arguments. -/
theorem arrays (c : Dev nD) :
    (dats m 0 c).arrAt 7 cfg0.N = spreadK (dqIn (m ((c.tc : Thread nD τ).loc main_arg0)) (m ((c.tc : Thread nD τ).loc main_arg1)) (m ((c.tc : Thread nD τ).loc main_arg2)) (m ((c.tc : Thread nD τ).loc main_arg3)))
    ∧ (dats m 0 c).arrAt 8 cfg0.N = spreadK (dkIn (m ((c.tc : Thread nD τ).loc main_arg0)) (m ((c.tc : Thread nD τ).loc main_arg1)) (m ((c.tc : Thread nD τ).loc main_arg2)) (m ((c.tc : Thread nD τ).loc main_arg3)))
    ∧ (dats m 0 c).arrAt 9 cfg0.N = spreadV (dvIn (m ((c.tc : Thread nD τ).loc main_arg0)) (m ((c.tc : Thread nD τ).loc main_arg1)) (m ((c.tc : Thread nD τ).loc main_arg3))) := by
  refine ⟨?_, ?_, ?_⟩
  · rw [array7, val1, val2, val3, val4, val5, val6]
    exact dqArr_spread _ _ _ _
  · rw [array8, val0, val2, val3, val4, val5, val6]
    exact dkArr_spread _ _ _ _
  · rw [array9, val3, val5, val6]
    exact dvArr_spread _ _ _

end Cert.KernelIdeal.Gen

end
-- ==== Proof.Reference.lean ====
/- The reference's three results at an index, and the kernel's gradients equal to them when the arguments are finite. -/
module

public import proofs.«01_k».proof.Proof.Saved
public import proofs.«01_k».proof.Proof.Gen.ReferenceIdeal.Read
public import Idealize.ShloMosaic.Lib.Pointwise
public import Idealize.ShloMosaic.Lib.IdealHost

@[expose] public section

set_option maxRecDepth 16384

noncomputable section

namespace Cert.ReferenceIdeal.Read

open Cert.ReferenceIdeal Cert.ReferenceIdeal.Gen Idealize.ShloMosaic Idealize.ShloMosaic.TcCoe Idealize.ShloMosaic.Tactic Idealize.SL.Sem
open Cert.KernelIdeal.Gen (rowOf inner kcol vcol row_cases exists_row exists_kcol exists_vcol packK packV spreadK spreadV packK_row packK_lane
  packK_inner packV_row packV_inner scores rowMax numer denom attnOut scores_at rowMax_at numer_at denom_at attnOut_at dsIn dqIn dkIn dvIn)

/-! ## The reference at an index -/

section
variable (Q K : FVec Ideal S2x8x2064x96 .f32) (W C : FVec Ideal S2x8x2064x64 .f32) (b : Fin 2) (h : Fin 8)

/-- A score of the reference. -/
theorem score_at (q k : Fin 2064) : val_main_v2 (F := Ideal) Q K (ix4 b h q k) = scores Q K (ix4 b h q k) := by
  rw [scores_at]
  pointwise [val_main_v2, val_main_v1, val_main_v0, val_main_cst]

/-- A row's largest score. -/
theorem max3_at (q : Fin 2064) : val_main_v3 (F := Ideal) Q K (ix3 b h q) = Finset.fold max (Ideal.ofBits .f32 0xFF800000#32) (fun x => val_main_v2 (F := Ideal) Q K (ix4 b h q x)) Finset.univ := by
  unfold val_main_v3 val_main_cst_0
  generalize val_main_v2 (F := Ideal) Q K = s
  pointwise

/-- The pattern of minus infinity. -/
theorem ofBits_bot : Ideal.ofBits .f32 0xFF800000#32 = ⊥ := by
  simp [Ideal.ofBits, Ideal.ieee]

/-- A row's largest score, taken against minus infinity once more. -/
theorem max_twice_at (q : Fin 2064) : val_main_v10 (F := Ideal) Q K (ix3 b h q) = max (Ideal.ofBits .f32 0xFF800000#32) (val_main_v3 (F := Ideal) Q K (ix3 b h q)) := by
  rw [val_main_v10_apply, val_main_v9_apply, val_main_cst_2_apply, Ideal.maximumf_def, Ideal.ofBits_def]

/-- The largest of a family and minus infinity is that of the family. -/
theorem max_fold {n : ℕ} (f : Fin n → EReal) (w : EReal) (hw : w = ⊥) : max w (Finset.fold max w f Finset.univ) = Finset.fold max w f Finset.univ := by
  rw [hw]
  exact max_eq_right bot_le

/-- So it is the kernel's. -/
theorem max10_at (q : Fin 2064) : val_main_v10 (F := Ideal) Q K (ix3 b h q) = rowMax Q K (ix3 b h q) := by
  refine (max_twice_at Q K b h q).trans ?_
  rw [max3_at, rowMax_at]
  refine (max_fold _ _ ofBits_bot).trans ?_
  simp only [score_at]

/-- An element of the softmax's numerator. -/
theorem num_at (q k : Fin 2064) : val_main_v23 (F := Ideal) Q K (ix4 b h q k) = numer Q K (ix4 b h q k) := by
  rw [numer_at, ← score_at, ← max10_at]
  unfold val_main_v23 val_main_v22 val_main_v21 val_main_v20
  generalize val_main_v10 (F := Ideal) Q K = s
  generalize val_main_v2 (F := Ideal) Q K = t
  pointwise

/-- A row's denominator. -/
theorem den_at (q : Fin 2064) : val_main_v25 (F := Ideal) Q K (ix4 b h q 0) = denom Q K (ix4 b h q 0) := by
  rw [denom_at]
  simp only [← num_at]
  unfold val_main_v25 val_main_v24 val_main_cst_8
  generalize val_main_v23 (F := Ideal) Q K = s
  pointwise

/-- The gradient of the scores in the reference. -/
theorem ds_at (q k : Fin 2064) : val_main_v48 (F := Ideal) Q K W C (ix4 b h q k) =
    (Ideal.div (∑ x, C (ix4 b h q x) * W (ix4 b h k x)) (denom Q K (ix4 b h q 0))
      + -∑ x, (∑ d, C (ix4 b h q d) * W (ix4 b h x d)) * Ideal.div 1 (denom Q K (ix4 b h q 0) * denom Q K (ix4 b h q 0)) * numer Q K (ix4 b h q x))
      * numer Q K (ix4 b h q k) * Ideal.ofBits .f32 0x3DD105EC#32 := by
  simp only [← num_at, ← den_at]
  pointwise [val_main_v48, val_main_v47, val_main_v46, val_main_v45, val_main_v44, val_main_v43, val_main_v42, val_main_v41, val_main_v40, val_main_v39, val_main_v38, val_main_v37, val_main_v36, val_main_v35, val_main_v34, val_main_v30, val_main_v29, val_main_v28, val_main_cst_9, val_main_cst_10, val_main_cst_11, val_main_cst_12]
  simp only [Fin.sum_univ_one, Finset.univ_unique, Finset.sum_singleton]

/-- The reference's first result is the queries' gradient, spread. -/
theorem dq_spread (G : FVec Ideal S2x8x2064x96 .f32)
    (hG : ∀ b h q d, ∑ k, val_main_v48 (F := Ideal) Q K W C (ix4 b h q k) * K (ix4 b h k d) = G (ix4 b h q d)) :
    val_main_v53 (F := Ideal) Q K W C = spreadK G := by
  funext x
  idx_vars x
  obtain ⟨b, q, rfl⟩ := exists_row x0
  obtain ⟨h, l, rfl⟩ := exists_kcol x1
  show _ = packK G (ix2 (rowOf b q) (kcol h l))
  rcases row_cases q with hq | ⟨q', rfl⟩
  · rw [packK_row _ _ _ _ hq]
    pointwise [val_main_v53, val_main_v52, val_main_v51, val_main_v50, val_main_call0_v0, val_main_c, rowOf, kcol]
    rw [dif_neg (by omega)]
    show (((0#32 : BitVec 32).toInt : ℝ) : EReal) = 0
    simp
  · by_cases hl : 96 ≤ l.val
    · rw [packK_lane _ _ _ _ hl]
      pointwise [val_main_v53, val_main_v52, val_main_v51, val_main_v50, val_main_call0_v0, val_main_c, rowOf, kcol]
      rw [dif_neg (by omega)]
      show (((0#32 : BitVec 32).toInt : ℝ) : EReal) = 0
      simp
    · rw [packK_inner _ b h q' l ⟨l.val, by omega⟩ rfl, ← hG]
      pointwise [val_main_v53, val_main_v52, val_main_v51, val_main_v50, val_main_call0_v0, val_main_c, rowOf, kcol, Cert.KernelIdeal.Gen.inner]
      have e : (⟨(b.val * 2176 + (112 + q'.val)) % 2176 - 112, by omega⟩ : Fin 2064) = q' :=
        Fin.ext (by show (b.val * 2176 + (112 + q'.val)) % 2176 - 112 = q'.val; omega)
      simp only [e]
      rw [dif_pos (by omega)]

/-- The reference's second result is the keys' gradient, spread. -/
theorem dk_spread (G : FVec Ideal S2x8x2064x96 .f32)
    (hG : ∀ b h q d, ∑ k, val_main_v48 (F := Ideal) Q K W C (ix4 b h k q) * Q (ix4 b h k d) = G (ix4 b h q d)) :
    val_main_v56 (F := Ideal) Q K W C = spreadK G := by
  funext x
  idx_vars x
  obtain ⟨b, q, rfl⟩ := exists_row x0
  obtain ⟨h, l, rfl⟩ := exists_kcol x1
  show _ = packK G (ix2 (rowOf b q) (kcol h l))
  rcases row_cases q with hq | ⟨q', rfl⟩
  · rw [packK_row _ _ _ _ hq]
    pointwise [val_main_v56, val_main_v55, val_main_v54, val_main_v49, val_main_call1_v0, val_main_c_13, rowOf, kcol]
    rw [dif_neg (by omega)]
    show (((0#32 : BitVec 32).toInt : ℝ) : EReal) = 0
    simp
  · by_cases hl : 96 ≤ l.val
    · rw [packK_lane _ _ _ _ hl]
      pointwise [val_main_v56, val_main_v55, val_main_v54, val_main_v49, val_main_call1_v0, val_main_c_13, rowOf, kcol]
      rw [dif_neg (by omega)]
      show (((0#32 : BitVec 32).toInt : ℝ) : EReal) = 0
      simp
    · rw [packK_inner _ b h q' l ⟨l.val, by omega⟩ rfl, ← hG]
      pointwise [val_main_v56, val_main_v55, val_main_v54, val_main_v49, val_main_call1_v0, val_main_c_13, rowOf, kcol, Cert.KernelIdeal.Gen.inner]
      have e : (⟨(b.val * 2176 + (112 + q'.val)) % 2176 - 112, by omega⟩ : Fin 2064) = q' :=
        Fin.ext (by show (b.val * 2176 + (112 + q'.val)) % 2176 - 112 = q'.val; omega)
      simp only [e]
      rw [dif_pos (by omega)]

/-- The reference's third result is the values' gradient, spread. -/
theorem dv_spread (G : FVec Ideal S2x8x2064x64 .f32)
    (hG : ∀ b h q d, ∑ k, C (ix4 b h k d) * Ideal.div (val_main_v23 (F := Ideal) Q K (ix4 b h k q)) (val_main_v25 (F := Ideal) Q K (ix4 b h k 0)) = G (ix4 b h q d)) :
    val_main_v59 (F := Ideal) Q K C = spreadV G := by
  funext x
  idx_vars x
  obtain ⟨b, q, rfl⟩ := exists_row x0
  obtain ⟨h, l, rfl⟩ := exists_vcol x1
  show _ = packV G 0x00000000#32 (ix2 (rowOf b q) (vcol h l))
  rcases row_cases q with hq | ⟨q', rfl⟩
  · rw [packV_row _ _ _ _ hq]
    pointwise [val_main_v59, val_main_v58, val_main_v57, val_main_v33, val_main_v32, val_main_v27, val_main_v26, val_main_call2_v0, val_main_c_14, rowOf, vcol]
    rw [dif_neg (by omega)]
    show (((0#32 : BitVec 32).toInt : ℝ) : EReal) = 0
    simp
  · rw [packV_inner, ← hG]
    pointwise [val_main_v59, val_main_v58, val_main_v57, val_main_v33, val_main_v32, val_main_v27, val_main_v26, val_main_call2_v0, val_main_c_14, rowOf, vcol, Cert.KernelIdeal.Gen.inner]
    have e : (⟨(b.val * 2176 + (112 + q'.val)) % 2176 - 112, by omega⟩ : Fin 2064) = q' :=
      Fin.ext (by show (b.val * 2176 + (112 + q'.val)) % 2176 - 112 = q'.val; omega)
    simp only [e]
    rw [dif_pos (by omega)]

end

end Cert.ReferenceIdeal.Read
end
-- ==== Proof.Finite.lean ====
/- On finite arguments the saved values of the attention and the gradients over them are real, and the kernel's gradients are the reference's. -/
module

public import proofs.«01_k».proof.Proof.Reference

@[expose] public section

set_option maxRecDepth 16384

noncomputable section

namespace Cert.ReferenceIdeal.Read

open Cert.ReferenceIdeal Cert.ReferenceIdeal.Gen Idealize.ShloMosaic Idealize.ShloMosaic.TcCoe Idealize.ShloMosaic.Tactic Idealize.SL.Sem
open Cert.KernelIdeal.Gen (scores rowMax numer denom attnOut scores_at rowMax_at numer_at denom_at attnOut_at dsIn dqIn dkIn dvIn spreadK spreadV)

/-! ## Sums and maxima of real numbers among the extended reals -/

/-- A finite sum of real numbers, taken among the extended reals, is the real sum. -/
theorem coe_sum {ι : Type} (s : Finset ι) (f : ι → ℝ) : (∑ x ∈ s, (f x : EReal)) = ((∑ x ∈ s, f x : ℝ) : EReal) := by
  classical
  induction s using Finset.induction_on with
  | empty => simp
  | insert a s h ih => rw [Finset.sum_insert h, Finset.sum_insert h, ih, EReal.coe_add]

/-- The largest of a nonempty family of real numbers, taken from minus infinity, is real. -/
theorem max_real {n : ℕ} (f : Fin (n + 1) → ℝ) (w : EReal) (hw : w = ⊥) : ∃ r : ℝ, Finset.fold max w (fun x => (f x : EReal)) Finset.univ = (r : EReal) := by
  subst hw
  obtain ⟨i, _, hi⟩ := Finset.exists_mem_eq_sup (Finset.univ : Finset (Fin (n + 1))) Finset.univ_nonempty (fun x => (f x : EReal))
  exact ⟨f i, hi⟩

/-- The scale of the scores is a real number. -/
theorem scale_real : ∃ c : ℝ, Ideal.ofBits .f32 0x3DD105EC#32 = (c : EReal) := by
  refine ⟨13698540 / 134217728, ?_⟩
  simp [Ideal.ofBits, Ideal.ieee, -EReal.coe_mul]
  norm_num

/-! ## The identity of a row -/

/-- A row of the softmax's backward pass. The kernel takes the row's inner product of the output's gradient with the output, and
    divides by the denominator last; the reference divides first, and its second term is the denominator's gradient. -/
theorem row_real {n d : ℕ} (E : Fin n → ℝ) (V : Fin n → Fin d → ℝ) (C : Fin d → ℝ) (l c : ℝ) (k : Fin n) (hl : l ≠ 0) :
    E k * ((∑ x, C x * V k x) + -∑ x, C x * ∑ y, E y * (1 / l) * V y x) * (1 * (1 / l) * c)
      = ((∑ x, C x * V k x) * (1 / l) + -∑ y, (∑ x, C x * V y x) * (1 * (1 / (l * l))) * E y) * E k * c := by
  have hs : (∑ x, C x * ∑ y, E y * (1 / l) * V y x) = l * ∑ y, (∑ x, C x * V y x) * (1 * (1 / (l * l))) * E y := by
    simp only [Finset.mul_sum, Finset.sum_mul]
    rw [Finset.sum_comm]
    refine Finset.sum_congr rfl fun y _ => Finset.sum_congr rfl fun x _ => ?_
    field_simp
  rw [hs]
  field_simp

/-! ## Finite arguments -/

/-- Every element of an array is a real number. -/
def Finite {S : Shape} (a : FVec Ideal S .f32) : Prop := ∀ i, ∃ r : ℝ, a i = (r : EReal)

section
variable {Q K : FVec Ideal S2x8x2064x96 .f32} {W C : FVec Ideal S2x8x2064x64 .f32}

/-- The numerators are positive real numbers. -/
theorem numer_real (hQ : Finite Q) (hK : Finite K) (b : Fin 2) (h : Fin 8) (q k : Fin 2064) :
    ∃ r : ℝ, 0 < r ∧ numer Q K (ix4 b h q k) = (r : EReal) := by
  choose Q' hQ using hQ
  choose K' hK using hK
  obtain ⟨c, hc⟩ := scale_real
  have hs : ∀ x, scores Q K (ix4 b h q x) = (((∑ d, Q' (ix4 b h q d) * K' (ix4 b h x d)) * c : ℝ) : EReal) := fun x => by
    rw [scores_at, hc]
    simp only [hQ, hK, ← EReal.coe_mul, coe_sum]
  obtain ⟨r, hr⟩ := max_real (n := 2063) (fun x => (∑ d, Q' (ix4 b h q d) * K' (ix4 b h x d)) * c) _ ofBits_bot
  rw [numer_at, rowMax_at]
  simp only [hs]
  rw [hr, ← EReal.coe_sub, Ideal.exp_coe]
  exact ⟨_, Real.exp_pos _, rfl⟩

/-- The gradient of the scores: the reference's is the kernel's. -/
theorem ds_eq (hQ : Finite Q) (hK : Finite K) (hW : Finite W) (hC : Finite C) (b : Fin 2) (h : Fin 8) (q k : Fin 2064) :
    val_main_v48 (F := Ideal) Q K W C (ix4 b h q k) = dsIn Q K W C b h q k := by
  choose E hE using numer_real hQ hK b h q
  choose W' hW using hW
  choose C' hC using hC
  obtain ⟨c, hc⟩ := scale_real
  have hl : (∑ x, E x) ≠ 0 := (Finset.sum_pos (fun x _ => (hE x).1) ⟨k, Finset.mem_univ k⟩).ne'
  have hn : ∀ x, numer Q K (ix4 b h q x) = (E x : EReal) := fun x => (hE x).2
  have hd : denom Q K (ix4 b h q 0) = ((∑ x, E x : ℝ) : EReal) := by
    rw [denom_at]
    simp only [hn, coe_sum]
  rw [ds_at]
  unfold dsIn
  simp only [attnOut_at, hd, hn, hW, hC, hc]
  generalize (∑ x, E x) = l at hl
  rw [← EReal.coe_mul l l]
  simp only [Ideal.div_coe hl, Ideal.div_coe (mul_ne_zero hl hl), sub_eq_add_neg, ← EReal.coe_one, ← EReal.coe_mul, coe_sum, ← EReal.coe_neg, ← EReal.coe_add]
  exact congrArg _ (row_real E (fun y x => W' (ix4 b h y x)) (fun x => C' (ix4 b h q x)) l c k hl).symm

/-- The first result of the reference is the kernel's. -/
theorem dq_eq (hQ : Finite Q) (hK : Finite K) (hW : Finite W) (hC : Finite C) : val_main_v53 (F := Ideal) Q K W C = spreadK (dqIn Q K W C) :=
  dq_spread Q K W C _ fun b h q d => by
    simp only [ds_eq hQ hK hW hC]
    rfl

/-- The second result of the reference is the kernel's. -/
theorem dk_eq (hQ : Finite Q) (hK : Finite K) (hW : Finite W) (hC : Finite C) : val_main_v56 (F := Ideal) Q K W C = spreadK (dkIn Q K W C) :=
  dk_spread Q K W C _ fun b h q d => by
    simp only [ds_eq hQ hK hW hC]
    rfl

/-- The third result of the reference is the kernel's. -/
theorem dv_eq (hQ : Finite Q) (hK : Finite K) (hC : Finite C) : val_main_v59 (F := Ideal) Q K C = spreadV (dvIn Q K C) :=
  dv_spread Q K C _ fun b h q d => by
    show _ = ∑ k, numer Q K (ix4 b h k q) * (C (ix4 b h k d) * Ideal.div 1 (denom Q K (ix4 b h k 0)))
    refine Finset.sum_congr rfl fun k _ => ?_
    rw [num_at, den_at]
    choose E hE using numer_real hQ hK b h k
    choose C' hC using hC
    have hl : (∑ x, E x) ≠ 0 := (Finset.sum_pos (fun x _ => (hE x).1) ⟨k, Finset.mem_univ k⟩).ne'
    have hn : ∀ x, numer Q K (ix4 b h k x) = (E x : EReal) := fun x => (hE x).2
    have hd : denom Q K (ix4 b h k 0) = ((∑ x, E x : ℝ) : EReal) := by
      rw [denom_at]
      simp only [hn, coe_sum]
    rw [hd, hn, hC]
    simp only [Ideal.div_coe hl, ← EReal.coe_one, ← EReal.coe_mul]
    exact congrArg _ (by ring)

end

/-! ## The precondition -/

/-- An extended real whose absolute value is less than infinity is a real number. -/
theorem real_of_abs (x : EReal) (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x using EReal.rec with
  | bot => simp [Ideal.cmp] at h
  | top => simp [Ideal.cmp] at h
  | coe r => exact ⟨r, rfl⟩

end Cert.ReferenceIdeal.Read

end
-- ==== Proof.PostFinal.lean ====
/- The call's arrays are the reference's results. -/
module

public import proofs.«01_k».proof.Proof.PostArrays
public import proofs.«01_k».proof.Proof.PostSums
public import proofs.«01_k».proof.Proof.Finite

@[expose] public section

set_option maxRecDepth 16384

noncomputable section

namespace Cert.Kernel2Ideal.Gen

open Cert.Post Cert.Kernel2Ideal Cert.Reference2Ideal.Read Idealize.ShloMosaic Idealize.ShloMosaic.TcCoe Idealize.ShloMosaic.Tactic Idealize.SL.Sem

section

variable (a0 a1 : S2x2064x512.Idx → ℝ) (a2 : S2x2064x1024.Idx → ℝ) (a3 : S2x2048x1024.Idx → ℝ) (a4 a5 : S512.Idx → ℝ) (a6 : S1024.Idx → ℝ)
  (a7 : S1024x1024.Idx → ℝ) (a8 a9 : S1024x2816.Idx → ℝ) (a10 : S2816x1024.Idx → ℝ)

/-- The array of the first heads' gradient is the reference's. -/
theorem ref12 : arr12 (tokW a4 a5 a6 a7 a8 a9 a10) (flatX a0 a1 a2 a3) = val_main_v146 (F := Ideal) (cz a0) (cz a1) (cz a2) (cz a3) (cz a4) (cz a5) (cz a6) (cz a7) (cz a8) (cz a9) (cz a10) := by
  funext i
  idx_vars i
  exact (f146 a0 a1 a2 a3 a4 a5 a6 a7 a8 a9 a10 i0 i1).symm

/-- The array of the second heads' gradient is the reference's. -/
theorem ref13 : arr13 (tokW a4 a5 a6 a7 a8 a9 a10) (flatX a0 a1 a2 a3) = val_main_v148 (F := Ideal) (cz a0) (cz a1) (cz a2) (cz a3) (cz a4) (cz a5) (cz a6) (cz a7) (cz a8) (cz a9) (cz a10) := by
  funext i
  idx_vars i
  exact (f148 a0 a1 a2 a3 a4 a5 a6 a7 a8 a9 a10 i0 i1).symm

/-- The array of the residual stream's gradient is the reference's. -/
theorem ref14 : arr14 (tokW a4 a5 a6 a7 a8 a9 a10) (flatX a0 a1 a2 a3) = val_main_v150 (F := Ideal) (cz a0) (cz a1) (cz a2) (cz a3) (cz a4) (cz a5) (cz a6) (cz a7) (cz a8) (cz a9) (cz a10) := by
  funext i
  idx_vars i
  exact (f150 a0 a1 a2 a3 a4 a5 a6 a7 a8 a9 a10 i0 i1).symm

/-- The array of the mixed heads, transposed is the reference's. -/
theorem ref15 : arr15 (tokW a4 a5 a6 a7 a8 a9 a10) (flatX a0 a1 a2 a3) = val_main_v154 (F := Ideal) (cz a0) (cz a1) (cz a4) (cz a5) := by
  funext i
  idx_vars i
  exact (f154 a0 a1 a2 a3 a4 a5 a6 a7 a8 a9 a10 i1 i0).symm

/-- The array of the normed rows is the reference's. -/
theorem ref16 : arr16 (tokW a4 a5 a6 a7 a8 a9 a10) (flatX a0 a1 a2 a3) = val_main_v157 (F := Ideal) (cz a0) (cz a1) (cz a2) (cz a4) (cz a5) (cz a6) (cz a7) := by
  funext i
  idx_vars i
  exact (f157 a0 a1 a2 a3 a4 a5 a6 a7 a8 a9 a10 i0 i1).symm

/-- The array of the gated rows, transposed is the reference's. -/
theorem ref17 : arr17 (tokW a4 a5 a6 a7 a8 a9 a10) (flatX a0 a1 a2 a3) = val_main_v161 (F := Ideal) (cz a0) (cz a1) (cz a2) (cz a4) (cz a5) (cz a6) (cz a7) (cz a8) (cz a9) := by
  funext i
  idx_vars i
  exact (f161 a0 a1 a2 a3 a4 a5 a6 a7 a8 a9 a10 i1 i0).symm

/-- The array of the gate's gradient, transposed is the reference's. -/
theorem ref18 : arr18 (tokW a4 a5 a6 a7 a8 a9 a10) (flatX a0 a1 a2 a3) = val_main_v165 (F := Ideal) (cz a0) (cz a1) (cz a2) (cz a3) (cz a4) (cz a5) (cz a6) (cz a7) (cz a8) (cz a9) (cz a10) := by
  funext i
  idx_vars i
  exact (f165 a0 a1 a2 a3 a4 a5 a6 a7 a8 a9 a10 i1 i0).symm

/-- The array of the other projection's gradient, transposed is the reference's. -/
theorem ref19 : arr19 (tokW a4 a5 a6 a7 a8 a9 a10) (flatX a0 a1 a2 a3) = val_main_v169 (F := Ideal) (cz a0) (cz a1) (cz a2) (cz a3) (cz a4) (cz a5) (cz a6) (cz a7) (cz a8) (cz a9) (cz a10) := by
  funext i
  idx_vars i
  exact (f169 a0 a1 a2 a3 a4 a5 a6 a7 a8 a9 a10 i1 i0).symm

/-- The array of the output's gradient is the reference's. -/
theorem ref20 : arr20 (tokW a4 a5 a6 a7 a8 a9 a10) (flatX a0 a1 a2 a3) = val_main_v172 (F := Ideal) (cz a0) (cz a1) (cz a2) (cz a3) (cz a4) (cz a5) (cz a6) (cz a7) (cz a8) (cz a9) (cz a10) := by
  funext i
  idx_vars i
  exact (f172 a0 a1 a2 a3 a4 a5 a6 a7 a8 a9 a10 i0 i1).symm

/-- The array of the loss is the reference's. -/
theorem ref21 : arr21 (tokW a4 a5 a6 a7 a8 a9 a10) (flatX a0 a1 a2 a3) = val_main_v173 (F := Ideal) (cz a0) (cz a1) (cz a2) (cz a3) (cz a4) (cz a5) (cz a6) (cz a7) (cz a8) (cz a9) (cz a10) := by
  funext i
  idx_vars i
  obtain rfl : i0 = 0 := Subsingleton.elim _ _
  exact (f173 a0 a1 a2 a3 a4 a5 a6 a7 a8 a9 a10 i1).symm

/-- The array of the first scale's gradient is the reference's. -/
theorem ref22 : arr22 (tokW a4 a5 a6 a7 a8 a9 a10) (flatX a0 a1 a2 a3) = val_main_v174 (F := Ideal) (cz a0) (cz a1) (cz a2) (cz a3) (cz a4) (cz a5) (cz a6) (cz a7) (cz a8) (cz a9) (cz a10) := by
  funext i
  idx_vars i
  obtain rfl : i0 = 0 := Subsingleton.elim _ _
  exact (f174 a0 a1 a2 a3 a4 a5 a6 a7 a8 a9 a10 i1).symm

/-- The array of the second scale's gradient is the reference's. -/
theorem ref23 : arr23 (tokW a4 a5 a6 a7 a8 a9 a10) (flatX a0 a1 a2 a3) = val_main_v175 (F := Ideal) (cz a0) (cz a1) (cz a2) (cz a3) (cz a4) (cz a5) (cz a6) (cz a7) (cz a8) (cz a9) (cz a10) := by
  funext i
  idx_vars i
  obtain rfl : i0 = 0 := Subsingleton.elim _ _
  exact (f175 a0 a1 a2 a3 a4 a5 a6 a7 a8 a9 a10 i1).symm

/-- The array of the norm's scale's gradient is the reference's. -/
theorem ref24 : arr24 (tokW a4 a5 a6 a7 a8 a9 a10) (flatX a0 a1 a2 a3) = val_main_v176 (F := Ideal) (cz a0) (cz a1) (cz a2) (cz a3) (cz a4) (cz a5) (cz a6) (cz a7) (cz a8) (cz a9) (cz a10) := by
  funext i
  idx_vars i
  obtain rfl : i0 = 0 := Subsingleton.elim _ _
  exact (f176 a0 a1 a2 a3 a4 a5 a6 a7 a8 a9 a10 i1).symm

end

set_option maxHeartbeats 8000000 in
open Cert.ReferenceIdeal.Read (Finite) in
/-- On finite arguments the call's arrays are the reference's results of the same arguments. -/
theorem results (m : (ℓ : Loc nD τ sig) → Buf (Elt Ideal) ℓ) (c : Dev nD)
    (h0 : Finite (m ((c.tc : Thread nD τ).loc main_arg0)))
    (h1 : Finite (m ((c.tc : Thread nD τ).loc main_arg1)))
    (h2 : Finite (m ((c.tc : Thread nD τ).loc main_arg2)))
    (h3 : Finite (m ((c.tc : Thread nD τ).loc main_arg3)))
    (h4 : Finite (m ((c.tc : Thread nD τ).loc main_arg4)))
    (h5 : Finite (m ((c.tc : Thread nD τ).loc main_arg5)))
    (h6 : Finite (m ((c.tc : Thread nD τ).loc main_arg6)))
    (h7 : Finite (m ((c.tc : Thread nD τ).loc main_arg7)))
    (h8 : Finite (m ((c.tc : Thread nD τ).loc main_arg8)))
    (h9 : Finite (m ((c.tc : Thread nD τ).loc main_arg9)))
    (h10 : Finite (m ((c.tc : Thread nD τ).loc main_arg10))) :
    (dats m 0 c).arrAt 12 cfg0.N = val_main_v146 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    ∧ (dats m 0 c).arrAt 13 cfg0.N = val_main_v148 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    ∧ (dats m 0 c).arrAt 14 cfg0.N = val_main_v150 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    ∧ (dats m 0 c).arrAt 15 cfg0.N = val_main_v154 (F := Ideal) (m ((c.tc : Thread nD τ).loc main_arg0)) (m ((c.tc : Thread nD τ).loc main_arg1)) (m ((c.tc : Thread nD τ).loc main_arg4)) (m ((c.tc : Thread nD τ).loc main_arg5))
    ∧ (dats m 0 c).arrAt 16 cfg0.N = val_main_v157 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7))
    ∧ (dats m 0 c).arrAt 17 cfg0.N = val_main_v161 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
    ∧ (dats m 0 c).arrAt 18 cfg0.N = val_main_v165 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    ∧ (dats m 0 c).arrAt 19 cfg0.N = val_main_v169 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    ∧ (dats m 0 c).arrAt 20 cfg0.N = val_main_v172 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    ∧ (dats m 0 c).arrAt 21 cfg0.N = val_main_v173 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    ∧ (dats m 0 c).arrAt 22 cfg0.N = val_main_v174 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    ∧ (dats m 0 c).arrAt 23 cfg0.N = val_main_v175 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    ∧ (dats m 0 c).arrAt 24 cfg0.N = val_main_v176 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  choose a0 e0 using h0
  choose a1 e1 using h1
  choose a2 e2 using h2
  choose a3 e3 using h3
  choose a4 e4 using h4
  choose a5 e5 using h5
  choose a6 e6 using h6
  choose a7 e7 using h7
  choose a8 e8 using h8
  choose a9 e9 using h9
  choose a10 e10 using h10
  have q0 : (m ((c.tc : Thread nD τ).loc main_arg0)) = cz a0 := funext e0
  have q1 : (m ((c.tc : Thread nD τ).loc main_arg1)) = cz a1 := funext e1
  have q2 : (m ((c.tc : Thread nD τ).loc main_arg2)) = cz a2 := funext e2
  have q3 : (m ((c.tc : Thread nD τ).loc main_arg3)) = cz a3 := funext e3
  have q4 : (m ((c.tc : Thread nD τ).loc main_arg4)) = cz a4 := funext e4
  have q5 : (m ((c.tc : Thread nD τ).loc main_arg5)) = cz a5 := funext e5
  have q6 : (m ((c.tc : Thread nD τ).loc main_arg6)) = cz a6 := funext e6
  have q7 : (m ((c.tc : Thread nD τ).loc main_arg7)) = cz a7 := funext e7
  have q8 : (m ((c.tc : Thread nD τ).loc main_arg8)) = cz a8 := funext e8
  have q9 : (m ((c.tc : Thread nD τ).loc main_arg9)) = cz a9 := funext e9
  have q10 : (m ((c.tc : Thread nD τ).loc main_arg10)) = cz a10 := funext e10
  have hW := wts_eq m c a4 a5 a6 a7 a8 a9 a10 q4 q5 q6 q7 q8 q9 q10
  have hX := rows_eq m c a0 a1 a2 a3 q0 q1 q2 q3
  rw [q0, q1, q2, q3, q4, q5, q6, q7, q8, q9, q10]
  exact ⟨(array12 m c _ _ hW hX).trans (ref12 a0 a1 a2 a3 a4 a5 a6 a7 a8 a9 a10),
    (array13 m c _ _ hW hX).trans (ref13 a0 a1 a2 a3 a4 a5 a6 a7 a8 a9 a10),
    (array14 m c _ _ hW hX).trans (ref14 a0 a1 a2 a3 a4 a5 a6 a7 a8 a9 a10),
    (array15 m c _ _ hW hX).trans (ref15 a0 a1 a2 a3 a4 a5 a6 a7 a8 a9 a10),
    (array16 m c _ _ hW hX).trans (ref16 a0 a1 a2 a3 a4 a5 a6 a7 a8 a9 a10),
    (array17 m c _ _ hW hX).trans (ref17 a0 a1 a2 a3 a4 a5 a6 a7 a8 a9 a10),
    (array18 m c _ _ hW hX).trans (ref18 a0 a1 a2 a3 a4 a5 a6 a7 a8 a9 a10),
    (array19 m c _ _ hW hX).trans (ref19 a0 a1 a2 a3 a4 a5 a6 a7 a8 a9 a10),
    (array20 m c _ _ hW hX).trans (ref20 a0 a1 a2 a3 a4 a5 a6 a7 a8 a9 a10),
    (array21 m c _ _ hW hX).trans (ref21 a0 a1 a2 a3 a4 a5 a6 a7 a8 a9 a10),
    (array22 m c _ _ hW hX).trans (ref22 a0 a1 a2 a3 a4 a5 a6 a7 a8 a9 a10),
    (array23 m c _ _ hW hX).trans (ref23 a0 a1 a2 a3 a4 a5 a6 a7 a8 a9 a10),
    (array24 m c _ _ hW hX).trans (ref24 a0 a1 a2 a3 a4 a5 a6 a7 a8 a9 a10)⟩

end Cert.Kernel2Ideal.Gen

end
-- ==== Proof.lean ====
module

public import proofs.«01_k».proof.Proof.PostFinal
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import proofs.«01_k».proof.Proof.PostFrame
public import proofs.«01_k».proof.Proof.Finite
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.Tactic Idealize.SL.Sem Cert.Kernel

/-- The reference's operations run, leave its arguments unchanged and leave every semaphore counter at zero. -/
theorem frame_ri : Cert.quiescent_ReferenceIdeal := fun m ρ _ =>
  (θ_run _ _ _).mono (fun r h => ⟨fun c => (h c).2.2.2, sem_eq_zero_of_no_sems rfl r.2⟩) (Cert.ReferenceIdeal.Value.run m ρ)

/-- The side conditions of the precondition's function: a scalar spreads over each argument's shape. -/
theorem facts_finite : Cert.Pre_finite.Facts := ⟨by decide, by decide⟩

open Cert.ReferenceIdeal.Read in
/-- From memories that agree on finite arguments the kernel and the reference run, leave the arguments unchanged and end with the
    same three gradients. -/
theorem values : Cert.algebraic_KernelIdeal_ReferenceIdeal_pre_finite (hKernelIdeal := Cert.KernelIdeal.Gen.facts) (hReferenceIdeal := Cert.ReferenceIdeal.Gen.facts) (hPre_finite := facts_finite) := by
  intro m g m' g' hp hag
  have hQ : ∀ c : Dev Cert.KernelIdeal.nD, Finite (m ((c.tc : Thread Cert.KernelIdeal.nD Cert.KernelIdeal.τ).loc Cert.KernelIdeal.main_arg0)) :=
    fun c i => real_of_abs _ (congrFun (hp c).1 i)
  have hK : ∀ c : Dev Cert.KernelIdeal.nD, Finite (m ((c.tc : Thread Cert.KernelIdeal.nD Cert.KernelIdeal.τ).loc Cert.KernelIdeal.main_arg1)) :=
    fun c i => real_of_abs _ (congrFun (hp c).2.1 i)
  have hW : ∀ c : Dev Cert.KernelIdeal.nD, Finite (m ((c.tc : Thread Cert.KernelIdeal.nD Cert.KernelIdeal.τ).loc Cert.KernelIdeal.main_arg2)) :=
    fun c i => real_of_abs _ (congrFun (hp c).2.2.1 i)
  have hC : ∀ c : Dev Cert.KernelIdeal.nD, Finite (m ((c.tc : Thread Cert.KernelIdeal.nD Cert.KernelIdeal.τ).loc Cert.KernelIdeal.main_arg3)) :=
    fun c i => real_of_abs _ (congrFun (hp c).2.2.2 i)
  refine ⟨fun c => (Cert.KernelIdeal.Gen.dats m 0 c).arrAt 7 Cert.KernelIdeal.cfg0.N, fun c => (Cert.KernelIdeal.Gen.dats m 0 c).arrAt 8 Cert.KernelIdeal.cfg0.N,
    fun c => (Cert.KernelIdeal.Gen.dats m 0 c).arrAt 9 Cert.KernelIdeal.cfg0.N, Cert.KernelIdeal.Value.run_blocks m g,
    (θ_run _ _ _).mono (fun r h c => ?_) (Cert.ReferenceIdeal.Value.run m' g')⟩
  obtain ⟨h0, h1, h2, ha⟩ := h c
  obtain ⟨a0, a1, a2, a3⟩ := hag c
  obtain ⟨k0, k1, k2⟩ := Cert.KernelIdeal.Gen.arrays m c
  refine ⟨?_, ?_, ?_, ha⟩
  · refine Eq.trans ?_ k0.symm
    rw [← dq_eq (hQ c) (hK c) (hW c) (hC c), ← a0, ← a1, ← a2, ← a3]
    exact h0.trans (val_main_v53_eq m' c)
  · refine Eq.trans ?_ k1.symm
    rw [← dk_eq (hQ c) (hK c) (hW c) (hC c), ← a0, ← a1, ← a2, ← a3]
    exact h1.trans (val_main_v56_eq m' c)
  · refine Eq.trans ?_ k2.symm
    rw [← dv_eq (hQ c) (hK c) (hC c), ← a0, ← a1, ← a3]
    exact h2.trans (val_main_v59_eq _ _ _)

/-- The kernel's frame on finite arguments is its frame. -/
theorem frame_pi_finite : Cert.quiescent_KernelIdeal_pre_finite (hKernelIdeal := Cert.KernelIdeal.Gen.facts) (hPre_finite := facts_finite) := fun m ρ _ =>
  Cert.KernelIdeal.Gen.frame m ρ

/-- The reference's frame on finite arguments is its frame. -/
theorem frame_ri_finite : Cert.quiescent_ReferenceIdeal_pre_finite (hReferenceIdeal := Cert.ReferenceIdeal.Gen.facts) (hPre_finite := facts_finite) := fun m ρ _ =>
  frame_ri m ρ trivial

/-- The layer's kernel's frame on bits is that of its idealisation taken on bits: the two programs have one text. -/
theorem same_text : Cert.quiescent_Kernel2 = (∀ (m : (ℓ : Loc Cert.Kernel2Ideal.nD Cert.Kernel2Ideal.τ Cert.Kernel2Ideal.sig) → Buf (Elt Bits) ℓ) (g : Dev Cert.Kernel2Ideal.nD → PrngReg), True →
    θ_run (Cert.Kernel2Ideal.defs (F := Bits)) (onTc (τ := Cert.Kernel2Ideal.τ) (Cert.Kernel2Ideal.main (F := Bits))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)) := by sl_kernel_rfl

/-- The layer's kernel on bits runs, leaves its arguments unchanged and leaves every semaphore counter at zero: the run of
    `PostFrame`, which is stated for numbers of any kind. -/
theorem frame_p2 : Cert.quiescent_Kernel2 := same_text.mpr fun m ρ _ => Cert.Kernel2Ideal.Gen.frame (F := Bits) m ρ

/-- The layer's reference runs, leaves its arguments unchanged and leaves every semaphore counter at zero. -/
theorem frame_ri2 : Cert.quiescent_Reference2Ideal := fun m ρ _ =>
  (θ_run _ _ _).mono (fun r h => ⟨fun c => (h c).2.2.2.2.2.2.2.2.2.2.2.2.2, sem_eq_zero_of_no_sems rfl r.2⟩) (Cert.Reference2Ideal.Value.run m ρ)

/-- The side conditions of the layer's precondition's function: a scalar spreads over each argument's shape. -/
theorem facts_finite_post : Cert.Pre_finite_post.Facts := ⟨by decide, by decide, by decide, by decide, by decide, by decide, by decide, by decide⟩

set_option maxHeartbeats 8000000 in
open Cert.ReferenceIdeal.Read Cert.Reference2Ideal.Read in
/-- From memories that agree on finite arguments the layer's kernel and reference run, leave the arguments unchanged and end with the
    same thirteen results. -/
theorem values_post : Cert.algebraic_Kernel2Ideal_Reference2Ideal_pre_finite_post (hKernel2Ideal := Cert.Kernel2Ideal.Gen.facts) (hReference2Ideal := Cert.Reference2Ideal.Gen.facts) (hPre_finite_post := facts_finite_post) := by
  intro m g m' g' hp hag
  have f0 : ∀ c : Dev Cert.Kernel2Ideal.nD, Finite (m ((c.tc : Thread Cert.Kernel2Ideal.nD Cert.Kernel2Ideal.τ).loc Cert.Kernel2Ideal.main_arg0)) := fun c i => real_of_abs _ (congrFun (hp c).1 i)
  have f1 : ∀ c : Dev Cert.Kernel2Ideal.nD, Finite (m ((c.tc : Thread Cert.Kernel2Ideal.nD Cert.Kernel2Ideal.τ).loc Cert.Kernel2Ideal.main_arg1)) := fun c i => real_of_abs _ (congrFun (hp c).2.1 i)
  have f2 : ∀ c : Dev Cert.Kernel2Ideal.nD, Finite (m ((c.tc : Thread Cert.Kernel2Ideal.nD Cert.Kernel2Ideal.τ).loc Cert.Kernel2Ideal.main_arg2)) := fun c i => real_of_abs _ (congrFun (hp c).2.2.1 i)
  have f3 : ∀ c : Dev Cert.Kernel2Ideal.nD, Finite (m ((c.tc : Thread Cert.Kernel2Ideal.nD Cert.Kernel2Ideal.τ).loc Cert.Kernel2Ideal.main_arg3)) := fun c i => real_of_abs _ (congrFun (hp c).2.2.2.1 i)
  have f4 : ∀ c : Dev Cert.Kernel2Ideal.nD, Finite (m ((c.tc : Thread Cert.Kernel2Ideal.nD Cert.Kernel2Ideal.τ).loc Cert.Kernel2Ideal.main_arg4)) := fun c i => real_of_abs _ (congrFun (hp c).2.2.2.2.1 i)
  have f5 : ∀ c : Dev Cert.Kernel2Ideal.nD, Finite (m ((c.tc : Thread Cert.Kernel2Ideal.nD Cert.Kernel2Ideal.τ).loc Cert.Kernel2Ideal.main_arg5)) := fun c i => real_of_abs _ (congrFun (hp c).2.2.2.2.2.1 i)
  have f6 : ∀ c : Dev Cert.Kernel2Ideal.nD, Finite (m ((c.tc : Thread Cert.Kernel2Ideal.nD Cert.Kernel2Ideal.τ).loc Cert.Kernel2Ideal.main_arg6)) := fun c i => real_of_abs _ (congrFun (hp c).2.2.2.2.2.2.1 i)
  have f7 : ∀ c : Dev Cert.Kernel2Ideal.nD, Finite (m ((c.tc : Thread Cert.Kernel2Ideal.nD Cert.Kernel2Ideal.τ).loc Cert.Kernel2Ideal.main_arg7)) := fun c i => real_of_abs _ (congrFun (hp c).2.2.2.2.2.2.2.1 i)
  have f8 : ∀ c : Dev Cert.Kernel2Ideal.nD, Finite (m ((c.tc : Thread Cert.Kernel2Ideal.nD Cert.Kernel2Ideal.τ).loc Cert.Kernel2Ideal.main_arg8)) := fun c i => real_of_abs _ (congrFun (hp c).2.2.2.2.2.2.2.2.1 i)
  have f9 : ∀ c : Dev Cert.Kernel2Ideal.nD, Finite (m ((c.tc : Thread Cert.Kernel2Ideal.nD Cert.Kernel2Ideal.τ).loc Cert.Kernel2Ideal.main_arg9)) := fun c i => real_of_abs _ (congrFun (hp c).2.2.2.2.2.2.2.2.2.1 i)
  have f10 : ∀ c : Dev Cert.Kernel2Ideal.nD, Finite (m ((c.tc : Thread Cert.Kernel2Ideal.nD Cert.Kernel2Ideal.τ).loc Cert.Kernel2Ideal.main_arg10)) := fun c i => real_of_abs _ (congrFun (hp c).2.2.2.2.2.2.2.2.2.2 i)
  refine ⟨fun c => (Cert.Kernel2Ideal.Gen.dats m 0 c).arrAt 12 Cert.Kernel2Ideal.cfg0.N,
    fun c => (Cert.Kernel2Ideal.Gen.dats m 0 c).arrAt 13 Cert.Kernel2Ideal.cfg0.N,
    fun c => (Cert.Kernel2Ideal.Gen.dats m 0 c).arrAt 14 Cert.Kernel2Ideal.cfg0.N,
    fun c => (Cert.Kernel2Ideal.Gen.dats m 0 c).arrAt 15 Cert.Kernel2Ideal.cfg0.N,
    fun c => (Cert.Kernel2Ideal.Gen.dats m 0 c).arrAt 16 Cert.Kernel2Ideal.cfg0.N,
    fun c => (Cert.Kernel2Ideal.Gen.dats m 0 c).arrAt 17 Cert.Kernel2Ideal.cfg0.N,
    fun c => (Cert.Kernel2Ideal.Gen.dats m 0 c).arrAt 18 Cert.Kernel2Ideal.cfg0.N,
    fun c => (Cert.Kernel2Ideal.Gen.dats m 0 c).arrAt 19 Cert.Kernel2Ideal.cfg0.N,
    fun c => (Cert.Kernel2Ideal.Gen.dats m 0 c).arrAt 20 Cert.Kernel2Ideal.cfg0.N,
    fun c => (Cert.Kernel2Ideal.Gen.dats m 0 c).arrAt 21 Cert.Kernel2Ideal.cfg0.N,
    fun c => (Cert.Kernel2Ideal.Gen.dats m 0 c).arrAt 22 Cert.Kernel2Ideal.cfg0.N,
    fun c => (Cert.Kernel2Ideal.Gen.dats m 0 c).arrAt 23 Cert.Kernel2Ideal.cfg0.N,
    fun c => (Cert.Kernel2Ideal.Gen.dats m 0 c).arrAt 24 Cert.Kernel2Ideal.cfg0.N,
    Cert.Kernel2Ideal.Value.run_blocks m g, (θ_run _ _ _).mono (fun r h c => ?_) (Cert.Reference2Ideal.Value.run m' g')⟩
  obtain ⟨h0, h1, h2, h3, h4, h5, h6, h7, h8, h9, h10, h11, h12, ha⟩ := h c
  obtain ⟨a0, a1, a2, a3, a4, a5, a6, a7, a8, a9, a10⟩ := hag c
  obtain ⟨k0, k1, k2, k3, k4, k5, k6, k7, k8, k9, k10, k11, k12⟩ := Cert.Kernel2Ideal.Gen.results m c (f0 c) (f1 c) (f2 c) (f3 c) (f4 c) (f5 c) (f6 c) (f7 c) (f8 c) (f9 c) (f10 c)
  refine ⟨?_, ?_, ?_, ?_, ?_, ?_, ?_, ?_, ?_, ?_, ?_, ?_, ?_, ha⟩
  · refine Eq.trans ?_ k0.symm
    rw [← a0, ← a1, ← a2, ← a3, ← a4, ← a5, ← a6, ← a7, ← a8, ← a9, ← a10]
    exact h0.trans (val_main_v146_eq _)
  · refine Eq.trans ?_ k1.symm
    rw [← a0, ← a1, ← a2, ← a3, ← a4, ← a5, ← a6, ← a7, ← a8, ← a9, ← a10]
    exact h1.trans (val_main_v148_eq _)
  · refine Eq.trans ?_ k2.symm
    rw [← a0, ← a1, ← a2, ← a3, ← a4, ← a5, ← a6, ← a7, ← a8, ← a9, ← a10]
    exact h2.trans (val_main_v150_eq _)
  · refine Eq.trans ?_ k3.symm
    rw [← a0, ← a1, ← a4, ← a5]
    exact h3.trans (val_main_v154_eq _)
  · refine Eq.trans ?_ k4.symm
    rw [← a0, ← a1, ← a2, ← a4, ← a5, ← a6, ← a7]
    exact h4.trans (val_main_v157_eq _)
  · refine Eq.trans ?_ k5.symm
    rw [← a0, ← a1, ← a2, ← a4, ← a5, ← a6, ← a7, ← a8, ← a9]
    exact h5.trans (val_main_v161_eq _)
  · refine Eq.trans ?_ k6.symm
    rw [← a0, ← a1, ← a2, ← a3, ← a4, ← a5, ← a6, ← a7, ← a8, ← a9, ← a10]
    exact h6.trans (val_main_v165_eq _)
  · refine Eq.trans ?_ k7.symm
    rw [← a0, ← a1, ← a2, ← a3, ← a4, ← a5, ← a6, ← a7, ← a8, ← a9, ← a10]
    exact h7.trans (val_main_v169_eq _)
  · refine Eq.trans ?_ k8.symm
    rw [← a0, ← a1, ← a2, ← a3, ← a4, ← a5, ← a6, ← a7, ← a8, ← a9, ← a10]
    exact h8.trans (val_main_v172_eq _)
  · refine Eq.trans ?_ k9.symm
    rw [← a0, ← a1, ← a2, ← a3, ← a4, ← a5, ← a6, ← a7, ← a8, ← a9, ← a10]
    exact h9.trans (val_main_v173_eq _)
  · refine Eq.trans ?_ k10.symm
    rw [← a0, ← a1, ← a2, ← a3, ← a4, ← a5, ← a6, ← a7, ← a8, ← a9, ← a10]
    exact h10.trans (val_main_v174_eq _)
  · refine Eq.trans ?_ k11.symm
    rw [← a0, ← a1, ← a2, ← a3, ← a4, ← a5, ← a6, ← a7, ← a8, ← a9, ← a10]
    exact h11.trans (val_main_v175_eq _)
  · refine Eq.trans ?_ k12.symm
    rw [← a0, ← a1, ← a2, ← a3, ← a4, ← a5, ← a6, ← a7, ← a8, ← a9, ← a10]
    exact h12.trans (val_main_v176_eq _)

/-- The layer's kernel's frame on finite arguments is its frame. -/
theorem frame_pi2_finite_post : Cert.quiescent_Kernel2Ideal_pre_finite_post (hKernel2Ideal := Cert.Kernel2Ideal.Gen.facts) (hPre_finite_post := facts_finite_post) := fun m ρ _ =>
  Cert.Kernel2Ideal.Gen.frame m ρ

/-- The layer's reference's frame on finite arguments is its frame. -/
theorem frame_ri2_finite_post : Cert.quiescent_Reference2Ideal_pre_finite_post (hReference2Ideal := Cert.Reference2Ideal.Gen.facts) (hPre_finite_post := facts_finite_post) := fun m ρ _ =>
  frame_ri2 m ρ trivial

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, facts_finite, facts_finite_post,
  fun m ρ _ => Cert.Kernel.Gen.frame m ρ, fun m ρ _ => Cert.KernelIdeal.Gen.frame m ρ, frame_pi_finite, frame_ri, frame_ri_finite,
  frame_p2, fun m ρ _ => Cert.Kernel2Ideal.Gen.frame m ρ, frame_pi2_finite_post, frame_ri2, frame_ri2_finite_post,
  trivial, values, trivial, values_post⟩

end Cert.Proof

end
